-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Odd (m : (ℓ : Loc Cert.Odd.nD Cert.Odd.τ Cert.Odd.sig) → Buf (Elt Bits) ℓ) : Prop :=
  True

def Pre_OddIdeal (m : (ℓ : Loc Cert.OddIdeal.nD Cert.OddIdeal.τ Cert.OddIdeal.sig) → Buf (Elt Ideal) ℓ) : Prop :=
  True

def Pre_OddReferenceIdeal (m : (ℓ : Loc Cert.OddReferenceIdeal.nD Cert.OddReferenceIdeal.τ Cert.OddReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Odd [hOdd : Cert.Odd.Facts] : Prop :=
  ∀ (m : (ℓ : Loc Cert.Odd.nD Cert.Odd.τ Cert.Odd.sig) → Buf (Elt Bits) ℓ) (g : Dev Cert.Odd.nD → PrngReg), Pre_Odd m →
    θ_run (Cert.Odd.defs (F := Bits)) (onTc (τ := Cert.Odd.τ) (Cert.Odd.main (F := Bits))) ⟨m, fun _ => 0, g⟩ (fun r => (∀ c : Dev Cert.Odd.nD,
      r.2.mem ((c.tc : Thread Cert.Odd.nD Cert.Odd.τ).loc Cert.Odd.main_arg0) = m ((c.tc : Thread Cert.Odd.nD Cert.Odd.τ).loc Cert.Odd.main_arg0)
      ∧ r.2.mem ((c.tc : Thread Cert.Odd.nD Cert.Odd.τ).loc Cert.Odd.main_arg1) = m ((c.tc : Thread Cert.Odd.nD Cert.Odd.τ).loc Cert.Odd.main_arg1))
      ∧ r.2.sem = fun _ => 0)

def quiescent_OddIdeal [hOddIdeal : Cert.OddIdeal.Facts] : Prop :=
  ∀ (m : (ℓ : Loc Cert.OddIdeal.nD Cert.OddIdeal.τ Cert.OddIdeal.sig) → Buf (Elt Ideal) ℓ) (g : Dev Cert.OddIdeal.nD → PrngReg), Pre_OddIdeal m →
    θ_run (Cert.OddIdeal.defs (F := Ideal)) (onTc (τ := Cert.OddIdeal.τ) (Cert.OddIdeal.main (F := Ideal))) ⟨m, fun _ => 0, g⟩ (fun r => (∀ c : Dev Cert.OddIdeal.nD,
      r.2.mem ((c.tc : Thread Cert.OddIdeal.nD Cert.OddIdeal.τ).loc Cert.OddIdeal.main_arg0) = m ((c.tc : Thread Cert.OddIdeal.nD Cert.OddIdeal.τ).loc Cert.OddIdeal.main_arg0)
      ∧ r.2.mem ((c.tc : Thread Cert.OddIdeal.nD Cert.OddIdeal.τ).loc Cert.OddIdeal.main_arg1) = m ((c.tc : Thread Cert.OddIdeal.nD Cert.OddIdeal.τ).loc Cert.OddIdeal.main_arg1))
      ∧ r.2.sem = fun _ => 0)

def quiescent_OddReferenceIdeal [hOddReferenceIdeal : Cert.OddReferenceIdeal.Facts] : Prop :=
  ∀ (m : (ℓ : Loc Cert.OddReferenceIdeal.nD Cert.OddReferenceIdeal.τ Cert.OddReferenceIdeal.sig) → Buf (Elt Ideal) ℓ) (g : Dev Cert.OddReferenceIdeal.nD → PrngReg), Pre_OddReferenceIdeal m →
    θ_run (Cert.OddReferenceIdeal.defs (F := Ideal)) (onTc (τ := Cert.OddReferenceIdeal.τ) (Cert.OddReferenceIdeal.main (F := Ideal))) ⟨m, fun _ => 0, g⟩ (fun r => (∀ c : Dev Cert.OddReferenceIdeal.nD,
      r.2.mem ((c.tc : Thread Cert.OddReferenceIdeal.nD Cert.OddReferenceIdeal.τ).loc Cert.OddReferenceIdeal.main_arg0) = m ((c.tc : Thread Cert.OddReferenceIdeal.nD Cert.OddReferenceIdeal.τ).loc Cert.OddReferenceIdeal.main_arg0)
      ∧ r.2.mem ((c.tc : Thread Cert.OddReferenceIdeal.nD Cert.OddReferenceIdeal.τ).loc Cert.OddReferenceIdeal.main_arg1) = m ((c.tc : Thread Cert.OddReferenceIdeal.nD Cert.OddReferenceIdeal.τ).loc Cert.OddReferenceIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10)
      ∧ r.2.mem ((c.tc : Thread Cert.Ffn.nD Cert.Ffn.τ).loc Cert.Ffn.main_arg11) = m ((c.tc : Thread Cert.Ffn.nD Cert.Ffn.τ).loc Cert.Ffn.main_arg11))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
      ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8)
      ∧ r.2.mem ((c.tc : Thread Cert.FfnReferenceIdeal.nD Cert.FfnReferenceIdeal.τ).loc Cert.FfnReferenceIdeal.main_arg9) = m ((c.tc : Thread Cert.FfnReferenceIdeal.nD Cert.FfnReferenceIdeal.τ).loc Cert.FfnReferenceIdeal.main_arg9)
      ∧ r.2.mem ((c.tc : Thread Cert.FfnReferenceIdeal.nD Cert.FfnReferenceIdeal.τ).loc Cert.FfnReferenceIdeal.main_arg10) = m ((c.tc : Thread Cert.FfnReferenceIdeal.nD Cert.FfnReferenceIdeal.τ).loc Cert.FfnReferenceIdeal.main_arg10)
      ∧ r.2.mem ((c.tc : Thread Cert.FfnReferenceIdeal.nD Cert.FfnReferenceIdeal.τ).loc Cert.FfnReferenceIdeal.main_arg11) = m ((c.tc : Thread Cert.FfnReferenceIdeal.nD Cert.FfnReferenceIdeal.τ).loc Cert.FfnReferenceIdeal.main_arg11))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Odd_OddIdeal : Prop :=
  True

def algebraic_OddIdeal_OddReferenceIdeal [hOddIdeal : Cert.OddIdeal.Facts] [hOddReferenceIdeal : Cert.OddReferenceIdeal.Facts] : Prop :=
  ∀ (m : (ℓ : Loc Cert.OddIdeal.nD Cert.OddIdeal.τ Cert.OddIdeal.sig) → Buf (Elt Ideal) ℓ) (g : Dev Cert.OddIdeal.nD → PrngReg)
    (m' : (ℓ : Loc Cert.OddReferenceIdeal.nD Cert.OddReferenceIdeal.τ Cert.OddReferenceIdeal.sig) → Buf (Elt Ideal) ℓ) (g' : Dev Cert.OddReferenceIdeal.nD → PrngReg), Pre_OddIdeal m →
    (∀ c : Dev Cert.OddIdeal.nD,
      m' ((c.tc : Thread Cert.OddReferenceIdeal.nD Cert.OddReferenceIdeal.τ).loc Cert.OddReferenceIdeal.main_arg0) = m ((c.tc : Thread Cert.OddIdeal.nD Cert.OddIdeal.τ).loc Cert.OddIdeal.main_arg0)
      ∧ m' ((c.tc : Thread Cert.OddReferenceIdeal.nD Cert.OddReferenceIdeal.τ).loc Cert.OddReferenceIdeal.main_arg1) = m ((c.tc : Thread Cert.OddIdeal.nD Cert.OddIdeal.τ).loc Cert.OddIdeal.main_arg1)) →
    ∃ (v0 : (c : Dev Cert.OddIdeal.nD) → Buf (Elt Ideal) ((c.tc : Thread Cert.OddIdeal.nD Cert.OddIdeal.τ).loc Cert.OddIdeal.main_v10_0)) (v1 : (c : Dev Cert.OddIdeal.nD) → Buf (Elt Ideal) ((c.tc : Thread Cert.OddIdeal.nD Cert.OddIdeal.τ).loc Cert.OddIdeal.main_v10_1)) (v2 : (c : Dev Cert.OddIdeal.nD) → Buf (Elt Ideal) ((c.tc : Thread Cert.OddIdeal.nD Cert.OddIdeal.τ).loc Cert.OddIdeal.main_v10_2)),
      θ_run (Cert.OddIdeal.defs (F := Ideal)) (onTc (τ := Cert.OddIdeal.τ) (Cert.OddIdeal.main (F := Ideal))) ⟨m, fun _ => 0, g⟩ (fun r => ∀ c : Dev Cert.OddIdeal.nD,
          r.2.mem ((c.tc : Thread Cert.OddIdeal.nD Cert.OddIdeal.τ).loc Cert.OddIdeal.main_v10_0) = v0 c
          ∧ r.2.mem ((c.tc : Thread Cert.OddIdeal.nD Cert.OddIdeal.τ).loc Cert.OddIdeal.main_v10_1) = v1 c
          ∧ r.2.mem ((c.tc : Thread Cert.OddIdeal.nD Cert.OddIdeal.τ).loc Cert.OddIdeal.main_v10_2) = v2 c
          ∧ r.2.mem ((c.tc : Thread Cert.OddIdeal.nD Cert.OddIdeal.τ).loc Cert.OddIdeal.main_arg0) = m ((c.tc : Thread Cert.OddIdeal.nD Cert.OddIdeal.τ).loc Cert.OddIdeal.main_arg0)
          ∧ r.2.mem ((c.tc : Thread Cert.OddIdeal.nD Cert.OddIdeal.τ).loc Cert.OddIdeal.main_arg1) = m ((c.tc : Thread Cert.OddIdeal.nD Cert.OddIdeal.τ).loc Cert.OddIdeal.main_arg1))
      ∧ θ_run (Cert.OddReferenceIdeal.defs (F := Ideal)) (onTc (τ := Cert.OddReferenceIdeal.τ) (Cert.OddReferenceIdeal.main (F := Ideal))) ⟨m', fun _ => 0, g'⟩ (fun r => ∀ c : Dev Cert.OddReferenceIdeal.nD,
          r.2.mem ((c.tc : Thread Cert.OddReferenceIdeal.nD Cert.OddReferenceIdeal.τ).loc Cert.OddReferenceIdeal.main_v5) = v0 c
          ∧ r.2.mem ((c.tc : Thread Cert.OddReferenceIdeal.nD Cert.OddReferenceIdeal.τ).loc Cert.OddReferenceIdeal.main_v6) = v1 c
          ∧ r.2.mem ((c.tc : Thread Cert.OddReferenceIdeal.nD Cert.OddReferenceIdeal.τ).loc Cert.OddReferenceIdeal.main_v7) = v2 c
          ∧ r.2.mem ((c.tc : Thread Cert.OddReferenceIdeal.nD Cert.OddReferenceIdeal.τ).loc Cert.OddReferenceIdeal.main_arg0) = m' ((c.tc : Thread Cert.OddReferenceIdeal.nD Cert.OddReferenceIdeal.τ).loc Cert.OddReferenceIdeal.main_arg0)
          ∧ r.2.mem ((c.tc : Thread Cert.OddReferenceIdeal.nD Cert.OddReferenceIdeal.τ).loc Cert.OddReferenceIdeal.main_arg1) = m' ((c.tc : Thread Cert.OddReferenceIdeal.nD Cert.OddReferenceIdeal.τ).loc Cert.OddReferenceIdeal.main_arg1))

def preserves_Ffn_FfnIdeal : Prop :=
  IdealRules.named_const.Statement Cert.FfnIdeal.κ "alpha" .f32 0x3FD744FD#32 ((Real.sqrt (Real.sqrt 8) : ℝ) : EReal)

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)
      ∧ m' ((c.tc : Thread Cert.FfnReferenceIdeal.nD Cert.FfnReferenceIdeal.τ).loc Cert.FfnReferenceIdeal.main_arg8) = m ((c.tc : Thread Cert.FfnIdeal.nD Cert.FfnIdeal.τ).loc Cert.FfnIdeal.main_arg8)
      ∧ m' ((c.tc : Thread Cert.FfnReferenceIdeal.nD Cert.FfnReferenceIdeal.τ).loc Cert.FfnReferenceIdeal.main_arg9) = m ((c.tc : Thread Cert.FfnIdeal.nD Cert.FfnIdeal.τ).loc Cert.FfnIdeal.main_arg9)
      ∧ m' ((c.tc : Thread Cert.FfnReferenceIdeal.nD Cert.FfnReferenceIdeal.τ).loc Cert.FfnReferenceIdeal.main_arg10) = m ((c.tc : Thread Cert.FfnIdeal.nD Cert.FfnIdeal.τ).loc Cert.FfnIdeal.main_arg10)
      ∧ m' ((c.tc : Thread Cert.FfnReferenceIdeal.nD Cert.FfnReferenceIdeal.τ).loc Cert.FfnReferenceIdeal.main_arg11) = m ((c.tc : Thread Cert.FfnIdeal.nD Cert.FfnIdeal.τ).loc Cert.FfnIdeal.main_arg11)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
          ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v92) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7)
          ∧ r.2.mem ((c.tc : Thread Cert.FfnReferenceIdeal.nD Cert.FfnReferenceIdeal.τ).loc Cert.FfnReferenceIdeal.main_arg8) = m' ((c.tc : Thread Cert.FfnReferenceIdeal.nD Cert.FfnReferenceIdeal.τ).loc Cert.FfnReferenceIdeal.main_arg8)
          ∧ r.2.mem ((c.tc : Thread Cert.FfnReferenceIdeal.nD Cert.FfnReferenceIdeal.τ).loc Cert.FfnReferenceIdeal.main_arg9) = m' ((c.tc : Thread Cert.FfnReferenceIdeal.nD Cert.FfnReferenceIdeal.τ).loc Cert.FfnReferenceIdeal.main_arg9)
          ∧ r.2.mem ((c.tc : Thread Cert.FfnReferenceIdeal.nD Cert.FfnReferenceIdeal.τ).loc Cert.FfnReferenceIdeal.main_arg10) = m' ((c.tc : Thread Cert.FfnReferenceIdeal.nD Cert.FfnReferenceIdeal.τ).loc Cert.FfnReferenceIdeal.main_arg10)
          ∧ r.2.mem ((c.tc : Thread Cert.FfnReferenceIdeal.nD Cert.FfnReferenceIdeal.τ).loc Cert.FfnReferenceIdeal.main_arg11) = m' ((c.tc : Thread Cert.FfnReferenceIdeal.nD Cert.FfnReferenceIdeal.τ).loc Cert.FfnReferenceIdeal.main_arg11))

def Claim : Prop :=
  ∃ (hKernel : Cert.Kernel.Facts) (hKernelIdeal : Cert.KernelIdeal.Facts) (hReferenceIdeal : Cert.ReferenceIdeal.Facts) (hOdd : Cert.Odd.Facts) (hOddIdeal : Cert.OddIdeal.Facts) (hOddReferenceIdeal : Cert.OddReferenceIdeal.Facts) (hFfn : Cert.Ffn.Facts) (hFfnIdeal : Cert.FfnIdeal.Facts) (hFfnReferenceIdeal : Cert.FfnReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Odd (hOdd := hOdd)
    ∧ quiescent_OddIdeal (hOddIdeal := hOddIdeal)
    ∧ quiescent_OddReferenceIdeal (hOddReferenceIdeal := hOddReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Odd_OddIdeal
    ∧ algebraic_OddIdeal_OddReferenceIdeal (hOddIdeal := hOddIdeal) (hOddReferenceIdeal := hOddReferenceIdeal)
    ∧ preserves_Ffn_FfnIdeal
    ∧ algebraic_FfnIdeal_FfnReferenceIdeal (hFfnIdeal := hFfnIdeal) (hFfnReferenceIdeal := hFfnReferenceIdeal)
-- ==== Pre_finite_scores.lean ====
abbrev S1024x32768 : Shape := ⟨2, ![1024, 32768]⟩
abbrev S32768x1024 : Shape := ⟨2, ![32768, 1024]⟩
abbrev S512x32768 : Shape := ⟨2, ![512, 32768]⟩
abbrev S2x16384x4x2x128 : Shape := ⟨5, ![2, 16384, 4, 2, 128]⟩
abbrev S2x16384x4x1x128 : Shape := ⟨5, ![2, 16384, 4, 1, 128]⟩
abbrev S2x16384x4x128 : Shape := ⟨4, ![2, 16384, 4, 128]⟩
abbrev S_ : Shape := ⟨0, ![]⟩
abbrev S2x16384x4x1x6 : Shape := ⟨5, ![2, 16384, 4, 1, 6]⟩
abbrev S2x16384x4x6 : Shape := ⟨4, ![2, 16384, 4, 6]⟩
abbrev S2x16384x8x3 : Shape := ⟨4, ![2, 16384, 8, 3]⟩
abbrev S2x16384x8 : Shape := ⟨3, ![2, 16384, 8]⟩
abbrev S2x8x16384 : Shape := ⟨3, ![2, 8, 16384]⟩

class Facts : Prop where
  slices_S1024x32768_S512x32768_0_0 : S1024x32768.Slices ![0, 0] S512x32768
  bitsLt_bf16_f32 : FTy.bits .bf16 < FTy.bits .f32
  shapeCasts_S32768x1024_S2x16384x4x2x128 : S32768x1024.ShapeCasts S2x16384x4x2x128
  slices_S2x16384x4x2x128_S2x16384x4x1x128_0_0_0_0_0 : S2x16384x4x2x128.Slices ![0, 0, 0, 0, 0] S2x16384x4x1x128
  shapeCasts_S2x16384x4x1x128_S2x16384x4x128 : S2x16384x4x1x128.ShapeCasts S2x16384x4x128
  bcast_S_S512x32768 : S_.BroadcastsInDim S512x32768 (![] : Fin 0 → Fin S512x32768.rank)
  reducesTo_S512x32768_S_d0_1 : S512x32768.ReducesTo [0, 1] S_
  h_S_ : 0 < S_.numel
  bcast_S_S2x16384x4x128 : S_.BroadcastsInDim S2x16384x4x128 (![] : Fin 0 → Fin S2x16384x4x128.rank)
  reducesTo_S2x16384x4x128_S_d0_1_2_3 : S2x16384x4x128.ReducesTo [0, 1, 2, 3] S_
  slices_S2x16384x4x2x128_S2x16384x4x1x6_0_0_0_1_0 : S2x16384x4x2x128.Slices ![0, 0, 0, 1, 0] S2x16384x4x1x6
  shapeCasts_S2x16384x4x1x6_S2x16384x4x6 : S2x16384x4x1x6.ShapeCasts S2x16384x4x6
  shapeCasts_S2x16384x4x6_S2x16384x8x3 : S2x16384x4x6.ShapeCasts S2x16384x8x3
  reducesTo_S2x16384x8x3_S2x16384x8_d3 : S2x16384x8x3.ReducesTo [3] S2x16384x8
  transposes_S2x16384x8_S2x8x16384_0_2_1 : S2x16384x8.Transposes [0, 2, 1] S2x8x16384
  bcast_S_S2x8x16384 : S_.BroadcastsInDim S2x8x16384 (![] : Fin 0 → Fin S2x8x16384.rank)
  reducesTo_S2x8x16384_S_d0_1_2 : S2x8x16384.ReducesTo [0, 1, 2] S_

variable [Facts]

def fn_part1 {F : FTy → Type} [FloatOps F] (main_v14 : IVec S_ 1) (main_v19 : FVec F S2x16384x8x3 .f32) : IVec S_ 1 :=
  let main_cst_2 : FVec F S_ .f32 := constant S_ .f32 0x00000000#32
  let main_v20 : FVec F S2x16384x8 .f32 := (fun x v => Host.reduceAdd x v reducesTo_S2x16384x8x3_S2x16384x8_d3 h_S_) main_v19 main_cst_2
  let main_v21 : FVec F S2x8x16384 .f32 := (transpose S2x8x16384 [0, 2, 1] · transposes_S2x16384x8_S2x8x16384_0_2_1) main_v20
  let main_v22 : FVec F S2x8x16384 .f32 := Host.absf main_v21
  let main_cst_3 : FVec F S_ .f32 := constant S_ .f32 0x7F800000#32
  let main_v23 : FVec F S2x8x16384 .f32 := broadcastInDim S2x8x16384 ![] bcast_S_S2x8x16384 main_cst_3
  let main_v24 : IVec S2x8x16384 1 := cmpf .olt main_v22 main_v23
  let main_c_4 : IVec S_ 1 := constantI S_ 1 1#1
  let main_v25 : IVec S_ 1 := (fun x v => Host.reduce IntOp.andi x v reducesTo_S2x8x16384_S_d0_1_2 h_S_) main_v24 main_c_4
  let main_v26 : IVec S_ 1 := andi main_v14 main_v25
  main_v26

def fn {F : FTy → Type} [FloatOps F] (main_arg0 : FVec F S1024x32768 .bf16) (main_arg1 : FVec F S32768x1024 .bf16) : IVec S_ 1 :=
  let main_v0 : FVec F S512x32768 .bf16 := (extractStridedSlice S512x32768 ![0, 0] · slices_S1024x32768_S512x32768_0_0) main_arg0
  let main_v1 : FVec F S512x32768 .f32 := (extf .f32 · bitsLt_bf16_f32) main_v0
  let main_v2 : FVec F S32768x1024 .f32 := (extf .f32 · bitsLt_bf16_f32) main_arg1
  let main_v3 : FVec F S2x16384x4x2x128 .f32 := shapeCast S2x16384x4x2x128 main_v2 shapeCasts_S32768x1024_S2x16384x4x2x128
  let main_v4 : FVec F S2x16384x4x1x128 .f32 := (extractStridedSlice S2x16384x4x1x128 ![0, 0, 0, 0, 0] · slices_S2x16384x4x2x128_S2x16384x4x1x128_0_0_0_0_0) main_v3
  let main_v5 : FVec F S2x16384x4x128 .f32 := shapeCast S2x16384x4x128 main_v4 shapeCasts_S2x16384x4x1x128_S2x16384x4x128
  let main_v6 : FVec F S512x32768 .f32 := Host.absf main_v1
  let main_cst : FVec F S_ .f32 := constant S_ .f32 0x7F800000#32
  let main_v7 : FVec F S512x32768 .f32 := broadcastInDim S512x32768 ![] bcast_S_S512x32768 main_cst
  let main_v8 : IVec S512x32768 1 := cmpf .olt main_v6 main_v7
  let main_c : IVec S_ 1 := constantI S_ 1 1#1
  let main_v9 : IVec S_ 1 := (fun x v => Host.reduce IntOp.andi x v reducesTo_S512x32768_S_d0_1 h_S_) main_v8 main_c
  let main_v10 : FVec F S2x16384x4x128 .f32 := Host.absf main_v5
  let main_cst_0 : FVec F S_ .f32 := constant S_ .f32 0x7F800000#32
  let main_v11 : FVec F S2x16384x4x128 .f32 := broadcastInDim S2x16384x4x128 ![] bcast_S_S2x16384x4x128 main_cst_0
  let main_v12 : IVec S2x16384x4x128 1 := cmpf .olt main_v10 main_v11
  let main_c_1 : IVec S_ 1 := constantI S_ 1 1#1
  let main_v13 : IVec S_ 1 := (fun x v => Host.reduce IntOp.andi x v reducesTo_S2x16384x4x128_S_d0_1_2_3 h_S_) main_v12 main_c_1
  let main_v14 : IVec S_ 1 := andi main_v9 main_v13
  let main_v15 : FVec F S32768x1024 .f32 := (extf .f32 · bitsLt_bf16_f32) main_arg1
  let main_v16 : FVec F S2x16384x4x2x128 .f32 := shapeCast S2x16384x4x2x128 main_v15 shapeCasts_S32768x1024_S2x16384x4x2x128
  let main_v17 : FVec F S2x16384x4x1x6 .f32 := (extractStridedSlice S2x16384x4x1x6 ![0, 0, 0, 1, 0] · slices_S2x16384x4x2x128_S2x16384x4x1x6_0_0_0_1_0) main_v16
  let main_v18 : FVec F S2x16384x4x6 .f32 := shapeCast S2x16384x4x6 main_v17 shapeCasts_S2x16384x4x1x6_S2x16384x4x6
  let main_v19 : FVec F S2x16384x8x3 .f32 := shapeCast S2x16384x8x3 main_v18 shapeCasts_S2x16384x4x6_S2x16384x8x3
  fn_part1 (F := F) main_v14 main_v19
-- ==== Kernel.lean ====
abbrev S1024x32768 : Shape := ⟨2, ![1024, 32768]⟩
abbrev S32768x1024 : Shape := ⟨2, ![32768, 1024]⟩
abbrev S32768x512 : Shape := ⟨2, ![32768, 512]⟩
abbrev S128x512 : Shape := ⟨2, ![128, 512]⟩
abbrev S16384x256 : Shape := ⟨2, ![16384, 256]⟩
abbrev S128x16384 : Shape := ⟨2, ![128, 16384]⟩
abbrev S512x128 : Shape := ⟨2, ![512, 128]⟩
abbrev S2x1x512 : Shape := ⟨3, ![2, 1, 512]⟩
abbrev S2x80x512 : Shape := ⟨3, ![2, 80, 512]⟩
abbrev S2x256x512 : Shape := ⟨3, ![2, 256, 512]⟩
abbrev S256x512 : Shape := ⟨2, ![256, 512]⟩
abbrev S16x256 : Shape := ⟨2, ![16, 256]⟩
abbrev S256x256 : Shape := ⟨2, ![256, 256]⟩
abbrev S1x256x512 : Shape := ⟨3, ![1, 256, 512]⟩
abbrev S512 : Shape := ⟨1, ![512]⟩
abbrev S1x512 : Shape := ⟨2, ![1, 512]⟩
abbrev S1x1x512 : Shape := ⟨3, ![1, 1, 512]⟩
abbrev S64x256 : Shape := ⟨2, ![64, 256]⟩
abbrev S80x256 : Shape := ⟨2, ![80, 256]⟩
abbrev S1x80x512 : Shape := ⟨3, ![1, 80, 512]⟩
abbrev S80x512 : Shape := ⟨2, ![80, 512]⟩
abbrev S1x64x512 : Shape := ⟨3, ![1, 64, 512]⟩
abbrev S64x512 : Shape := ⟨2, ![64, 512]⟩

abbrev nBuf : Space → Nat
  | .hbm => 3
  | .vmem => 14
  | .smem => 0
  | _ => 0

abbrev bufTy : (tb : Table) → Fin (tcTables nBuf tb) → BufTy
  | .hbm, ⟨0, _⟩ => ⟨S1024x32768, .bf16⟩
  | .hbm, ⟨1, _⟩ => ⟨S32768x1024, .bf16⟩
  | .hbm, ⟨2, _⟩ => ⟨S32768x512, .bf16⟩
  | .local _ .vmem, ⟨0, _⟩ => ⟨S128x512, .bf16⟩
  | .local _ .vmem, ⟨1, _⟩ => ⟨S128x512, .bf16⟩
  | .local _ .vmem, ⟨2, _⟩ => ⟨S16384x256, .bf16⟩
  | .local _ .vmem, ⟨3, _⟩ => ⟨S16384x256, .bf16⟩
  | .local _ .vmem, ⟨4, _⟩ => ⟨S128x16384, .bf16⟩
  | .local _ .vmem, ⟨5, _⟩ => ⟨S128x16384, .bf16⟩
  | .local _ .vmem, ⟨6, _⟩ => ⟨S512x128, .bf16⟩
  | .local _ .vmem, ⟨7, _⟩ => ⟨S512x128, .bf16⟩
  | .local _ .vmem, ⟨8, _⟩ => ⟨S2x1x512, .f32⟩
  | .local _ .vmem, ⟨9, _⟩ => ⟨S2x80x512, .f32⟩
  | .local _ .vmem, ⟨10, _⟩ => ⟨S2x256x512, .f32⟩
  | .local _ .vmem, ⟨11, _⟩ => ⟨S2x256x512, .f32⟩
  | .local _ .vmem, ⟨12, _⟩ => ⟨S2x1x512, .f32⟩
  | .local _ .vmem, ⟨13, _⟩ => ⟨S2x1x512, .f32⟩
  | _, _ => ⟨S1024x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 32], ![false, false, false]⟩

def k0_mult1 (i : grid0.Coords) : BitVec 32 :=
  let c2_i32_17 : BitVec 32 := 2#32
  let arg2 : BitVec 32 := BitVec.ofNat 32 (i 2).val
  let v43 : BitVec 32 := Scalar.muli c2_i32_17 arg2
  let c256_i32 : BitVec 32 := 256#32
  let v44 : BitVec 32 := Scalar.muli v43 c256_i32
  v44
def k0_off1 (i : grid0.Coords) : Fin 2 → Nat :=
  let c2_i32_17 : BitVec 32 := 2#32
  let arg2 : BitVec 32 := BitVec.ofNat 32 (i 2).val
  let v43 : BitVec 32 := Scalar.muli c2_i32_17 arg2
  let c256_i32 : BitVec 32 := 256#32
  let v44 : BitVec 32 := Scalar.muli v43 c256_i32
  let v45 : BitVec 32 := v44
  let v46 : Index := Scalar.indexCast v45
  let c0_18 : Index := 0#32
  ![v46.toNat, 0]
def k0_mult2 (i : grid0.Coords) : BitVec 32 :=
  let v_true : BitVec 1 := 1#1
  let c2_i32_38 : BitVec 32 := 2#32
  let arg2 : BitVec 32 := BitVec.ofNat 32 (i 2).val
  let v80 : BitVec 32 := Scalar.muli c2_i32_38 arg2
  let c1_i32 : BitVec 32 := 1#32
  let v81 : BitVec 32 := Scalar.addi v80 c1_i32
  let c_m1_i32 : BitVec 32 := 4294967295#32
  let v82 : BitVec 32 := Scalar.select v_true v81 c_m1_i32
  let c256_i32_39 : BitVec 32 := 256#32
  let v83 : BitVec 32 := Scalar.muli v82 c256_i32_39
  v83
def k0_off2 (i : grid0.Coords) : Fin 2 → Nat :=
  let v_true : BitVec 1 := 1#1
  let c2_i32_38 : BitVec 32 := 2#32
  let arg2 : BitVec 32 := BitVec.ofNat 32 (i 2).val
  let v80 : BitVec 32 := Scalar.muli c2_i32_38 arg2
  let c1_i32 : BitVec 32 := 1#32
  let v81 : BitVec 32 := Scalar.addi v80 c1_i32
  let c_m1_i32 : BitVec 32 := 4294967295#32
  let v82 : BitVec 32 := Scalar.select v_true v81 c_m1_i32
  let c256_i32_39 : BitVec 32 := 256#32
  let v83 : BitVec 32 := Scalar.muli v82 c256_i32_39
  let v84 : BitVec 32 := v83
  let v85 : Index := Scalar.indexCast v84
  let c0_40 : Index := 0#32
  ![v85.toNat, 0]
def k0_mult3 (i : grid0.Coords) : BitVec 32 :=
  let true_63 : BitVec 1 := 1#1
  let c2_i32_61 : BitVec 32 := 2#32
  let arg2 : BitVec 32 := BitVec.ofNat 32 (i 2).val
  let v119 : BitVec 32 := Scalar.muli c2_i32_61 arg2
  let c0_i32_62 : BitVec 32 := 0#32
  let v120 : BitVec 32 := Scalar.addi v119 c0_i32_62
  let c_m2_i32 : BitVec 32 := 4294967294#32
  let v121 : BitVec 32 := Scalar.select true_63 v120 c_m2_i32
  let c256_i32_64 : BitVec 32 := 256#32
  let v122 : BitVec 32 := Scalar.muli v121 c256_i32_64
  v122
def k0_off3 (i : grid0.Coords) : Fin 2 → Nat :=
  let c0_77 : Index := 0#32
  let true_63 : BitVec 1 := 1#1
  let c2_i32_61 : BitVec 32 := 2#32
  let arg2 : BitVec 32 := BitVec.ofNat 32 (i 2).val
  let v119 : BitVec 32 := Scalar.muli c2_i32_61 arg2
  let c0_i32_62 : BitVec 32 := 0#32
  let v120 : BitVec 32 := Scalar.addi v119 c0_i32_62
  let c_m2_i32 : BitVec 32 := 4294967294#32
  let v121 : BitVec 32 := Scalar.select true_63 v120 c_m2_i32
  let c256_i32_64 : BitVec 32 := 256#32
  let v122 : BitVec 32 := Scalar.muli v121 c256_i32_64
  let v123 : BitVec 32 := v122
  let v140 : Index := Scalar.indexCast v123
  ![0, v140.toNat]
def k0_off4 (i : grid0.Coords) : Fin 2 → Nat :=
  let c64 : Index := 64#32
  let true_63 : BitVec 1 := 1#1
  let c2_i32_61 : BitVec 32 := 2#32
  let arg2 : BitVec 32 := BitVec.ofNat 32 (i 2).val
  let v119 : BitVec 32 := Scalar.muli c2_i32_61 arg2
  let c0_i32_62 : BitVec 32 := 0#32
  let v120 : BitVec 32 := Scalar.addi v119 c0_i32_62
  let c_m2_i32 : BitVec 32 := 4294967294#32
  let v121 : BitVec 32 := Scalar.select true_63 v120 c_m2_i32
  let c256_i32_64 : BitVec 32 := 256#32
  let v122 : BitVec 32 := Scalar.muli v121 c256_i32_64
  let v123 : BitVec 32 := v122
  let v168 : Index := Scalar.indexCast v123
  ![64, v168.toNat]
@[reducible] def k0_t1_loop (i : grid0.Coords) : Scf.Loop 32 :=
  let c0_i32_111 : BitVec 32 := 0#32
  let c2_i32 : BitVec 32 := 2#32
  let arg2 : BitVec 32 := BitVec.ofNat 32 (i 2).val
  let v42 : BitVec 32 := Scalar.muli c2_i32 arg2
  let c0_i32_104 : BitVec 32 := 0#32
  let v181 : BitVec 1 := Scalar.cmpi .sgt v42 c0_i32_104
  let v182 : BitVec 32 := Scalar.extui v181
  let c0_i32_105 : BitVec 32 := 0#32
  let v183 : BitVec 1 := Scalar.cmpi .slt v42 c0_i32_105
  let v184 : BitVec 32 := Scalar.extui v183
  let v185 : BitVec 32 := Scalar.subi v182 v184
  let c16_i32 : BitVec 32 := 16#32
  let c0_i32_106 : BitVec 32 := 0#32
  let v186 : BitVec 1 := Scalar.cmpi .sgt c16_i32 c0_i32_106
  let v187 : BitVec 32 := Scalar.extui v186
  let c0_i32_107 : BitVec 32 := 0#32
  let v188 : BitVec 1 := Scalar.cmpi .slt c16_i32 c0_i32_107
  let v189 : BitVec 32 := Scalar.extui v188
  let v190 : BitVec 32 := Scalar.subi v187 v189
  let v191 : BitVec 1 := Scalar.cmpi .ne v185 v190
  let v192 : BitVec 32 := Scalar.remsi v42 c16_i32
  let c0_i32_108 : BitVec 32 := 0#32
  let v193 : BitVec 1 := Scalar.cmpi .ne v192 c0_i32_108
  let v194 : BitVec 1 := Scalar.andi v191 v193
  let v180 : BitVec 32 := Scalar.divsi v42 c16_i32
  let c1_i32_109 : BitVec 32 := 1#32
  let v195 : BitVec 32 := Scalar.subi v180 c1_i32_109
  let v196 : BitVec 32 := Scalar.select v194 v195 v180
  let v197 : BitVec 32 := Scalar.subi v196 c0_i32_111
  let c1_i32_112 : BitVec 32 := 1#32
  let v199 : BitVec 32 := Scalar.divsi v197 c1_i32_112
  let v200 : BitVec 32 := Scalar.muli v199 c1_i32_112
  let v201 : BitVec 32 := Scalar.addi c0_i32_111 v200
  let c1_i32_113 : BitVec 32 := 1#32
  ⟨c0_i32_111, v201, c1_i32_113⟩
def k0_mult4 (i : grid0.Coords) (k0_t1 : Fin (k0_t1_loop i).trips) : BitVec 32 :=
  let c2_i32_195 : BitVec 32 := 2#32
  let c16_i32_194 : BitVec 32 := 16#32
  let c0_i32_111 : BitVec 32 := 0#32
  let c1_i32_113 : BitVec 32 := 1#32
  let arg13 : BitVec 32 := Scf.iv c0_i32_111 c1_i32_113 k0_t1
  let v321 : BitVec 32 := Scalar.muli c16_i32_194 arg13
  let v322 : BitVec 32 := Scalar.addi c2_i32_195 v321
  let c0_i32_196 : BitVec 32 := 0#32
  let v323 : BitVec 32 := Scalar.addi v322 c0_i32_196
  let c2_i32_197 : BitVec 32 := 2#32
  let v324 : BitVec 1 := Scalar.cmpi .slt v323 c2_i32_197
  let c2_i32_198 : BitVec 32 := 2#32
  let arg2 : BitVec 32 := BitVec.ofNat 32 (i 2).val
  let v325 : BitVec 32 := Scalar.muli c2_i32_198 arg2
  let v326 : BitVec 32 := Scalar.addi v325 v323
  let c2_i32_199 : BitVec 32 := 2#32
  let v327 : BitVec 32 := Scalar.subi v323 c2_i32_199
  let v328 : BitVec 32 := Scalar.select v324 v326 v327
  let c256_i32_200 : BitVec 32 := 256#32
  let v329 : BitVec 32 := Scalar.muli v328 c256_i32_200
  v329
def k0_off5 (i : grid0.Coords) (k0_t1 : Fin (k0_t1_loop i).trips) (c0_i32_196 : BitVec 32) : Fin 2 → Nat :=
  let c2_i32_195 : BitVec 32 := 2#32
  let c16_i32_194 : BitVec 32 := 16#32
  let c0_i32_111 : BitVec 32 := 0#32
  let c1_i32_113 : BitVec 32 := 1#32
  let arg13 : BitVec 32 := Scf.iv c0_i32_111 c1_i32_113 k0_t1
  let v321 : BitVec 32 := Scalar.muli c16_i32_194 arg13
  let v322 : BitVec 32 := Scalar.addi c2_i32_195 v321
  let v323 : BitVec 32 := Scalar.addi v322 c0_i32_196
  let c2_i32_197 : BitVec 32 := 2#32
  let v324 : BitVec 1 := Scalar.cmpi .slt v323 c2_i32_197
  let c2_i32_198 : BitVec 32 := 2#32
  let arg2 : BitVec 32 := BitVec.ofNat 32 (i 2).val
  let v325 : BitVec 32 := Scalar.muli c2_i32_198 arg2
  let v326 : BitVec 32 := Scalar.addi v325 v323
  let c2_i32_199 : BitVec 32 := 2#32
  let v327 : BitVec 32 := Scalar.subi v323 c2_i32_199
  let v328 : BitVec 32 := Scalar.select v324 v326 v327
  let c256_i32_200 : BitVec 32 := 256#32
  let v329 : BitVec 32 := Scalar.muli v328 c256_i32_200
  let v330 : BitVec 32 := v329
  let v331 : Index := Scalar.indexCast v330
  let c0_201 : Index := 0#32
  ![v331.toNat, 0]
def k0_mult5 (i : grid0.Coords) (k0_t1 : Fin (k0_t1_loop i).trips) : BitVec 32 :=
  let c2_i32_195 : BitVec 32 := 2#32
  let c16_i32_194 : BitVec 32 := 16#32
  let c0_i32_111 : BitVec 32 := 0#32
  let c1_i32_113 : BitVec 32 := 1#32
  let arg13 : BitVec 32 := Scf.iv c0_i32_111 c1_i32_113 k0_t1
  let v321 : BitVec 32 := Scalar.muli c16_i32_194 arg13
  let v322 : BitVec 32 := Scalar.addi c2_i32_195 v321
  let c0_i32_196 : BitVec 32 := 0#32
  let v323 : BitVec 32 := Scalar.addi v322 c0_i32_196
  let c1_i32_218 : BitVec 32 := 1#32
  let v351 : BitVec 32 := Scalar.subi v323 c1_i32_218
  let c2_i32_219 : BitVec 32 := 2#32
  let v352 : BitVec 1 := Scalar.cmpi .slt v351 c2_i32_219
  let c2_i32_220 : BitVec 32 := 2#32
  let arg2 : BitVec 32 := BitVec.ofNat 32 (i 2).val
  let v353 : BitVec 32 := Scalar.muli c2_i32_220 arg2
  let v354 : BitVec 32 := Scalar.addi v353 v351
  let c2_i32_221 : BitVec 32 := 2#32
  let v355 : BitVec 32 := Scalar.subi v351 c2_i32_221
  let v356 : BitVec 32 := Scalar.select v352 v354 v355
  let c256_i32_222 : BitVec 32 := 256#32
  let v357 : BitVec 32 := Scalar.muli v356 c256_i32_222
  v357
def k0_off6 (i : grid0.Coords) (k0_t1 : Fin (k0_t1_loop i).trips) (c0_i32_196 : BitVec 32) : Fin 2 → Nat :=
  let c0_235 : Index := 0#32
  let c2_i32_195 : BitVec 32 := 2#32
  let c16_i32_194 : BitVec 32 := 16#32
  let c0_i32_111 : BitVec 32 := 0#32
  let c1_i32_113 : BitVec 32 := 1#32
  let arg13 : BitVec 32 := Scf.iv c0_i32_111 c1_i32_113 k0_t1
  let v321 : BitVec 32 := Scalar.muli c16_i32_194 arg13
  let v322 : BitVec 32 := Scalar.addi c2_i32_195 v321
  let v323 : BitVec 32 := Scalar.addi v322 c0_i32_196
  let c1_i32_218 : BitVec 32 := 1#32
  let v351 : BitVec 32 := Scalar.subi v323 c1_i32_218
  let c2_i32_219 : BitVec 32 := 2#32
  let v352 : BitVec 1 := Scalar.cmpi .slt v351 c2_i32_219
  let c2_i32_220 : BitVec 32 := 2#32
  let arg2 : BitVec 32 := BitVec.ofNat 32 (i 2).val
  let v353 : BitVec 32 := Scalar.muli c2_i32_220 arg2
  let v354 : BitVec 32 := Scalar.addi v353 v351
  let c2_i32_221 : BitVec 32 := 2#32
  let v355 : BitVec 32 := Scalar.subi v351 c2_i32_221
  let v356 : BitVec 32 := Scalar.select v352 v354 v355
  let c256_i32_222 : BitVec 32 := 256#32
  let v357 : BitVec 32 := Scalar.muli v356 c256_i32_222
  let v358 : BitVec 32 := v357
  let v375 : Index := Scalar.indexCast v358
  ![0, v375.toNat]
def k0_off7 (i : grid0.Coords) (k0_t1 : Fin (k0_t1_loop i).trips) (c0_i32_196 : BitVec 32) : Fin 2 → Nat :=
  let c64_255 : Index := 64#32
  let c2_i32_195 : BitVec 32 := 2#32
  let c16_i32_194 : BitVec 32 := 16#32
  let c0_i32_111 : BitVec 32 := 0#32
  let c1_i32_113 : BitVec 32 := 1#32
  let arg13 : BitVec 32 := Scf.iv c0_i32_111 c1_i32_113 k0_t1
  let v321 : BitVec 32 := Scalar.muli c16_i32_194 arg13
  let v322 : BitVec 32 := Scalar.addi c2_i32_195 v321
  let v323 : BitVec 32 := Scalar.addi v322 c0_i32_196
  let c1_i32_218 : BitVec 32 := 1#32
  let v351 : BitVec 32 := Scalar.subi v323 c1_i32_218
  let c2_i32_219 : BitVec 32 := 2#32
  let v352 : BitVec 1 := Scalar.cmpi .slt v351 c2_i32_219
  let c2_i32_220 : BitVec 32 := 2#32
  let arg2 : BitVec 32 := BitVec.ofNat 32 (i 2).val
  let v353 : BitVec 32 := Scalar.muli c2_i32_220 arg2
  let v354 : BitVec 32 := Scalar.addi v353 v351
  let c2_i32_221 : BitVec 32 := 2#32
  let v355 : BitVec 32 := Scalar.subi v351 c2_i32_221
  let v356 : BitVec 32 := Scalar.select v352 v354 v355
  let c256_i32_222 : BitVec 32 := 256#32
  let v357 : BitVec 32 := Scalar.muli v356 c256_i32_222
  let v358 : BitVec 32 := v357
  let v403 : Index := Scalar.indexCast v358
  ![64, v403.toNat]
def k0_mult6 (i : grid0.Coords) (k0_t1 : Fin (k0_t1_loop i).trips) : BitVec 32 :=
  let c2_i32_264 : BitVec 32 := 2#32
  let c16_i32_263 : BitVec 32 := 16#32
  let c0_i32_111 : BitVec 32 := 0#32
  let c1_i32_113 : BitVec 32 := 1#32
  let arg13 : BitVec 32 := Scf.iv c0_i32_111 c1_i32_113 k0_t1
  let v415 : BitVec 32 := Scalar.muli c16_i32_263 arg13
  let v416 : BitVec 32 := Scalar.addi c2_i32_264 v415
  let c1_i32_265 : BitVec 32 := 1#32
  let v417 : BitVec 32 := Scalar.addi v416 c1_i32_265
  let c2_i32_266 : BitVec 32 := 2#32
  let v418 : BitVec 1 := Scalar.cmpi .slt v417 c2_i32_266
  let c2_i32_267 : BitVec 32 := 2#32
  let arg2 : BitVec 32 := BitVec.ofNat 32 (i 2).val
  let v419 : BitVec 32 := Scalar.muli c2_i32_267 arg2
  let v420 : BitVec 32 := Scalar.addi v419 v417
  let c2_i32_268 : BitVec 32 := 2#32
  let v421 : BitVec 32 := Scalar.subi v417 c2_i32_268
  let v422 : BitVec 32 := Scalar.select v418 v420 v421
  let c256_i32_269 : BitVec 32 := 256#32
  let v423 : BitVec 32 := Scalar.muli v422 c256_i32_269
  v423
def k0_mult7 (i : grid0.Coords) (k0_t1 : Fin (k0_t1_loop i).trips) : BitVec 32 :=
  let c2_i32_264 : BitVec 32 := 2#32
  let c16_i32_263 : BitVec 32 := 16#32
  let c0_i32_111 : BitVec 32 := 0#32
  let c1_i32_113 : BitVec 32 := 1#32
  let arg13 : BitVec 32 := Scf.iv c0_i32_111 c1_i32_113 k0_t1
  let v415 : BitVec 32 := Scalar.muli c16_i32_263 arg13
  let v416 : BitVec 32 := Scalar.addi c2_i32_264 v415
  let c1_i32_265 : BitVec 32 := 1#32
  let v417 : BitVec 32 := Scalar.addi v416 c1_i32_265
  let c1_i32_287 : BitVec 32 := 1#32
  let v445 : BitVec 32 := Scalar.subi v417 c1_i32_287
  let c2_i32_288 : BitVec 32 := 2#32
  let v446 : BitVec 1 := Scalar.cmpi .slt v445 c2_i32_288
  let c2_i32_289 : BitVec 32 := 2#32
  let arg2 : BitVec 32 := BitVec.ofNat 32 (i 2).val
  let v447 : BitVec 32 := Scalar.muli c2_i32_289 arg2
  let v448 : BitVec 32 := Scalar.addi v447 v445
  let c2_i32_290 : BitVec 32 := 2#32
  let v449 : BitVec 32 := Scalar.subi v445 c2_i32_290
  let v450 : BitVec 32 := Scalar.select v446 v448 v449
  let c256_i32_291 : BitVec 32 := 256#32
  let v451 : BitVec 32 := Scalar.muli v450 c256_i32_291
  v451
def k0_mult8 (i : grid0.Coords) (k0_t1 : Fin (k0_t1_loop i).trips) : BitVec 32 :=
  let c2_i32_333 : BitVec 32 := 2#32
  let c16_i32_332 : BitVec 32 := 16#32
  let c0_i32_111 : BitVec 32 := 0#32
  let c1_i32_113 : BitVec 32 := 1#32
  let arg13 : BitVec 32 := Scf.iv c0_i32_111 c1_i32_113 k0_t1
  let v509 : BitVec 32 := Scalar.muli c16_i32_332 arg13
  let v510 : BitVec 32 := Scalar.addi c2_i32_333 v509
  let c2_i32_334 : BitVec 32 := 2#32
  let v511 : BitVec 32 := Scalar.addi v510 c2_i32_334
  let c2_i32_335 : BitVec 32 := 2#32
  let v512 : BitVec 1 := Scalar.cmpi .slt v511 c2_i32_335
  let c2_i32_336 : BitVec 32 := 2#32
  let arg2 : BitVec 32 := BitVec.ofNat 32 (i 2).val
  let v513 : BitVec 32 := Scalar.muli c2_i32_336 arg2
  let v514 : BitVec 32 := Scalar.addi v513 v511
  let c2_i32_337 : BitVec 32 := 2#32
  let v515 : BitVec 32 := Scalar.subi v511 c2_i32_337
  let v516 : BitVec 32 := Scalar.select v512 v514 v515
  let c256_i32_338 : BitVec 32 := 256#32
  let v517 : BitVec 32 := Scalar.muli v516 c256_i32_338
  v517
def k0_mult9 (i : grid0.Coords) (k0_t1 : Fin (k0_t1_loop i).trips) : BitVec 32 :=
  let c2_i32_333 : BitVec 32 := 2#32
  let c16_i32_332 : BitVec 32 := 16#32
  let c0_i32_111 : BitVec 32 := 0#32
  let c1_i32_113 : BitVec 32 := 1#32
  let arg13 : BitVec 32 := Scf.iv c0_i32_111 c1_i32_113 k0_t1
  let v509 : BitVec 32 := Scalar.muli c16_i32_332 arg13
  let v510 : BitVec 32 := Scalar.addi c2_i32_333 v509
  let c2_i32_334 : BitVec 32 := 2#32
  let v511 : BitVec 32 := Scalar.addi v510 c2_i32_334
  let c1_i32_356 : BitVec 32 := 1#32
  let v539 : BitVec 32 := Scalar.subi v511 c1_i32_356
  let c2_i32_357 : BitVec 32 := 2#32
  let v540 : BitVec 1 := Scalar.cmpi .slt v539 c2_i32_357
  let c2_i32_358 : BitVec 32 := 2#32
  let arg2 : BitVec 32 := BitVec.ofNat 32 (i 2).val
  let v541 : BitVec 32 := Scalar.muli c2_i32_358 arg2
  let v542 : BitVec 32 := Scalar.addi v541 v539
  let c2_i32_359 : BitVec 32 := 2#32
  let v543 : BitVec 32 := Scalar.subi v539 c2_i32_359
  let v544 : BitVec 32 := Scalar.select v540 v542 v543
  let c256_i32_360 : BitVec 32 := 256#32
  let v545 : BitVec 32 := Scalar.muli v544 c256_i32_360
  v545
def k0_mult10 (i : grid0.Coords) (k0_t1 : Fin (k0_t1_loop i).trips) : BitVec 32 :=
  let c2_i32_402 : BitVec 32 := 2#32
  let c16_i32_401 : BitVec 32 := 16#32
  let c0_i32_111 : BitVec 32 := 0#32
  let c1_i32_113 : BitVec 32 := 1#32
  let arg13 : BitVec 32 := Scf.iv c0_i32_111 c1_i32_113 k0_t1
  let v603 : BitVec 32 := Scalar.muli c16_i32_401 arg13
  let v604 : BitVec 32 := Scalar.addi c2_i32_402 v603
  let c3_i32_403 : BitVec 32 := 3#32
  let v605 : BitVec 32 := Scalar.addi v604 c3_i32_403
  let c2_i32_404 : BitVec 32 := 2#32
  let v606 : BitVec 1 := Scalar.cmpi .slt v605 c2_i32_404
  let c2_i32_405 : BitVec 32 := 2#32
  let arg2 : BitVec 32 := BitVec.ofNat 32 (i 2).val
  let v607 : BitVec 32 := Scalar.muli c2_i32_405 arg2
  let v608 : BitVec 32 := Scalar.addi v607 v605
  let c2_i32_406 : BitVec 32 := 2#32
  let v609 : BitVec 32 := Scalar.subi v605 c2_i32_406
  let v610 : BitVec 32 := Scalar.select v606 v608 v609
  let c256_i32_407 : BitVec 32 := 256#32
  let v611 : BitVec 32 := Scalar.muli v610 c256_i32_407
  v611
def k0_mult11 (i : grid0.Coords) (k0_t1 : Fin (k0_t1_loop i).trips) : BitVec 32 :=
  let c2_i32_402 : BitVec 32 := 2#32
  let c16_i32_401 : BitVec 32 := 16#32
  let c0_i32_111 : BitVec 32 := 0#32
  let c1_i32_113 : BitVec 32 := 1#32
  let arg13 : BitVec 32 := Scf.iv c0_i32_111 c1_i32_113 k0_t1
  let v603 : BitVec 32 := Scalar.muli c16_i32_401 arg13
  let v604 : BitVec 32 := Scalar.addi c2_i32_402 v603
  let c3_i32_403 : BitVec 32 := 3#32
  let v605 : BitVec 32 := Scalar.addi v604 c3_i32_403
  let c1_i32_425 : BitVec 32 := 1#32
  let v633 : BitVec 32 := Scalar.subi v605 c1_i32_425
  let c2_i32_426 : BitVec 32 := 2#32
  let v634 : BitVec 1 := Scalar.cmpi .slt v633 c2_i32_426
  let c2_i32_427 : BitVec 32 := 2#32
  let arg2 : BitVec 32 := BitVec.ofNat 32 (i 2).val
  let v635 : BitVec 32 := Scalar.muli c2_i32_427 arg2
  let v636 : BitVec 32 := Scalar.addi v635 v633
  let c2_i32_428 : BitVec 32 := 2#32
  let v637 : BitVec 32 := Scalar.subi v633 c2_i32_428
  let v638 : BitVec 32 := Scalar.select v634 v636 v637
  let c256_i32_429 : BitVec 32 := 256#32
  let v639 : BitVec 32 := Scalar.muli v638 c256_i32_429
  v639
def k0_mult12 (i : grid0.Coords) (k0_t1 : Fin (k0_t1_loop i).trips) : BitVec 32 :=
  let c2_i32_471 : BitVec 32 := 2#32
  let c16_i32_470 : BitVec 32 := 16#32
  let c0_i32_111 : BitVec 32 := 0#32
  let c1_i32_113 : BitVec 32 := 1#32
  let arg13 : BitVec 32 := Scf.iv c0_i32_111 c1_i32_113 k0_t1
  let v697 : BitVec 32 := Scalar.muli c16_i32_470 arg13
  let v698 : BitVec 32 := Scalar.addi c2_i32_471 v697
  let c4_i32_472 : BitVec 32 := 4#32
  let v699 : BitVec 32 := Scalar.addi v698 c4_i32_472
  let c2_i32_473 : BitVec 32 := 2#32
  let v700 : BitVec 1 := Scalar.cmpi .slt v699 c2_i32_473
  let c2_i32_474 : BitVec 32 := 2#32
  let arg2 : BitVec 32 := BitVec.ofNat 32 (i 2).val
  let v701 : BitVec 32 := Scalar.muli c2_i32_474 arg2
  let v702 : BitVec 32 := Scalar.addi v701 v699
  let c2_i32_475 : BitVec 32 := 2#32
  let v703 : BitVec 32 := Scalar.subi v699 c2_i32_475
  let v704 : BitVec 32 := Scalar.select v700 v702 v703
  let c256_i32_476 : BitVec 32 := 256#32
  let v705 : BitVec 32 := Scalar.muli v704 c256_i32_476
  v705
def k0_mult13 (i : grid0.Coords) (k0_t1 : Fin (k0_t1_loop i).trips) : BitVec 32 :=
  let c2_i32_471 : BitVec 32 := 2#32
  let c16_i32_470 : BitVec 32 := 16#32
  let c0_i32_111 : BitVec 32 := 0#32
  let c1_i32_113 : BitVec 32 := 1#32
  let arg13 : BitVec 32 := Scf.iv c0_i32_111 c1_i32_113 k0_t1
  let v697 : BitVec 32 := Scalar.muli c16_i32_470 arg13
  let v698 : BitVec 32 := Scalar.addi c2_i32_471 v697
  let c4_i32_472 : BitVec 32 := 4#32
  let v699 : BitVec 32 := Scalar.addi v698 c4_i32_472
  let c1_i32_494 : BitVec 32 := 1#32
  let v727 : BitVec 32 := Scalar.subi v699 c1_i32_494
  let c2_i32_495 : BitVec 32 := 2#32
  let v728 : BitVec 1 := Scalar.cmpi .slt v727 c2_i32_495
  let c2_i32_496 : BitVec 32 := 2#32
  let arg2 : BitVec 32 := BitVec.ofNat 32 (i 2).val
  let v729 : BitVec 32 := Scalar.muli c2_i32_496 arg2
  let v730 : BitVec 32 := Scalar.addi v729 v727
  let c2_i32_497 : BitVec 32 := 2#32
  let v731 : BitVec 32 := Scalar.subi v727 c2_i32_497
  let v732 : BitVec 32 := Scalar.select v728 v730 v731
  let c256_i32_498 : BitVec 32 := 256#32
  let v733 : BitVec 32 := Scalar.muli v732 c256_i32_498
  v733
def k0_mult14 (i : grid0.Coords) (k0_t1 : Fin (k0_t1_loop i).trips) : BitVec 32 :=
  let c2_i32_540 : BitVec 32 := 2#32
  let c16_i32_539 : BitVec 32 := 16#32
  let c0_i32_111 : BitVec 32 := 0#32
  let c1_i32_113 : BitVec 32 := 1#32
  let arg13 : BitVec 32 := Scf.iv c0_i32_111 c1_i32_113 k0_t1
  let v791 : BitVec 32 := Scalar.muli c16_i32_539 arg13
  let v792 : BitVec 32 := Scalar.addi c2_i32_540 v791
  let c5_i32 : BitVec 32 := 5#32
  let v793 : BitVec 32 := Scalar.addi v792 c5_i32
  let c2_i32_541 : BitVec 32 := 2#32
  let v794 : BitVec 1 := Scalar.cmpi .slt v793 c2_i32_541
  let c2_i32_542 : BitVec 32 := 2#32
  let arg2 : BitVec 32 := BitVec.ofNat 32 (i 2).val
  let v795 : BitVec 32 := Scalar.muli c2_i32_542 arg2
  let v796 : BitVec 32 := Scalar.addi v795 v793
  let c2_i32_543 : BitVec 32 := 2#32
  let v797 : BitVec 32 := Scalar.subi v793 c2_i32_543
  let v798 : BitVec 32 := Scalar.select v794 v796 v797
  let c256_i32_544 : BitVec 32 := 256#32
  let v799 : BitVec 32 := Scalar.muli v798 c256_i32_544
  v799
def k0_mult15 (i : grid0.Coords) (k0_t1 : Fin (k0_t1_loop i).trips) : BitVec 32 :=
  let c2_i32_540 : BitVec 32 := 2#32
  let c16_i32_539 : BitVec 32 := 16#32
  let c0_i32_111 : BitVec 32 := 0#32
  let c1_i32_113 : BitVec 32 := 1#32
  let arg13 : BitVec 32 := Scf.iv c0_i32_111 c1_i32_113 k0_t1
  let v791 : BitVec 32 := Scalar.muli c16_i32_539 arg13
  let v792 : BitVec 32 := Scalar.addi c2_i32_540 v791
  let c5_i32 : BitVec 32 := 5#32
  let v793 : BitVec 32 := Scalar.addi v792 c5_i32
  let c1_i32_562 : BitVec 32 := 1#32
  let v821 : BitVec 32 := Scalar.subi v793 c1_i32_562
  let c2_i32_563 : BitVec 32 := 2#32
  let v822 : BitVec 1 := Scalar.cmpi .slt v821 c2_i32_563
  let c2_i32_564 : BitVec 32 := 2#32
  let arg2 : BitVec 32 := BitVec.ofNat 32 (i 2).val
  let v823 : BitVec 32 := Scalar.muli c2_i32_564 arg2
  let v824 : BitVec 32 := Scalar.addi v823 v821
  let c2_i32_565 : BitVec 32 := 2#32
  let v825 : BitVec 32 := Scalar.subi v821 c2_i32_565
  let v826 : BitVec 32 := Scalar.select v822 v824 v825
  let c256_i32_566 : BitVec 32 := 256#32
  let v827 : BitVec 32 := Scalar.muli v826 c256_i32_566
  v827
def k0_mult16 (i : grid0.Coords) (k0_t1 : Fin (k0_t1_loop i).trips) : BitVec 32 :=
  let c2_i32_608 : BitVec 32 := 2#32
  let c16_i32_607 : BitVec 32 := 16#32
  let c0_i32_111 : BitVec 32 := 0#32
  let c1_i32_113 : BitVec 32 := 1#32
  let arg13 : BitVec 32 := Scf.iv c0_i32_111 c1_i32_113 k0_t1
  let v885 : BitVec 32 := Scalar.muli c16_i32_607 arg13
  let v886 : BitVec 32 := Scalar.addi c2_i32_608 v885
  let c6_i32_609 : BitVec 32 := 6#32
  let v887 : BitVec 32 := Scalar.addi v886 c6_i32_609
  let c2_i32_610 : BitVec 32 := 2#32
  let v888 : BitVec 1 := Scalar.cmpi .slt v887 c2_i32_610
  let c2_i32_611 : BitVec 32 := 2#32
  let arg2 : BitVec 32 := BitVec.ofNat 32 (i 2).val
  let v889 : BitVec 32 := Scalar.muli c2_i32_611 arg2
  let v890 : BitVec 32 := Scalar.addi v889 v887
  let c2_i32_612 : BitVec 32 := 2#32
  let v891 : BitVec 32 := Scalar.subi v887 c2_i32_612
  let v892 : BitVec 32 := Scalar.select v888 v890 v891
  let c256_i32_613 : BitVec 32 := 256#32
  let v893 : BitVec 32 := Scalar.muli v892 c256_i32_613
  v893
def k0_mult17 (i : grid0.Coords) (k0_t1 : Fin (k0_t1_loop i).trips) : BitVec 32 :=
  let c2_i32_608 : BitVec 32 := 2#32
  let c16_i32_607 : BitVec 32 := 16#32
  let c0_i32_111 : BitVec 32 := 0#32
  let c1_i32_113 : BitVec 32 := 1#32
  let arg13 : BitVec 32 := Scf.iv c0_i32_111 c1_i32_113 k0_t1
  let v885 : BitVec 32 := Scalar.muli c16_i32_607 arg13
  let v886 : BitVec 32 := Scalar.addi c2_i32_608 v885
  let c6_i32_609 : BitVec 32 := 6#32
  let v887 : BitVec 32 := Scalar.addi v886 c6_i32_609
  let c1_i32_631 : BitVec 32 := 1#32
  let v915 : BitVec 32 := Scalar.subi v887 c1_i32_631
  let c2_i32_632 : BitVec 32 := 2#32
  let v916 : BitVec 1 := Scalar.cmpi .slt v915 c2_i32_632
  let c2_i32_633 : BitVec 32 := 2#32
  let arg2 : BitVec 32 := BitVec.ofNat 32 (i 2).val
  let v917 : BitVec 32 := Scalar.muli c2_i32_633 arg2
  let v918 : BitVec 32 := Scalar.addi v917 v915
  let c2_i32_634 : BitVec 32 := 2#32
  let v919 : BitVec 32 := Scalar.subi v915 c2_i32_634
  let v920 : BitVec 32 := Scalar.select v916 v918 v919
  let c256_i32_635 : BitVec 32 := 256#32
  let v921 : BitVec 32 := Scalar.muli v920 c256_i32_635
  v921
def k0_mult18 (i : grid0.Coords) (k0_t1 : Fin (k0_t1_loop i).trips) : BitVec 32 :=
  let c2_i32_677 : BitVec 32 := 2#32
  let c16_i32_676 : BitVec 32 := 16#32
  let c0_i32_111 : BitVec 32 := 0#32
  let c1_i32_113 : BitVec 32 := 1#32
  let arg13 : BitVec 32 := Scf.iv c0_i32_111 c1_i32_113 k0_t1
  let v979 : BitVec 32 := Scalar.muli c16_i32_676 arg13
  let v980 : BitVec 32 := Scalar.addi c2_i32_677 v979
  let c7_i32 : BitVec 32 := 7#32
  let v981 : BitVec 32 := Scalar.addi v980 c7_i32
  let c2_i32_678 : BitVec 32 := 2#32
  let v982 : BitVec 1 := Scalar.cmpi .slt v981 c2_i32_678
  let c2_i32_679 : BitVec 32 := 2#32
  let arg2 : BitVec 32 := BitVec.ofNat 32 (i 2).val
  let v983 : BitVec 32 := Scalar.muli c2_i32_679 arg2
  let v984 : BitVec 32 := Scalar.addi v983 v981
  let c2_i32_680 : BitVec 32 := 2#32
  let v985 : BitVec 32 := Scalar.subi v981 c2_i32_680
  let v986 : BitVec 32 := Scalar.select v982 v984 v985
  let c256_i32_681 : BitVec 32 := 256#32
  let v987 : BitVec 32 := Scalar.muli v986 c256_i32_681
  v987
def k0_mult19 (i : grid0.Coords) (k0_t1 : Fin (k0_t1_loop i).trips) : BitVec 32 :=
  let c2_i32_677 : BitVec 32 := 2#32
  let c16_i32_676 : BitVec 32 := 16#32
  let c0_i32_111 : BitVec 32 := 0#32
  let c1_i32_113 : BitVec 32 := 1#32
  let arg13 : BitVec 32 := Scf.iv c0_i32_111 c1_i32_113 k0_t1
  let v979 : BitVec 32 := Scalar.muli c16_i32_676 arg13
  let v980 : BitVec 32 := Scalar.addi c2_i32_677 v979
  let c7_i32 : BitVec 32 := 7#32
  let v981 : BitVec 32 := Scalar.addi v980 c7_i32
  let c1_i32_699 : BitVec 32 := 1#32
  let v1009 : BitVec 32 := Scalar.subi v981 c1_i32_699
  let c2_i32_700 : BitVec 32 := 2#32
  let v1010 : BitVec 1 := Scalar.cmpi .slt v1009 c2_i32_700
  let c2_i32_701 : BitVec 32 := 2#32
  let arg2 : BitVec 32 := BitVec.ofNat 32 (i 2).val
  let v1011 : BitVec 32 := Scalar.muli c2_i32_701 arg2
  let v1012 : BitVec 32 := Scalar.addi v1011 v1009
  let c2_i32_702 : BitVec 32 := 2#32
  let v1013 : BitVec 32 := Scalar.subi v1009 c2_i32_702
  let v1014 : BitVec 32 := Scalar.select v1010 v1012 v1013
  let c256_i32_703 : BitVec 32 := 256#32
  let v1015 : BitVec 32 := Scalar.muli v1014 c256_i32_703
  v1015
def k0_mult20 (i : grid0.Coords) (k0_t1 : Fin (k0_t1_loop i).trips) : BitVec 32 :=
  let c2_i32_745 : BitVec 32 := 2#32
  let c16_i32_744 : BitVec 32 := 16#32
  let c0_i32_111 : BitVec 32 := 0#32
  let c1_i32_113 : BitVec 32 := 1#32
  let arg13 : BitVec 32 := Scf.iv c0_i32_111 c1_i32_113 k0_t1
  let v1073 : BitVec 32 := Scalar.muli c16_i32_744 arg13
  let v1074 : BitVec 32 := Scalar.addi c2_i32_745 v1073
  let c8_i32_746 : BitVec 32 := 8#32
  let v1075 : BitVec 32 := Scalar.addi v1074 c8_i32_746
  let c2_i32_747 : BitVec 32 := 2#32
  let v1076 : BitVec 1 := Scalar.cmpi .slt v1075 c2_i32_747
  let c2_i32_748 : BitVec 32 := 2#32
  let arg2 : BitVec 32 := BitVec.ofNat 32 (i 2).val
  let v1077 : BitVec 32 := Scalar.muli c2_i32_748 arg2
  let v1078 : BitVec 32 := Scalar.addi v1077 v1075
  let c2_i32_749 : BitVec 32 := 2#32
  let v1079 : BitVec 32 := Scalar.subi v1075 c2_i32_749
  let v1080 : BitVec 32 := Scalar.select v1076 v1078 v1079
  let c256_i32_750 : BitVec 32 := 256#32
  let v1081 : BitVec 32 := Scalar.muli v1080 c256_i32_750
  v1081
def k0_mult21 (i : grid0.Coords) (k0_t1 : Fin (k0_t1_loop i).trips) : BitVec 32 :=
  let c2_i32_745 : BitVec 32 := 2#32
  let c16_i32_744 : BitVec 32 := 16#32
  let c0_i32_111 : BitVec 32 := 0#32
  let c1_i32_113 : BitVec 32 := 1#32
  let arg13 : BitVec 32 := Scf.iv c0_i32_111 c1_i32_113 k0_t1
  let v1073 : BitVec 32 := Scalar.muli c16_i32_744 arg13
  let v1074 : BitVec 32 := Scalar.addi c2_i32_745 v1073
  let c8_i32_746 : BitVec 32 := 8#32
  let v1075 : BitVec 32 := Scalar.addi v1074 c8_i32_746
  let c1_i32_768 : BitVec 32 := 1#32
  let v1103 : BitVec 32 := Scalar.subi v1075 c1_i32_768
  let c2_i32_769 : BitVec 32 := 2#32
  let v1104 : BitVec 1 := Scalar.cmpi .slt v1103 c2_i32_769
  let c2_i32_770 : BitVec 32 := 2#32
  let arg2 : BitVec 32 := BitVec.ofNat 32 (i 2).val
  let v1105 : BitVec 32 := Scalar.muli c2_i32_770 arg2
  let v1106 : BitVec 32 := Scalar.addi v1105 v1103
  let c2_i32_771 : BitVec 32 := 2#32
  let v1107 : BitVec 32 := Scalar.subi v1103 c2_i32_771
  let v1108 : BitVec 32 := Scalar.select v1104 v1106 v1107
  let c256_i32_772 : BitVec 32 := 256#32
  let v1109 : BitVec 32 := Scalar.muli v1108 c256_i32_772
  v1109
def k0_mult22 (i : grid0.Coords) (k0_t1 : Fin (k0_t1_loop i).trips) : BitVec 32 :=
  let c2_i32_814 : BitVec 32 := 2#32
  let c16_i32_813 : BitVec 32 := 16#32
  let c0_i32_111 : BitVec 32 := 0#32
  let c1_i32_113 : BitVec 32 := 1#32
  let arg13 : BitVec 32 := Scf.iv c0_i32_111 c1_i32_113 k0_t1
  let v1167 : BitVec 32 := Scalar.muli c16_i32_813 arg13
  let v1168 : BitVec 32 := Scalar.addi c2_i32_814 v1167
  let c9_i32 : BitVec 32 := 9#32
  let v1169 : BitVec 32 := Scalar.addi v1168 c9_i32
  let c2_i32_815 : BitVec 32 := 2#32
  let v1170 : BitVec 1 := Scalar.cmpi .slt v1169 c2_i32_815
  let c2_i32_816 : BitVec 32 := 2#32
  let arg2 : BitVec 32 := BitVec.ofNat 32 (i 2).val
  let v1171 : BitVec 32 := Scalar.muli c2_i32_816 arg2
  let v1172 : BitVec 32 := Scalar.addi v1171 v1169
  let c2_i32_817 : BitVec 32 := 2#32
  let v1173 : BitVec 32 := Scalar.subi v1169 c2_i32_817
  let v1174 : BitVec 32 := Scalar.select v1170 v1172 v1173
  let c256_i32_818 : BitVec 32 := 256#32
  let v1175 : BitVec 32 := Scalar.muli v1174 c256_i32_818
  v1175
def k0_mult23 (i : grid0.Coords) (k0_t1 : Fin (k0_t1_loop i).trips) : BitVec 32 :=
  let c2_i32_814 : BitVec 32 := 2#32
  let c16_i32_813 : BitVec 32 := 16#32
  let c0_i32_111 : BitVec 32 := 0#32
  let c1_i32_113 : BitVec 32 := 1#32
  let arg13 : BitVec 32 := Scf.iv c0_i32_111 c1_i32_113 k0_t1
  let v1167 : BitVec 32 := Scalar.muli c16_i32_813 arg13
  let v1168 : BitVec 32 := Scalar.addi c2_i32_814 v1167
  let c9_i32 : BitVec 32 := 9#32
  let v1169 : BitVec 32 := Scalar.addi v1168 c9_i32
  let c1_i32_836 : BitVec 32 := 1#32
  let v1197 : BitVec 32 := Scalar.subi v1169 c1_i32_836
  let c2_i32_837 : BitVec 32 := 2#32
  let v1198 : BitVec 1 := Scalar.cmpi .slt v1197 c2_i32_837
  let c2_i32_838 : BitVec 32 := 2#32
  let arg2 : BitVec 32 := BitVec.ofNat 32 (i 2).val
  let v1199 : BitVec 32 := Scalar.muli c2_i32_838 arg2
  let v1200 : BitVec 32 := Scalar.addi v1199 v1197
  let c2_i32_839 : BitVec 32 := 2#32
  let v1201 : BitVec 32 := Scalar.subi v1197 c2_i32_839
  let v1202 : BitVec 32 := Scalar.select v1198 v1200 v1201
  let c256_i32_840 : BitVec 32 := 256#32
  let v1203 : BitVec 32 := Scalar.muli v1202 c256_i32_840
  v1203
def k0_mult24 (i : grid0.Coords) (k0_t1 : Fin (k0_t1_loop i).trips) : BitVec 32 :=
  let c2_i32_882 : BitVec 32 := 2#32
  let c16_i32_881 : BitVec 32 := 16#32
  let c0_i32_111 : BitVec 32 := 0#32
  let c1_i32_113 : BitVec 32 := 1#32
  let arg13 : BitVec 32 := Scf.iv c0_i32_111 c1_i32_113 k0_t1
  let v1261 : BitVec 32 := Scalar.muli c16_i32_881 arg13
  let v1262 : BitVec 32 := Scalar.addi c2_i32_882 v1261
  let c10_i32 : BitVec 32 := 10#32
  let v1263 : BitVec 32 := Scalar.addi v1262 c10_i32
  let c2_i32_883 : BitVec 32 := 2#32
  let v1264 : BitVec 1 := Scalar.cmpi .slt v1263 c2_i32_883
  let c2_i32_884 : BitVec 32 := 2#32
  let arg2 : BitVec 32 := BitVec.ofNat 32 (i 2).val
  let v1265 : BitVec 32 := Scalar.muli c2_i32_884 arg2
  let v1266 : BitVec 32 := Scalar.addi v1265 v1263
  let c2_i32_885 : BitVec 32 := 2#32
  let v1267 : BitVec 32 := Scalar.subi v1263 c2_i32_885
  let v1268 : BitVec 32 := Scalar.select v1264 v1266 v1267
  let c256_i32_886 : BitVec 32 := 256#32
  let v1269 : BitVec 32 := Scalar.muli v1268 c256_i32_886
  v1269
def k0_mult25 (i : grid0.Coords) (k0_t1 : Fin (k0_t1_loop i).trips) : BitVec 32 :=
  let c2_i32_882 : BitVec 32 := 2#32
  let c16_i32_881 : BitVec 32 := 16#32
  let c0_i32_111 : BitVec 32 := 0#32
  let c1_i32_113 : BitVec 32 := 1#32
  let arg13 : BitVec 32 := Scf.iv c0_i32_111 c1_i32_113 k0_t1
  let v1261 : BitVec 32 := Scalar.muli c16_i32_881 arg13
  let v1262 : BitVec 32 := Scalar.addi c2_i32_882 v1261
  let c10_i32 : BitVec 32 := 10#32
  let v1263 : BitVec 32 := Scalar.addi v1262 c10_i32
  let c1_i32_904 : BitVec 32 := 1#32
  let v1291 : BitVec 32 := Scalar.subi v1263 c1_i32_904
  let c2_i32_905 : BitVec 32 := 2#32
  let v1292 : BitVec 1 := Scalar.cmpi .slt v1291 c2_i32_905
  let c2_i32_906 : BitVec 32 := 2#32
  let arg2 : BitVec 32 := BitVec.ofNat 32 (i 2).val
  let v1293 : BitVec 32 := Scalar.muli c2_i32_906 arg2
  let v1294 : BitVec 32 := Scalar.addi v1293 v1291
  let c2_i32_907 : BitVec 32 := 2#32
  let v1295 : BitVec 32 := Scalar.subi v1291 c2_i32_907
  let v1296 : BitVec 32 := Scalar.select v1292 v1294 v1295
  let c256_i32_908 : BitVec 32 := 256#32
  let v1297 : BitVec 32 := Scalar.muli v1296 c256_i32_908
  v1297
def k0_mult26 (i : grid0.Coords) (k0_t1 : Fin (k0_t1_loop i).trips) : BitVec 32 :=
  let c2_i32_950 : BitVec 32 := 2#32
  let c16_i32_949 : BitVec 32 := 16#32
  let c0_i32_111 : BitVec 32 := 0#32
  let c1_i32_113 : BitVec 32 := 1#32
  let arg13 : BitVec 32 := Scf.iv c0_i32_111 c1_i32_113 k0_t1
  let v1355 : BitVec 32 := Scalar.muli c16_i32_949 arg13
  let v1356 : BitVec 32 := Scalar.addi c2_i32_950 v1355
  let c11_i32 : BitVec 32 := 11#32
  let v1357 : BitVec 32 := Scalar.addi v1356 c11_i32
  let c2_i32_951 : BitVec 32 := 2#32
  let v1358 : BitVec 1 := Scalar.cmpi .slt v1357 c2_i32_951
  let c2_i32_952 : BitVec 32 := 2#32
  let arg2 : BitVec 32 := BitVec.ofNat 32 (i 2).val
  let v1359 : BitVec 32 := Scalar.muli c2_i32_952 arg2
  let v1360 : BitVec 32 := Scalar.addi v1359 v1357
  let c2_i32_953 : BitVec 32 := 2#32
  let v1361 : BitVec 32 := Scalar.subi v1357 c2_i32_953
  let v1362 : BitVec 32 := Scalar.select v1358 v1360 v1361
  let c256_i32_954 : BitVec 32 := 256#32
  let v1363 : BitVec 32 := Scalar.muli v1362 c256_i32_954
  v1363
def k0_mult27 (i : grid0.Coords) (k0_t1 : Fin (k0_t1_loop i).trips) : BitVec 32 :=
  let c2_i32_950 : BitVec 32 := 2#32
  let c16_i32_949 : BitVec 32 := 16#32
  let c0_i32_111 : BitVec 32 := 0#32
  let c1_i32_113 : BitVec 32 := 1#32
  let arg13 : BitVec 32 := Scf.iv c0_i32_111 c1_i32_113 k0_t1
  let v1355 : BitVec 32 := Scalar.muli c16_i32_949 arg13
  let v1356 : BitVec 32 := Scalar.addi c2_i32_950 v1355
  let c11_i32 : BitVec 32 := 11#32
  let v1357 : BitVec 32 := Scalar.addi v1356 c11_i32
  let c1_i32_972 : BitVec 32 := 1#32
  let v1385 : BitVec 32 := Scalar.subi v1357 c1_i32_972
  let c2_i32_973 : BitVec 32 := 2#32
  let v1386 : BitVec 1 := Scalar.cmpi .slt v1385 c2_i32_973
  let c2_i32_974 : BitVec 32 := 2#32
  let arg2 : BitVec 32 := BitVec.ofNat 32 (i 2).val
  let v1387 : BitVec 32 := Scalar.muli c2_i32_974 arg2
  let v1388 : BitVec 32 := Scalar.addi v1387 v1385
  let c2_i32_975 : BitVec 32 := 2#32
  let v1389 : BitVec 32 := Scalar.subi v1385 c2_i32_975
  let v1390 : BitVec 32 := Scalar.select v1386 v1388 v1389
  let c256_i32_976 : BitVec 32 := 256#32
  let v1391 : BitVec 32 := Scalar.muli v1390 c256_i32_976
  v1391
def k0_mult28 (i : grid0.Coords) (k0_t1 : Fin (k0_t1_loop i).trips) : BitVec 32 :=
  let c2_i32_1018 : BitVec 32 := 2#32
  let c16_i32_1017 : BitVec 32 := 16#32
  let c0_i32_111 : BitVec 32 := 0#32
  let c1_i32_113 : BitVec 32 := 1#32
  let arg13 : BitVec 32 := Scf.iv c0_i32_111 c1_i32_113 k0_t1
  let v1449 : BitVec 32 := Scalar.muli c16_i32_1017 arg13
  let v1450 : BitVec 32 := Scalar.addi c2_i32_1018 v1449
  let c12_i32 : BitVec 32 := 12#32
  let v1451 : BitVec 32 := Scalar.addi v1450 c12_i32
  let c2_i32_1019 : BitVec 32 := 2#32
  let v1452 : BitVec 1 := Scalar.cmpi .slt v1451 c2_i32_1019
  let c2_i32_1020 : BitVec 32 := 2#32
  let arg2 : BitVec 32 := BitVec.ofNat 32 (i 2).val
  let v1453 : BitVec 32 := Scalar.muli c2_i32_1020 arg2
  let v1454 : BitVec 32 := Scalar.addi v1453 v1451
  let c2_i32_1021 : BitVec 32 := 2#32
  let v1455 : BitVec 32 := Scalar.subi v1451 c2_i32_1021
  let v1456 : BitVec 32 := Scalar.select v1452 v1454 v1455
  let c256_i32_1022 : BitVec 32 := 256#32
  let v1457 : BitVec 32 := Scalar.muli v1456 c256_i32_1022
  v1457
def k0_mult29 (i : grid0.Coords) (k0_t1 : Fin (k0_t1_loop i).trips) : BitVec 32 :=
  let c2_i32_1018 : BitVec 32 := 2#32
  let c16_i32_1017 : BitVec 32 := 16#32
  let c0_i32_111 : BitVec 32 := 0#32
  let c1_i32_113 : BitVec 32 := 1#32
  let arg13 : BitVec 32 := Scf.iv c0_i32_111 c1_i32_113 k0_t1
  let v1449 : BitVec 32 := Scalar.muli c16_i32_1017 arg13
  let v1450 : BitVec 32 := Scalar.addi c2_i32_1018 v1449
  let c12_i32 : BitVec 32 := 12#32
  let v1451 : BitVec 32 := Scalar.addi v1450 c12_i32
  let c1_i32_1040 : BitVec 32 := 1#32
  let v1479 : BitVec 32 := Scalar.subi v1451 c1_i32_1040
  let c2_i32_1041 : BitVec 32 := 2#32
  let v1480 : BitVec 1 := Scalar.cmpi .slt v1479 c2_i32_1041
  let c2_i32_1042 : BitVec 32 := 2#32
  let arg2 : BitVec 32 := BitVec.ofNat 32 (i 2).val
  let v1481 : BitVec 32 := Scalar.muli c2_i32_1042 arg2
  let v1482 : BitVec 32 := Scalar.addi v1481 v1479
  let c2_i32_1043 : BitVec 32 := 2#32
  let v1483 : BitVec 32 := Scalar.subi v1479 c2_i32_1043
  let v1484 : BitVec 32 := Scalar.select v1480 v1482 v1483
  let c256_i32_1044 : BitVec 32 := 256#32
  let v1485 : BitVec 32 := Scalar.muli v1484 c256_i32_1044
  v1485
def k0_mult30 (i : grid0.Coords) (k0_t1 : Fin (k0_t1_loop i).trips) : BitVec 32 :=
  let c2_i32_1086 : BitVec 32 := 2#32
  let c16_i32_1085 : BitVec 32 := 16#32
  let c0_i32_111 : BitVec 32 := 0#32
  let c1_i32_113 : BitVec 32 := 1#32
  let arg13 : BitVec 32 := Scf.iv c0_i32_111 c1_i32_113 k0_t1
  let v1543 : BitVec 32 := Scalar.muli c16_i32_1085 arg13
  let v1544 : BitVec 32 := Scalar.addi c2_i32_1086 v1543
  let c13_i32 : BitVec 32 := 13#32
  let v1545 : BitVec 32 := Scalar.addi v1544 c13_i32
  let c2_i32_1087 : BitVec 32 := 2#32
  let v1546 : BitVec 1 := Scalar.cmpi .slt v1545 c2_i32_1087
  let c2_i32_1088 : BitVec 32 := 2#32
  let arg2 : BitVec 32 := BitVec.ofNat 32 (i 2).val
  let v1547 : BitVec 32 := Scalar.muli c2_i32_1088 arg2
  let v1548 : BitVec 32 := Scalar.addi v1547 v1545
  let c2_i32_1089 : BitVec 32 := 2#32
  let v1549 : BitVec 32 := Scalar.subi v1545 c2_i32_1089
  let v1550 : BitVec 32 := Scalar.select v1546 v1548 v1549
  let c256_i32_1090 : BitVec 32 := 256#32
  let v1551 : BitVec 32 := Scalar.muli v1550 c256_i32_1090
  v1551
def k0_mult31 (i : grid0.Coords) (k0_t1 : Fin (k0_t1_loop i).trips) : BitVec 32 :=
  let c2_i32_1086 : BitVec 32 := 2#32
  let c16_i32_1085 : BitVec 32 := 16#32
  let c0_i32_111 : BitVec 32 := 0#32
  let c1_i32_113 : BitVec 32 := 1#32
  let arg13 : BitVec 32 := Scf.iv c0_i32_111 c1_i32_113 k0_t1
  let v1543 : BitVec 32 := Scalar.muli c16_i32_1085 arg13
  let v1544 : BitVec 32 := Scalar.addi c2_i32_1086 v1543
  let c13_i32 : BitVec 32 := 13#32
  let v1545 : BitVec 32 := Scalar.addi v1544 c13_i32
  let c1_i32_1108 : BitVec 32 := 1#32
  let v1573 : BitVec 32 := Scalar.subi v1545 c1_i32_1108
  let c2_i32_1109 : BitVec 32 := 2#32
  let v1574 : BitVec 1 := Scalar.cmpi .slt v1573 c2_i32_1109
  let c2_i32_1110 : BitVec 32 := 2#32
  let arg2 : BitVec 32 := BitVec.ofNat 32 (i 2).val
  let v1575 : BitVec 32 := Scalar.muli c2_i32_1110 arg2
  let v1576 : BitVec 32 := Scalar.addi v1575 v1573
  let c2_i32_1111 : BitVec 32 := 2#32
  let v1577 : BitVec 32 := Scalar.subi v1573 c2_i32_1111
  let v1578 : BitVec 32 := Scalar.select v1574 v1576 v1577
  let c256_i32_1112 : BitVec 32 := 256#32
  let v1579 : BitVec 32 := Scalar.muli v1578 c256_i32_1112
  v1579
def k0_mult32 (i : grid0.Coords) (k0_t1 : Fin (k0_t1_loop i).trips) : BitVec 32 :=
  let c2_i32_1154 : BitVec 32 := 2#32
  let c16_i32_1153 : BitVec 32 := 16#32
  let c0_i32_111 : BitVec 32 := 0#32
  let c1_i32_113 : BitVec 32 := 1#32
  let arg13 : BitVec 32 := Scf.iv c0_i32_111 c1_i32_113 k0_t1
  let v1637 : BitVec 32 := Scalar.muli c16_i32_1153 arg13
  let v1638 : BitVec 32 := Scalar.addi c2_i32_1154 v1637
  let c14_i32 : BitVec 32 := 14#32
  let v1639 : BitVec 32 := Scalar.addi v1638 c14_i32
  let c2_i32_1155 : BitVec 32 := 2#32
  let v1640 : BitVec 1 := Scalar.cmpi .slt v1639 c2_i32_1155
  let c2_i32_1156 : BitVec 32 := 2#32
  let arg2 : BitVec 32 := BitVec.ofNat 32 (i 2).val
  let v1641 : BitVec 32 := Scalar.muli c2_i32_1156 arg2
  let v1642 : BitVec 32 := Scalar.addi v1641 v1639
  let c2_i32_1157 : BitVec 32 := 2#32
  let v1643 : BitVec 32 := Scalar.subi v1639 c2_i32_1157
  let v1644 : BitVec 32 := Scalar.select v1640 v1642 v1643
  let c256_i32_1158 : BitVec 32 := 256#32
  let v1645 : BitVec 32 := Scalar.muli v1644 c256_i32_1158
  v1645
def k0_mult33 (i : grid0.Coords) (k0_t1 : Fin (k0_t1_loop i).trips) : BitVec 32 :=
  let c2_i32_1154 : BitVec 32 := 2#32
  let c16_i32_1153 : BitVec 32 := 16#32
  let c0_i32_111 : BitVec 32 := 0#32
  let c1_i32_113 : BitVec 32 := 1#32
  let arg13 : BitVec 32 := Scf.iv c0_i32_111 c1_i32_113 k0_t1
  let v1637 : BitVec 32 := Scalar.muli c16_i32_1153 arg13
  let v1638 : BitVec 32 := Scalar.addi c2_i32_1154 v1637
  let c14_i32 : BitVec 32 := 14#32
  let v1639 : BitVec 32 := Scalar.addi v1638 c14_i32
  let c1_i32_1176 : BitVec 32 := 1#32
  let v1667 : BitVec 32 := Scalar.subi v1639 c1_i32_1176
  let c2_i32_1177 : BitVec 32 := 2#32
  let v1668 : BitVec 1 := Scalar.cmpi .slt v1667 c2_i32_1177
  let c2_i32_1178 : BitVec 32 := 2#32
  let arg2 : BitVec 32 := BitVec.ofNat 32 (i 2).val
  let v1669 : BitVec 32 := Scalar.muli c2_i32_1178 arg2
  let v1670 : BitVec 32 := Scalar.addi v1669 v1667
  let c2_i32_1179 : BitVec 32 := 2#32
  let v1671 : BitVec 32 := Scalar.subi v1667 c2_i32_1179
  let v1672 : BitVec 32 := Scalar.select v1668 v1670 v1671
  let c256_i32_1180 : BitVec 32 := 256#32
  let v1673 : BitVec 32 := Scalar.muli v1672 c256_i32_1180
  v1673
def k0_mult34 (i : grid0.Coords) (k0_t1 : Fin (k0_t1_loop i).trips) : BitVec 32 :=
  let c2_i32_1222 : BitVec 32 := 2#32
  let c16_i32_1221 : BitVec 32 := 16#32
  let c0_i32_111 : BitVec 32 := 0#32
  let c1_i32_113 : BitVec 32 := 1#32
  let arg13 : BitVec 32 := Scf.iv c0_i32_111 c1_i32_113 k0_t1
  let v1731 : BitVec 32 := Scalar.muli c16_i32_1221 arg13
  let v1732 : BitVec 32 := Scalar.addi c2_i32_1222 v1731
  let c15_i32 : BitVec 32 := 15#32
  let v1733 : BitVec 32 := Scalar.addi v1732 c15_i32
  let c2_i32_1223 : BitVec 32 := 2#32
  let v1734 : BitVec 1 := Scalar.cmpi .slt v1733 c2_i32_1223
  let c2_i32_1224 : BitVec 32 := 2#32
  let arg2 : BitVec 32 := BitVec.ofNat 32 (i 2).val
  let v1735 : BitVec 32 := Scalar.muli c2_i32_1224 arg2
  let v1736 : BitVec 32 := Scalar.addi v1735 v1733
  let c2_i32_1225 : BitVec 32 := 2#32
  let v1737 : BitVec 32 := Scalar.subi v1733 c2_i32_1225
  let v1738 : BitVec 32 := Scalar.select v1734 v1736 v1737
  let c256_i32_1226 : BitVec 32 := 256#32
  let v1739 : BitVec 32 := Scalar.muli v1738 c256_i32_1226
  v1739
def k0_mult35 (i : grid0.Coords) (k0_t1 : Fin (k0_t1_loop i).trips) : BitVec 32 :=
  let c2_i32_1222 : BitVec 32 := 2#32
  let c16_i32_1221 : BitVec 32 := 16#32
  let c0_i32_111 : BitVec 32 := 0#32
  let c1_i32_113 : BitVec 32 := 1#32
  let arg13 : BitVec 32 := Scf.iv c0_i32_111 c1_i32_113 k0_t1
  let v1731 : BitVec 32 := Scalar.muli c16_i32_1221 arg13
  let v1732 : BitVec 32 := Scalar.addi c2_i32_1222 v1731
  let c15_i32 : BitVec 32 := 15#32
  let v1733 : BitVec 32 := Scalar.addi v1732 c15_i32
  let c1_i32_1244 : BitVec 32 := 1#32
  let v1761 : BitVec 32 := Scalar.subi v1733 c1_i32_1244
  let c2_i32_1245 : BitVec 32 := 2#32
  let v1762 : BitVec 1 := Scalar.cmpi .slt v1761 c2_i32_1245
  let c2_i32_1246 : BitVec 32 := 2#32
  let arg2 : BitVec 32 := BitVec.ofNat 32 (i 2).val
  let v1763 : BitVec 32 := Scalar.muli c2_i32_1246 arg2
  let v1764 : BitVec 32 := Scalar.addi v1763 v1761
  let c2_i32_1247 : BitVec 32 := 2#32
  let v1765 : BitVec 32 := Scalar.subi v1761 c2_i32_1247
  let v1766 : BitVec 32 := Scalar.select v1762 v1764 v1765
  let c256_i32_1248 : BitVec 32 := 256#32
  let v1767 : BitVec 32 := Scalar.muli v1766 c256_i32_1248
  v1767
@[reducible] def k0_t2_loop (i : grid0.Coords) : Scf.Loop 32 :=
  let c0_i32_111 : BitVec 32 := 0#32
  let c2_i32 : BitVec 32 := 2#32
  let arg2 : BitVec 32 := BitVec.ofNat 32 (i 2).val
  let v42 : BitVec 32 := Scalar.muli c2_i32 arg2
  let c0_i32_104 : BitVec 32 := 0#32
  let v181 : BitVec 1 := Scalar.cmpi .sgt v42 c0_i32_104
  let v182 : BitVec 32 := Scalar.extui v181
  let c0_i32_105 : BitVec 32 := 0#32
  let v183 : BitVec 1 := Scalar.cmpi .slt v42 c0_i32_105
  let v184 : BitVec 32 := Scalar.extui v183
  let v185 : BitVec 32 := Scalar.subi v182 v184
  let c16_i32 : BitVec 32 := 16#32
  let c0_i32_106 : BitVec 32 := 0#32
  let v186 : BitVec 1 := Scalar.cmpi .sgt c16_i32 c0_i32_106
  let v187 : BitVec 32 := Scalar.extui v186
  let c0_i32_107 : BitVec 32 := 0#32
  let v188 : BitVec 1 := Scalar.cmpi .slt c16_i32 c0_i32_107
  let v189 : BitVec 32 := Scalar.extui v188
  let v190 : BitVec 32 := Scalar.subi v187 v189
  let v191 : BitVec 1 := Scalar.cmpi .ne v185 v190
  let v192 : BitVec 32 := Scalar.remsi v42 c16_i32
  let c0_i32_108 : BitVec 32 := 0#32
  let v193 : BitVec 1 := Scalar.cmpi .ne v192 c0_i32_108
  let v194 : BitVec 1 := Scalar.andi v191 v193
  let v180 : BitVec 32 := Scalar.divsi v42 c16_i32
  let c1_i32_109 : BitVec 32 := 1#32
  let v195 : BitVec 32 := Scalar.subi v180 c1_i32_109
  let v196 : BitVec 32 := Scalar.select v194 v195 v180
  let v197 : BitVec 32 := Scalar.subi v196 c0_i32_111
  let c1_i32_112 : BitVec 32 := 1#32
  let v199 : BitVec 32 := Scalar.divsi v197 c1_i32_112
  let v200 : BitVec 32 := Scalar.muli v199 c1_i32_112
  let v201 : BitVec 32 := Scalar.addi c0_i32_111 v200
  let v198 : BitVec 32 := Scalar.addi c0_i32_111 v197
  let c1_i32_114 : BitVec 32 := 1#32
  ⟨v201, v198, c1_i32_114⟩
def k0_mult36 (i : grid0.Coords) (k0_t2 : Fin (k0_t2_loop i).trips) : BitVec 32 :=
  let c2_i32_195 : BitVec 32 := 2#32
  let c16_i32_194 : BitVec 32 := 16#32
  let c0_i32_111 : BitVec 32 := 0#32
  let c2_i32 : BitVec 32 := 2#32
  let arg2 : BitVec 32 := BitVec.ofNat 32 (i 2).val
  let v42 : BitVec 32 := Scalar.muli c2_i32 arg2
  let c0_i32_104 : BitVec 32 := 0#32
  let v181 : BitVec 1 := Scalar.cmpi .sgt v42 c0_i32_104
  let v182 : BitVec 32 := Scalar.extui v181
  let c0_i32_105 : BitVec 32 := 0#32
  let v183 : BitVec 1 := Scalar.cmpi .slt v42 c0_i32_105
  let v184 : BitVec 32 := Scalar.extui v183
  let v185 : BitVec 32 := Scalar.subi v182 v184
  let c16_i32 : BitVec 32 := 16#32
  let c0_i32_106 : BitVec 32 := 0#32
  let v186 : BitVec 1 := Scalar.cmpi .sgt c16_i32 c0_i32_106
  let v187 : BitVec 32 := Scalar.extui v186
  let c0_i32_107 : BitVec 32 := 0#32
  let v188 : BitVec 1 := Scalar.cmpi .slt c16_i32 c0_i32_107
  let v189 : BitVec 32 := Scalar.extui v188
  let v190 : BitVec 32 := Scalar.subi v187 v189
  let v191 : BitVec 1 := Scalar.cmpi .ne v185 v190
  let v192 : BitVec 32 := Scalar.remsi v42 c16_i32
  let c0_i32_108 : BitVec 32 := 0#32
  let v193 : BitVec 1 := Scalar.cmpi .ne v192 c0_i32_108
  let v194 : BitVec 1 := Scalar.andi v191 v193
  let v180 : BitVec 32 := Scalar.divsi v42 c16_i32
  let c1_i32_109 : BitVec 32 := 1#32
  let v195 : BitVec 32 := Scalar.subi v180 c1_i32_109
  let v196 : BitVec 32 := Scalar.select v194 v195 v180
  let v197 : BitVec 32 := Scalar.subi v196 c0_i32_111
  let c1_i32_112 : BitVec 32 := 1#32
  let v199 : BitVec 32 := Scalar.divsi v197 c1_i32_112
  let v200 : BitVec 32 := Scalar.muli v199 c1_i32_112
  let v201 : BitVec 32 := Scalar.addi c0_i32_111 v200
  let c1_i32_114 : BitVec 32 := 1#32
  let arg13 : BitVec 32 := Scf.iv v201 c1_i32_114 k0_t2
  let v321 : BitVec 32 := Scalar.muli c16_i32_194 arg13
  let v322 : BitVec 32 := Scalar.addi c2_i32_195 v321
  let c0_i32_196 : BitVec 32 := 0#32
  let v323 : BitVec 32 := Scalar.addi v322 c0_i32_196
  let c2_i32_197 : BitVec 32 := 2#32
  let v324 : BitVec 1 := Scalar.cmpi .slt v323 c2_i32_197
  let c2_i32_198 : BitVec 32 := 2#32
  let v325 : BitVec 32 := Scalar.muli c2_i32_198 arg2
  let v326 : BitVec 32 := Scalar.addi v325 v323
  let c2_i32_199 : BitVec 32 := 2#32
  let v327 : BitVec 32 := Scalar.subi v323 c2_i32_199
  let v328 : BitVec 32 := Scalar.select v324 v326 v327
  let c256_i32_200 : BitVec 32 := 256#32
  let v329 : BitVec 32 := Scalar.muli v328 c256_i32_200
  v329
def k0_off8 (i : grid0.Coords) (k0_t2 : Fin (k0_t2_loop i).trips) (c0_i32_196 : BitVec 32) : Fin 2 → Nat :=
  let c2_i32_195 : BitVec 32 := 2#32
  let c16_i32_194 : BitVec 32 := 16#32
  let c0_i32_111 : BitVec 32 := 0#32
  let c2_i32 : BitVec 32 := 2#32
  let arg2 : BitVec 32 := BitVec.ofNat 32 (i 2).val
  let v42 : BitVec 32 := Scalar.muli c2_i32 arg2
  let c0_i32_104 : BitVec 32 := 0#32
  let v181 : BitVec 1 := Scalar.cmpi .sgt v42 c0_i32_104
  let v182 : BitVec 32 := Scalar.extui v181
  let c0_i32_105 : BitVec 32 := 0#32
  let v183 : BitVec 1 := Scalar.cmpi .slt v42 c0_i32_105
  let v184 : BitVec 32 := Scalar.extui v183
  let v185 : BitVec 32 := Scalar.subi v182 v184
  let c16_i32 : BitVec 32 := 16#32
  let c0_i32_106 : BitVec 32 := 0#32
  let v186 : BitVec 1 := Scalar.cmpi .sgt c16_i32 c0_i32_106
  let v187 : BitVec 32 := Scalar.extui v186
  let c0_i32_107 : BitVec 32 := 0#32
  let v188 : BitVec 1 := Scalar.cmpi .slt c16_i32 c0_i32_107
  let v189 : BitVec 32 := Scalar.extui v188
  let v190 : BitVec 32 := Scalar.subi v187 v189
  let v191 : BitVec 1 := Scalar.cmpi .ne v185 v190
  let v192 : BitVec 32 := Scalar.remsi v42 c16_i32
  let c0_i32_108 : BitVec 32 := 0#32
  let v193 : BitVec 1 := Scalar.cmpi .ne v192 c0_i32_108
  let v194 : BitVec 1 := Scalar.andi v191 v193
  let v180 : BitVec 32 := Scalar.divsi v42 c16_i32
  let c1_i32_109 : BitVec 32 := 1#32
  let v195 : BitVec 32 := Scalar.subi v180 c1_i32_109
  let v196 : BitVec 32 := Scalar.select v194 v195 v180
  let v197 : BitVec 32 := Scalar.subi v196 c0_i32_111
  let c1_i32_112 : BitVec 32 := 1#32
  let v199 : BitVec 32 := Scalar.divsi v197 c1_i32_112
  let v200 : BitVec 32 := Scalar.muli v199 c1_i32_112
  let v201 : BitVec 32 := Scalar.addi c0_i32_111 v200
  let c1_i32_114 : BitVec 32 := 1#32
  let arg13 : BitVec 32 := Scf.iv v201 c1_i32_114 k0_t2
  let v321 : BitVec 32 := Scalar.muli c16_i32_194 arg13
  let v322 : BitVec 32 := Scalar.addi c2_i32_195 v321
  let v323 : BitVec 32 := Scalar.addi v322 c0_i32_196
  let c2_i32_197 : BitVec 32 := 2#32
  let v324 : BitVec 1 := Scalar.cmpi .slt v323 c2_i32_197
  let c2_i32_198 : BitVec 32 := 2#32
  let v325 : BitVec 32 := Scalar.muli c2_i32_198 arg2
  let v326 : BitVec 32 := Scalar.addi v325 v323
  let c2_i32_199 : BitVec 32 := 2#32
  let v327 : BitVec 32 := Scalar.subi v323 c2_i32_199
  let v328 : BitVec 32 := Scalar.select v324 v326 v327
  let c256_i32_200 : BitVec 32 := 256#32
  let v329 : BitVec 32 := Scalar.muli v328 c256_i32_200
  let v330 : BitVec 32 := v329
  let v331 : Index := Scalar.indexCast v330
  let c0_201 : Index := 0#32
  ![v331.toNat, 0]
def k0_mult37 (i : grid0.Coords) (k0_t2 : Fin (k0_t2_loop i).trips) : BitVec 32 :=
  let c2_i32_195 : BitVec 32 := 2#32
  let c16_i32_194 : BitVec 32 := 16#32
  let c0_i32_111 : BitVec 32 := 0#32
  let c2_i32 : BitVec 32 := 2#32
  let arg2 : BitVec 32 := BitVec.ofNat 32 (i 2).val
  let v42 : BitVec 32 := Scalar.muli c2_i32 arg2
  let c0_i32_104 : BitVec 32 := 0#32
  let v181 : BitVec 1 := Scalar.cmpi .sgt v42 c0_i32_104
  let v182 : BitVec 32 := Scalar.extui v181
  let c0_i32_105 : BitVec 32 := 0#32
  let v183 : BitVec 1 := Scalar.cmpi .slt v42 c0_i32_105
  let v184 : BitVec 32 := Scalar.extui v183
  let v185 : BitVec 32 := Scalar.subi v182 v184
  let c16_i32 : BitVec 32 := 16#32
  let c0_i32_106 : BitVec 32 := 0#32
  let v186 : BitVec 1 := Scalar.cmpi .sgt c16_i32 c0_i32_106
  let v187 : BitVec 32 := Scalar.extui v186
  let c0_i32_107 : BitVec 32 := 0#32
  let v188 : BitVec 1 := Scalar.cmpi .slt c16_i32 c0_i32_107
  let v189 : BitVec 32 := Scalar.extui v188
  let v190 : BitVec 32 := Scalar.subi v187 v189
  let v191 : BitVec 1 := Scalar.cmpi .ne v185 v190
  let v192 : BitVec 32 := Scalar.remsi v42 c16_i32
  let c0_i32_108 : BitVec 32 := 0#32
  let v193 : BitVec 1 := Scalar.cmpi .ne v192 c0_i32_108
  let v194 : BitVec 1 := Scalar.andi v191 v193
  let v180 : BitVec 32 := Scalar.divsi v42 c16_i32
  let c1_i32_109 : BitVec 32 := 1#32
  let v195 : BitVec 32 := Scalar.subi v180 c1_i32_109
  let v196 : BitVec 32 := Scalar.select v194 v195 v180
  let v197 : BitVec 32 := Scalar.subi v196 c0_i32_111
  let c1_i32_112 : BitVec 32 := 1#32
  let v199 : BitVec 32 := Scalar.divsi v197 c1_i32_112
  let v200 : BitVec 32 := Scalar.muli v199 c1_i32_112
  let v201 : BitVec 32 := Scalar.addi c0_i32_111 v200
  let c1_i32_114 : BitVec 32 := 1#32
  let arg13 : BitVec 32 := Scf.iv v201 c1_i32_114 k0_t2
  let v321 : BitVec 32 := Scalar.muli c16_i32_194 arg13
  let v322 : BitVec 32 := Scalar.addi c2_i32_195 v321
  let c0_i32_196 : BitVec 32 := 0#32
  let v323 : BitVec 32 := Scalar.addi v322 c0_i32_196
  let c1_i32_218 : BitVec 32 := 1#32
  let v351 : BitVec 32 := Scalar.subi v323 c1_i32_218
  let c2_i32_219 : BitVec 32 := 2#32
  let v352 : BitVec 1 := Scalar.cmpi .slt v351 c2_i32_219
  let c2_i32_220 : BitVec 32 := 2#32
  let v353 : BitVec 32 := Scalar.muli c2_i32_220 arg2
  let v354 : BitVec 32 := Scalar.addi v353 v351
  let c2_i32_221 : BitVec 32 := 2#32
  let v355 : BitVec 32 := Scalar.subi v351 c2_i32_221
  let v356 : BitVec 32 := Scalar.select v352 v354 v355
  let c256_i32_222 : BitVec 32 := 256#32
  let v357 : BitVec 32 := Scalar.muli v356 c256_i32_222
  v357
def k0_off9 (i : grid0.Coords) (k0_t2 : Fin (k0_t2_loop i).trips) (c0_i32_196 : BitVec 32) : Fin 2 → Nat :=
  let c0_235 : Index := 0#32
  let c2_i32_195 : BitVec 32 := 2#32
  let c16_i32_194 : BitVec 32 := 16#32
  let c0_i32_111 : BitVec 32 := 0#32
  let c2_i32 : BitVec 32 := 2#32
  let arg2 : BitVec 32 := BitVec.ofNat 32 (i 2).val
  let v42 : BitVec 32 := Scalar.muli c2_i32 arg2
  let c0_i32_104 : BitVec 32 := 0#32
  let v181 : BitVec 1 := Scalar.cmpi .sgt v42 c0_i32_104
  let v182 : BitVec 32 := Scalar.extui v181
  let c0_i32_105 : BitVec 32 := 0#32
  let v183 : BitVec 1 := Scalar.cmpi .slt v42 c0_i32_105
  let v184 : BitVec 32 := Scalar.extui v183
  let v185 : BitVec 32 := Scalar.subi v182 v184
  let c16_i32 : BitVec 32 := 16#32
  let c0_i32_106 : BitVec 32 := 0#32
  let v186 : BitVec 1 := Scalar.cmpi .sgt c16_i32 c0_i32_106
  let v187 : BitVec 32 := Scalar.extui v186
  let c0_i32_107 : BitVec 32 := 0#32
  let v188 : BitVec 1 := Scalar.cmpi .slt c16_i32 c0_i32_107
  let v189 : BitVec 32 := Scalar.extui v188
  let v190 : BitVec 32 := Scalar.subi v187 v189
  let v191 : BitVec 1 := Scalar.cmpi .ne v185 v190
  let v192 : BitVec 32 := Scalar.remsi v42 c16_i32
  let c0_i32_108 : BitVec 32 := 0#32
  let v193 : BitVec 1 := Scalar.cmpi .ne v192 c0_i32_108
  let v194 : BitVec 1 := Scalar.andi v191 v193
  let v180 : BitVec 32 := Scalar.divsi v42 c16_i32
  let c1_i32_109 : BitVec 32 := 1#32
  let v195 : BitVec 32 := Scalar.subi v180 c1_i32_109
  let v196 : BitVec 32 := Scalar.select v194 v195 v180
  let v197 : BitVec 32 := Scalar.subi v196 c0_i32_111
  let c1_i32_112 : BitVec 32 := 1#32
  let v199 : BitVec 32 := Scalar.divsi v197 c1_i32_112
  let v200 : BitVec 32 := Scalar.muli v199 c1_i32_112
  let v201 : BitVec 32 := Scalar.addi c0_i32_111 v200
  let c1_i32_114 : BitVec 32 := 1#32
  let arg13 : BitVec 32 := Scf.iv v201 c1_i32_114 k0_t2
  let v321 : BitVec 32 := Scalar.muli c16_i32_194 arg13
  let v322 : BitVec 32 := Scalar.addi c2_i32_195 v321
  let v323 : BitVec 32 := Scalar.addi v322 c0_i32_196
  let c1_i32_218 : BitVec 32 := 1#32
  let v351 : BitVec 32 := Scalar.subi v323 c1_i32_218
  let c2_i32_219 : BitVec 32 := 2#32
  let v352 : BitVec 1 := Scalar.cmpi .slt v351 c2_i32_219
  let c2_i32_220 : BitVec 32 := 2#32
  let v353 : BitVec 32 := Scalar.muli c2_i32_220 arg2
  let v354 : BitVec 32 := Scalar.addi v353 v351
  let c2_i32_221 : BitVec 32 := 2#32
  let v355 : BitVec 32 := Scalar.subi v351 c2_i32_221
  let v356 : BitVec 32 := Scalar.select v352 v354 v355
  let c256_i32_222 : BitVec 32 := 256#32
  let v357 : BitVec 32 := Scalar.muli v356 c256_i32_222
  let v358 : BitVec 32 := v357
  let v375 : Index := Scalar.indexCast v358
  ![0, v375.toNat]
def k0_off10 (i : grid0.Coords) (k0_t2 : Fin (k0_t2_loop i).trips) (c0_i32_196 : BitVec 32) : Fin 2 → Nat :=
  let c64_255 : Index := 64#32
  let c2_i32_195 : BitVec 32 := 2#32
  let c16_i32_194 : BitVec 32 := 16#32
  let c0_i32_111 : BitVec 32 := 0#32
  let c2_i32 : BitVec 32 := 2#32
  let arg2 : BitVec 32 := BitVec.ofNat 32 (i 2).val
  let v42 : BitVec 32 := Scalar.muli c2_i32 arg2
  let c0_i32_104 : BitVec 32 := 0#32
  let v181 : BitVec 1 := Scalar.cmpi .sgt v42 c0_i32_104
  let v182 : BitVec 32 := Scalar.extui v181
  let c0_i32_105 : BitVec 32 := 0#32
  let v183 : BitVec 1 := Scalar.cmpi .slt v42 c0_i32_105
  let v184 : BitVec 32 := Scalar.extui v183
  let v185 : BitVec 32 := Scalar.subi v182 v184
  let c16_i32 : BitVec 32 := 16#32
  let c0_i32_106 : BitVec 32 := 0#32
  let v186 : BitVec 1 := Scalar.cmpi .sgt c16_i32 c0_i32_106
  let v187 : BitVec 32 := Scalar.extui v186
  let c0_i32_107 : BitVec 32 := 0#32
  let v188 : BitVec 1 := Scalar.cmpi .slt c16_i32 c0_i32_107
  let v189 : BitVec 32 := Scalar.extui v188
  let v190 : BitVec 32 := Scalar.subi v187 v189
  let v191 : BitVec 1 := Scalar.cmpi .ne v185 v190
  let v192 : BitVec 32 := Scalar.remsi v42 c16_i32
  let c0_i32_108 : BitVec 32 := 0#32
  let v193 : BitVec 1 := Scalar.cmpi .ne v192 c0_i32_108
  let v194 : BitVec 1 := Scalar.andi v191 v193
  let v180 : BitVec 32 := Scalar.divsi v42 c16_i32
  let c1_i32_109 : BitVec 32 := 1#32
  let v195 : BitVec 32 := Scalar.subi v180 c1_i32_109
  let v196 : BitVec 32 := Scalar.select v194 v195 v180
  let v197 : BitVec 32 := Scalar.subi v196 c0_i32_111
  let c1_i32_112 : BitVec 32 := 1#32
  let v199 : BitVec 32 := Scalar.divsi v197 c1_i32_112
  let v200 : BitVec 32 := Scalar.muli v199 c1_i32_112
  let v201 : BitVec 32 := Scalar.addi c0_i32_111 v200
  let c1_i32_114 : BitVec 32 := 1#32
  let arg13 : BitVec 32 := Scf.iv v201 c1_i32_114 k0_t2
  let v321 : BitVec 32 := Scalar.muli c16_i32_194 arg13
  let v322 : BitVec 32 := Scalar.addi c2_i32_195 v321
  let v323 : BitVec 32 := Scalar.addi v322 c0_i32_196
  let c1_i32_218 : BitVec 32 := 1#32
  let v351 : BitVec 32 := Scalar.subi v323 c1_i32_218
  let c2_i32_219 : BitVec 32 := 2#32
  let v352 : BitVec 1 := Scalar.cmpi .slt v351 c2_i32_219
  let c2_i32_220 : BitVec 32 := 2#32
  let v353 : BitVec 32 := Scalar.muli c2_i32_220 arg2
  let v354 : BitVec 32 := Scalar.addi v353 v351
  let c2_i32_221 : BitVec 32 := 2#32
  let v355 : BitVec 32 := Scalar.subi v351 c2_i32_221
  let v356 : BitVec 32 := Scalar.select v352 v354 v355
  let c256_i32_222 : BitVec 32 := 256#32
  let v357 : BitVec 32 := Scalar.muli v356 c256_i32_222
  let v358 : BitVec 32 := v357
  let v403 : Index := Scalar.indexCast v358
  ![64, v403.toNat]
def k0_mult38 (i : grid0.Coords) (k0_t2 : Fin (k0_t2_loop i).trips) : BitVec 32 :=
  let c2_i32_264 : BitVec 32 := 2#32
  let c16_i32_263 : BitVec 32 := 16#32
  let c0_i32_111 : BitVec 32 := 0#32
  let c2_i32 : BitVec 32 := 2#32
  let arg2 : BitVec 32 := BitVec.ofNat 32 (i 2).val
  let v42 : BitVec 32 := Scalar.muli c2_i32 arg2
  let c0_i32_104 : BitVec 32 := 0#32
  let v181 : BitVec 1 := Scalar.cmpi .sgt v42 c0_i32_104
  let v182 : BitVec 32 := Scalar.extui v181
  let c0_i32_105 : BitVec 32 := 0#32
  let v183 : BitVec 1 := Scalar.cmpi .slt v42 c0_i32_105
  let v184 : BitVec 32 := Scalar.extui v183
  let v185 : BitVec 32 := Scalar.subi v182 v184
  let c16_i32 : BitVec 32 := 16#32
  let c0_i32_106 : BitVec 32 := 0#32
  let v186 : BitVec 1 := Scalar.cmpi .sgt c16_i32 c0_i32_106
  let v187 : BitVec 32 := Scalar.extui v186
  let c0_i32_107 : BitVec 32 := 0#32
  let v188 : BitVec 1 := Scalar.cmpi .slt c16_i32 c0_i32_107
  let v189 : BitVec 32 := Scalar.extui v188
  let v190 : BitVec 32 := Scalar.subi v187 v189
  let v191 : BitVec 1 := Scalar.cmpi .ne v185 v190
  let v192 : BitVec 32 := Scalar.remsi v42 c16_i32
  let c0_i32_108 : BitVec 32 := 0#32
  let v193 : BitVec 1 := Scalar.cmpi .ne v192 c0_i32_108
  let v194 : BitVec 1 := Scalar.andi v191 v193
  let v180 : BitVec 32 := Scalar.divsi v42 c16_i32
  let c1_i32_109 : BitVec 32 := 1#32
  let v195 : BitVec 32 := Scalar.subi v180 c1_i32_109
  let v196 : BitVec 32 := Scalar.select v194 v195 v180
  let v197 : BitVec 32 := Scalar.subi v196 c0_i32_111
  let c1_i32_112 : BitVec 32 := 1#32
  let v199 : BitVec 32 := Scalar.divsi v197 c1_i32_112
  let v200 : BitVec 32 := Scalar.muli v199 c1_i32_112
  let v201 : BitVec 32 := Scalar.addi c0_i32_111 v200
  let c1_i32_114 : BitVec 32 := 1#32
  let arg13 : BitVec 32 := Scf.iv v201 c1_i32_114 k0_t2
  let v415 : BitVec 32 := Scalar.muli c16_i32_263 arg13
  let v416 : BitVec 32 := Scalar.addi c2_i32_264 v415
  let c1_i32_265 : BitVec 32 := 1#32
  let v417 : BitVec 32 := Scalar.addi v416 c1_i32_265
  let c2_i32_266 : BitVec 32 := 2#32
  let v418 : BitVec 1 := Scalar.cmpi .slt v417 c2_i32_266
  let c2_i32_267 : BitVec 32 := 2#32
  let v419 : BitVec 32 := Scalar.muli c2_i32_267 arg2
  let v420 : BitVec 32 := Scalar.addi v419 v417
  let c2_i32_268 : BitVec 32 := 2#32
  let v421 : BitVec 32 := Scalar.subi v417 c2_i32_268
  let v422 : BitVec 32 := Scalar.select v418 v420 v421
  let c256_i32_269 : BitVec 32 := 256#32
  let v423 : BitVec 32 := Scalar.muli v422 c256_i32_269
  v423
def k0_mult39 (i : grid0.Coords) (k0_t2 : Fin (k0_t2_loop i).trips) : BitVec 32 :=
  let c2_i32_264 : BitVec 32 := 2#32
  let c16_i32_263 : BitVec 32 := 16#32
  let c0_i32_111 : BitVec 32 := 0#32
  let c2_i32 : BitVec 32 := 2#32
  let arg2 : BitVec 32 := BitVec.ofNat 32 (i 2).val
  let v42 : BitVec 32 := Scalar.muli c2_i32 arg2
  let c0_i32_104 : BitVec 32 := 0#32
  let v181 : BitVec 1 := Scalar.cmpi .sgt v42 c0_i32_104
  let v182 : BitVec 32 := Scalar.extui v181
  let c0_i32_105 : BitVec 32 := 0#32
  let v183 : BitVec 1 := Scalar.cmpi .slt v42 c0_i32_105
  let v184 : BitVec 32 := Scalar.extui v183
  let v185 : BitVec 32 := Scalar.subi v182 v184
  let c16_i32 : BitVec 32 := 16#32
  let c0_i32_106 : BitVec 32 := 0#32
  let v186 : BitVec 1 := Scalar.cmpi .sgt c16_i32 c0_i32_106
  let v187 : BitVec 32 := Scalar.extui v186
  let c0_i32_107 : BitVec 32 := 0#32
  let v188 : BitVec 1 := Scalar.cmpi .slt c16_i32 c0_i32_107
  let v189 : BitVec 32 := Scalar.extui v188
  let v190 : BitVec 32 := Scalar.subi v187 v189
  let v191 : BitVec 1 := Scalar.cmpi .ne v185 v190
  let v192 : BitVec 32 := Scalar.remsi v42 c16_i32
  let c0_i32_108 : BitVec 32 := 0#32
  let v193 : BitVec 1 := Scalar.cmpi .ne v192 c0_i32_108
  let v194 : BitVec 1 := Scalar.andi v191 v193
  let v180 : BitVec 32 := Scalar.divsi v42 c16_i32
  let c1_i32_109 : BitVec 32 := 1#32
  let v195 : BitVec 32 := Scalar.subi v180 c1_i32_109
  let v196 : BitVec 32 := Scalar.select v194 v195 v180
  let v197 : BitVec 32 := Scalar.subi v196 c0_i32_111
  let c1_i32_112 : BitVec 32 := 1#32
  let v199 : BitVec 32 := Scalar.divsi v197 c1_i32_112
  let v200 : BitVec 32 := Scalar.muli v199 c1_i32_112
  let v201 : BitVec 32 := Scalar.addi c0_i32_111 v200
  let c1_i32_114 : BitVec 32 := 1#32
  let arg13 : BitVec 32 := Scf.iv v201 c1_i32_114 k0_t2
  let v415 : BitVec 32 := Scalar.muli c16_i32_263 arg13
  let v416 : BitVec 32 := Scalar.addi c2_i32_264 v415
  let c1_i32_265 : BitVec 32 := 1#32
  let v417 : BitVec 32 := Scalar.addi v416 c1_i32_265
  let c1_i32_287 : BitVec 32 := 1#32
  let v445 : BitVec 32 := Scalar.subi v417 c1_i32_287
  let c2_i32_288 : BitVec 32 := 2#32
  let v446 : BitVec 1 := Scalar.cmpi .slt v445 c2_i32_288
  let c2_i32_289 : BitVec 32 := 2#32
  let v447 : BitVec 32 := Scalar.muli c2_i32_289 arg2
  let v448 : BitVec 32 := Scalar.addi v447 v445
  let c2_i32_290 : BitVec 32 := 2#32
  let v449 : BitVec 32 := Scalar.subi v445 c2_i32_290
  let v450 : BitVec 32 := Scalar.select v446 v448 v449
  let c256_i32_291 : BitVec 32 := 256#32
  let v451 : BitVec 32 := Scalar.muli v450 c256_i32_291
  v451
def k0_mult40 (i : grid0.Coords) (k0_t2 : Fin (k0_t2_loop i).trips) : BitVec 32 :=
  let c2_i32_333 : BitVec 32 := 2#32
  let c16_i32_332 : BitVec 32 := 16#32
  let c0_i32_111 : BitVec 32 := 0#32
  let c2_i32 : BitVec 32 := 2#32
  let arg2 : BitVec 32 := BitVec.ofNat 32 (i 2).val
  let v42 : BitVec 32 := Scalar.muli c2_i32 arg2
  let c0_i32_104 : BitVec 32 := 0#32
  let v181 : BitVec 1 := Scalar.cmpi .sgt v42 c0_i32_104
  let v182 : BitVec 32 := Scalar.extui v181
  let c0_i32_105 : BitVec 32 := 0#32
  let v183 : BitVec 1 := Scalar.cmpi .slt v42 c0_i32_105
  let v184 : BitVec 32 := Scalar.extui v183
  let v185 : BitVec 32 := Scalar.subi v182 v184
  let c16_i32 : BitVec 32 := 16#32
  let c0_i32_106 : BitVec 32 := 0#32
  let v186 : BitVec 1 := Scalar.cmpi .sgt c16_i32 c0_i32_106
  let v187 : BitVec 32 := Scalar.extui v186
  let c0_i32_107 : BitVec 32 := 0#32
  let v188 : BitVec 1 := Scalar.cmpi .slt c16_i32 c0_i32_107
  let v189 : BitVec 32 := Scalar.extui v188
  let v190 : BitVec 32 := Scalar.subi v187 v189
  let v191 : BitVec 1 := Scalar.cmpi .ne v185 v190
  let v192 : BitVec 32 := Scalar.remsi v42 c16_i32
  let c0_i32_108 : BitVec 32 := 0#32
  let v193 : BitVec 1 := Scalar.cmpi .ne v192 c0_i32_108
  let v194 : BitVec 1 := Scalar.andi v191 v193
  let v180 : BitVec 32 := Scalar.divsi v42 c16_i32
  let c1_i32_109 : BitVec 32 := 1#32
  let v195 : BitVec 32 := Scalar.subi v180 c1_i32_109
  let v196 : BitVec 32 := Scalar.select v194 v195 v180
  let v197 : BitVec 32 := Scalar.subi v196 c0_i32_111
  let c1_i32_112 : BitVec 32 := 1#32
  let v199 : BitVec 32 := Scalar.divsi v197 c1_i32_112
  let v200 : BitVec 32 := Scalar.muli v199 c1_i32_112
  let v201 : BitVec 32 := Scalar.addi c0_i32_111 v200
  let c1_i32_114 : BitVec 32 := 1#32
  let arg13 : BitVec 32 := Scf.iv v201 c1_i32_114 k0_t2
  let v509 : BitVec 32 := Scalar.muli c16_i32_332 arg13
  let v510 : BitVec 32 := Scalar.addi c2_i32_333 v509
  let c2_i32_334 : BitVec 32 := 2#32
  let v511 : BitVec 32 := Scalar.addi v510 c2_i32_334
  let c2_i32_335 : BitVec 32 := 2#32
  let v512 : BitVec 1 := Scalar.cmpi .slt v511 c2_i32_335
  let c2_i32_336 : BitVec 32 := 2#32
  let v513 : BitVec 32 := Scalar.muli c2_i32_336 arg2
  let v514 : BitVec 32 := Scalar.addi v513 v511
  let c2_i32_337 : BitVec 32 := 2#32
  let v515 : BitVec 32 := Scalar.subi v511 c2_i32_337
  let v516 : BitVec 32 := Scalar.select v512 v514 v515
  let c256_i32_338 : BitVec 32 := 256#32
  let v517 : BitVec 32 := Scalar.muli v516 c256_i32_338
  v517
def k0_mult41 (i : grid0.Coords) (k0_t2 : Fin (k0_t2_loop i).trips) : BitVec 32 :=
  let c2_i32_333 : BitVec 32 := 2#32
  let c16_i32_332 : BitVec 32 := 16#32
  let c0_i32_111 : BitVec 32 := 0#32
  let c2_i32 : BitVec 32 := 2#32
  let arg2 : BitVec 32 := BitVec.ofNat 32 (i 2).val
  let v42 : BitVec 32 := Scalar.muli c2_i32 arg2
  let c0_i32_104 : BitVec 32 := 0#32
  let v181 : BitVec 1 := Scalar.cmpi .sgt v42 c0_i32_104
  let v182 : BitVec 32 := Scalar.extui v181
  let c0_i32_105 : BitVec 32 := 0#32
  let v183 : BitVec 1 := Scalar.cmpi .slt v42 c0_i32_105
  let v184 : BitVec 32 := Scalar.extui v183
  let v185 : BitVec 32 := Scalar.subi v182 v184
  let c16_i32 : BitVec 32 := 16#32
  let c0_i32_106 : BitVec 32 := 0#32
  let v186 : BitVec 1 := Scalar.cmpi .sgt c16_i32 c0_i32_106
  let v187 : BitVec 32 := Scalar.extui v186
  let c0_i32_107 : BitVec 32 := 0#32
  let v188 : BitVec 1 := Scalar.cmpi .slt c16_i32 c0_i32_107
  let v189 : BitVec 32 := Scalar.extui v188
  let v190 : BitVec 32 := Scalar.subi v187 v189
  let v191 : BitVec 1 := Scalar.cmpi .ne v185 v190
  let v192 : BitVec 32 := Scalar.remsi v42 c16_i32
  let c0_i32_108 : BitVec 32 := 0#32
  let v193 : BitVec 1 := Scalar.cmpi .ne v192 c0_i32_108
  let v194 : BitVec 1 := Scalar.andi v191 v193
  let v180 : BitVec 32 := Scalar.divsi v42 c16_i32
  let c1_i32_109 : BitVec 32 := 1#32
  let v195 : BitVec 32 := Scalar.subi v180 c1_i32_109
  let v196 : BitVec 32 := Scalar.select v194 v195 v180
  let v197 : BitVec 32 := Scalar.subi v196 c0_i32_111
  let c1_i32_112 : BitVec 32 := 1#32
  let v199 : BitVec 32 := Scalar.divsi v197 c1_i32_112
  let v200 : BitVec 32 := Scalar.muli v199 c1_i32_112
  let v201 : BitVec 32 := Scalar.addi c0_i32_111 v200
  let c1_i32_114 : BitVec 32 := 1#32
  let arg13 : BitVec 32 := Scf.iv v201 c1_i32_114 k0_t2
  let v509 : BitVec 32 := Scalar.muli c16_i32_332 arg13
  let v510 : BitVec 32 := Scalar.addi c2_i32_333 v509
  let c2_i32_334 : BitVec 32 := 2#32
  let v511 : BitVec 32 := Scalar.addi v510 c2_i32_334
  let c1_i32_356 : BitVec 32 := 1#32
  let v539 : BitVec 32 := Scalar.subi v511 c1_i32_356
  let c2_i32_357 : BitVec 32 := 2#32
  let v540 : BitVec 1 := Scalar.cmpi .slt v539 c2_i32_357
  let c2_i32_358 : BitVec 32 := 2#32
  let v541 : BitVec 32 := Scalar.muli c2_i32_358 arg2
  let v542 : BitVec 32 := Scalar.addi v541 v539
  let c2_i32_359 : BitVec 32 := 2#32
  let v543 : BitVec 32 := Scalar.subi v539 c2_i32_359
  let v544 : BitVec 32 := Scalar.select v540 v542 v543
  let c256_i32_360 : BitVec 32 := 256#32
  let v545 : BitVec 32 := Scalar.muli v544 c256_i32_360
  v545
def k0_mult42 (i : grid0.Coords) (k0_t2 : Fin (k0_t2_loop i).trips) : BitVec 32 :=
  let c2_i32_402 : BitVec 32 := 2#32
  let c16_i32_401 : BitVec 32 := 16#32
  let c0_i32_111 : BitVec 32 := 0#32
  let c2_i32 : BitVec 32 := 2#32
  let arg2 : BitVec 32 := BitVec.ofNat 32 (i 2).val
  let v42 : BitVec 32 := Scalar.muli c2_i32 arg2
  let c0_i32_104 : BitVec 32 := 0#32
  let v181 : BitVec 1 := Scalar.cmpi .sgt v42 c0_i32_104
  let v182 : BitVec 32 := Scalar.extui v181
  let c0_i32_105 : BitVec 32 := 0#32
  let v183 : BitVec 1 := Scalar.cmpi .slt v42 c0_i32_105
  let v184 : BitVec 32 := Scalar.extui v183
  let v185 : BitVec 32 := Scalar.subi v182 v184
  let c16_i32 : BitVec 32 := 16#32
  let c0_i32_106 : BitVec 32 := 0#32
  let v186 : BitVec 1 := Scalar.cmpi .sgt c16_i32 c0_i32_106
  let v187 : BitVec 32 := Scalar.extui v186
  let c0_i32_107 : BitVec 32 := 0#32
  let v188 : BitVec 1 := Scalar.cmpi .slt c16_i32 c0_i32_107
  let v189 : BitVec 32 := Scalar.extui v188
  let v190 : BitVec 32 := Scalar.subi v187 v189
  let v191 : BitVec 1 := Scalar.cmpi .ne v185 v190
  let v192 : BitVec 32 := Scalar.remsi v42 c16_i32
  let c0_i32_108 : BitVec 32 := 0#32
  let v193 : BitVec 1 := Scalar.cmpi .ne v192 c0_i32_108
  let v194 : BitVec 1 := Scalar.andi v191 v193
  let v180 : BitVec 32 := Scalar.divsi v42 c16_i32
  let c1_i32_109 : BitVec 32 := 1#32
  let v195 : BitVec 32 := Scalar.subi v180 c1_i32_109
  let v196 : BitVec 32 := Scalar.select v194 v195 v180
  let v197 : BitVec 32 := Scalar.subi v196 c0_i32_111
  let c1_i32_112 : BitVec 32 := 1#32
  let v199 : BitVec 32 := Scalar.divsi v197 c1_i32_112
  let v200 : BitVec 32 := Scalar.muli v199 c1_i32_112
  let v201 : BitVec 32 := Scalar.addi c0_i32_111 v200
  let c1_i32_114 : BitVec 32 := 1#32
  let arg13 : BitVec 32 := Scf.iv v201 c1_i32_114 k0_t2
  let v603 : BitVec 32 := Scalar.muli c16_i32_401 arg13
  let v604 : BitVec 32 := Scalar.addi c2_i32_402 v603
  let c3_i32_403 : BitVec 32 := 3#32
  let v605 : BitVec 32 := Scalar.addi v604 c3_i32_403
  let c2_i32_404 : BitVec 32 := 2#32
  let v606 : BitVec 1 := Scalar.cmpi .slt v605 c2_i32_404
  let c2_i32_405 : BitVec 32 := 2#32
  let v607 : BitVec 32 := Scalar.muli c2_i32_405 arg2
  let v608 : BitVec 32 := Scalar.addi v607 v605
  let c2_i32_406 : BitVec 32 := 2#32
  let v609 : BitVec 32 := Scalar.subi v605 c2_i32_406
  let v610 : BitVec 32 := Scalar.select v606 v608 v609
  let c256_i32_407 : BitVec 32 := 256#32
  let v611 : BitVec 32 := Scalar.muli v610 c256_i32_407
  v611
def k0_mult43 (i : grid0.Coords) (k0_t2 : Fin (k0_t2_loop i).trips) : BitVec 32 :=
  let c2_i32_402 : BitVec 32 := 2#32
  let c16_i32_401 : BitVec 32 := 16#32
  let c0_i32_111 : BitVec 32 := 0#32
  let c2_i32 : BitVec 32 := 2#32
  let arg2 : BitVec 32 := BitVec.ofNat 32 (i 2).val
  let v42 : BitVec 32 := Scalar.muli c2_i32 arg2
  let c0_i32_104 : BitVec 32 := 0#32
  let v181 : BitVec 1 := Scalar.cmpi .sgt v42 c0_i32_104
  let v182 : BitVec 32 := Scalar.extui v181
  let c0_i32_105 : BitVec 32 := 0#32
  let v183 : BitVec 1 := Scalar.cmpi .slt v42 c0_i32_105
  let v184 : BitVec 32 := Scalar.extui v183
  let v185 : BitVec 32 := Scalar.subi v182 v184
  let c16_i32 : BitVec 32 := 16#32
  let c0_i32_106 : BitVec 32 := 0#32
  let v186 : BitVec 1 := Scalar.cmpi .sgt c16_i32 c0_i32_106
  let v187 : BitVec 32 := Scalar.extui v186
  let c0_i32_107 : BitVec 32 := 0#32
  let v188 : BitVec 1 := Scalar.cmpi .slt c16_i32 c0_i32_107
  let v189 : BitVec 32 := Scalar.extui v188
  let v190 : BitVec 32 := Scalar.subi v187 v189
  let v191 : BitVec 1 := Scalar.cmpi .ne v185 v190
  let v192 : BitVec 32 := Scalar.remsi v42 c16_i32
  let c0_i32_108 : BitVec 32 := 0#32
  let v193 : BitVec 1 := Scalar.cmpi .ne v192 c0_i32_108
  let v194 : BitVec 1 := Scalar.andi v191 v193
  let v180 : BitVec 32 := Scalar.divsi v42 c16_i32
  let c1_i32_109 : BitVec 32 := 1#32
  let v195 : BitVec 32 := Scalar.subi v180 c1_i32_109
  let v196 : BitVec 32 := Scalar.select v194 v195 v180
  let v197 : BitVec 32 := Scalar.subi v196 c0_i32_111
  let c1_i32_112 : BitVec 32 := 1#32
  let v199 : BitVec 32 := Scalar.divsi v197 c1_i32_112
  let v200 : BitVec 32 := Scalar.muli v199 c1_i32_112
  let v201 : BitVec 32 := Scalar.addi c0_i32_111 v200
  let c1_i32_114 : BitVec 32 := 1#32
  let arg13 : BitVec 32 := Scf.iv v201 c1_i32_114 k0_t2
  let v603 : BitVec 32 := Scalar.muli c16_i32_401 arg13
  let v604 : BitVec 32 := Scalar.addi c2_i32_402 v603
  let c3_i32_403 : BitVec 32 := 3#32
  let v605 : BitVec 32 := Scalar.addi v604 c3_i32_403
  let c1_i32_425 : BitVec 32 := 1#32
  let v633 : BitVec 32 := Scalar.subi v605 c1_i32_425
  let c2_i32_426 : BitVec 32 := 2#32
  let v634 : BitVec 1 := Scalar.cmpi .slt v633 c2_i32_426
  let c2_i32_427 : BitVec 32 := 2#32
  let v635 : BitVec 32 := Scalar.muli c2_i32_427 arg2
  let v636 : BitVec 32 := Scalar.addi v635 v633
  let c2_i32_428 : BitVec 32 := 2#32
  let v637 : BitVec 32 := Scalar.subi v633 c2_i32_428
  let v638 : BitVec 32 := Scalar.select v634 v636 v637
  let c256_i32_429 : BitVec 32 := 256#32
  let v639 : BitVec 32 := Scalar.muli v638 c256_i32_429
  v639
def k0_mult44 (i : grid0.Coords) (k0_t2 : Fin (k0_t2_loop i).trips) : BitVec 32 :=
  let c2_i32_471 : BitVec 32 := 2#32
  let c16_i32_470 : BitVec 32 := 16#32
  let c0_i32_111 : BitVec 32 := 0#32
  let c2_i32 : BitVec 32 := 2#32
  let arg2 : BitVec 32 := BitVec.ofNat 32 (i 2).val
  let v42 : BitVec 32 := Scalar.muli c2_i32 arg2
  let c0_i32_104 : BitVec 32 := 0#32
  let v181 : BitVec 1 := Scalar.cmpi .sgt v42 c0_i32_104
  let v182 : BitVec 32 := Scalar.extui v181
  let c0_i32_105 : BitVec 32 := 0#32
  let v183 : BitVec 1 := Scalar.cmpi .slt v42 c0_i32_105
  let v184 : BitVec 32 := Scalar.extui v183
  let v185 : BitVec 32 := Scalar.subi v182 v184
  let c16_i32 : BitVec 32 := 16#32
  let c0_i32_106 : BitVec 32 := 0#32
  let v186 : BitVec 1 := Scalar.cmpi .sgt c16_i32 c0_i32_106
  let v187 : BitVec 32 := Scalar.extui v186
  let c0_i32_107 : BitVec 32 := 0#32
  let v188 : BitVec 1 := Scalar.cmpi .slt c16_i32 c0_i32_107
  let v189 : BitVec 32 := Scalar.extui v188
  let v190 : BitVec 32 := Scalar.subi v187 v189
  let v191 : BitVec 1 := Scalar.cmpi .ne v185 v190
  let v192 : BitVec 32 := Scalar.remsi v42 c16_i32
  let c0_i32_108 : BitVec 32 := 0#32
  let v193 : BitVec 1 := Scalar.cmpi .ne v192 c0_i32_108
  let v194 : BitVec 1 := Scalar.andi v191 v193
  let v180 : BitVec 32 := Scalar.divsi v42 c16_i32
  let c1_i32_109 : BitVec 32 := 1#32
  let v195 : BitVec 32 := Scalar.subi v180 c1_i32_109
  let v196 : BitVec 32 := Scalar.select v194 v195 v180
  let v197 : BitVec 32 := Scalar.subi v196 c0_i32_111
  let c1_i32_112 : BitVec 32 := 1#32
  let v199 : BitVec 32 := Scalar.divsi v197 c1_i32_112
  let v200 : BitVec 32 := Scalar.muli v199 c1_i32_112
  let v201 : BitVec 32 := Scalar.addi c0_i32_111 v200
  let c1_i32_114 : BitVec 32 := 1#32
  let arg13 : BitVec 32 := Scf.iv v201 c1_i32_114 k0_t2
  let v697 : BitVec 32 := Scalar.muli c16_i32_470 arg13
  let v698 : BitVec 32 := Scalar.addi c2_i32_471 v697
  let c4_i32_472 : BitVec 32 := 4#32
  let v699 : BitVec 32 := Scalar.addi v698 c4_i32_472
  let c2_i32_473 : BitVec 32 := 2#32
  let v700 : BitVec 1 := Scalar.cmpi .slt v699 c2_i32_473
  let c2_i32_474 : BitVec 32 := 2#32
  let v701 : BitVec 32 := Scalar.muli c2_i32_474 arg2
  let v702 : BitVec 32 := Scalar.addi v701 v699
  let c2_i32_475 : BitVec 32 := 2#32
  let v703 : BitVec 32 := Scalar.subi v699 c2_i32_475
  let v704 : BitVec 32 := Scalar.select v700 v702 v703
  let c256_i32_476 : BitVec 32 := 256#32
  let v705 : BitVec 32 := Scalar.muli v704 c256_i32_476
  v705
def k0_mult45 (i : grid0.Coords) (k0_t2 : Fin (k0_t2_loop i).trips) : BitVec 32 :=
  let c2_i32_471 : BitVec 32 := 2#32
  let c16_i32_470 : BitVec 32 := 16#32
  let c0_i32_111 : BitVec 32 := 0#32
  let c2_i32 : BitVec 32 := 2#32
  let arg2 : BitVec 32 := BitVec.ofNat 32 (i 2).val
  let v42 : BitVec 32 := Scalar.muli c2_i32 arg2
  let c0_i32_104 : BitVec 32 := 0#32
  let v181 : BitVec 1 := Scalar.cmpi .sgt v42 c0_i32_104
  let v182 : BitVec 32 := Scalar.extui v181
  let c0_i32_105 : BitVec 32 := 0#32
  let v183 : BitVec 1 := Scalar.cmpi .slt v42 c0_i32_105
  let v184 : BitVec 32 := Scalar.extui v183
  let v185 : BitVec 32 := Scalar.subi v182 v184
  let c16_i32 : BitVec 32 := 16#32
  let c0_i32_106 : BitVec 32 := 0#32
  let v186 : BitVec 1 := Scalar.cmpi .sgt c16_i32 c0_i32_106
  let v187 : BitVec 32 := Scalar.extui v186
  let c0_i32_107 : BitVec 32 := 0#32
  let v188 : BitVec 1 := Scalar.cmpi .slt c16_i32 c0_i32_107
  let v189 : BitVec 32 := Scalar.extui v188
  let v190 : BitVec 32 := Scalar.subi v187 v189
  let v191 : BitVec 1 := Scalar.cmpi .ne v185 v190
  let v192 : BitVec 32 := Scalar.remsi v42 c16_i32
  let c0_i32_108 : BitVec 32 := 0#32
  let v193 : BitVec 1 := Scalar.cmpi .ne v192 c0_i32_108
  let v194 : BitVec 1 := Scalar.andi v191 v193
  let v180 : BitVec 32 := Scalar.divsi v42 c16_i32
  let c1_i32_109 : BitVec 32 := 1#32
  let v195 : BitVec 32 := Scalar.subi v180 c1_i32_109
  let v196 : BitVec 32 := Scalar.select v194 v195 v180
  let v197 : BitVec 32 := Scalar.subi v196 c0_i32_111
  let c1_i32_112 : BitVec 32 := 1#32
  let v199 : BitVec 32 := Scalar.divsi v197 c1_i32_112
  let v200 : BitVec 32 := Scalar.muli v199 c1_i32_112
  let v201 : BitVec 32 := Scalar.addi c0_i32_111 v200
  let c1_i32_114 : BitVec 32 := 1#32
  let arg13 : BitVec 32 := Scf.iv v201 c1_i32_114 k0_t2
  let v697 : BitVec 32 := Scalar.muli c16_i32_470 arg13
  let v698 : BitVec 32 := Scalar.addi c2_i32_471 v697
  let c4_i32_472 : BitVec 32 := 4#32
  let v699 : BitVec 32 := Scalar.addi v698 c4_i32_472
  let c1_i32_494 : BitVec 32 := 1#32
  let v727 : BitVec 32 := Scalar.subi v699 c1_i32_494
  let c2_i32_495 : BitVec 32 := 2#32
  let v728 : BitVec 1 := Scalar.cmpi .slt v727 c2_i32_495
  let c2_i32_496 : BitVec 32 := 2#32
  let v729 : BitVec 32 := Scalar.muli c2_i32_496 arg2
  let v730 : BitVec 32 := Scalar.addi v729 v727
  let c2_i32_497 : BitVec 32 := 2#32
  let v731 : BitVec 32 := Scalar.subi v727 c2_i32_497
  let v732 : BitVec 32 := Scalar.select v728 v730 v731
  let c256_i32_498 : BitVec 32 := 256#32
  let v733 : BitVec 32 := Scalar.muli v732 c256_i32_498
  v733
def k0_mult46 (i : grid0.Coords) (k0_t2 : Fin (k0_t2_loop i).trips) : BitVec 32 :=
  let c2_i32_540 : BitVec 32 := 2#32
  let c16_i32_539 : BitVec 32 := 16#32
  let c0_i32_111 : BitVec 32 := 0#32
  let c2_i32 : BitVec 32 := 2#32
  let arg2 : BitVec 32 := BitVec.ofNat 32 (i 2).val
  let v42 : BitVec 32 := Scalar.muli c2_i32 arg2
  let c0_i32_104 : BitVec 32 := 0#32
  let v181 : BitVec 1 := Scalar.cmpi .sgt v42 c0_i32_104
  let v182 : BitVec 32 := Scalar.extui v181
  let c0_i32_105 : BitVec 32 := 0#32
  let v183 : BitVec 1 := Scalar.cmpi .slt v42 c0_i32_105
  let v184 : BitVec 32 := Scalar.extui v183
  let v185 : BitVec 32 := Scalar.subi v182 v184
  let c16_i32 : BitVec 32 := 16#32
  let c0_i32_106 : BitVec 32 := 0#32
  let v186 : BitVec 1 := Scalar.cmpi .sgt c16_i32 c0_i32_106
  let v187 : BitVec 32 := Scalar.extui v186
  let c0_i32_107 : BitVec 32 := 0#32
  let v188 : BitVec 1 := Scalar.cmpi .slt c16_i32 c0_i32_107
  let v189 : BitVec 32 := Scalar.extui v188
  let v190 : BitVec 32 := Scalar.subi v187 v189
  let v191 : BitVec 1 := Scalar.cmpi .ne v185 v190
  let v192 : BitVec 32 := Scalar.remsi v42 c16_i32
  let c0_i32_108 : BitVec 32 := 0#32
  let v193 : BitVec 1 := Scalar.cmpi .ne v192 c0_i32_108
  let v194 : BitVec 1 := Scalar.andi v191 v193
  let v180 : BitVec 32 := Scalar.divsi v42 c16_i32
  let c1_i32_109 : BitVec 32 := 1#32
  let v195 : BitVec 32 := Scalar.subi v180 c1_i32_109
  let v196 : BitVec 32 := Scalar.select v194 v195 v180
  let v197 : BitVec 32 := Scalar.subi v196 c0_i32_111
  let c1_i32_112 : BitVec 32 := 1#32
  let v199 : BitVec 32 := Scalar.divsi v197 c1_i32_112
  let v200 : BitVec 32 := Scalar.muli v199 c1_i32_112
  let v201 : BitVec 32 := Scalar.addi c0_i32_111 v200
  let c1_i32_114 : BitVec 32 := 1#32
  let arg13 : BitVec 32 := Scf.iv v201 c1_i32_114 k0_t2
  let v791 : BitVec 32 := Scalar.muli c16_i32_539 arg13
  let v792 : BitVec 32 := Scalar.addi c2_i32_540 v791
  let c5_i32 : BitVec 32 := 5#32
  let v793 : BitVec 32 := Scalar.addi v792 c5_i32
  let c2_i32_541 : BitVec 32 := 2#32
  let v794 : BitVec 1 := Scalar.cmpi .slt v793 c2_i32_541
  let c2_i32_542 : BitVec 32 := 2#32
  let v795 : BitVec 32 := Scalar.muli c2_i32_542 arg2
  let v796 : BitVec 32 := Scalar.addi v795 v793
  let c2_i32_543 : BitVec 32 := 2#32
  let v797 : BitVec 32 := Scalar.subi v793 c2_i32_543
  let v798 : BitVec 32 := Scalar.select v794 v796 v797
  let c256_i32_544 : BitVec 32 := 256#32
  let v799 : BitVec 32 := Scalar.muli v798 c256_i32_544
  v799
def k0_mult47 (i : grid0.Coords) (k0_t2 : Fin (k0_t2_loop i).trips) : BitVec 32 :=
  let c2_i32_540 : BitVec 32 := 2#32
  let c16_i32_539 : BitVec 32 := 16#32
  let c0_i32_111 : BitVec 32 := 0#32
  let c2_i32 : BitVec 32 := 2#32
  let arg2 : BitVec 32 := BitVec.ofNat 32 (i 2).val
  let v42 : BitVec 32 := Scalar.muli c2_i32 arg2
  let c0_i32_104 : BitVec 32 := 0#32
  let v181 : BitVec 1 := Scalar.cmpi .sgt v42 c0_i32_104
  let v182 : BitVec 32 := Scalar.extui v181
  let c0_i32_105 : BitVec 32 := 0#32
  let v183 : BitVec 1 := Scalar.cmpi .slt v42 c0_i32_105
  let v184 : BitVec 32 := Scalar.extui v183
  let v185 : BitVec 32 := Scalar.subi v182 v184
  let c16_i32 : BitVec 32 := 16#32
  let c0_i32_106 : BitVec 32 := 0#32
  let v186 : BitVec 1 := Scalar.cmpi .sgt c16_i32 c0_i32_106
  let v187 : BitVec 32 := Scalar.extui v186
  let c0_i32_107 : BitVec 32 := 0#32
  let v188 : BitVec 1 := Scalar.cmpi .slt c16_i32 c0_i32_107
  let v189 : BitVec 32 := Scalar.extui v188
  let v190 : BitVec 32 := Scalar.subi v187 v189
  let v191 : BitVec 1 := Scalar.cmpi .ne v185 v190
  let v192 : BitVec 32 := Scalar.remsi v42 c16_i32
  let c0_i32_108 : BitVec 32 := 0#32
  let v193 : BitVec 1 := Scalar.cmpi .ne v192 c0_i32_108
  let v194 : BitVec 1 := Scalar.andi v191 v193
  let v180 : BitVec 32 := Scalar.divsi v42 c16_i32
  let c1_i32_109 : BitVec 32 := 1#32
  let v195 : BitVec 32 := Scalar.subi v180 c1_i32_109
  let v196 : BitVec 32 := Scalar.select v194 v195 v180
  let v197 : BitVec 32 := Scalar.subi v196 c0_i32_111
  let c1_i32_112 : BitVec 32 := 1#32
  let v199 : BitVec 32 := Scalar.divsi v197 c1_i32_112
  let v200 : BitVec 32 := Scalar.muli v199 c1_i32_112
  let v201 : BitVec 32 := Scalar.addi c0_i32_111 v200
  let c1_i32_114 : BitVec 32 := 1#32
  let arg13 : BitVec 32 := Scf.iv v201 c1_i32_114 k0_t2
  let v791 : BitVec 32 := Scalar.muli c16_i32_539 arg13
  let v792 : BitVec 32 := Scalar.addi c2_i32_540 v791
  let c5_i32 : BitVec 32 := 5#32
  let v793 : BitVec 32 := Scalar.addi v792 c5_i32
  let c1_i32_562 : BitVec 32 := 1#32
  let v821 : BitVec 32 := Scalar.subi v793 c1_i32_562
  let c2_i32_563 : BitVec 32 := 2#32
  let v822 : BitVec 1 := Scalar.cmpi .slt v821 c2_i32_563
  let c2_i32_564 : BitVec 32 := 2#32
  let v823 : BitVec 32 := Scalar.muli c2_i32_564 arg2
  let v824 : BitVec 32 := Scalar.addi v823 v821
  let c2_i32_565 : BitVec 32 := 2#32
  let v825 : BitVec 32 := Scalar.subi v821 c2_i32_565
  let v826 : BitVec 32 := Scalar.select v822 v824 v825
  let c256_i32_566 : BitVec 32 := 256#32
  let v827 : BitVec 32 := Scalar.muli v826 c256_i32_566
  v827
def k0_mult48 (i : grid0.Coords) (k0_t2 : Fin (k0_t2_loop i).trips) : BitVec 32 :=
  let c2_i32_608 : BitVec 32 := 2#32
  let c16_i32_607 : BitVec 32 := 16#32
  let c0_i32_111 : BitVec 32 := 0#32
  let c2_i32 : BitVec 32 := 2#32
  let arg2 : BitVec 32 := BitVec.ofNat 32 (i 2).val
  let v42 : BitVec 32 := Scalar.muli c2_i32 arg2
  let c0_i32_104 : BitVec 32 := 0#32
  let v181 : BitVec 1 := Scalar.cmpi .sgt v42 c0_i32_104
  let v182 : BitVec 32 := Scalar.extui v181
  let c0_i32_105 : BitVec 32 := 0#32
  let v183 : BitVec 1 := Scalar.cmpi .slt v42 c0_i32_105
  let v184 : BitVec 32 := Scalar.extui v183
  let v185 : BitVec 32 := Scalar.subi v182 v184
  let c16_i32 : BitVec 32 := 16#32
  let c0_i32_106 : BitVec 32 := 0#32
  let v186 : BitVec 1 := Scalar.cmpi .sgt c16_i32 c0_i32_106
  let v187 : BitVec 32 := Scalar.extui v186
  let c0_i32_107 : BitVec 32 := 0#32
  let v188 : BitVec 1 := Scalar.cmpi .slt c16_i32 c0_i32_107
  let v189 : BitVec 32 := Scalar.extui v188
  let v190 : BitVec 32 := Scalar.subi v187 v189
  let v191 : BitVec 1 := Scalar.cmpi .ne v185 v190
  let v192 : BitVec 32 := Scalar.remsi v42 c16_i32
  let c0_i32_108 : BitVec 32 := 0#32
  let v193 : BitVec 1 := Scalar.cmpi .ne v192 c0_i32_108
  let v194 : BitVec 1 := Scalar.andi v191 v193
  let v180 : BitVec 32 := Scalar.divsi v42 c16_i32
  let c1_i32_109 : BitVec 32 := 1#32
  let v195 : BitVec 32 := Scalar.subi v180 c1_i32_109
  let v196 : BitVec 32 := Scalar.select v194 v195 v180
  let v197 : BitVec 32 := Scalar.subi v196 c0_i32_111
  let c1_i32_112 : BitVec 32 := 1#32
  let v199 : BitVec 32 := Scalar.divsi v197 c1_i32_112
  let v200 : BitVec 32 := Scalar.muli v199 c1_i32_112
  let v201 : BitVec 32 := Scalar.addi c0_i32_111 v200
  let c1_i32_114 : BitVec 32 := 1#32
  let arg13 : BitVec 32 := Scf.iv v201 c1_i32_114 k0_t2
  let v885 : BitVec 32 := Scalar.muli c16_i32_607 arg13
  let v886 : BitVec 32 := Scalar.addi c2_i32_608 v885
  let c6_i32_609 : BitVec 32 := 6#32
  let v887 : BitVec 32 := Scalar.addi v886 c6_i32_609
  let c2_i32_610 : BitVec 32 := 2#32
  let v888 : BitVec 1 := Scalar.cmpi .slt v887 c2_i32_610
  let c2_i32_611 : BitVec 32 := 2#32
  let v889 : BitVec 32 := Scalar.muli c2_i32_611 arg2
  let v890 : BitVec 32 := Scalar.addi v889 v887
  let c2_i32_612 : BitVec 32 := 2#32
  let v891 : BitVec 32 := Scalar.subi v887 c2_i32_612
  let v892 : BitVec 32 := Scalar.select v888 v890 v891
  let c256_i32_613 : BitVec 32 := 256#32
  let v893 : BitVec 32 := Scalar.muli v892 c256_i32_613
  v893
def k0_mult49 (i : grid0.Coords) (k0_t2 : Fin (k0_t2_loop i).trips) : BitVec 32 :=
  let c2_i32_608 : BitVec 32 := 2#32
  let c16_i32_607 : BitVec 32 := 16#32
  let c0_i32_111 : BitVec 32 := 0#32
  let c2_i32 : BitVec 32 := 2#32
  let arg2 : BitVec 32 := BitVec.ofNat 32 (i 2).val
  let v42 : BitVec 32 := Scalar.muli c2_i32 arg2
  let c0_i32_104 : BitVec 32 := 0#32
  let v181 : BitVec 1 := Scalar.cmpi .sgt v42 c0_i32_104
  let v182 : BitVec 32 := Scalar.extui v181
  let c0_i32_105 : BitVec 32 := 0#32
  let v183 : BitVec 1 := Scalar.cmpi .slt v42 c0_i32_105
  let v184 : BitVec 32 := Scalar.extui v183
  let v185 : BitVec 32 := Scalar.subi v182 v184
  let c16_i32 : BitVec 32 := 16#32
  let c0_i32_106 : BitVec 32 := 0#32
  let v186 : BitVec 1 := Scalar.cmpi .sgt c16_i32 c0_i32_106
  let v187 : BitVec 32 := Scalar.extui v186
  let c0_i32_107 : BitVec 32 := 0#32
  let v188 : BitVec 1 := Scalar.cmpi .slt c16_i32 c0_i32_107
  let v189 : BitVec 32 := Scalar.extui v188
  let v190 : BitVec 32 := Scalar.subi v187 v189
  let v191 : BitVec 1 := Scalar.cmpi .ne v185 v190
  let v192 : BitVec 32 := Scalar.remsi v42 c16_i32
  let c0_i32_108 : BitVec 32 := 0#32
  let v193 : BitVec 1 := Scalar.cmpi .ne v192 c0_i32_108
  let v194 : BitVec 1 := Scalar.andi v191 v193
  let v180 : BitVec 32 := Scalar.divsi v42 c16_i32
  let c1_i32_109 : BitVec 32 := 1#32
  let v195 : BitVec 32 := Scalar.subi v180 c1_i32_109
  let v196 : BitVec 32 := Scalar.select v194 v195 v180
  let v197 : BitVec 32 := Scalar.subi v196 c0_i32_111
  let c1_i32_112 : BitVec 32 := 1#32
  let v199 : BitVec 32 := Scalar.divsi v197 c1_i32_112
  let v200 : BitVec 32 := Scalar.muli v199 c1_i32_112
  let v201 : BitVec 32 := Scalar.addi c0_i32_111 v200
  let c1_i32_114 : BitVec 32 := 1#32
  let arg13 : BitVec 32 := Scf.iv v201 c1_i32_114 k0_t2
  let v885 : BitVec 32 := Scalar.muli c16_i32_607 arg13
  let v886 : BitVec 32 := Scalar.addi c2_i32_608 v885
  let c6_i32_609 : BitVec 32 := 6#32
  let v887 : BitVec 32 := Scalar.addi v886 c6_i32_609
  let c1_i32_631 : BitVec 32 := 1#32
  let v915 : BitVec 32 := Scalar.subi v887 c1_i32_631
  let c2_i32_632 : BitVec 32 := 2#32
  let v916 : BitVec 1 := Scalar.cmpi .slt v915 c2_i32_632
  let c2_i32_633 : BitVec 32 := 2#32
  let v917 : BitVec 32 := Scalar.muli c2_i32_633 arg2
  let v918 : BitVec 32 := Scalar.addi v917 v915
  let c2_i32_634 : BitVec 32 := 2#32
  let v919 : BitVec 32 := Scalar.subi v915 c2_i32_634
  let v920 : BitVec 32 := Scalar.select v916 v918 v919
  let c256_i32_635 : BitVec 32 := 256#32
  let v921 : BitVec 32 := Scalar.muli v920 c256_i32_635
  v921
def k0_mult50 (i : grid0.Coords) (k0_t2 : Fin (k0_t2_loop i).trips) : BitVec 32 :=
  let c2_i32_677 : BitVec 32 := 2#32
  let c16_i32_676 : BitVec 32 := 16#32
  let c0_i32_111 : BitVec 32 := 0#32
  let c2_i32 : BitVec 32 := 2#32
  let arg2 : BitVec 32 := BitVec.ofNat 32 (i 2).val
  let v42 : BitVec 32 := Scalar.muli c2_i32 arg2
  let c0_i32_104 : BitVec 32 := 0#32
  let v181 : BitVec 1 := Scalar.cmpi .sgt v42 c0_i32_104
  let v182 : BitVec 32 := Scalar.extui v181
  let c0_i32_105 : BitVec 32 := 0#32
  let v183 : BitVec 1 := Scalar.cmpi .slt v42 c0_i32_105
  let v184 : BitVec 32 := Scalar.extui v183
  let v185 : BitVec 32 := Scalar.subi v182 v184
  let c16_i32 : BitVec 32 := 16#32
  let c0_i32_106 : BitVec 32 := 0#32
  let v186 : BitVec 1 := Scalar.cmpi .sgt c16_i32 c0_i32_106
  let v187 : BitVec 32 := Scalar.extui v186
  let c0_i32_107 : BitVec 32 := 0#32
  let v188 : BitVec 1 := Scalar.cmpi .slt c16_i32 c0_i32_107
  let v189 : BitVec 32 := Scalar.extui v188
  let v190 : BitVec 32 := Scalar.subi v187 v189
  let v191 : BitVec 1 := Scalar.cmpi .ne v185 v190
  let v192 : BitVec 32 := Scalar.remsi v42 c16_i32
  let c0_i32_108 : BitVec 32 := 0#32
  let v193 : BitVec 1 := Scalar.cmpi .ne v192 c0_i32_108
  let v194 : BitVec 1 := Scalar.andi v191 v193
  let v180 : BitVec 32 := Scalar.divsi v42 c16_i32
  let c1_i32_109 : BitVec 32 := 1#32
  let v195 : BitVec 32 := Scalar.subi v180 c1_i32_109
  let v196 : BitVec 32 := Scalar.select v194 v195 v180
  let v197 : BitVec 32 := Scalar.subi v196 c0_i32_111
  let c1_i32_112 : BitVec 32 := 1#32
  let v199 : BitVec 32 := Scalar.divsi v197 c1_i32_112
  let v200 : BitVec 32 := Scalar.muli v199 c1_i32_112
  let v201 : BitVec 32 := Scalar.addi c0_i32_111 v200
  let c1_i32_114 : BitVec 32 := 1#32
  let arg13 : BitVec 32 := Scf.iv v201 c1_i32_114 k0_t2
  let v979 : BitVec 32 := Scalar.muli c16_i32_676 arg13
  let v980 : BitVec 32 := Scalar.addi c2_i32_677 v979
  let c7_i32 : BitVec 32 := 7#32
  let v981 : BitVec 32 := Scalar.addi v980 c7_i32
  let c2_i32_678 : BitVec 32 := 2#32
  let v982 : BitVec 1 := Scalar.cmpi .slt v981 c2_i32_678
  let c2_i32_679 : BitVec 32 := 2#32
  let v983 : BitVec 32 := Scalar.muli c2_i32_679 arg2
  let v984 : BitVec 32 := Scalar.addi v983 v981
  let c2_i32_680 : BitVec 32 := 2#32
  let v985 : BitVec 32 := Scalar.subi v981 c2_i32_680
  let v986 : BitVec 32 := Scalar.select v982 v984 v985
  let c256_i32_681 : BitVec 32 := 256#32
  let v987 : BitVec 32 := Scalar.muli v986 c256_i32_681
  v987
def k0_mult51 (i : grid0.Coords) (k0_t2 : Fin (k0_t2_loop i).trips) : BitVec 32 :=
  let c2_i32_677 : BitVec 32 := 2#32
  let c16_i32_676 : BitVec 32 := 16#32
  let c0_i32_111 : BitVec 32 := 0#32
  let c2_i32 : BitVec 32 := 2#32
  let arg2 : BitVec 32 := BitVec.ofNat 32 (i 2).val
  let v42 : BitVec 32 := Scalar.muli c2_i32 arg2
  let c0_i32_104 : BitVec 32 := 0#32
  let v181 : BitVec 1 := Scalar.cmpi .sgt v42 c0_i32_104
  let v182 : BitVec 32 := Scalar.extui v181
  let c0_i32_105 : BitVec 32 := 0#32
  let v183 : BitVec 1 := Scalar.cmpi .slt v42 c0_i32_105
  let v184 : BitVec 32 := Scalar.extui v183
  let v185 : BitVec 32 := Scalar.subi v182 v184
  let c16_i32 : BitVec 32 := 16#32
  let c0_i32_106 : BitVec 32 := 0#32
  let v186 : BitVec 1 := Scalar.cmpi .sgt c16_i32 c0_i32_106
  let v187 : BitVec 32 := Scalar.extui v186
  let c0_i32_107 : BitVec 32 := 0#32
  let v188 : BitVec 1 := Scalar.cmpi .slt c16_i32 c0_i32_107
  let v189 : BitVec 32 := Scalar.extui v188
  let v190 : BitVec 32 := Scalar.subi v187 v189
  let v191 : BitVec 1 := Scalar.cmpi .ne v185 v190
  let v192 : BitVec 32 := Scalar.remsi v42 c16_i32
  let c0_i32_108 : BitVec 32 := 0#32
  let v193 : BitVec 1 := Scalar.cmpi .ne v192 c0_i32_108
  let v194 : BitVec 1 := Scalar.andi v191 v193
  let v180 : BitVec 32 := Scalar.divsi v42 c16_i32
  let c1_i32_109 : BitVec 32 := 1#32
  let v195 : BitVec 32 := Scalar.subi v180 c1_i32_109
  let v196 : BitVec 32 := Scalar.select v194 v195 v180
  let v197 : BitVec 32 := Scalar.subi v196 c0_i32_111
  let c1_i32_112 : BitVec 32 := 1#32
  let v199 : BitVec 32 := Scalar.divsi v197 c1_i32_112
  let v200 : BitVec 32 := Scalar.muli v199 c1_i32_112
  let v201 : BitVec 32 := Scalar.addi c0_i32_111 v200
  let c1_i32_114 : BitVec 32 := 1#32
  let arg13 : BitVec 32 := Scf.iv v201 c1_i32_114 k0_t2
  let v979 : BitVec 32 := Scalar.muli c16_i32_676 arg13
  let v980 : BitVec 32 := Scalar.addi c2_i32_677 v979
  let c7_i32 : BitVec 32 := 7#32
  let v981 : BitVec 32 := Scalar.addi v980 c7_i32
  let c1_i32_699 : BitVec 32 := 1#32
  let v1009 : BitVec 32 := Scalar.subi v981 c1_i32_699
  let c2_i32_700 : BitVec 32 := 2#32
  let v1010 : BitVec 1 := Scalar.cmpi .slt v1009 c2_i32_700
  let c2_i32_701 : BitVec 32 := 2#32
  let v1011 : BitVec 32 := Scalar.muli c2_i32_701 arg2
  let v1012 : BitVec 32 := Scalar.addi v1011 v1009
  let c2_i32_702 : BitVec 32 := 2#32
  let v1013 : BitVec 32 := Scalar.subi v1009 c2_i32_702
  let v1014 : BitVec 32 := Scalar.select v1010 v1012 v1013
  let c256_i32_703 : BitVec 32 := 256#32
  let v1015 : BitVec 32 := Scalar.muli v1014 c256_i32_703
  v1015
def k0_mult52 (i : grid0.Coords) (k0_t2 : Fin (k0_t2_loop i).trips) : BitVec 32 :=
  let c2_i32_745 : BitVec 32 := 2#32
  let c16_i32_744 : BitVec 32 := 16#32
  let c0_i32_111 : BitVec 32 := 0#32
  let c2_i32 : BitVec 32 := 2#32
  let arg2 : BitVec 32 := BitVec.ofNat 32 (i 2).val
  let v42 : BitVec 32 := Scalar.muli c2_i32 arg2
  let c0_i32_104 : BitVec 32 := 0#32
  let v181 : BitVec 1 := Scalar.cmpi .sgt v42 c0_i32_104
  let v182 : BitVec 32 := Scalar.extui v181
  let c0_i32_105 : BitVec 32 := 0#32
  let v183 : BitVec 1 := Scalar.cmpi .slt v42 c0_i32_105
  let v184 : BitVec 32 := Scalar.extui v183
  let v185 : BitVec 32 := Scalar.subi v182 v184
  let c16_i32 : BitVec 32 := 16#32
  let c0_i32_106 : BitVec 32 := 0#32
  let v186 : BitVec 1 := Scalar.cmpi .sgt c16_i32 c0_i32_106
  let v187 : BitVec 32 := Scalar.extui v186
  let c0_i32_107 : BitVec 32 := 0#32
  let v188 : BitVec 1 := Scalar.cmpi .slt c16_i32 c0_i32_107
  let v189 : BitVec 32 := Scalar.extui v188
  let v190 : BitVec 32 := Scalar.subi v187 v189
  let v191 : BitVec 1 := Scalar.cmpi .ne v185 v190
  let v192 : BitVec 32 := Scalar.remsi v42 c16_i32
  let c0_i32_108 : BitVec 32 := 0#32
  let v193 : BitVec 1 := Scalar.cmpi .ne v192 c0_i32_108
  let v194 : BitVec 1 := Scalar.andi v191 v193
  let v180 : BitVec 32 := Scalar.divsi v42 c16_i32
  let c1_i32_109 : BitVec 32 := 1#32
  let v195 : BitVec 32 := Scalar.subi v180 c1_i32_109
  let v196 : BitVec 32 := Scalar.select v194 v195 v180
  let v197 : BitVec 32 := Scalar.subi v196 c0_i32_111
  let c1_i32_112 : BitVec 32 := 1#32
  let v199 : BitVec 32 := Scalar.divsi v197 c1_i32_112
  let v200 : BitVec 32 := Scalar.muli v199 c1_i32_112
  let v201 : BitVec 32 := Scalar.addi c0_i32_111 v200
  let c1_i32_114 : BitVec 32 := 1#32
  let arg13 : BitVec 32 := Scf.iv v201 c1_i32_114 k0_t2
  let v1073 : BitVec 32 := Scalar.muli c16_i32_744 arg13
  let v1074 : BitVec 32 := Scalar.addi c2_i32_745 v1073
  let c8_i32_746 : BitVec 32 := 8#32
  let v1075 : BitVec 32 := Scalar.addi v1074 c8_i32_746
  let c2_i32_747 : BitVec 32 := 2#32
  let v1076 : BitVec 1 := Scalar.cmpi .slt v1075 c2_i32_747
  let c2_i32_748 : BitVec 32 := 2#32
  let v1077 : BitVec 32 := Scalar.muli c2_i32_748 arg2
  let v1078 : BitVec 32 := Scalar.addi v1077 v1075
  let c2_i32_749 : BitVec 32 := 2#32
  let v1079 : BitVec 32 := Scalar.subi v1075 c2_i32_749
  let v1080 : BitVec 32 := Scalar.select v1076 v1078 v1079
  let c256_i32_750 : BitVec 32 := 256#32
  let v1081 : BitVec 32 := Scalar.muli v1080 c256_i32_750
  v1081
def k0_mult53 (i : grid0.Coords) (k0_t2 : Fin (k0_t2_loop i).trips) : BitVec 32 :=
  let c2_i32_745 : BitVec 32 := 2#32
  let c16_i32_744 : BitVec 32 := 16#32
  let c0_i32_111 : BitVec 32 := 0#32
  let c2_i32 : BitVec 32 := 2#32
  let arg2 : BitVec 32 := BitVec.ofNat 32 (i 2).val
  let v42 : BitVec 32 := Scalar.muli c2_i32 arg2
  let c0_i32_104 : BitVec 32 := 0#32
  let v181 : BitVec 1 := Scalar.cmpi .sgt v42 c0_i32_104
  let v182 : BitVec 32 := Scalar.extui v181
  let c0_i32_105 : BitVec 32 := 0#32
  let v183 : BitVec 1 := Scalar.cmpi .slt v42 c0_i32_105
  let v184 : BitVec 32 := Scalar.extui v183
  let v185 : BitVec 32 := Scalar.subi v182 v184
  let c16_i32 : BitVec 32 := 16#32
  let c0_i32_106 : BitVec 32 := 0#32
  let v186 : BitVec 1 := Scalar.cmpi .sgt c16_i32 c0_i32_106
  let v187 : BitVec 32 := Scalar.extui v186
  let c0_i32_107 : BitVec 32 := 0#32
  let v188 : BitVec 1 := Scalar.cmpi .slt c16_i32 c0_i32_107
  let v189 : BitVec 32 := Scalar.extui v188
  let v190 : BitVec 32 := Scalar.subi v187 v189
  let v191 : BitVec 1 := Scalar.cmpi .ne v185 v190
  let v192 : BitVec 32 := Scalar.remsi v42 c16_i32
  let c0_i32_108 : BitVec 32 := 0#32
  let v193 : BitVec 1 := Scalar.cmpi .ne v192 c0_i32_108
  let v194 : BitVec 1 := Scalar.andi v191 v193
  let v180 : BitVec 32 := Scalar.divsi v42 c16_i32
  let c1_i32_109 : BitVec 32 := 1#32
  let v195 : BitVec 32 := Scalar.subi v180 c1_i32_109
  let v196 : BitVec 32 := Scalar.select v194 v195 v180
  let v197 : BitVec 32 := Scalar.subi v196 c0_i32_111
  let c1_i32_112 : BitVec 32 := 1#32
  let v199 : BitVec 32 := Scalar.divsi v197 c1_i32_112
  let v200 : BitVec 32 := Scalar.muli v199 c1_i32_112
  let v201 : BitVec 32 := Scalar.addi c0_i32_111 v200
  let c1_i32_114 : BitVec 32 := 1#32
  let arg13 : BitVec 32 := Scf.iv v201 c1_i32_114 k0_t2
  let v1073 : BitVec 32 := Scalar.muli c16_i32_744 arg13
  let v1074 : BitVec 32 := Scalar.addi c2_i32_745 v1073
  let c8_i32_746 : BitVec 32 := 8#32
  let v1075 : BitVec 32 := Scalar.addi v1074 c8_i32_746
  let c1_i32_768 : BitVec 32 := 1#32
  let v1103 : BitVec 32 := Scalar.subi v1075 c1_i32_768
  let c2_i32_769 : BitVec 32 := 2#32
  let v1104 : BitVec 1 := Scalar.cmpi .slt v1103 c2_i32_769
  let c2_i32_770 : BitVec 32 := 2#32
  let v1105 : BitVec 32 := Scalar.muli c2_i32_770 arg2
  let v1106 : BitVec 32 := Scalar.addi v1105 v1103
  let c2_i32_771 : BitVec 32 := 2#32
  let v1107 : BitVec 32 := Scalar.subi v1103 c2_i32_771
  let v1108 : BitVec 32 := Scalar.select v1104 v1106 v1107
  let c256_i32_772 : BitVec 32 := 256#32
  let v1109 : BitVec 32 := Scalar.muli v1108 c256_i32_772
  v1109
def k0_mult54 (i : grid0.Coords) (k0_t2 : Fin (k0_t2_loop i).trips) : BitVec 32 :=
  let c2_i32_814 : BitVec 32 := 2#32
  let c16_i32_813 : BitVec 32 := 16#32
  let c0_i32_111 : BitVec 32 := 0#32
  let c2_i32 : BitVec 32 := 2#32
  let arg2 : BitVec 32 := BitVec.ofNat 32 (i 2).val
  let v42 : BitVec 32 := Scalar.muli c2_i32 arg2
  let c0_i32_104 : BitVec 32 := 0#32
  let v181 : BitVec 1 := Scalar.cmpi .sgt v42 c0_i32_104
  let v182 : BitVec 32 := Scalar.extui v181
  let c0_i32_105 : BitVec 32 := 0#32
  let v183 : BitVec 1 := Scalar.cmpi .slt v42 c0_i32_105
  let v184 : BitVec 32 := Scalar.extui v183
  let v185 : BitVec 32 := Scalar.subi v182 v184
  let c16_i32 : BitVec 32 := 16#32
  let c0_i32_106 : BitVec 32 := 0#32
  let v186 : BitVec 1 := Scalar.cmpi .sgt c16_i32 c0_i32_106
  let v187 : BitVec 32 := Scalar.extui v186
  let c0_i32_107 : BitVec 32 := 0#32
  let v188 : BitVec 1 := Scalar.cmpi .slt c16_i32 c0_i32_107
  let v189 : BitVec 32 := Scalar.extui v188
  let v190 : BitVec 32 := Scalar.subi v187 v189
  let v191 : BitVec 1 := Scalar.cmpi .ne v185 v190
  let v192 : BitVec 32 := Scalar.remsi v42 c16_i32
  let c0_i32_108 : BitVec 32 := 0#32
  let v193 : BitVec 1 := Scalar.cmpi .ne v192 c0_i32_108
  let v194 : BitVec 1 := Scalar.andi v191 v193
  let v180 : BitVec 32 := Scalar.divsi v42 c16_i32
  let c1_i32_109 : BitVec 32 := 1#32
  let v195 : BitVec 32 := Scalar.subi v180 c1_i32_109
  let v196 : BitVec 32 := Scalar.select v194 v195 v180
  let v197 : BitVec 32 := Scalar.subi v196 c0_i32_111
  let c1_i32_112 : BitVec 32 := 1#32
  let v199 : BitVec 32 := Scalar.divsi v197 c1_i32_112
  let v200 : BitVec 32 := Scalar.muli v199 c1_i32_112
  let v201 : BitVec 32 := Scalar.addi c0_i32_111 v200
  let c1_i32_114 : BitVec 32 := 1#32
  let arg13 : BitVec 32 := Scf.iv v201 c1_i32_114 k0_t2
  let v1167 : BitVec 32 := Scalar.muli c16_i32_813 arg13
  let v1168 : BitVec 32 := Scalar.addi c2_i32_814 v1167
  let c9_i32 : BitVec 32 := 9#32
  let v1169 : BitVec 32 := Scalar.addi v1168 c9_i32
  let c2_i32_815 : BitVec 32 := 2#32
  let v1170 : BitVec 1 := Scalar.cmpi .slt v1169 c2_i32_815
  let c2_i32_816 : BitVec 32 := 2#32
  let v1171 : BitVec 32 := Scalar.muli c2_i32_816 arg2
  let v1172 : BitVec 32 := Scalar.addi v1171 v1169
  let c2_i32_817 : BitVec 32 := 2#32
  let v1173 : BitVec 32 := Scalar.subi v1169 c2_i32_817
  let v1174 : BitVec 32 := Scalar.select v1170 v1172 v1173
  let c256_i32_818 : BitVec 32 := 256#32
  let v1175 : BitVec 32 := Scalar.muli v1174 c256_i32_818
  v1175
def k0_mult55 (i : grid0.Coords) (k0_t2 : Fin (k0_t2_loop i).trips) : BitVec 32 :=
  let c2_i32_814 : BitVec 32 := 2#32
  let c16_i32_813 : BitVec 32 := 16#32
  let c0_i32_111 : BitVec 32 := 0#32
  let c2_i32 : BitVec 32 := 2#32
  let arg2 : BitVec 32 := BitVec.ofNat 32 (i 2).val
  let v42 : BitVec 32 := Scalar.muli c2_i32 arg2
  let c0_i32_104 : BitVec 32 := 0#32
  let v181 : BitVec 1 := Scalar.cmpi .sgt v42 c0_i32_104
  let v182 : BitVec 32 := Scalar.extui v181
  let c0_i32_105 : BitVec 32 := 0#32
  let v183 : BitVec 1 := Scalar.cmpi .slt v42 c0_i32_105
  let v184 : BitVec 32 := Scalar.extui v183
  let v185 : BitVec 32 := Scalar.subi v182 v184
  let c16_i32 : BitVec 32 := 16#32
  let c0_i32_106 : BitVec 32 := 0#32
  let v186 : BitVec 1 := Scalar.cmpi .sgt c16_i32 c0_i32_106
  let v187 : BitVec 32 := Scalar.extui v186
  let c0_i32_107 : BitVec 32 := 0#32
  let v188 : BitVec 1 := Scalar.cmpi .slt c16_i32 c0_i32_107
  let v189 : BitVec 32 := Scalar.extui v188
  let v190 : BitVec 32 := Scalar.subi v187 v189
  let v191 : BitVec 1 := Scalar.cmpi .ne v185 v190
  let v192 : BitVec 32 := Scalar.remsi v42 c16_i32
  let c0_i32_108 : BitVec 32 := 0#32
  let v193 : BitVec 1 := Scalar.cmpi .ne v192 c0_i32_108
  let v194 : BitVec 1 := Scalar.andi v191 v193
  let v180 : BitVec 32 := Scalar.divsi v42 c16_i32
  let c1_i32_109 : BitVec 32 := 1#32
  let v195 : BitVec 32 := Scalar.subi v180 c1_i32_109
  let v196 : BitVec 32 := Scalar.select v194 v195 v180
  let v197 : BitVec 32 := Scalar.subi v196 c0_i32_111
  let c1_i32_112 : BitVec 32 := 1#32
  let v199 : BitVec 32 := Scalar.divsi v197 c1_i32_112
  let v200 : BitVec 32 := Scalar.muli v199 c1_i32_112
  let v201 : BitVec 32 := Scalar.addi c0_i32_111 v200
  let c1_i32_114 : BitVec 32 := 1#32
  let arg13 : BitVec 32 := Scf.iv v201 c1_i32_114 k0_t2
  let v1167 : BitVec 32 := Scalar.muli c16_i32_813 arg13
  let v1168 : BitVec 32 := Scalar.addi c2_i32_814 v1167
  let c9_i32 : BitVec 32 := 9#32
  let v1169 : BitVec 32 := Scalar.addi v1168 c9_i32
  let c1_i32_836 : BitVec 32 := 1#32
  let v1197 : BitVec 32 := Scalar.subi v1169 c1_i32_836
  let c2_i32_837 : BitVec 32 := 2#32
  let v1198 : BitVec 1 := Scalar.cmpi .slt v1197 c2_i32_837
  let c2_i32_838 : BitVec 32 := 2#32
  let v1199 : BitVec 32 := Scalar.muli c2_i32_838 arg2
  let v1200 : BitVec 32 := Scalar.addi v1199 v1197
  let c2_i32_839 : BitVec 32 := 2#32
  let v1201 : BitVec 32 := Scalar.subi v1197 c2_i32_839
  let v1202 : BitVec 32 := Scalar.select v1198 v1200 v1201
  let c256_i32_840 : BitVec 32 := 256#32
  let v1203 : BitVec 32 := Scalar.muli v1202 c256_i32_840
  v1203
def k0_mult56 (i : grid0.Coords) (k0_t2 : Fin (k0_t2_loop i).trips) : BitVec 32 :=
  let c2_i32_882 : BitVec 32 := 2#32
  let c16_i32_881 : BitVec 32 := 16#32
  let c0_i32_111 : BitVec 32 := 0#32
  let c2_i32 : BitVec 32 := 2#32
  let arg2 : BitVec 32 := BitVec.ofNat 32 (i 2).val
  let v42 : BitVec 32 := Scalar.muli c2_i32 arg2
  let c0_i32_104 : BitVec 32 := 0#32
  let v181 : BitVec 1 := Scalar.cmpi .sgt v42 c0_i32_104
  let v182 : BitVec 32 := Scalar.extui v181
  let c0_i32_105 : BitVec 32 := 0#32
  let v183 : BitVec 1 := Scalar.cmpi .slt v42 c0_i32_105
  let v184 : BitVec 32 := Scalar.extui v183
  let v185 : BitVec 32 := Scalar.subi v182 v184
  let c16_i32 : BitVec 32 := 16#32
  let c0_i32_106 : BitVec 32 := 0#32
  let v186 : BitVec 1 := Scalar.cmpi .sgt c16_i32 c0_i32_106
  let v187 : BitVec 32 := Scalar.extui v186
  let c0_i32_107 : BitVec 32 := 0#32
  let v188 : BitVec 1 := Scalar.cmpi .slt c16_i32 c0_i32_107
  let v189 : BitVec 32 := Scalar.extui v188
  let v190 : BitVec 32 := Scalar.subi v187 v189
  let v191 : BitVec 1 := Scalar.cmpi .ne v185 v190
  let v192 : BitVec 32 := Scalar.remsi v42 c16_i32
  let c0_i32_108 : BitVec 32 := 0#32
  let v193 : BitVec 1 := Scalar.cmpi .ne v192 c0_i32_108
  let v194 : BitVec 1 := Scalar.andi v191 v193
  let v180 : BitVec 32 := Scalar.divsi v42 c16_i32
  let c1_i32_109 : BitVec 32 := 1#32
  let v195 : BitVec 32 := Scalar.subi v180 c1_i32_109
  let v196 : BitVec 32 := Scalar.select v194 v195 v180
  let v197 : BitVec 32 := Scalar.subi v196 c0_i32_111
  let c1_i32_112 : BitVec 32 := 1#32
  let v199 : BitVec 32 := Scalar.divsi v197 c1_i32_112
  let v200 : BitVec 32 := Scalar.muli v199 c1_i32_112
  let v201 : BitVec 32 := Scalar.addi c0_i32_111 v200
  let c1_i32_114 : BitVec 32 := 1#32
  let arg13 : BitVec 32 := Scf.iv v201 c1_i32_114 k0_t2
  let v1261 : BitVec 32 := Scalar.muli c16_i32_881 arg13
  let v1262 : BitVec 32 := Scalar.addi c2_i32_882 v1261
  let c10_i32 : BitVec 32 := 10#32
  let v1263 : BitVec 32 := Scalar.addi v1262 c10_i32
  let c2_i32_883 : BitVec 32 := 2#32
  let v1264 : BitVec 1 := Scalar.cmpi .slt v1263 c2_i32_883
  let c2_i32_884 : BitVec 32 := 2#32
  let v1265 : BitVec 32 := Scalar.muli c2_i32_884 arg2
  let v1266 : BitVec 32 := Scalar.addi v1265 v1263
  let c2_i32_885 : BitVec 32 := 2#32
  let v1267 : BitVec 32 := Scalar.subi v1263 c2_i32_885
  let v1268 : BitVec 32 := Scalar.select v1264 v1266 v1267
  let c256_i32_886 : BitVec 32 := 256#32
  let v1269 : BitVec 32 := Scalar.muli v1268 c256_i32_886
  v1269
def k0_mult57 (i : grid0.Coords) (k0_t2 : Fin (k0_t2_loop i).trips) : BitVec 32 :=
  let c2_i32_882 : BitVec 32 := 2#32
  let c16_i32_881 : BitVec 32 := 16#32
  let c0_i32_111 : BitVec 32 := 0#32
  let c2_i32 : BitVec 32 := 2#32
  let arg2 : BitVec 32 := BitVec.ofNat 32 (i 2).val
  let v42 : BitVec 32 := Scalar.muli c2_i32 arg2
  let c0_i32_104 : BitVec 32 := 0#32
  let v181 : BitVec 1 := Scalar.cmpi .sgt v42 c0_i32_104
  let v182 : BitVec 32 := Scalar.extui v181
  let c0_i32_105 : BitVec 32 := 0#32
  let v183 : BitVec 1 := Scalar.cmpi .slt v42 c0_i32_105
  let v184 : BitVec 32 := Scalar.extui v183
  let v185 : BitVec 32 := Scalar.subi v182 v184
  let c16_i32 : BitVec 32 := 16#32
  let c0_i32_106 : BitVec 32 := 0#32
  let v186 : BitVec 1 := Scalar.cmpi .sgt c16_i32 c0_i32_106
  let v187 : BitVec 32 := Scalar.extui v186
  let c0_i32_107 : BitVec 32 := 0#32
  let v188 : BitVec 1 := Scalar.cmpi .slt c16_i32 c0_i32_107
  let v189 : BitVec 32 := Scalar.extui v188
  let v190 : BitVec 32 := Scalar.subi v187 v189
  let v191 : BitVec 1 := Scalar.cmpi .ne v185 v190
  let v192 : BitVec 32 := Scalar.remsi v42 c16_i32
  let c0_i32_108 : BitVec 32 := 0#32
  let v193 : BitVec 1 := Scalar.cmpi .ne v192 c0_i32_108
  let v194 : BitVec 1 := Scalar.andi v191 v193
  let v180 : BitVec 32 := Scalar.divsi v42 c16_i32
  let c1_i32_109 : BitVec 32 := 1#32
  let v195 : BitVec 32 := Scalar.subi v180 c1_i32_109
  let v196 : BitVec 32 := Scalar.select v194 v195 v180
  let v197 : BitVec 32 := Scalar.subi v196 c0_i32_111
  let c1_i32_112 : BitVec 32 := 1#32
  let v199 : BitVec 32 := Scalar.divsi v197 c1_i32_112
  let v200 : BitVec 32 := Scalar.muli v199 c1_i32_112
  let v201 : BitVec 32 := Scalar.addi c0_i32_111 v200
  let c1_i32_114 : BitVec 32 := 1#32
  let arg13 : BitVec 32 := Scf.iv v201 c1_i32_114 k0_t2
  let v1261 : BitVec 32 := Scalar.muli c16_i32_881 arg13
  let v1262 : BitVec 32 := Scalar.addi c2_i32_882 v1261
  let c10_i32 : BitVec 32 := 10#32
  let v1263 : BitVec 32 := Scalar.addi v1262 c10_i32
  let c1_i32_904 : BitVec 32 := 1#32
  let v1291 : BitVec 32 := Scalar.subi v1263 c1_i32_904
  let c2_i32_905 : BitVec 32 := 2#32
  let v1292 : BitVec 1 := Scalar.cmpi .slt v1291 c2_i32_905
  let c2_i32_906 : BitVec 32 := 2#32
  let v1293 : BitVec 32 := Scalar.muli c2_i32_906 arg2
  let v1294 : BitVec 32 := Scalar.addi v1293 v1291
  let c2_i32_907 : BitVec 32 := 2#32
  let v1295 : BitVec 32 := Scalar.subi v1291 c2_i32_907
  let v1296 : BitVec 32 := Scalar.select v1292 v1294 v1295
  let c256_i32_908 : BitVec 32 := 256#32
  let v1297 : BitVec 32 := Scalar.muli v1296 c256_i32_908
  v1297
def k0_mult58 (i : grid0.Coords) (k0_t2 : Fin (k0_t2_loop i).trips) : BitVec 32 :=
  let c2_i32_950 : BitVec 32 := 2#32
  let c16_i32_949 : BitVec 32 := 16#32
  let c0_i32_111 : BitVec 32 := 0#32
  let c2_i32 : BitVec 32 := 2#32
  let arg2 : BitVec 32 := BitVec.ofNat 32 (i 2).val
  let v42 : BitVec 32 := Scalar.muli c2_i32 arg2
  let c0_i32_104 : BitVec 32 := 0#32
  let v181 : BitVec 1 := Scalar.cmpi .sgt v42 c0_i32_104
  let v182 : BitVec 32 := Scalar.extui v181
  let c0_i32_105 : BitVec 32 := 0#32
  let v183 : BitVec 1 := Scalar.cmpi .slt v42 c0_i32_105
  let v184 : BitVec 32 := Scalar.extui v183
  let v185 : BitVec 32 := Scalar.subi v182 v184
  let c16_i32 : BitVec 32 := 16#32
  let c0_i32_106 : BitVec 32 := 0#32
  let v186 : BitVec 1 := Scalar.cmpi .sgt c16_i32 c0_i32_106
  let v187 : BitVec 32 := Scalar.extui v186
  let c0_i32_107 : BitVec 32 := 0#32
  let v188 : BitVec 1 := Scalar.cmpi .slt c16_i32 c0_i32_107
  let v189 : BitVec 32 := Scalar.extui v188
  let v190 : BitVec 32 := Scalar.subi v187 v189
  let v191 : BitVec 1 := Scalar.cmpi .ne v185 v190
  let v192 : BitVec 32 := Scalar.remsi v42 c16_i32
  let c0_i32_108 : BitVec 32 := 0#32
  let v193 : BitVec 1 := Scalar.cmpi .ne v192 c0_i32_108
  let v194 : BitVec 1 := Scalar.andi v191 v193
  let v180 : BitVec 32 := Scalar.divsi v42 c16_i32
  let c1_i32_109 : BitVec 32 := 1#32
  let v195 : BitVec 32 := Scalar.subi v180 c1_i32_109
  let v196 : BitVec 32 := Scalar.select v194 v195 v180
  let v197 : BitVec 32 := Scalar.subi v196 c0_i32_111
  let c1_i32_112 : BitVec 32 := 1#32
  let v199 : BitVec 32 := Scalar.divsi v197 c1_i32_112
  let v200 : BitVec 32 := Scalar.muli v199 c1_i32_112
  let v201 : BitVec 32 := Scalar.addi c0_i32_111 v200
  let c1_i32_114 : BitVec 32 := 1#32
  let arg13 : BitVec 32 := Scf.iv v201 c1_i32_114 k0_t2
  let v1355 : BitVec 32 := Scalar.muli c16_i32_949 arg13
  let v1356 : BitVec 32 := Scalar.addi c2_i32_950 v1355
  let c11_i32 : BitVec 32 := 11#32
  let v1357 : BitVec 32 := Scalar.addi v1356 c11_i32
  let c2_i32_951 : BitVec 32 := 2#32
  let v1358 : BitVec 1 := Scalar.cmpi .slt v1357 c2_i32_951
  let c2_i32_952 : BitVec 32 := 2#32
  let v1359 : BitVec 32 := Scalar.muli c2_i32_952 arg2
  let v1360 : BitVec 32 := Scalar.addi v1359 v1357
  let c2_i32_953 : BitVec 32 := 2#32
  let v1361 : BitVec 32 := Scalar.subi v1357 c2_i32_953
  let v1362 : BitVec 32 := Scalar.select v1358 v1360 v1361
  let c256_i32_954 : BitVec 32 := 256#32
  let v1363 : BitVec 32 := Scalar.muli v1362 c256_i32_954
  v1363
def k0_mult59 (i : grid0.Coords) (k0_t2 : Fin (k0_t2_loop i).trips) : BitVec 32 :=
  let c2_i32_950 : BitVec 32 := 2#32
  let c16_i32_949 : BitVec 32 := 16#32
  let c0_i32_111 : BitVec 32 := 0#32
  let c2_i32 : BitVec 32 := 2#32
  let arg2 : BitVec 32 := BitVec.ofNat 32 (i 2).val
  let v42 : BitVec 32 := Scalar.muli c2_i32 arg2
  let c0_i32_104 : BitVec 32 := 0#32
  let v181 : BitVec 1 := Scalar.cmpi .sgt v42 c0_i32_104
  let v182 : BitVec 32 := Scalar.extui v181
  let c0_i32_105 : BitVec 32 := 0#32
  let v183 : BitVec 1 := Scalar.cmpi .slt v42 c0_i32_105
  let v184 : BitVec 32 := Scalar.extui v183
  let v185 : BitVec 32 := Scalar.subi v182 v184
  let c16_i32 : BitVec 32 := 16#32
  let c0_i32_106 : BitVec 32 := 0#32
  let v186 : BitVec 1 := Scalar.cmpi .sgt c16_i32 c0_i32_106
  let v187 : BitVec 32 := Scalar.extui v186
  let c0_i32_107 : BitVec 32 := 0#32
  let v188 : BitVec 1 := Scalar.cmpi .slt c16_i32 c0_i32_107
  let v189 : BitVec 32 := Scalar.extui v188
  let v190 : BitVec 32 := Scalar.subi v187 v189
  let v191 : BitVec 1 := Scalar.cmpi .ne v185 v190
  let v192 : BitVec 32 := Scalar.remsi v42 c16_i32
  let c0_i32_108 : BitVec 32 := 0#32
  let v193 : BitVec 1 := Scalar.cmpi .ne v192 c0_i32_108
  let v194 : BitVec 1 := Scalar.andi v191 v193
  let v180 : BitVec 32 := Scalar.divsi v42 c16_i32
  let c1_i32_109 : BitVec 32 := 1#32
  let v195 : BitVec 32 := Scalar.subi v180 c1_i32_109
  let v196 : BitVec 32 := Scalar.select v194 v195 v180
  let v197 : BitVec 32 := Scalar.subi v196 c0_i32_111
  let c1_i32_112 : BitVec 32 := 1#32
  let v199 : BitVec 32 := Scalar.divsi v197 c1_i32_112
  let v200 : BitVec 32 := Scalar.muli v199 c1_i32_112
  let v201 : BitVec 32 := Scalar.addi c0_i32_111 v200
  let c1_i32_114 : BitVec 32 := 1#32
  let arg13 : BitVec 32 := Scf.iv v201 c1_i32_114 k0_t2
  let v1355 : BitVec 32 := Scalar.muli c16_i32_949 arg13
  let v1356 : BitVec 32 := Scalar.addi c2_i32_950 v1355
  let c11_i32 : BitVec 32 := 11#32
  let v1357 : BitVec 32 := Scalar.addi v1356 c11_i32
  let c1_i32_972 : BitVec 32 := 1#32
  let v1385 : BitVec 32 := Scalar.subi v1357 c1_i32_972
  let c2_i32_973 : BitVec 32 := 2#32
  let v1386 : BitVec 1 := Scalar.cmpi .slt v1385 c2_i32_973
  let c2_i32_974 : BitVec 32 := 2#32
  let v1387 : BitVec 32 := Scalar.muli c2_i32_974 arg2
  let v1388 : BitVec 32 := Scalar.addi v1387 v1385
  let c2_i32_975 : BitVec 32 := 2#32
  let v1389 : BitVec 32 := Scalar.subi v1385 c2_i32_975
  let v1390 : BitVec 32 := Scalar.select v1386 v1388 v1389
  let c256_i32_976 : BitVec 32 := 256#32
  let v1391 : BitVec 32 := Scalar.muli v1390 c256_i32_976
  v1391
def k0_mult60 (i : grid0.Coords) (k0_t2 : Fin (k0_t2_loop i).trips) : BitVec 32 :=
  let c2_i32_1018 : BitVec 32 := 2#32
  let c16_i32_1017 : BitVec 32 := 16#32
  let c0_i32_111 : BitVec 32 := 0#32
  let c2_i32 : BitVec 32 := 2#32
  let arg2 : BitVec 32 := BitVec.ofNat 32 (i 2).val
  let v42 : BitVec 32 := Scalar.muli c2_i32 arg2
  let c0_i32_104 : BitVec 32 := 0#32
  let v181 : BitVec 1 := Scalar.cmpi .sgt v42 c0_i32_104
  let v182 : BitVec 32 := Scalar.extui v181
  let c0_i32_105 : BitVec 32 := 0#32
  let v183 : BitVec 1 := Scalar.cmpi .slt v42 c0_i32_105
  let v184 : BitVec 32 := Scalar.extui v183
  let v185 : BitVec 32 := Scalar.subi v182 v184
  let c16_i32 : BitVec 32 := 16#32
  let c0_i32_106 : BitVec 32 := 0#32
  let v186 : BitVec 1 := Scalar.cmpi .sgt c16_i32 c0_i32_106
  let v187 : BitVec 32 := Scalar.extui v186
  let c0_i32_107 : BitVec 32 := 0#32
  let v188 : BitVec 1 := Scalar.cmpi .slt c16_i32 c0_i32_107
  let v189 : BitVec 32 := Scalar.extui v188
  let v190 : BitVec 32 := Scalar.subi v187 v189
  let v191 : BitVec 1 := Scalar.cmpi .ne v185 v190
  let v192 : BitVec 32 := Scalar.remsi v42 c16_i32
  let c0_i32_108 : BitVec 32 := 0#32
  let v193 : BitVec 1 := Scalar.cmpi .ne v192 c0_i32_108
  let v194 : BitVec 1 := Scalar.andi v191 v193
  let v180 : BitVec 32 := Scalar.divsi v42 c16_i32
  let c1_i32_109 : BitVec 32 := 1#32
  let v195 : BitVec 32 := Scalar.subi v180 c1_i32_109
  let v196 : BitVec 32 := Scalar.select v194 v195 v180
  let v197 : BitVec 32 := Scalar.subi v196 c0_i32_111
  let c1_i32_112 : BitVec 32 := 1#32
  let v199 : BitVec 32 := Scalar.divsi v197 c1_i32_112
  let v200 : BitVec 32 := Scalar.muli v199 c1_i32_112
  let v201 : BitVec 32 := Scalar.addi c0_i32_111 v200
  let c1_i32_114 : BitVec 32 := 1#32
  let arg13 : BitVec 32 := Scf.iv v201 c1_i32_114 k0_t2
  let v1449 : BitVec 32 := Scalar.muli c16_i32_1017 arg13
  let v1450 : BitVec 32 := Scalar.addi c2_i32_1018 v1449
  let c12_i32 : BitVec 32 := 12#32
  let v1451 : BitVec 32 := Scalar.addi v1450 c12_i32
  let c2_i32_1019 : BitVec 32 := 2#32
  let v1452 : BitVec 1 := Scalar.cmpi .slt v1451 c2_i32_1019
  let c2_i32_1020 : BitVec 32 := 2#32
  let v1453 : BitVec 32 := Scalar.muli c2_i32_1020 arg2
  let v1454 : BitVec 32 := Scalar.addi v1453 v1451
  let c2_i32_1021 : BitVec 32 := 2#32
  let v1455 : BitVec 32 := Scalar.subi v1451 c2_i32_1021
  let v1456 : BitVec 32 := Scalar.select v1452 v1454 v1455
  let c256_i32_1022 : BitVec 32 := 256#32
  let v1457 : BitVec 32 := Scalar.muli v1456 c256_i32_1022
  v1457
def k0_mult61 (i : grid0.Coords) (k0_t2 : Fin (k0_t2_loop i).trips) : BitVec 32 :=
  let c2_i32_1018 : BitVec 32 := 2#32
  let c16_i32_1017 : BitVec 32 := 16#32
  let c0_i32_111 : BitVec 32 := 0#32
  let c2_i32 : BitVec 32 := 2#32
  let arg2 : BitVec 32 := BitVec.ofNat 32 (i 2).val
  let v42 : BitVec 32 := Scalar.muli c2_i32 arg2
  let c0_i32_104 : BitVec 32 := 0#32
  let v181 : BitVec 1 := Scalar.cmpi .sgt v42 c0_i32_104
  let v182 : BitVec 32 := Scalar.extui v181
  let c0_i32_105 : BitVec 32 := 0#32
  let v183 : BitVec 1 := Scalar.cmpi .slt v42 c0_i32_105
  let v184 : BitVec 32 := Scalar.extui v183
  let v185 : BitVec 32 := Scalar.subi v182 v184
  let c16_i32 : BitVec 32 := 16#32
  let c0_i32_106 : BitVec 32 := 0#32
  let v186 : BitVec 1 := Scalar.cmpi .sgt c16_i32 c0_i32_106
  let v187 : BitVec 32 := Scalar.extui v186
  let c0_i32_107 : BitVec 32 := 0#32
  let v188 : BitVec 1 := Scalar.cmpi .slt c16_i32 c0_i32_107
  let v189 : BitVec 32 := Scalar.extui v188
  let v190 : BitVec 32 := Scalar.subi v187 v189
  let v191 : BitVec 1 := Scalar.cmpi .ne v185 v190
  let v192 : BitVec 32 := Scalar.remsi v42 c16_i32
  let c0_i32_108 : BitVec 32 := 0#32
  let v193 : BitVec 1 := Scalar.cmpi .ne v192 c0_i32_108
  let v194 : BitVec 1 := Scalar.andi v191 v193
  let v180 : BitVec 32 := Scalar.divsi v42 c16_i32
  let c1_i32_109 : BitVec 32 := 1#32
  let v195 : BitVec 32 := Scalar.subi v180 c1_i32_109
  let v196 : BitVec 32 := Scalar.select v194 v195 v180
  let v197 : BitVec 32 := Scalar.subi v196 c0_i32_111
  let c1_i32_112 : BitVec 32 := 1#32
  let v199 : BitVec 32 := Scalar.divsi v197 c1_i32_112
  let v200 : BitVec 32 := Scalar.muli v199 c1_i32_112
  let v201 : BitVec 32 := Scalar.addi c0_i32_111 v200
  let c1_i32_114 : BitVec 32 := 1#32
  let arg13 : BitVec 32 := Scf.iv v201 c1_i32_114 k0_t2
  let v1449 : BitVec 32 := Scalar.muli c16_i32_1017 arg13
  let v1450 : BitVec 32 := Scalar.addi c2_i32_1018 v1449
  let c12_i32 : BitVec 32 := 12#32
  let v1451 : BitVec 32 := Scalar.addi v1450 c12_i32
  let c1_i32_1040 : BitVec 32 := 1#32
  let v1479 : BitVec 32 := Scalar.subi v1451 c1_i32_1040
  let c2_i32_1041 : BitVec 32 := 2#32
  let v1480 : BitVec 1 := Scalar.cmpi .slt v1479 c2_i32_1041
  let c2_i32_1042 : BitVec 32 := 2#32
  let v1481 : BitVec 32 := Scalar.muli c2_i32_1042 arg2
  let v1482 : BitVec 32 := Scalar.addi v1481 v1479
  let c2_i32_1043 : BitVec 32 := 2#32
  let v1483 : BitVec 32 := Scalar.subi v1479 c2_i32_1043
  let v1484 : BitVec 32 := Scalar.select v1480 v1482 v1483
  let c256_i32_1044 : BitVec 32 := 256#32
  let v1485 : BitVec 32 := Scalar.muli v1484 c256_i32_1044
  v1485
def k0_mult62 (i : grid0.Coords) (k0_t2 : Fin (k0_t2_loop i).trips) : BitVec 32 :=
  let c2_i32_1086 : BitVec 32 := 2#32
  let c16_i32_1085 : BitVec 32 := 16#32
  let c0_i32_111 : BitVec 32 := 0#32
  let c2_i32 : BitVec 32 := 2#32
  let arg2 : BitVec 32 := BitVec.ofNat 32 (i 2).val
  let v42 : BitVec 32 := Scalar.muli c2_i32 arg2
  let c0_i32_104 : BitVec 32 := 0#32
  let v181 : BitVec 1 := Scalar.cmpi .sgt v42 c0_i32_104
  let v182 : BitVec 32 := Scalar.extui v181
  let c0_i32_105 : BitVec 32 := 0#32
  let v183 : BitVec 1 := Scalar.cmpi .slt v42 c0_i32_105
  let v184 : BitVec 32 := Scalar.extui v183
  let v185 : BitVec 32 := Scalar.subi v182 v184
  let c16_i32 : BitVec 32 := 16#32
  let c0_i32_106 : BitVec 32 := 0#32
  let v186 : BitVec 1 := Scalar.cmpi .sgt c16_i32 c0_i32_106
  let v187 : BitVec 32 := Scalar.extui v186
  let c0_i32_107 : BitVec 32 := 0#32
  let v188 : BitVec 1 := Scalar.cmpi .slt c16_i32 c0_i32_107
  let v189 : BitVec 32 := Scalar.extui v188
  let v190 : BitVec 32 := Scalar.subi v187 v189
  let v191 : BitVec 1 := Scalar.cmpi .ne v185 v190
  let v192 : BitVec 32 := Scalar.remsi v42 c16_i32
  let c0_i32_108 : BitVec 32 := 0#32
  let v193 : BitVec 1 := Scalar.cmpi .ne v192 c0_i32_108
  let v194 : BitVec 1 := Scalar.andi v191 v193
  let v180 : BitVec 32 := Scalar.divsi v42 c16_i32
  let c1_i32_109 : BitVec 32 := 1#32
  let v195 : BitVec 32 := Scalar.subi v180 c1_i32_109
  let v196 : BitVec 32 := Scalar.select v194 v195 v180
  let v197 : BitVec 32 := Scalar.subi v196 c0_i32_111
  let c1_i32_112 : BitVec 32 := 1#32
  let v199 : BitVec 32 := Scalar.divsi v197 c1_i32_112
  let v200 : BitVec 32 := Scalar.muli v199 c1_i32_112
  let v201 : BitVec 32 := Scalar.addi c0_i32_111 v200
  let c1_i32_114 : BitVec 32 := 1#32
  let arg13 : BitVec 32 := Scf.iv v201 c1_i32_114 k0_t2
  let v1543 : BitVec 32 := Scalar.muli c16_i32_1085 arg13
  let v1544 : BitVec 32 := Scalar.addi c2_i32_1086 v1543
  let c13_i32 : BitVec 32 := 13#32
  let v1545 : BitVec 32 := Scalar.addi v1544 c13_i32
  let c2_i32_1087 : BitVec 32 := 2#32
  let v1546 : BitVec 1 := Scalar.cmpi .slt v1545 c2_i32_1087
  let c2_i32_1088 : BitVec 32 := 2#32
  let v1547 : BitVec 32 := Scalar.muli c2_i32_1088 arg2
  let v1548 : BitVec 32 := Scalar.addi v1547 v1545
  let c2_i32_1089 : BitVec 32 := 2#32
  let v1549 : BitVec 32 := Scalar.subi v1545 c2_i32_1089
  let v1550 : BitVec 32 := Scalar.select v1546 v1548 v1549
  let c256_i32_1090 : BitVec 32 := 256#32
  let v1551 : BitVec 32 := Scalar.muli v1550 c256_i32_1090
  v1551
def k0_mult63 (i : grid0.Coords) (k0_t2 : Fin (k0_t2_loop i).trips) : BitVec 32 :=
  let c2_i32_1086 : BitVec 32 := 2#32
  let c16_i32_1085 : BitVec 32 := 16#32
  let c0_i32_111 : BitVec 32 := 0#32
  let c2_i32 : BitVec 32 := 2#32
  let arg2 : BitVec 32 := BitVec.ofNat 32 (i 2).val
  let v42 : BitVec 32 := Scalar.muli c2_i32 arg2
  let c0_i32_104 : BitVec 32 := 0#32
  let v181 : BitVec 1 := Scalar.cmpi .sgt v42 c0_i32_104
  let v182 : BitVec 32 := Scalar.extui v181
  let c0_i32_105 : BitVec 32 := 0#32
  let v183 : BitVec 1 := Scalar.cmpi .slt v42 c0_i32_105
  let v184 : BitVec 32 := Scalar.extui v183
  let v185 : BitVec 32 := Scalar.subi v182 v184
  let c16_i32 : BitVec 32 := 16#32
  let c0_i32_106 : BitVec 32 := 0#32
  let v186 : BitVec 1 := Scalar.cmpi .sgt c16_i32 c0_i32_106
  let v187 : BitVec 32 := Scalar.extui v186
  let c0_i32_107 : BitVec 32 := 0#32
  let v188 : BitVec 1 := Scalar.cmpi .slt c16_i32 c0_i32_107
  let v189 : BitVec 32 := Scalar.extui v188
  let v190 : BitVec 32 := Scalar.subi v187 v189
  let v191 : BitVec 1 := Scalar.cmpi .ne v185 v190
  let v192 : BitVec 32 := Scalar.remsi v42 c16_i32
  let c0_i32_108 : BitVec 32 := 0#32
  let v193 : BitVec 1 := Scalar.cmpi .ne v192 c0_i32_108
  let v194 : BitVec 1 := Scalar.andi v191 v193
  let v180 : BitVec 32 := Scalar.divsi v42 c16_i32
  let c1_i32_109 : BitVec 32 := 1#32
  let v195 : BitVec 32 := Scalar.subi v180 c1_i32_109
  let v196 : BitVec 32 := Scalar.select v194 v195 v180
  let v197 : BitVec 32 := Scalar.subi v196 c0_i32_111
  let c1_i32_112 : BitVec 32 := 1#32
  let v199 : BitVec 32 := Scalar.divsi v197 c1_i32_112
  let v200 : BitVec 32 := Scalar.muli v199 c1_i32_112
  let v201 : BitVec 32 := Scalar.addi c0_i32_111 v200
  let c1_i32_114 : BitVec 32 := 1#32
  let arg13 : BitVec 32 := Scf.iv v201 c1_i32_114 k0_t2
  let v1543 : BitVec 32 := Scalar.muli c16_i32_1085 arg13
  let v1544 : BitVec 32 := Scalar.addi c2_i32_1086 v1543
  let c13_i32 : BitVec 32 := 13#32
  let v1545 : BitVec 32 := Scalar.addi v1544 c13_i32
  let c1_i32_1108 : BitVec 32 := 1#32
  let v1573 : BitVec 32 := Scalar.subi v1545 c1_i32_1108
  let c2_i32_1109 : BitVec 32 := 2#32
  let v1574 : BitVec 1 := Scalar.cmpi .slt v1573 c2_i32_1109
  let c2_i32_1110 : BitVec 32 := 2#32
  let v1575 : BitVec 32 := Scalar.muli c2_i32_1110 arg2
  let v1576 : BitVec 32 := Scalar.addi v1575 v1573
  let c2_i32_1111 : BitVec 32 := 2#32
  let v1577 : BitVec 32 := Scalar.subi v1573 c2_i32_1111
  let v1578 : BitVec 32 := Scalar.select v1574 v1576 v1577
  let c256_i32_1112 : BitVec 32 := 256#32
  let v1579 : BitVec 32 := Scalar.muli v1578 c256_i32_1112
  v1579
def k0_mult64 (i : grid0.Coords) (k0_t2 : Fin (k0_t2_loop i).trips) : BitVec 32 :=
  let c2_i32_1154 : BitVec 32 := 2#32
  let c16_i32_1153 : BitVec 32 := 16#32
  let c0_i32_111 : BitVec 32 := 0#32
  let c2_i32 : BitVec 32 := 2#32
  let arg2 : BitVec 32 := BitVec.ofNat 32 (i 2).val
  let v42 : BitVec 32 := Scalar.muli c2_i32 arg2
  let c0_i32_104 : BitVec 32 := 0#32
  let v181 : BitVec 1 := Scalar.cmpi .sgt v42 c0_i32_104
  let v182 : BitVec 32 := Scalar.extui v181
  let c0_i32_105 : BitVec 32 := 0#32
  let v183 : BitVec 1 := Scalar.cmpi .slt v42 c0_i32_105
  let v184 : BitVec 32 := Scalar.extui v183
  let v185 : BitVec 32 := Scalar.subi v182 v184
  let c16_i32 : BitVec 32 := 16#32
  let c0_i32_106 : BitVec 32 := 0#32
  let v186 : BitVec 1 := Scalar.cmpi .sgt c16_i32 c0_i32_106
  let v187 : BitVec 32 := Scalar.extui v186
  let c0_i32_107 : BitVec 32 := 0#32
  let v188 : BitVec 1 := Scalar.cmpi .slt c16_i32 c0_i32_107
  let v189 : BitVec 32 := Scalar.extui v188
  let v190 : BitVec 32 := Scalar.subi v187 v189
  let v191 : BitVec 1 := Scalar.cmpi .ne v185 v190
  let v192 : BitVec 32 := Scalar.remsi v42 c16_i32
  let c0_i32_108 : BitVec 32 := 0#32
  let v193 : BitVec 1 := Scalar.cmpi .ne v192 c0_i32_108
  let v194 : BitVec 1 := Scalar.andi v191 v193
  let v180 : BitVec 32 := Scalar.divsi v42 c16_i32
  let c1_i32_109 : BitVec 32 := 1#32
  let v195 : BitVec 32 := Scalar.subi v180 c1_i32_109
  let v196 : BitVec 32 := Scalar.select v194 v195 v180
  let v197 : BitVec 32 := Scalar.subi v196 c0_i32_111
  let c1_i32_112 : BitVec 32 := 1#32
  let v199 : BitVec 32 := Scalar.divsi v197 c1_i32_112
  let v200 : BitVec 32 := Scalar.muli v199 c1_i32_112
  let v201 : BitVec 32 := Scalar.addi c0_i32_111 v200
  let c1_i32_114 : BitVec 32 := 1#32
  let arg13 : BitVec 32 := Scf.iv v201 c1_i32_114 k0_t2
  let v1637 : BitVec 32 := Scalar.muli c16_i32_1153 arg13
  let v1638 : BitVec 32 := Scalar.addi c2_i32_1154 v1637
  let c14_i32 : BitVec 32 := 14#32
  let v1639 : BitVec 32 := Scalar.addi v1638 c14_i32
  let c2_i32_1155 : BitVec 32 := 2#32
  let v1640 : BitVec 1 := Scalar.cmpi .slt v1639 c2_i32_1155
  let c2_i32_1156 : BitVec 32 := 2#32
  let v1641 : BitVec 32 := Scalar.muli c2_i32_1156 arg2
  let v1642 : BitVec 32 := Scalar.addi v1641 v1639
  let c2_i32_1157 : BitVec 32 := 2#32
  let v1643 : BitVec 32 := Scalar.subi v1639 c2_i32_1157
  let v1644 : BitVec 32 := Scalar.select v1640 v1642 v1643
  let c256_i32_1158 : BitVec 32 := 256#32
  let v1645 : BitVec 32 := Scalar.muli v1644 c256_i32_1158
  v1645
def k0_mult65 (i : grid0.Coords) (k0_t2 : Fin (k0_t2_loop i).trips) : BitVec 32 :=
  let c2_i32_1154 : BitVec 32 := 2#32
  let c16_i32_1153 : BitVec 32 := 16#32
  let c0_i32_111 : BitVec 32 := 0#32
  let c2_i32 : BitVec 32 := 2#32
  let arg2 : BitVec 32 := BitVec.ofNat 32 (i 2).val
  let v42 : BitVec 32 := Scalar.muli c2_i32 arg2
  let c0_i32_104 : BitVec 32 := 0#32
  let v181 : BitVec 1 := Scalar.cmpi .sgt v42 c0_i32_104
  let v182 : BitVec 32 := Scalar.extui v181
  let c0_i32_105 : BitVec 32 := 0#32
  let v183 : BitVec 1 := Scalar.cmpi .slt v42 c0_i32_105
  let v184 : BitVec 32 := Scalar.extui v183
  let v185 : BitVec 32 := Scalar.subi v182 v184
  let c16_i32 : BitVec 32 := 16#32
  let c0_i32_106 : BitVec 32 := 0#32
  let v186 : BitVec 1 := Scalar.cmpi .sgt c16_i32 c0_i32_106
  let v187 : BitVec 32 := Scalar.extui v186
  let c0_i32_107 : BitVec 32 := 0#32
  let v188 : BitVec 1 := Scalar.cmpi .slt c16_i32 c0_i32_107
  let v189 : BitVec 32 := Scalar.extui v188
  let v190 : BitVec 32 := Scalar.subi v187 v189
  let v191 : BitVec 1 := Scalar.cmpi .ne v185 v190
  let v192 : BitVec 32 := Scalar.remsi v42 c16_i32
  let c0_i32_108 : BitVec 32 := 0#32
  let v193 : BitVec 1 := Scalar.cmpi .ne v192 c0_i32_108
  let v194 : BitVec 1 := Scalar.andi v191 v193
  let v180 : BitVec 32 := Scalar.divsi v42 c16_i32
  let c1_i32_109 : BitVec 32 := 1#32
  let v195 : BitVec 32 := Scalar.subi v180 c1_i32_109
  let v196 : BitVec 32 := Scalar.select v194 v195 v180
  let v197 : BitVec 32 := Scalar.subi v196 c0_i32_111
  let c1_i32_112 : BitVec 32 := 1#32
  let v199 : BitVec 32 := Scalar.divsi v197 c1_i32_112
  let v200 : BitVec 32 := Scalar.muli v199 c1_i32_112
  let v201 : BitVec 32 := Scalar.addi c0_i32_111 v200
  let c1_i32_114 : BitVec 32 := 1#32
  let arg13 : BitVec 32 := Scf.iv v201 c1_i32_114 k0_t2
  let v1637 : BitVec 32 := Scalar.muli c16_i32_1153 arg13
  let v1638 : BitVec 32 := Scalar.addi c2_i32_1154 v1637
  let c14_i32 : BitVec 32 := 14#32
  let v1639 : BitVec 32 := Scalar.addi v1638 c14_i32
  let c1_i32_1176 : BitVec 32 := 1#32
  let v1667 : BitVec 32 := Scalar.subi v1639 c1_i32_1176
  let c2_i32_1177 : BitVec 32 := 2#32
  let v1668 : BitVec 1 := Scalar.cmpi .slt v1667 c2_i32_1177
  let c2_i32_1178 : BitVec 32 := 2#32
  let v1669 : BitVec 32 := Scalar.muli c2_i32_1178 arg2
  let v1670 : BitVec 32 := Scalar.addi v1669 v1667
  let c2_i32_1179 : BitVec 32 := 2#32
  let v1671 : BitVec 32 := Scalar.subi v1667 c2_i32_1179
  let v1672 : BitVec 32 := Scalar.select v1668 v1670 v1671
  let c256_i32_1180 : BitVec 32 := 256#32
  let v1673 : BitVec 32 := Scalar.muli v1672 c256_i32_1180
  v1673
def k0_mult66 (i : grid0.Coords) (k0_t2 : Fin (k0_t2_loop i).trips) : BitVec 32 :=
  let c2_i32_1222 : BitVec 32 := 2#32
  let c16_i32_1221 : BitVec 32 := 16#32
  let c0_i32_111 : BitVec 32 := 0#32
  let c2_i32 : BitVec 32 := 2#32
  let arg2 : BitVec 32 := BitVec.ofNat 32 (i 2).val
  let v42 : BitVec 32 := Scalar.muli c2_i32 arg2
  let c0_i32_104 : BitVec 32 := 0#32
  let v181 : BitVec 1 := Scalar.cmpi .sgt v42 c0_i32_104
  let v182 : BitVec 32 := Scalar.extui v181
  let c0_i32_105 : BitVec 32 := 0#32
  let v183 : BitVec 1 := Scalar.cmpi .slt v42 c0_i32_105
  let v184 : BitVec 32 := Scalar.extui v183
  let v185 : BitVec 32 := Scalar.subi v182 v184
  let c16_i32 : BitVec 32 := 16#32
  let c0_i32_106 : BitVec 32 := 0#32
  let v186 : BitVec 1 := Scalar.cmpi .sgt c16_i32 c0_i32_106
  let v187 : BitVec 32 := Scalar.extui v186
  let c0_i32_107 : BitVec 32 := 0#32
  let v188 : BitVec 1 := Scalar.cmpi .slt c16_i32 c0_i32_107
  let v189 : BitVec 32 := Scalar.extui v188
  let v190 : BitVec 32 := Scalar.subi v187 v189
  let v191 : BitVec 1 := Scalar.cmpi .ne v185 v190
  let v192 : BitVec 32 := Scalar.remsi v42 c16_i32
  let c0_i32_108 : BitVec 32 := 0#32
  let v193 : BitVec 1 := Scalar.cmpi .ne v192 c0_i32_108
  let v194 : BitVec 1 := Scalar.andi v191 v193
  let v180 : BitVec 32 := Scalar.divsi v42 c16_i32
  let c1_i32_109 : BitVec 32 := 1#32
  let v195 : BitVec 32 := Scalar.subi v180 c1_i32_109
  let v196 : BitVec 32 := Scalar.select v194 v195 v180
  let v197 : BitVec 32 := Scalar.subi v196 c0_i32_111
  let c1_i32_112 : BitVec 32 := 1#32
  let v199 : BitVec 32 := Scalar.divsi v197 c1_i32_112
  let v200 : BitVec 32 := Scalar.muli v199 c1_i32_112
  let v201 : BitVec 32 := Scalar.addi c0_i32_111 v200
  let c1_i32_114 : BitVec 32 := 1#32
  let arg13 : BitVec 32 := Scf.iv v201 c1_i32_114 k0_t2
  let v1731 : BitVec 32 := Scalar.muli c16_i32_1221 arg13
  let v1732 : BitVec 32 := Scalar.addi c2_i32_1222 v1731
  let c15_i32 : BitVec 32 := 15#32
  let v1733 : BitVec 32 := Scalar.addi v1732 c15_i32
  let c2_i32_1223 : BitVec 32 := 2#32
  let v1734 : BitVec 1 := Scalar.cmpi .slt v1733 c2_i32_1223
  let c2_i32_1224 : BitVec 32 := 2#32
  let v1735 : BitVec 32 := Scalar.muli c2_i32_1224 arg2
  let v1736 : BitVec 32 := Scalar.addi v1735 v1733
  let c2_i32_1225 : BitVec 32 := 2#32
  let v1737 : BitVec 32 := Scalar.subi v1733 c2_i32_1225
  let v1738 : BitVec 32 := Scalar.select v1734 v1736 v1737
  let c256_i32_1226 : BitVec 32 := 256#32
  let v1739 : BitVec 32 := Scalar.muli v1738 c256_i32_1226
  v1739
def k0_mult67 (i : grid0.Coords) (k0_t2 : Fin (k0_t2_loop i).trips) : BitVec 32 :=
  let c2_i32_1222 : BitVec 32 := 2#32
  let c16_i32_1221 : BitVec 32 := 16#32
  let c0_i32_111 : BitVec 32 := 0#32
  let c2_i32 : BitVec 32 := 2#32
  let arg2 : BitVec 32 := BitVec.ofNat 32 (i 2).val
  let v42 : BitVec 32 := Scalar.muli c2_i32 arg2
  let c0_i32_104 : BitVec 32 := 0#32
  let v181 : BitVec 1 := Scalar.cmpi .sgt v42 c0_i32_104
  let v182 : BitVec 32 := Scalar.extui v181
  let c0_i32_105 : BitVec 32 := 0#32
  let v183 : BitVec 1 := Scalar.cmpi .slt v42 c0_i32_105
  let v184 : BitVec 32 := Scalar.extui v183
  let v185 : BitVec 32 := Scalar.subi v182 v184
  let c16_i32 : BitVec 32 := 16#32
  let c0_i32_106 : BitVec 32 := 0#32
  let v186 : BitVec 1 := Scalar.cmpi .sgt c16_i32 c0_i32_106
  let v187 : BitVec 32 := Scalar.extui v186
  let c0_i32_107 : BitVec 32 := 0#32
  let v188 : BitVec 1 := Scalar.cmpi .slt c16_i32 c0_i32_107
  let v189 : BitVec 32 := Scalar.extui v188
  let v190 : BitVec 32 := Scalar.subi v187 v189
  let v191 : BitVec 1 := Scalar.cmpi .ne v185 v190
  let v192 : BitVec 32 := Scalar.remsi v42 c16_i32
  let c0_i32_108 : BitVec 32 := 0#32
  let v193 : BitVec 1 := Scalar.cmpi .ne v192 c0_i32_108
  let v194 : BitVec 1 := Scalar.andi v191 v193
  let v180 : BitVec 32 := Scalar.divsi v42 c16_i32
  let c1_i32_109 : BitVec 32 := 1#32
  let v195 : BitVec 32 := Scalar.subi v180 c1_i32_109
  let v196 : BitVec 32 := Scalar.select v194 v195 v180
  let v197 : BitVec 32 := Scalar.subi v196 c0_i32_111
  let c1_i32_112 : BitVec 32 := 1#32
  let v199 : BitVec 32 := Scalar.divsi v197 c1_i32_112
  let v200 : BitVec 32 := Scalar.muli v199 c1_i32_112
  let v201 : BitVec 32 := Scalar.addi c0_i32_111 v200
  let c1_i32_114 : BitVec 32 := 1#32
  let arg13 : BitVec 32 := Scf.iv v201 c1_i32_114 k0_t2
  let v1731 : BitVec 32 := Scalar.muli c16_i32_1221 arg13
  let v1732 : BitVec 32 := Scalar.addi c2_i32_1222 v1731
  let c15_i32 : BitVec 32 := 15#32
  let v1733 : BitVec 32 := Scalar.addi v1732 c15_i32
  let c1_i32_1244 : BitVec 32 := 1#32
  let v1761 : BitVec 32 := Scalar.subi v1733 c1_i32_1244
  let c2_i32_1245 : BitVec 32 := 2#32
  let v1762 : BitVec 1 := Scalar.cmpi .slt v1761 c2_i32_1245
  let c2_i32_1246 : BitVec 32 := 2#32
  let v1763 : BitVec 32 := Scalar.muli c2_i32_1246 arg2
  let v1764 : BitVec 32 := Scalar.addi v1763 v1761
  let c2_i32_1247 : BitVec 32 := 2#32
  let v1765 : BitVec 32 := Scalar.subi v1761 c2_i32_1247
  let v1766 : BitVec 32 := Scalar.select v1762 v1764 v1765
  let c256_i32_1248 : BitVec 32 := 256#32
  let v1767 : BitVec 32 := Scalar.muli v1766 c256_i32_1248
  v1767
def k0_cond1 (i : grid0.Coords) : BitVec 1 :=
  let c2_i32 : BitVec 32 := 2#32
  let arg2 : BitVec 32 := BitVec.ofNat 32 (i 2).val
  let v42 : BitVec 32 := Scalar.muli c2_i32 arg2
  let c8_i32 : BitVec 32 := 8#32
  let v220 : BitVec 32 := Scalar.andi v42 c8_i32
  let c0_i32_123 : BitVec 32 := 0#32
  let v221 : BitVec 1 := Scalar.cmpi .ne v220 c0_i32_123
  let v222 : BitVec 32 := Scalar.extui v221
  let c0_i32_124 : BitVec 32 := 0#32
  let v223 : BitVec 1 := Scalar.cmpi .ne v222 c0_i32_124
  v223

def k0_mult68 (i : grid0.Coords) : BitVec 32 :=
  let c2_i32_194 : BitVec 32 := 2#32
  let c2_i32 : BitVec 32 := 2#32
  let arg2 : BitVec 32 := BitVec.ofNat 32 (i 2).val
  let v42 : BitVec 32 := Scalar.muli c2_i32 arg2
  let c0_i32_116 : BitVec 32 := 0#32
  let v203 : BitVec 1 := Scalar.cmpi .sgt v42 c0_i32_116
  let v204 : BitVec 32 := Scalar.extui v203
  let c0_i32_117 : BitVec 32 := 0#32
  let v205 : BitVec 1 := Scalar.cmpi .slt v42 c0_i32_117
  let v206 : BitVec 32 := Scalar.extui v205
  let v207 : BitVec 32 := Scalar.subi v204 v206
  let c16_i32_115 : BitVec 32 := 16#32
  let c0_i32_118 : BitVec 32 := 0#32
  let v208 : BitVec 1 := Scalar.cmpi .sgt c16_i32_115 c0_i32_118
  let v209 : BitVec 32 := Scalar.extui v208
  let c0_i32_119 : BitVec 32 := 0#32
  let v210 : BitVec 1 := Scalar.cmpi .slt c16_i32_115 c0_i32_119
  let v211 : BitVec 32 := Scalar.extui v210
  let v212 : BitVec 32 := Scalar.subi v209 v211
  let v213 : BitVec 1 := Scalar.cmpi .ne v207 v212
  let v214 : BitVec 32 := Scalar.remsi v42 c16_i32_115
  let c0_i32_120 : BitVec 32 := 0#32
  let v215 : BitVec 1 := Scalar.cmpi .ne v214 c0_i32_120
  let v216 : BitVec 1 := Scalar.andi v213 v215
  let v202 : BitVec 32 := Scalar.divsi v42 c16_i32_115
  let c1_i32_121 : BitVec 32 := 1#32
  let v217 : BitVec 32 := Scalar.subi v202 c1_i32_121
  let v218 : BitVec 32 := Scalar.select v216 v217 v202
  let c16_i32_122 : BitVec 32 := 16#32
  let v219 : BitVec 32 := Scalar.muli v218 c16_i32_122
  let v321 : BitVec 32 := Scalar.addi c2_i32_194 v219
  let c0_i32_195 : BitVec 32 := 0#32
  let v322 : BitVec 32 := Scalar.addi v321 c0_i32_195
  let c2_i32_196 : BitVec 32 := 2#32
  let v323 : BitVec 1 := Scalar.cmpi .slt v322 c2_i32_196
  let c2_i32_197 : BitVec 32 := 2#32
  let v324 : BitVec 32 := Scalar.muli c2_i32_197 arg2
  let v325 : BitVec 32 := Scalar.addi v324 v322
  let c2_i32_198 : BitVec 32 := 2#32
  let v326 : BitVec 32 := Scalar.subi v322 c2_i32_198
  let v327 : BitVec 32 := Scalar.select v323 v325 v326
  let c256_i32_199 : BitVec 32 := 256#32
  let v328 : BitVec 32 := Scalar.muli v327 c256_i32_199
  v328
def k0_off11 (i : grid0.Coords) (c0_i32_195 : BitVec 32) : Fin 2 → Nat :=
  let c2_i32_194 : BitVec 32 := 2#32
  let c2_i32 : BitVec 32 := 2#32
  let arg2 : BitVec 32 := BitVec.ofNat 32 (i 2).val
  let v42 : BitVec 32 := Scalar.muli c2_i32 arg2
  let c0_i32_116 : BitVec 32 := 0#32
  let v203 : BitVec 1 := Scalar.cmpi .sgt v42 c0_i32_116
  let v204 : BitVec 32 := Scalar.extui v203
  let c0_i32_117 : BitVec 32 := 0#32
  let v205 : BitVec 1 := Scalar.cmpi .slt v42 c0_i32_117
  let v206 : BitVec 32 := Scalar.extui v205
  let v207 : BitVec 32 := Scalar.subi v204 v206
  let c16_i32_115 : BitVec 32 := 16#32
  let c0_i32_118 : BitVec 32 := 0#32
  let v208 : BitVec 1 := Scalar.cmpi .sgt c16_i32_115 c0_i32_118
  let v209 : BitVec 32 := Scalar.extui v208
  let c0_i32_119 : BitVec 32 := 0#32
  let v210 : BitVec 1 := Scalar.cmpi .slt c16_i32_115 c0_i32_119
  let v211 : BitVec 32 := Scalar.extui v210
  let v212 : BitVec 32 := Scalar.subi v209 v211
  let v213 : BitVec 1 := Scalar.cmpi .ne v207 v212
  let v214 : BitVec 32 := Scalar.remsi v42 c16_i32_115
  let c0_i32_120 : BitVec 32 := 0#32
  let v215 : BitVec 1 := Scalar.cmpi .ne v214 c0_i32_120
  let v216 : BitVec 1 := Scalar.andi v213 v215
  let v202 : BitVec 32 := Scalar.divsi v42 c16_i32_115
  let c1_i32_121 : BitVec 32 := 1#32
  let v217 : BitVec 32 := Scalar.subi v202 c1_i32_121
  let v218 : BitVec 32 := Scalar.select v216 v217 v202
  let c16_i32_122 : BitVec 32 := 16#32
  let v219 : BitVec 32 := Scalar.muli v218 c16_i32_122
  let v321 : BitVec 32 := Scalar.addi c2_i32_194 v219
  let v322 : BitVec 32 := Scalar.addi v321 c0_i32_195
  let c2_i32_196 : BitVec 32 := 2#32
  let v323 : BitVec 1 := Scalar.cmpi .slt v322 c2_i32_196
  let c2_i32_197 : BitVec 32 := 2#32
  let v324 : BitVec 32 := Scalar.muli c2_i32_197 arg2
  let v325 : BitVec 32 := Scalar.addi v324 v322
  let c2_i32_198 : BitVec 32 := 2#32
  let v326 : BitVec 32 := Scalar.subi v322 c2_i32_198
  let v327 : BitVec 32 := Scalar.select v323 v325 v326
  let c256_i32_199 : BitVec 32 := 256#32
  let v328 : BitVec 32 := Scalar.muli v327 c256_i32_199
  let v329 : BitVec 32 := v328
  let v330 : Index := Scalar.indexCast v329
  let c0_200 : Index := 0#32
  ![v330.toNat, 0]
def k0_mult69 (i : grid0.Coords) : BitVec 32 :=
  let c2_i32_194 : BitVec 32 := 2#32
  let c2_i32 : BitVec 32 := 2#32
  let arg2 : BitVec 32 := BitVec.ofNat 32 (i 2).val
  let v42 : BitVec 32 := Scalar.muli c2_i32 arg2
  let c0_i32_116 : BitVec 32 := 0#32
  let v203 : BitVec 1 := Scalar.cmpi .sgt v42 c0_i32_116
  let v204 : BitVec 32 := Scalar.extui v203
  let c0_i32_117 : BitVec 32 := 0#32
  let v205 : BitVec 1 := Scalar.cmpi .slt v42 c0_i32_117
  let v206 : BitVec 32 := Scalar.extui v205
  let v207 : BitVec 32 := Scalar.subi v204 v206
  let c16_i32_115 : BitVec 32 := 16#32
  let c0_i32_118 : BitVec 32 := 0#32
  let v208 : BitVec 1 := Scalar.cmpi .sgt c16_i32_115 c0_i32_118
  let v209 : BitVec 32 := Scalar.extui v208
  let c0_i32_119 : BitVec 32 := 0#32
  let v210 : BitVec 1 := Scalar.cmpi .slt c16_i32_115 c0_i32_119
  let v211 : BitVec 32 := Scalar.extui v210
  let v212 : BitVec 32 := Scalar.subi v209 v211
  let v213 : BitVec 1 := Scalar.cmpi .ne v207 v212
  let v214 : BitVec 32 := Scalar.remsi v42 c16_i32_115
  let c0_i32_120 : BitVec 32 := 0#32
  let v215 : BitVec 1 := Scalar.cmpi .ne v214 c0_i32_120
  let v216 : BitVec 1 := Scalar.andi v213 v215
  let v202 : BitVec 32 := Scalar.divsi v42 c16_i32_115
  let c1_i32_121 : BitVec 32 := 1#32
  let v217 : BitVec 32 := Scalar.subi v202 c1_i32_121
  let v218 : BitVec 32 := Scalar.select v216 v217 v202
  let c16_i32_122 : BitVec 32 := 16#32
  let v219 : BitVec 32 := Scalar.muli v218 c16_i32_122
  let v321 : BitVec 32 := Scalar.addi c2_i32_194 v219
  let c0_i32_195 : BitVec 32 := 0#32
  let v322 : BitVec 32 := Scalar.addi v321 c0_i32_195
  let c1_i32_217 : BitVec 32 := 1#32
  let v350 : BitVec 32 := Scalar.subi v322 c1_i32_217
  let c2_i32_218 : BitVec 32 := 2#32
  let v351 : BitVec 1 := Scalar.cmpi .slt v350 c2_i32_218
  let c2_i32_219 : BitVec 32 := 2#32
  let v352 : BitVec 32 := Scalar.muli c2_i32_219 arg2
  let v353 : BitVec 32 := Scalar.addi v352 v350
  let c2_i32_220 : BitVec 32 := 2#32
  let v354 : BitVec 32 := Scalar.subi v350 c2_i32_220
  let v355 : BitVec 32 := Scalar.select v351 v353 v354
  let c256_i32_221 : BitVec 32 := 256#32
  let v356 : BitVec 32 := Scalar.muli v355 c256_i32_221
  v356
def k0_off12 (i : grid0.Coords) (c0_i32_195 : BitVec 32) : Fin 2 → Nat :=
  let c0_234 : Index := 0#32
  let c2_i32_194 : BitVec 32 := 2#32
  let c2_i32 : BitVec 32 := 2#32
  let arg2 : BitVec 32 := BitVec.ofNat 32 (i 2).val
  let v42 : BitVec 32 := Scalar.muli c2_i32 arg2
  let c0_i32_116 : BitVec 32 := 0#32
  let v203 : BitVec 1 := Scalar.cmpi .sgt v42 c0_i32_116
  let v204 : BitVec 32 := Scalar.extui v203
  let c0_i32_117 : BitVec 32 := 0#32
  let v205 : BitVec 1 := Scalar.cmpi .slt v42 c0_i32_117
  let v206 : BitVec 32 := Scalar.extui v205
  let v207 : BitVec 32 := Scalar.subi v204 v206
  let c16_i32_115 : BitVec 32 := 16#32
  let c0_i32_118 : BitVec 32 := 0#32
  let v208 : BitVec 1 := Scalar.cmpi .sgt c16_i32_115 c0_i32_118
  let v209 : BitVec 32 := Scalar.extui v208
  let c0_i32_119 : BitVec 32 := 0#32
  let v210 : BitVec 1 := Scalar.cmpi .slt c16_i32_115 c0_i32_119
  let v211 : BitVec 32 := Scalar.extui v210
  let v212 : BitVec 32 := Scalar.subi v209 v211
  let v213 : BitVec 1 := Scalar.cmpi .ne v207 v212
  let v214 : BitVec 32 := Scalar.remsi v42 c16_i32_115
  let c0_i32_120 : BitVec 32 := 0#32
  let v215 : BitVec 1 := Scalar.cmpi .ne v214 c0_i32_120
  let v216 : BitVec 1 := Scalar.andi v213 v215
  let v202 : BitVec 32 := Scalar.divsi v42 c16_i32_115
  let c1_i32_121 : BitVec 32 := 1#32
  let v217 : BitVec 32 := Scalar.subi v202 c1_i32_121
  let v218 : BitVec 32 := Scalar.select v216 v217 v202
  let c16_i32_122 : BitVec 32 := 16#32
  let v219 : BitVec 32 := Scalar.muli v218 c16_i32_122
  let v321 : BitVec 32 := Scalar.addi c2_i32_194 v219
  let v322 : BitVec 32 := Scalar.addi v321 c0_i32_195
  let c1_i32_217 : BitVec 32 := 1#32
  let v350 : BitVec 32 := Scalar.subi v322 c1_i32_217
  let c2_i32_218 : BitVec 32 := 2#32
  let v351 : BitVec 1 := Scalar.cmpi .slt v350 c2_i32_218
  let c2_i32_219 : BitVec 32 := 2#32
  let v352 : BitVec 32 := Scalar.muli c2_i32_219 arg2
  let v353 : BitVec 32 := Scalar.addi v352 v350
  let c2_i32_220 : BitVec 32 := 2#32
  let v354 : BitVec 32 := Scalar.subi v350 c2_i32_220
  let v355 : BitVec 32 := Scalar.select v351 v353 v354
  let c256_i32_221 : BitVec 32 := 256#32
  let v356 : BitVec 32 := Scalar.muli v355 c256_i32_221
  let v357 : BitVec 32 := v356
  let v374 : Index := Scalar.indexCast v357
  ![0, v374.toNat]
def k0_off13 (i : grid0.Coords) (c0_i32_195 : BitVec 32) : Fin 2 → Nat :=
  let c64_254 : Index := 64#32
  let c2_i32_194 : BitVec 32 := 2#32
  let c2_i32 : BitVec 32 := 2#32
  let arg2 : BitVec 32 := BitVec.ofNat 32 (i 2).val
  let v42 : BitVec 32 := Scalar.muli c2_i32 arg2
  let c0_i32_116 : BitVec 32 := 0#32
  let v203 : BitVec 1 := Scalar.cmpi .sgt v42 c0_i32_116
  let v204 : BitVec 32 := Scalar.extui v203
  let c0_i32_117 : BitVec 32 := 0#32
  let v205 : BitVec 1 := Scalar.cmpi .slt v42 c0_i32_117
  let v206 : BitVec 32 := Scalar.extui v205
  let v207 : BitVec 32 := Scalar.subi v204 v206
  let c16_i32_115 : BitVec 32 := 16#32
  let c0_i32_118 : BitVec 32 := 0#32
  let v208 : BitVec 1 := Scalar.cmpi .sgt c16_i32_115 c0_i32_118
  let v209 : BitVec 32 := Scalar.extui v208
  let c0_i32_119 : BitVec 32 := 0#32
  let v210 : BitVec 1 := Scalar.cmpi .slt c16_i32_115 c0_i32_119
  let v211 : BitVec 32 := Scalar.extui v210
  let v212 : BitVec 32 := Scalar.subi v209 v211
  let v213 : BitVec 1 := Scalar.cmpi .ne v207 v212
  let v214 : BitVec 32 := Scalar.remsi v42 c16_i32_115
  let c0_i32_120 : BitVec 32 := 0#32
  let v215 : BitVec 1 := Scalar.cmpi .ne v214 c0_i32_120
  let v216 : BitVec 1 := Scalar.andi v213 v215
  let v202 : BitVec 32 := Scalar.divsi v42 c16_i32_115
  let c1_i32_121 : BitVec 32 := 1#32
  let v217 : BitVec 32 := Scalar.subi v202 c1_i32_121
  let v218 : BitVec 32 := Scalar.select v216 v217 v202
  let c16_i32_122 : BitVec 32 := 16#32
  let v219 : BitVec 32 := Scalar.muli v218 c16_i32_122
  let v321 : BitVec 32 := Scalar.addi c2_i32_194 v219
  let v322 : BitVec 32 := Scalar.addi v321 c0_i32_195
  let c1_i32_217 : BitVec 32 := 1#32
  let v350 : BitVec 32 := Scalar.subi v322 c1_i32_217
  let c2_i32_218 : BitVec 32 := 2#32
  let v351 : BitVec 1 := Scalar.cmpi .slt v350 c2_i32_218
  let c2_i32_219 : BitVec 32 := 2#32
  let v352 : BitVec 32 := Scalar.muli c2_i32_219 arg2
  let v353 : BitVec 32 := Scalar.addi v352 v350
  let c2_i32_220 : BitVec 32 := 2#32
  let v354 : BitVec 32 := Scalar.subi v350 c2_i32_220
  let v355 : BitVec 32 := Scalar.select v351 v353 v354
  let c256_i32_221 : BitVec 32 := 256#32
  let v356 : BitVec 32 := Scalar.muli v355 c256_i32_221
  let v357 : BitVec 32 := v356
  let v402 : Index := Scalar.indexCast v357
  ![64, v402.toNat]
def k0_mult70 (i : grid0.Coords) : BitVec 32 :=
  let c2_i32_262 : BitVec 32 := 2#32
  let c2_i32 : BitVec 32 := 2#32
  let arg2 : BitVec 32 := BitVec.ofNat 32 (i 2).val
  let v42 : BitVec 32 := Scalar.muli c2_i32 arg2
  let c0_i32_116 : BitVec 32 := 0#32
  let v203 : BitVec 1 := Scalar.cmpi .sgt v42 c0_i32_116
  let v204 : BitVec 32 := Scalar.extui v203
  let c0_i32_117 : BitVec 32 := 0#32
  let v205 : BitVec 1 := Scalar.cmpi .slt v42 c0_i32_117
  let v206 : BitVec 32 := Scalar.extui v205
  let v207 : BitVec 32 := Scalar.subi v204 v206
  let c16_i32_115 : BitVec 32 := 16#32
  let c0_i32_118 : BitVec 32 := 0#32
  let v208 : BitVec 1 := Scalar.cmpi .sgt c16_i32_115 c0_i32_118
  let v209 : BitVec 32 := Scalar.extui v208
  let c0_i32_119 : BitVec 32 := 0#32
  let v210 : BitVec 1 := Scalar.cmpi .slt c16_i32_115 c0_i32_119
  let v211 : BitVec 32 := Scalar.extui v210
  let v212 : BitVec 32 := Scalar.subi v209 v211
  let v213 : BitVec 1 := Scalar.cmpi .ne v207 v212
  let v214 : BitVec 32 := Scalar.remsi v42 c16_i32_115
  let c0_i32_120 : BitVec 32 := 0#32
  let v215 : BitVec 1 := Scalar.cmpi .ne v214 c0_i32_120
  let v216 : BitVec 1 := Scalar.andi v213 v215
  let v202 : BitVec 32 := Scalar.divsi v42 c16_i32_115
  let c1_i32_121 : BitVec 32 := 1#32
  let v217 : BitVec 32 := Scalar.subi v202 c1_i32_121
  let v218 : BitVec 32 := Scalar.select v216 v217 v202
  let c16_i32_122 : BitVec 32 := 16#32
  let v219 : BitVec 32 := Scalar.muli v218 c16_i32_122
  let v414 : BitVec 32 := Scalar.addi c2_i32_262 v219
  let c1_i32_263 : BitVec 32 := 1#32
  let v415 : BitVec 32 := Scalar.addi v414 c1_i32_263
  let c2_i32_264 : BitVec 32 := 2#32
  let v416 : BitVec 1 := Scalar.cmpi .slt v415 c2_i32_264
  let c2_i32_265 : BitVec 32 := 2#32
  let v417 : BitVec 32 := Scalar.muli c2_i32_265 arg2
  let v418 : BitVec 32 := Scalar.addi v417 v415
  let c2_i32_266 : BitVec 32 := 2#32
  let v419 : BitVec 32 := Scalar.subi v415 c2_i32_266
  let v420 : BitVec 32 := Scalar.select v416 v418 v419
  let c256_i32_267 : BitVec 32 := 256#32
  let v421 : BitVec 32 := Scalar.muli v420 c256_i32_267
  v421
def k0_mult71 (i : grid0.Coords) : BitVec 32 :=
  let c2_i32_262 : BitVec 32 := 2#32
  let c2_i32 : BitVec 32 := 2#32
  let arg2 : BitVec 32 := BitVec.ofNat 32 (i 2).val
  let v42 : BitVec 32 := Scalar.muli c2_i32 arg2
  let c0_i32_116 : BitVec 32 := 0#32
  let v203 : BitVec 1 := Scalar.cmpi .sgt v42 c0_i32_116
  let v204 : BitVec 32 := Scalar.extui v203
  let c0_i32_117 : BitVec 32 := 0#32
  let v205 : BitVec 1 := Scalar.cmpi .slt v42 c0_i32_117
  let v206 : BitVec 32 := Scalar.extui v205
  let v207 : BitVec 32 := Scalar.subi v204 v206
  let c16_i32_115 : BitVec 32 := 16#32
  let c0_i32_118 : BitVec 32 := 0#32
  let v208 : BitVec 1 := Scalar.cmpi .sgt c16_i32_115 c0_i32_118
  let v209 : BitVec 32 := Scalar.extui v208
  let c0_i32_119 : BitVec 32 := 0#32
  let v210 : BitVec 1 := Scalar.cmpi .slt c16_i32_115 c0_i32_119
  let v211 : BitVec 32 := Scalar.extui v210
  let v212 : BitVec 32 := Scalar.subi v209 v211
  let v213 : BitVec 1 := Scalar.cmpi .ne v207 v212
  let v214 : BitVec 32 := Scalar.remsi v42 c16_i32_115
  let c0_i32_120 : BitVec 32 := 0#32
  let v215 : BitVec 1 := Scalar.cmpi .ne v214 c0_i32_120
  let v216 : BitVec 1 := Scalar.andi v213 v215
  let v202 : BitVec 32 := Scalar.divsi v42 c16_i32_115
  let c1_i32_121 : BitVec 32 := 1#32
  let v217 : BitVec 32 := Scalar.subi v202 c1_i32_121
  let v218 : BitVec 32 := Scalar.select v216 v217 v202
  let c16_i32_122 : BitVec 32 := 16#32
  let v219 : BitVec 32 := Scalar.muli v218 c16_i32_122
  let v414 : BitVec 32 := Scalar.addi c2_i32_262 v219
  let c1_i32_263 : BitVec 32 := 1#32
  let v415 : BitVec 32 := Scalar.addi v414 c1_i32_263
  let c1_i32_285 : BitVec 32 := 1#32
  let v443 : BitVec 32 := Scalar.subi v415 c1_i32_285
  let c2_i32_286 : BitVec 32 := 2#32
  let v444 : BitVec 1 := Scalar.cmpi .slt v443 c2_i32_286
  let c2_i32_287 : BitVec 32 := 2#32
  let v445 : BitVec 32 := Scalar.muli c2_i32_287 arg2
  let v446 : BitVec 32 := Scalar.addi v445 v443
  let c2_i32_288 : BitVec 32 := 2#32
  let v447 : BitVec 32 := Scalar.subi v443 c2_i32_288
  let v448 : BitVec 32 := Scalar.select v444 v446 v447
  let c256_i32_289 : BitVec 32 := 256#32
  let v449 : BitVec 32 := Scalar.muli v448 c256_i32_289
  v449
def k0_mult72 (i : grid0.Coords) : BitVec 32 :=
  let c2_i32_330 : BitVec 32 := 2#32
  let c2_i32 : BitVec 32 := 2#32
  let arg2 : BitVec 32 := BitVec.ofNat 32 (i 2).val
  let v42 : BitVec 32 := Scalar.muli c2_i32 arg2
  let c0_i32_116 : BitVec 32 := 0#32
  let v203 : BitVec 1 := Scalar.cmpi .sgt v42 c0_i32_116
  let v204 : BitVec 32 := Scalar.extui v203
  let c0_i32_117 : BitVec 32 := 0#32
  let v205 : BitVec 1 := Scalar.cmpi .slt v42 c0_i32_117
  let v206 : BitVec 32 := Scalar.extui v205
  let v207 : BitVec 32 := Scalar.subi v204 v206
  let c16_i32_115 : BitVec 32 := 16#32
  let c0_i32_118 : BitVec 32 := 0#32
  let v208 : BitVec 1 := Scalar.cmpi .sgt c16_i32_115 c0_i32_118
  let v209 : BitVec 32 := Scalar.extui v208
  let c0_i32_119 : BitVec 32 := 0#32
  let v210 : BitVec 1 := Scalar.cmpi .slt c16_i32_115 c0_i32_119
  let v211 : BitVec 32 := Scalar.extui v210
  let v212 : BitVec 32 := Scalar.subi v209 v211
  let v213 : BitVec 1 := Scalar.cmpi .ne v207 v212
  let v214 : BitVec 32 := Scalar.remsi v42 c16_i32_115
  let c0_i32_120 : BitVec 32 := 0#32
  let v215 : BitVec 1 := Scalar.cmpi .ne v214 c0_i32_120
  let v216 : BitVec 1 := Scalar.andi v213 v215
  let v202 : BitVec 32 := Scalar.divsi v42 c16_i32_115
  let c1_i32_121 : BitVec 32 := 1#32
  let v217 : BitVec 32 := Scalar.subi v202 c1_i32_121
  let v218 : BitVec 32 := Scalar.select v216 v217 v202
  let c16_i32_122 : BitVec 32 := 16#32
  let v219 : BitVec 32 := Scalar.muli v218 c16_i32_122
  let v507 : BitVec 32 := Scalar.addi c2_i32_330 v219
  let c2_i32_331 : BitVec 32 := 2#32
  let v508 : BitVec 32 := Scalar.addi v507 c2_i32_331
  let c2_i32_332 : BitVec 32 := 2#32
  let v509 : BitVec 1 := Scalar.cmpi .slt v508 c2_i32_332
  let c2_i32_333 : BitVec 32 := 2#32
  let v510 : BitVec 32 := Scalar.muli c2_i32_333 arg2
  let v511 : BitVec 32 := Scalar.addi v510 v508
  let c2_i32_334 : BitVec 32 := 2#32
  let v512 : BitVec 32 := Scalar.subi v508 c2_i32_334
  let v513 : BitVec 32 := Scalar.select v509 v511 v512
  let c256_i32_335 : BitVec 32 := 256#32
  let v514 : BitVec 32 := Scalar.muli v513 c256_i32_335
  v514
def k0_mult73 (i : grid0.Coords) : BitVec 32 :=
  let c2_i32_330 : BitVec 32 := 2#32
  let c2_i32 : BitVec 32 := 2#32
  let arg2 : BitVec 32 := BitVec.ofNat 32 (i 2).val
  let v42 : BitVec 32 := Scalar.muli c2_i32 arg2
  let c0_i32_116 : BitVec 32 := 0#32
  let v203 : BitVec 1 := Scalar.cmpi .sgt v42 c0_i32_116
  let v204 : BitVec 32 := Scalar.extui v203
  let c0_i32_117 : BitVec 32 := 0#32
  let v205 : BitVec 1 := Scalar.cmpi .slt v42 c0_i32_117
  let v206 : BitVec 32 := Scalar.extui v205
  let v207 : BitVec 32 := Scalar.subi v204 v206
  let c16_i32_115 : BitVec 32 := 16#32
  let c0_i32_118 : BitVec 32 := 0#32
  let v208 : BitVec 1 := Scalar.cmpi .sgt c16_i32_115 c0_i32_118
  let v209 : BitVec 32 := Scalar.extui v208
  let c0_i32_119 : BitVec 32 := 0#32
  let v210 : BitVec 1 := Scalar.cmpi .slt c16_i32_115 c0_i32_119
  let v211 : BitVec 32 := Scalar.extui v210
  let v212 : BitVec 32 := Scalar.subi v209 v211
  let v213 : BitVec 1 := Scalar.cmpi .ne v207 v212
  let v214 : BitVec 32 := Scalar.remsi v42 c16_i32_115
  let c0_i32_120 : BitVec 32 := 0#32
  let v215 : BitVec 1 := Scalar.cmpi .ne v214 c0_i32_120
  let v216 : BitVec 1 := Scalar.andi v213 v215
  let v202 : BitVec 32 := Scalar.divsi v42 c16_i32_115
  let c1_i32_121 : BitVec 32 := 1#32
  let v217 : BitVec 32 := Scalar.subi v202 c1_i32_121
  let v218 : BitVec 32 := Scalar.select v216 v217 v202
  let c16_i32_122 : BitVec 32 := 16#32
  let v219 : BitVec 32 := Scalar.muli v218 c16_i32_122
  let v507 : BitVec 32 := Scalar.addi c2_i32_330 v219
  let c2_i32_331 : BitVec 32 := 2#32
  let v508 : BitVec 32 := Scalar.addi v507 c2_i32_331
  let c1_i32_353 : BitVec 32 := 1#32
  let v536 : BitVec 32 := Scalar.subi v508 c1_i32_353
  let c2_i32_354 : BitVec 32 := 2#32
  let v537 : BitVec 1 := Scalar.cmpi .slt v536 c2_i32_354
  let c2_i32_355 : BitVec 32 := 2#32
  let v538 : BitVec 32 := Scalar.muli c2_i32_355 arg2
  let v539 : BitVec 32 := Scalar.addi v538 v536
  let c2_i32_356 : BitVec 32 := 2#32
  let v540 : BitVec 32 := Scalar.subi v536 c2_i32_356
  let v541 : BitVec 32 := Scalar.select v537 v539 v540
  let c256_i32_357 : BitVec 32 := 256#32
  let v542 : BitVec 32 := Scalar.muli v541 c256_i32_357
  v542
def k0_mult74 (i : grid0.Coords) : BitVec 32 :=
  let c2_i32_398 : BitVec 32 := 2#32
  let c2_i32 : BitVec 32 := 2#32
  let arg2 : BitVec 32 := BitVec.ofNat 32 (i 2).val
  let v42 : BitVec 32 := Scalar.muli c2_i32 arg2
  let c0_i32_116 : BitVec 32 := 0#32
  let v203 : BitVec 1 := Scalar.cmpi .sgt v42 c0_i32_116
  let v204 : BitVec 32 := Scalar.extui v203
  let c0_i32_117 : BitVec 32 := 0#32
  let v205 : BitVec 1 := Scalar.cmpi .slt v42 c0_i32_117
  let v206 : BitVec 32 := Scalar.extui v205
  let v207 : BitVec 32 := Scalar.subi v204 v206
  let c16_i32_115 : BitVec 32 := 16#32
  let c0_i32_118 : BitVec 32 := 0#32
  let v208 : BitVec 1 := Scalar.cmpi .sgt c16_i32_115 c0_i32_118
  let v209 : BitVec 32 := Scalar.extui v208
  let c0_i32_119 : BitVec 32 := 0#32
  let v210 : BitVec 1 := Scalar.cmpi .slt c16_i32_115 c0_i32_119
  let v211 : BitVec 32 := Scalar.extui v210
  let v212 : BitVec 32 := Scalar.subi v209 v211
  let v213 : BitVec 1 := Scalar.cmpi .ne v207 v212
  let v214 : BitVec 32 := Scalar.remsi v42 c16_i32_115
  let c0_i32_120 : BitVec 32 := 0#32
  let v215 : BitVec 1 := Scalar.cmpi .ne v214 c0_i32_120
  let v216 : BitVec 1 := Scalar.andi v213 v215
  let v202 : BitVec 32 := Scalar.divsi v42 c16_i32_115
  let c1_i32_121 : BitVec 32 := 1#32
  let v217 : BitVec 32 := Scalar.subi v202 c1_i32_121
  let v218 : BitVec 32 := Scalar.select v216 v217 v202
  let c16_i32_122 : BitVec 32 := 16#32
  let v219 : BitVec 32 := Scalar.muli v218 c16_i32_122
  let v600 : BitVec 32 := Scalar.addi c2_i32_398 v219
  let c3_i32_399 : BitVec 32 := 3#32
  let v601 : BitVec 32 := Scalar.addi v600 c3_i32_399
  let c2_i32_400 : BitVec 32 := 2#32
  let v602 : BitVec 1 := Scalar.cmpi .slt v601 c2_i32_400
  let c2_i32_401 : BitVec 32 := 2#32
  let v603 : BitVec 32 := Scalar.muli c2_i32_401 arg2
  let v604 : BitVec 32 := Scalar.addi v603 v601
  let c2_i32_402 : BitVec 32 := 2#32
  let v605 : BitVec 32 := Scalar.subi v601 c2_i32_402
  let v606 : BitVec 32 := Scalar.select v602 v604 v605
  let c256_i32_403 : BitVec 32 := 256#32
  let v607 : BitVec 32 := Scalar.muli v606 c256_i32_403
  v607
def k0_mult75 (i : grid0.Coords) : BitVec 32 :=
  let c2_i32_398 : BitVec 32 := 2#32
  let c2_i32 : BitVec 32 := 2#32
  let arg2 : BitVec 32 := BitVec.ofNat 32 (i 2).val
  let v42 : BitVec 32 := Scalar.muli c2_i32 arg2
  let c0_i32_116 : BitVec 32 := 0#32
  let v203 : BitVec 1 := Scalar.cmpi .sgt v42 c0_i32_116
  let v204 : BitVec 32 := Scalar.extui v203
  let c0_i32_117 : BitVec 32 := 0#32
  let v205 : BitVec 1 := Scalar.cmpi .slt v42 c0_i32_117
  let v206 : BitVec 32 := Scalar.extui v205
  let v207 : BitVec 32 := Scalar.subi v204 v206
  let c16_i32_115 : BitVec 32 := 16#32
  let c0_i32_118 : BitVec 32 := 0#32
  let v208 : BitVec 1 := Scalar.cmpi .sgt c16_i32_115 c0_i32_118
  let v209 : BitVec 32 := Scalar.extui v208
  let c0_i32_119 : BitVec 32 := 0#32
  let v210 : BitVec 1 := Scalar.cmpi .slt c16_i32_115 c0_i32_119
  let v211 : BitVec 32 := Scalar.extui v210
  let v212 : BitVec 32 := Scalar.subi v209 v211
  let v213 : BitVec 1 := Scalar.cmpi .ne v207 v212
  let v214 : BitVec 32 := Scalar.remsi v42 c16_i32_115
  let c0_i32_120 : BitVec 32 := 0#32
  let v215 : BitVec 1 := Scalar.cmpi .ne v214 c0_i32_120
  let v216 : BitVec 1 := Scalar.andi v213 v215
  let v202 : BitVec 32 := Scalar.divsi v42 c16_i32_115
  let c1_i32_121 : BitVec 32 := 1#32
  let v217 : BitVec 32 := Scalar.subi v202 c1_i32_121
  let v218 : BitVec 32 := Scalar.select v216 v217 v202
  let c16_i32_122 : BitVec 32 := 16#32
  let v219 : BitVec 32 := Scalar.muli v218 c16_i32_122
  let v600 : BitVec 32 := Scalar.addi c2_i32_398 v219
  let c3_i32_399 : BitVec 32 := 3#32
  let v601 : BitVec 32 := Scalar.addi v600 c3_i32_399
  let c1_i32_421 : BitVec 32 := 1#32
  let v629 : BitVec 32 := Scalar.subi v601 c1_i32_421
  let c2_i32_422 : BitVec 32 := 2#32
  let v630 : BitVec 1 := Scalar.cmpi .slt v629 c2_i32_422
  let c2_i32_423 : BitVec 32 := 2#32
  let v631 : BitVec 32 := Scalar.muli c2_i32_423 arg2
  let v632 : BitVec 32 := Scalar.addi v631 v629
  let c2_i32_424 : BitVec 32 := 2#32
  let v633 : BitVec 32 := Scalar.subi v629 c2_i32_424
  let v634 : BitVec 32 := Scalar.select v630 v632 v633
  let c256_i32_425 : BitVec 32 := 256#32
  let v635 : BitVec 32 := Scalar.muli v634 c256_i32_425
  v635
def k0_mult76 (i : grid0.Coords) : BitVec 32 :=
  let c2_i32_466 : BitVec 32 := 2#32
  let c2_i32 : BitVec 32 := 2#32
  let arg2 : BitVec 32 := BitVec.ofNat 32 (i 2).val
  let v42 : BitVec 32 := Scalar.muli c2_i32 arg2
  let c0_i32_116 : BitVec 32 := 0#32
  let v203 : BitVec 1 := Scalar.cmpi .sgt v42 c0_i32_116
  let v204 : BitVec 32 := Scalar.extui v203
  let c0_i32_117 : BitVec 32 := 0#32
  let v205 : BitVec 1 := Scalar.cmpi .slt v42 c0_i32_117
  let v206 : BitVec 32 := Scalar.extui v205
  let v207 : BitVec 32 := Scalar.subi v204 v206
  let c16_i32_115 : BitVec 32 := 16#32
  let c0_i32_118 : BitVec 32 := 0#32
  let v208 : BitVec 1 := Scalar.cmpi .sgt c16_i32_115 c0_i32_118
  let v209 : BitVec 32 := Scalar.extui v208
  let c0_i32_119 : BitVec 32 := 0#32
  let v210 : BitVec 1 := Scalar.cmpi .slt c16_i32_115 c0_i32_119
  let v211 : BitVec 32 := Scalar.extui v210
  let v212 : BitVec 32 := Scalar.subi v209 v211
  let v213 : BitVec 1 := Scalar.cmpi .ne v207 v212
  let v214 : BitVec 32 := Scalar.remsi v42 c16_i32_115
  let c0_i32_120 : BitVec 32 := 0#32
  let v215 : BitVec 1 := Scalar.cmpi .ne v214 c0_i32_120
  let v216 : BitVec 1 := Scalar.andi v213 v215
  let v202 : BitVec 32 := Scalar.divsi v42 c16_i32_115
  let c1_i32_121 : BitVec 32 := 1#32
  let v217 : BitVec 32 := Scalar.subi v202 c1_i32_121
  let v218 : BitVec 32 := Scalar.select v216 v217 v202
  let c16_i32_122 : BitVec 32 := 16#32
  let v219 : BitVec 32 := Scalar.muli v218 c16_i32_122
  let v693 : BitVec 32 := Scalar.addi c2_i32_466 v219
  let c4_i32_467 : BitVec 32 := 4#32
  let v694 : BitVec 32 := Scalar.addi v693 c4_i32_467
  let c2_i32_468 : BitVec 32 := 2#32
  let v695 : BitVec 1 := Scalar.cmpi .slt v694 c2_i32_468
  let c2_i32_469 : BitVec 32 := 2#32
  let v696 : BitVec 32 := Scalar.muli c2_i32_469 arg2
  let v697 : BitVec 32 := Scalar.addi v696 v694
  let c2_i32_470 : BitVec 32 := 2#32
  let v698 : BitVec 32 := Scalar.subi v694 c2_i32_470
  let v699 : BitVec 32 := Scalar.select v695 v697 v698
  let c256_i32_471 : BitVec 32 := 256#32
  let v700 : BitVec 32 := Scalar.muli v699 c256_i32_471
  v700
def k0_mult77 (i : grid0.Coords) : BitVec 32 :=
  let c2_i32_466 : BitVec 32 := 2#32
  let c2_i32 : BitVec 32 := 2#32
  let arg2 : BitVec 32 := BitVec.ofNat 32 (i 2).val
  let v42 : BitVec 32 := Scalar.muli c2_i32 arg2
  let c0_i32_116 : BitVec 32 := 0#32
  let v203 : BitVec 1 := Scalar.cmpi .sgt v42 c0_i32_116
  let v204 : BitVec 32 := Scalar.extui v203
  let c0_i32_117 : BitVec 32 := 0#32
  let v205 : BitVec 1 := Scalar.cmpi .slt v42 c0_i32_117
  let v206 : BitVec 32 := Scalar.extui v205
  let v207 : BitVec 32 := Scalar.subi v204 v206
  let c16_i32_115 : BitVec 32 := 16#32
  let c0_i32_118 : BitVec 32 := 0#32
  let v208 : BitVec 1 := Scalar.cmpi .sgt c16_i32_115 c0_i32_118
  let v209 : BitVec 32 := Scalar.extui v208
  let c0_i32_119 : BitVec 32 := 0#32
  let v210 : BitVec 1 := Scalar.cmpi .slt c16_i32_115 c0_i32_119
  let v211 : BitVec 32 := Scalar.extui v210
  let v212 : BitVec 32 := Scalar.subi v209 v211
  let v213 : BitVec 1 := Scalar.cmpi .ne v207 v212
  let v214 : BitVec 32 := Scalar.remsi v42 c16_i32_115
  let c0_i32_120 : BitVec 32 := 0#32
  let v215 : BitVec 1 := Scalar.cmpi .ne v214 c0_i32_120
  let v216 : BitVec 1 := Scalar.andi v213 v215
  let v202 : BitVec 32 := Scalar.divsi v42 c16_i32_115
  let c1_i32_121 : BitVec 32 := 1#32
  let v217 : BitVec 32 := Scalar.subi v202 c1_i32_121
  let v218 : BitVec 32 := Scalar.select v216 v217 v202
  let c16_i32_122 : BitVec 32 := 16#32
  let v219 : BitVec 32 := Scalar.muli v218 c16_i32_122
  let v693 : BitVec 32 := Scalar.addi c2_i32_466 v219
  let c4_i32_467 : BitVec 32 := 4#32
  let v694 : BitVec 32 := Scalar.addi v693 c4_i32_467
  let c1_i32_489 : BitVec 32 := 1#32
  let v722 : BitVec 32 := Scalar.subi v694 c1_i32_489
  let c2_i32_490 : BitVec 32 := 2#32
  let v723 : BitVec 1 := Scalar.cmpi .slt v722 c2_i32_490
  let c2_i32_491 : BitVec 32 := 2#32
  let v724 : BitVec 32 := Scalar.muli c2_i32_491 arg2
  let v725 : BitVec 32 := Scalar.addi v724 v722
  let c2_i32_492 : BitVec 32 := 2#32
  let v726 : BitVec 32 := Scalar.subi v722 c2_i32_492
  let v727 : BitVec 32 := Scalar.select v723 v725 v726
  let c256_i32_493 : BitVec 32 := 256#32
  let v728 : BitVec 32 := Scalar.muli v727 c256_i32_493
  v728
def k0_mult78 (i : grid0.Coords) : BitVec 32 :=
  let c2_i32_534 : BitVec 32 := 2#32
  let c2_i32 : BitVec 32 := 2#32
  let arg2 : BitVec 32 := BitVec.ofNat 32 (i 2).val
  let v42 : BitVec 32 := Scalar.muli c2_i32 arg2
  let c0_i32_116 : BitVec 32 := 0#32
  let v203 : BitVec 1 := Scalar.cmpi .sgt v42 c0_i32_116
  let v204 : BitVec 32 := Scalar.extui v203
  let c0_i32_117 : BitVec 32 := 0#32
  let v205 : BitVec 1 := Scalar.cmpi .slt v42 c0_i32_117
  let v206 : BitVec 32 := Scalar.extui v205
  let v207 : BitVec 32 := Scalar.subi v204 v206
  let c16_i32_115 : BitVec 32 := 16#32
  let c0_i32_118 : BitVec 32 := 0#32
  let v208 : BitVec 1 := Scalar.cmpi .sgt c16_i32_115 c0_i32_118
  let v209 : BitVec 32 := Scalar.extui v208
  let c0_i32_119 : BitVec 32 := 0#32
  let v210 : BitVec 1 := Scalar.cmpi .slt c16_i32_115 c0_i32_119
  let v211 : BitVec 32 := Scalar.extui v210
  let v212 : BitVec 32 := Scalar.subi v209 v211
  let v213 : BitVec 1 := Scalar.cmpi .ne v207 v212
  let v214 : BitVec 32 := Scalar.remsi v42 c16_i32_115
  let c0_i32_120 : BitVec 32 := 0#32
  let v215 : BitVec 1 := Scalar.cmpi .ne v214 c0_i32_120
  let v216 : BitVec 1 := Scalar.andi v213 v215
  let v202 : BitVec 32 := Scalar.divsi v42 c16_i32_115
  let c1_i32_121 : BitVec 32 := 1#32
  let v217 : BitVec 32 := Scalar.subi v202 c1_i32_121
  let v218 : BitVec 32 := Scalar.select v216 v217 v202
  let c16_i32_122 : BitVec 32 := 16#32
  let v219 : BitVec 32 := Scalar.muli v218 c16_i32_122
  let v786 : BitVec 32 := Scalar.addi c2_i32_534 v219
  let c5_i32 : BitVec 32 := 5#32
  let v787 : BitVec 32 := Scalar.addi v786 c5_i32
  let c2_i32_535 : BitVec 32 := 2#32
  let v788 : BitVec 1 := Scalar.cmpi .slt v787 c2_i32_535
  let c2_i32_536 : BitVec 32 := 2#32
  let v789 : BitVec 32 := Scalar.muli c2_i32_536 arg2
  let v790 : BitVec 32 := Scalar.addi v789 v787
  let c2_i32_537 : BitVec 32 := 2#32
  let v791 : BitVec 32 := Scalar.subi v787 c2_i32_537
  let v792 : BitVec 32 := Scalar.select v788 v790 v791
  let c256_i32_538 : BitVec 32 := 256#32
  let v793 : BitVec 32 := Scalar.muli v792 c256_i32_538
  v793
def k0_mult79 (i : grid0.Coords) : BitVec 32 :=
  let c2_i32_534 : BitVec 32 := 2#32
  let c2_i32 : BitVec 32 := 2#32
  let arg2 : BitVec 32 := BitVec.ofNat 32 (i 2).val
  let v42 : BitVec 32 := Scalar.muli c2_i32 arg2
  let c0_i32_116 : BitVec 32 := 0#32
  let v203 : BitVec 1 := Scalar.cmpi .sgt v42 c0_i32_116
  let v204 : BitVec 32 := Scalar.extui v203
  let c0_i32_117 : BitVec 32 := 0#32
  let v205 : BitVec 1 := Scalar.cmpi .slt v42 c0_i32_117
  let v206 : BitVec 32 := Scalar.extui v205
  let v207 : BitVec 32 := Scalar.subi v204 v206
  let c16_i32_115 : BitVec 32 := 16#32
  let c0_i32_118 : BitVec 32 := 0#32
  let v208 : BitVec 1 := Scalar.cmpi .sgt c16_i32_115 c0_i32_118
  let v209 : BitVec 32 := Scalar.extui v208
  let c0_i32_119 : BitVec 32 := 0#32
  let v210 : BitVec 1 := Scalar.cmpi .slt c16_i32_115 c0_i32_119
  let v211 : BitVec 32 := Scalar.extui v210
  let v212 : BitVec 32 := Scalar.subi v209 v211
  let v213 : BitVec 1 := Scalar.cmpi .ne v207 v212
  let v214 : BitVec 32 := Scalar.remsi v42 c16_i32_115
  let c0_i32_120 : BitVec 32 := 0#32
  let v215 : BitVec 1 := Scalar.cmpi .ne v214 c0_i32_120
  let v216 : BitVec 1 := Scalar.andi v213 v215
  let v202 : BitVec 32 := Scalar.divsi v42 c16_i32_115
  let c1_i32_121 : BitVec 32 := 1#32
  let v217 : BitVec 32 := Scalar.subi v202 c1_i32_121
  let v218 : BitVec 32 := Scalar.select v216 v217 v202
  let c16_i32_122 : BitVec 32 := 16#32
  let v219 : BitVec 32 := Scalar.muli v218 c16_i32_122
  let v786 : BitVec 32 := Scalar.addi c2_i32_534 v219
  let c5_i32 : BitVec 32 := 5#32
  let v787 : BitVec 32 := Scalar.addi v786 c5_i32
  let c1_i32_556 : BitVec 32 := 1#32
  let v815 : BitVec 32 := Scalar.subi v787 c1_i32_556
  let c2_i32_557 : BitVec 32 := 2#32
  let v816 : BitVec 1 := Scalar.cmpi .slt v815 c2_i32_557
  let c2_i32_558 : BitVec 32 := 2#32
  let v817 : BitVec 32 := Scalar.muli c2_i32_558 arg2
  let v818 : BitVec 32 := Scalar.addi v817 v815
  let c2_i32_559 : BitVec 32 := 2#32
  let v819 : BitVec 32 := Scalar.subi v815 c2_i32_559
  let v820 : BitVec 32 := Scalar.select v816 v818 v819
  let c256_i32_560 : BitVec 32 := 256#32
  let v821 : BitVec 32 := Scalar.muli v820 c256_i32_560
  v821
def k0_mult80 (i : grid0.Coords) : BitVec 32 :=
  let c2_i32_601 : BitVec 32 := 2#32
  let c2_i32 : BitVec 32 := 2#32
  let arg2 : BitVec 32 := BitVec.ofNat 32 (i 2).val
  let v42 : BitVec 32 := Scalar.muli c2_i32 arg2
  let c0_i32_116 : BitVec 32 := 0#32
  let v203 : BitVec 1 := Scalar.cmpi .sgt v42 c0_i32_116
  let v204 : BitVec 32 := Scalar.extui v203
  let c0_i32_117 : BitVec 32 := 0#32
  let v205 : BitVec 1 := Scalar.cmpi .slt v42 c0_i32_117
  let v206 : BitVec 32 := Scalar.extui v205
  let v207 : BitVec 32 := Scalar.subi v204 v206
  let c16_i32_115 : BitVec 32 := 16#32
  let c0_i32_118 : BitVec 32 := 0#32
  let v208 : BitVec 1 := Scalar.cmpi .sgt c16_i32_115 c0_i32_118
  let v209 : BitVec 32 := Scalar.extui v208
  let c0_i32_119 : BitVec 32 := 0#32
  let v210 : BitVec 1 := Scalar.cmpi .slt c16_i32_115 c0_i32_119
  let v211 : BitVec 32 := Scalar.extui v210
  let v212 : BitVec 32 := Scalar.subi v209 v211
  let v213 : BitVec 1 := Scalar.cmpi .ne v207 v212
  let v214 : BitVec 32 := Scalar.remsi v42 c16_i32_115
  let c0_i32_120 : BitVec 32 := 0#32
  let v215 : BitVec 1 := Scalar.cmpi .ne v214 c0_i32_120
  let v216 : BitVec 1 := Scalar.andi v213 v215
  let v202 : BitVec 32 := Scalar.divsi v42 c16_i32_115
  let c1_i32_121 : BitVec 32 := 1#32
  let v217 : BitVec 32 := Scalar.subi v202 c1_i32_121
  let v218 : BitVec 32 := Scalar.select v216 v217 v202
  let c16_i32_122 : BitVec 32 := 16#32
  let v219 : BitVec 32 := Scalar.muli v218 c16_i32_122
  let v879 : BitVec 32 := Scalar.addi c2_i32_601 v219
  let c6_i32_602 : BitVec 32 := 6#32
  let v880 : BitVec 32 := Scalar.addi v879 c6_i32_602
  let c2_i32_603 : BitVec 32 := 2#32
  let v881 : BitVec 1 := Scalar.cmpi .slt v880 c2_i32_603
  let c2_i32_604 : BitVec 32 := 2#32
  let v882 : BitVec 32 := Scalar.muli c2_i32_604 arg2
  let v883 : BitVec 32 := Scalar.addi v882 v880
  let c2_i32_605 : BitVec 32 := 2#32
  let v884 : BitVec 32 := Scalar.subi v880 c2_i32_605
  let v885 : BitVec 32 := Scalar.select v881 v883 v884
  let c256_i32_606 : BitVec 32 := 256#32
  let v886 : BitVec 32 := Scalar.muli v885 c256_i32_606
  v886
def k0_mult81 (i : grid0.Coords) : BitVec 32 :=
  let c2_i32_601 : BitVec 32 := 2#32
  let c2_i32 : BitVec 32 := 2#32
  let arg2 : BitVec 32 := BitVec.ofNat 32 (i 2).val
  let v42 : BitVec 32 := Scalar.muli c2_i32 arg2
  let c0_i32_116 : BitVec 32 := 0#32
  let v203 : BitVec 1 := Scalar.cmpi .sgt v42 c0_i32_116
  let v204 : BitVec 32 := Scalar.extui v203
  let c0_i32_117 : BitVec 32 := 0#32
  let v205 : BitVec 1 := Scalar.cmpi .slt v42 c0_i32_117
  let v206 : BitVec 32 := Scalar.extui v205
  let v207 : BitVec 32 := Scalar.subi v204 v206
  let c16_i32_115 : BitVec 32 := 16#32
  let c0_i32_118 : BitVec 32 := 0#32
  let v208 : BitVec 1 := Scalar.cmpi .sgt c16_i32_115 c0_i32_118
  let v209 : BitVec 32 := Scalar.extui v208
  let c0_i32_119 : BitVec 32 := 0#32
  let v210 : BitVec 1 := Scalar.cmpi .slt c16_i32_115 c0_i32_119
  let v211 : BitVec 32 := Scalar.extui v210
  let v212 : BitVec 32 := Scalar.subi v209 v211
  let v213 : BitVec 1 := Scalar.cmpi .ne v207 v212
  let v214 : BitVec 32 := Scalar.remsi v42 c16_i32_115
  let c0_i32_120 : BitVec 32 := 0#32
  let v215 : BitVec 1 := Scalar.cmpi .ne v214 c0_i32_120
  let v216 : BitVec 1 := Scalar.andi v213 v215
  let v202 : BitVec 32 := Scalar.divsi v42 c16_i32_115
  let c1_i32_121 : BitVec 32 := 1#32
  let v217 : BitVec 32 := Scalar.subi v202 c1_i32_121
  let v218 : BitVec 32 := Scalar.select v216 v217 v202
  let c16_i32_122 : BitVec 32 := 16#32
  let v219 : BitVec 32 := Scalar.muli v218 c16_i32_122
  let v879 : BitVec 32 := Scalar.addi c2_i32_601 v219
  let c6_i32_602 : BitVec 32 := 6#32
  let v880 : BitVec 32 := Scalar.addi v879 c6_i32_602
  let c1_i32_624 : BitVec 32 := 1#32
  let v908 : BitVec 32 := Scalar.subi v880 c1_i32_624
  let c2_i32_625 : BitVec 32 := 2#32
  let v909 : BitVec 1 := Scalar.cmpi .slt v908 c2_i32_625
  let c2_i32_626 : BitVec 32 := 2#32
  let v910 : BitVec 32 := Scalar.muli c2_i32_626 arg2
  let v911 : BitVec 32 := Scalar.addi v910 v908
  let c2_i32_627 : BitVec 32 := 2#32
  let v912 : BitVec 32 := Scalar.subi v908 c2_i32_627
  let v913 : BitVec 32 := Scalar.select v909 v911 v912
  let c256_i32_628 : BitVec 32 := 256#32
  let v914 : BitVec 32 := Scalar.muli v913 c256_i32_628
  v914
def k0_mult82 (i : grid0.Coords) : BitVec 32 :=
  let c2_i32_669 : BitVec 32 := 2#32
  let c2_i32 : BitVec 32 := 2#32
  let arg2 : BitVec 32 := BitVec.ofNat 32 (i 2).val
  let v42 : BitVec 32 := Scalar.muli c2_i32 arg2
  let c0_i32_116 : BitVec 32 := 0#32
  let v203 : BitVec 1 := Scalar.cmpi .sgt v42 c0_i32_116
  let v204 : BitVec 32 := Scalar.extui v203
  let c0_i32_117 : BitVec 32 := 0#32
  let v205 : BitVec 1 := Scalar.cmpi .slt v42 c0_i32_117
  let v206 : BitVec 32 := Scalar.extui v205
  let v207 : BitVec 32 := Scalar.subi v204 v206
  let c16_i32_115 : BitVec 32 := 16#32
  let c0_i32_118 : BitVec 32 := 0#32
  let v208 : BitVec 1 := Scalar.cmpi .sgt c16_i32_115 c0_i32_118
  let v209 : BitVec 32 := Scalar.extui v208
  let c0_i32_119 : BitVec 32 := 0#32
  let v210 : BitVec 1 := Scalar.cmpi .slt c16_i32_115 c0_i32_119
  let v211 : BitVec 32 := Scalar.extui v210
  let v212 : BitVec 32 := Scalar.subi v209 v211
  let v213 : BitVec 1 := Scalar.cmpi .ne v207 v212
  let v214 : BitVec 32 := Scalar.remsi v42 c16_i32_115
  let c0_i32_120 : BitVec 32 := 0#32
  let v215 : BitVec 1 := Scalar.cmpi .ne v214 c0_i32_120
  let v216 : BitVec 1 := Scalar.andi v213 v215
  let v202 : BitVec 32 := Scalar.divsi v42 c16_i32_115
  let c1_i32_121 : BitVec 32 := 1#32
  let v217 : BitVec 32 := Scalar.subi v202 c1_i32_121
  let v218 : BitVec 32 := Scalar.select v216 v217 v202
  let c16_i32_122 : BitVec 32 := 16#32
  let v219 : BitVec 32 := Scalar.muli v218 c16_i32_122
  let v972 : BitVec 32 := Scalar.addi c2_i32_669 v219
  let c7_i32 : BitVec 32 := 7#32
  let v973 : BitVec 32 := Scalar.addi v972 c7_i32
  let c2_i32_670 : BitVec 32 := 2#32
  let v974 : BitVec 1 := Scalar.cmpi .slt v973 c2_i32_670
  let c2_i32_671 : BitVec 32 := 2#32
  let v975 : BitVec 32 := Scalar.muli c2_i32_671 arg2
  let v976 : BitVec 32 := Scalar.addi v975 v973
  let c2_i32_672 : BitVec 32 := 2#32
  let v977 : BitVec 32 := Scalar.subi v973 c2_i32_672
  let v978 : BitVec 32 := Scalar.select v974 v976 v977
  let c256_i32_673 : BitVec 32 := 256#32
  let v979 : BitVec 32 := Scalar.muli v978 c256_i32_673
  v979
def k0_mult83 (i : grid0.Coords) : BitVec 32 :=
  let c2_i32_669 : BitVec 32 := 2#32
  let c2_i32 : BitVec 32 := 2#32
  let arg2 : BitVec 32 := BitVec.ofNat 32 (i 2).val
  let v42 : BitVec 32 := Scalar.muli c2_i32 arg2
  let c0_i32_116 : BitVec 32 := 0#32
  let v203 : BitVec 1 := Scalar.cmpi .sgt v42 c0_i32_116
  let v204 : BitVec 32 := Scalar.extui v203
  let c0_i32_117 : BitVec 32 := 0#32
  let v205 : BitVec 1 := Scalar.cmpi .slt v42 c0_i32_117
  let v206 : BitVec 32 := Scalar.extui v205
  let v207 : BitVec 32 := Scalar.subi v204 v206
  let c16_i32_115 : BitVec 32 := 16#32
  let c0_i32_118 : BitVec 32 := 0#32
  let v208 : BitVec 1 := Scalar.cmpi .sgt c16_i32_115 c0_i32_118
  let v209 : BitVec 32 := Scalar.extui v208
  let c0_i32_119 : BitVec 32 := 0#32
  let v210 : BitVec 1 := Scalar.cmpi .slt c16_i32_115 c0_i32_119
  let v211 : BitVec 32 := Scalar.extui v210
  let v212 : BitVec 32 := Scalar.subi v209 v211
  let v213 : BitVec 1 := Scalar.cmpi .ne v207 v212
  let v214 : BitVec 32 := Scalar.remsi v42 c16_i32_115
  let c0_i32_120 : BitVec 32 := 0#32
  let v215 : BitVec 1 := Scalar.cmpi .ne v214 c0_i32_120
  let v216 : BitVec 1 := Scalar.andi v213 v215
  let v202 : BitVec 32 := Scalar.divsi v42 c16_i32_115
  let c1_i32_121 : BitVec 32 := 1#32
  let v217 : BitVec 32 := Scalar.subi v202 c1_i32_121
  let v218 : BitVec 32 := Scalar.select v216 v217 v202
  let c16_i32_122 : BitVec 32 := 16#32
  let v219 : BitVec 32 := Scalar.muli v218 c16_i32_122
  let v972 : BitVec 32 := Scalar.addi c2_i32_669 v219
  let c7_i32 : BitVec 32 := 7#32
  let v973 : BitVec 32 := Scalar.addi v972 c7_i32
  let c1_i32_691 : BitVec 32 := 1#32
  let v1001 : BitVec 32 := Scalar.subi v973 c1_i32_691
  let c2_i32_692 : BitVec 32 := 2#32
  let v1002 : BitVec 1 := Scalar.cmpi .slt v1001 c2_i32_692
  let c2_i32_693 : BitVec 32 := 2#32
  let v1003 : BitVec 32 := Scalar.muli c2_i32_693 arg2
  let v1004 : BitVec 32 := Scalar.addi v1003 v1001
  let c2_i32_694 : BitVec 32 := 2#32
  let v1005 : BitVec 32 := Scalar.subi v1001 c2_i32_694
  let v1006 : BitVec 32 := Scalar.select v1002 v1004 v1005
  let c256_i32_695 : BitVec 32 := 256#32
  let v1007 : BitVec 32 := Scalar.muli v1006 c256_i32_695
  v1007
def k0_cond2 (i : grid0.Coords) : BitVec 1 :=
  let c2_i32 : BitVec 32 := 2#32
  let arg2 : BitVec 32 := BitVec.ofNat 32 (i 2).val
  let v42 : BitVec 32 := Scalar.muli c2_i32 arg2
  let c4_i32 : BitVec 32 := 4#32
  let v226 : BitVec 32 := Scalar.andi v42 c4_i32
  let c0_i32_126 : BitVec 32 := 0#32
  let v227 : BitVec 1 := Scalar.cmpi .ne v226 c0_i32_126
  let v228 : BitVec 32 := Scalar.extui v227
  let c0_i32_127 : BitVec 32 := 0#32
  let v229 : BitVec 1 := Scalar.cmpi .ne v228 c0_i32_127
  v229

def k0_mult84 (i : grid0.Coords) : BitVec 32 :=
  let c2_i32_194 : BitVec 32 := 2#32
  let c2_i32 : BitVec 32 := 2#32
  let arg2 : BitVec 32 := BitVec.ofNat 32 (i 2).val
  let v42 : BitVec 32 := Scalar.muli c2_i32 arg2
  let c0_i32_116 : BitVec 32 := 0#32
  let v203 : BitVec 1 := Scalar.cmpi .sgt v42 c0_i32_116
  let v204 : BitVec 32 := Scalar.extui v203
  let c0_i32_117 : BitVec 32 := 0#32
  let v205 : BitVec 1 := Scalar.cmpi .slt v42 c0_i32_117
  let v206 : BitVec 32 := Scalar.extui v205
  let v207 : BitVec 32 := Scalar.subi v204 v206
  let c16_i32_115 : BitVec 32 := 16#32
  let c0_i32_118 : BitVec 32 := 0#32
  let v208 : BitVec 1 := Scalar.cmpi .sgt c16_i32_115 c0_i32_118
  let v209 : BitVec 32 := Scalar.extui v208
  let c0_i32_119 : BitVec 32 := 0#32
  let v210 : BitVec 1 := Scalar.cmpi .slt c16_i32_115 c0_i32_119
  let v211 : BitVec 32 := Scalar.extui v210
  let v212 : BitVec 32 := Scalar.subi v209 v211
  let v213 : BitVec 1 := Scalar.cmpi .ne v207 v212
  let v214 : BitVec 32 := Scalar.remsi v42 c16_i32_115
  let c0_i32_120 : BitVec 32 := 0#32
  let v215 : BitVec 1 := Scalar.cmpi .ne v214 c0_i32_120
  let v216 : BitVec 1 := Scalar.andi v213 v215
  let v202 : BitVec 32 := Scalar.divsi v42 c16_i32_115
  let c1_i32_121 : BitVec 32 := 1#32
  let v217 : BitVec 32 := Scalar.subi v202 c1_i32_121
  let v218 : BitVec 32 := Scalar.select v216 v217 v202
  let c16_i32_122 : BitVec 32 := 16#32
  let v219 : BitVec 32 := Scalar.muli v218 c16_i32_122
  let c8_i32_125 : BitVec 32 := 8#32
  let v224 : BitVec 32 := Scalar.andi v42 c8_i32_125
  let v225 : BitVec 32 := Scalar.addi v219 v224
  let v321 : BitVec 32 := Scalar.addi c2_i32_194 v225
  let c0_i32_195 : BitVec 32 := 0#32
  let v322 : BitVec 32 := Scalar.addi v321 c0_i32_195
  let c2_i32_196 : BitVec 32 := 2#32
  let v323 : BitVec 1 := Scalar.cmpi .slt v322 c2_i32_196
  let c2_i32_197 : BitVec 32 := 2#32
  let v324 : BitVec 32 := Scalar.muli c2_i32_197 arg2
  let v325 : BitVec 32 := Scalar.addi v324 v322
  let c2_i32_198 : BitVec 32 := 2#32
  let v326 : BitVec 32 := Scalar.subi v322 c2_i32_198
  let v327 : BitVec 32 := Scalar.select v323 v325 v326
  let c256_i32_199 : BitVec 32 := 256#32
  let v328 : BitVec 32 := Scalar.muli v327 c256_i32_199
  v328
def k0_off14 (i : grid0.Coords) (c0_i32_195 : BitVec 32) : Fin 2 → Nat :=
  let c2_i32_194 : BitVec 32 := 2#32
  let c2_i32 : BitVec 32 := 2#32
  let arg2 : BitVec 32 := BitVec.ofNat 32 (i 2).val
  let v42 : BitVec 32 := Scalar.muli c2_i32 arg2
  let c0_i32_116 : BitVec 32 := 0#32
  let v203 : BitVec 1 := Scalar.cmpi .sgt v42 c0_i32_116
  let v204 : BitVec 32 := Scalar.extui v203
  let c0_i32_117 : BitVec 32 := 0#32
  let v205 : BitVec 1 := Scalar.cmpi .slt v42 c0_i32_117
  let v206 : BitVec 32 := Scalar.extui v205
  let v207 : BitVec 32 := Scalar.subi v204 v206
  let c16_i32_115 : BitVec 32 := 16#32
  let c0_i32_118 : BitVec 32 := 0#32
  let v208 : BitVec 1 := Scalar.cmpi .sgt c16_i32_115 c0_i32_118
  let v209 : BitVec 32 := Scalar.extui v208
  let c0_i32_119 : BitVec 32 := 0#32
  let v210 : BitVec 1 := Scalar.cmpi .slt c16_i32_115 c0_i32_119
  let v211 : BitVec 32 := Scalar.extui v210
  let v212 : BitVec 32 := Scalar.subi v209 v211
  let v213 : BitVec 1 := Scalar.cmpi .ne v207 v212
  let v214 : BitVec 32 := Scalar.remsi v42 c16_i32_115
  let c0_i32_120 : BitVec 32 := 0#32
  let v215 : BitVec 1 := Scalar.cmpi .ne v214 c0_i32_120
  let v216 : BitVec 1 := Scalar.andi v213 v215
  let v202 : BitVec 32 := Scalar.divsi v42 c16_i32_115
  let c1_i32_121 : BitVec 32 := 1#32
  let v217 : BitVec 32 := Scalar.subi v202 c1_i32_121
  let v218 : BitVec 32 := Scalar.select v216 v217 v202
  let c16_i32_122 : BitVec 32 := 16#32
  let v219 : BitVec 32 := Scalar.muli v218 c16_i32_122
  let c8_i32_125 : BitVec 32 := 8#32
  let v224 : BitVec 32 := Scalar.andi v42 c8_i32_125
  let v225 : BitVec 32 := Scalar.addi v219 v224
  let v321 : BitVec 32 := Scalar.addi c2_i32_194 v225
  let v322 : BitVec 32 := Scalar.addi v321 c0_i32_195
  let c2_i32_196 : BitVec 32 := 2#32
  let v323 : BitVec 1 := Scalar.cmpi .slt v322 c2_i32_196
  let c2_i32_197 : BitVec 32 := 2#32
  let v324 : BitVec 32 := Scalar.muli c2_i32_197 arg2
  let v325 : BitVec 32 := Scalar.addi v324 v322
  let c2_i32_198 : BitVec 32 := 2#32
  let v326 : BitVec 32 := Scalar.subi v322 c2_i32_198
  let v327 : BitVec 32 := Scalar.select v323 v325 v326
  let c256_i32_199 : BitVec 32 := 256#32
  let v328 : BitVec 32 := Scalar.muli v327 c256_i32_199
  let v329 : BitVec 32 := v328
  let v330 : Index := Scalar.indexCast v329
  let c0_200 : Index := 0#32
  ![v330.toNat, 0]
def k0_mult85 (i : grid0.Coords) : BitVec 32 :=
  let c2_i32_194 : BitVec 32 := 2#32
  let c2_i32 : BitVec 32 := 2#32
  let arg2 : BitVec 32 := BitVec.ofNat 32 (i 2).val
  let v42 : BitVec 32 := Scalar.muli c2_i32 arg2
  let c0_i32_116 : BitVec 32 := 0#32
  let v203 : BitVec 1 := Scalar.cmpi .sgt v42 c0_i32_116
  let v204 : BitVec 32 := Scalar.extui v203
  let c0_i32_117 : BitVec 32 := 0#32
  let v205 : BitVec 1 := Scalar.cmpi .slt v42 c0_i32_117
  let v206 : BitVec 32 := Scalar.extui v205
  let v207 : BitVec 32 := Scalar.subi v204 v206
  let c16_i32_115 : BitVec 32 := 16#32
  let c0_i32_118 : BitVec 32 := 0#32
  let v208 : BitVec 1 := Scalar.cmpi .sgt c16_i32_115 c0_i32_118
  let v209 : BitVec 32 := Scalar.extui v208
  let c0_i32_119 : BitVec 32 := 0#32
  let v210 : BitVec 1 := Scalar.cmpi .slt c16_i32_115 c0_i32_119
  let v211 : BitVec 32 := Scalar.extui v210
  let v212 : BitVec 32 := Scalar.subi v209 v211
  let v213 : BitVec 1 := Scalar.cmpi .ne v207 v212
  let v214 : BitVec 32 := Scalar.remsi v42 c16_i32_115
  let c0_i32_120 : BitVec 32 := 0#32
  let v215 : BitVec 1 := Scalar.cmpi .ne v214 c0_i32_120
  let v216 : BitVec 1 := Scalar.andi v213 v215
  let v202 : BitVec 32 := Scalar.divsi v42 c16_i32_115
  let c1_i32_121 : BitVec 32 := 1#32
  let v217 : BitVec 32 := Scalar.subi v202 c1_i32_121
  let v218 : BitVec 32 := Scalar.select v216 v217 v202
  let c16_i32_122 : BitVec 32 := 16#32
  let v219 : BitVec 32 := Scalar.muli v218 c16_i32_122
  let c8_i32_125 : BitVec 32 := 8#32
  let v224 : BitVec 32 := Scalar.andi v42 c8_i32_125
  let v225 : BitVec 32 := Scalar.addi v219 v224
  let v321 : BitVec 32 := Scalar.addi c2_i32_194 v225
  let c0_i32_195 : BitVec 32 := 0#32
  let v322 : BitVec 32 := Scalar.addi v321 c0_i32_195
  let c1_i32_217 : BitVec 32 := 1#32
  let v350 : BitVec 32 := Scalar.subi v322 c1_i32_217
  let c2_i32_218 : BitVec 32 := 2#32
  let v351 : BitVec 1 := Scalar.cmpi .slt v350 c2_i32_218
  let c2_i32_219 : BitVec 32 := 2#32
  let v352 : BitVec 32 := Scalar.muli c2_i32_219 arg2
  let v353 : BitVec 32 := Scalar.addi v352 v350
  let c2_i32_220 : BitVec 32 := 2#32
  let v354 : BitVec 32 := Scalar.subi v350 c2_i32_220
  let v355 : BitVec 32 := Scalar.select v351 v353 v354
  let c256_i32_221 : BitVec 32 := 256#32
  let v356 : BitVec 32 := Scalar.muli v355 c256_i32_221
  v356
def k0_off15 (i : grid0.Coords) (c0_i32_195 : BitVec 32) : Fin 2 → Nat :=
  let c0_234 : Index := 0#32
  let c2_i32_194 : BitVec 32 := 2#32
  let c2_i32 : BitVec 32 := 2#32
  let arg2 : BitVec 32 := BitVec.ofNat 32 (i 2).val
  let v42 : BitVec 32 := Scalar.muli c2_i32 arg2
  let c0_i32_116 : BitVec 32 := 0#32
  let v203 : BitVec 1 := Scalar.cmpi .sgt v42 c0_i32_116
  let v204 : BitVec 32 := Scalar.extui v203
  let c0_i32_117 : BitVec 32 := 0#32
  let v205 : BitVec 1 := Scalar.cmpi .slt v42 c0_i32_117
  let v206 : BitVec 32 := Scalar.extui v205
  let v207 : BitVec 32 := Scalar.subi v204 v206
  let c16_i32_115 : BitVec 32 := 16#32
  let c0_i32_118 : BitVec 32 := 0#32
  let v208 : BitVec 1 := Scalar.cmpi .sgt c16_i32_115 c0_i32_118
  let v209 : BitVec 32 := Scalar.extui v208
  let c0_i32_119 : BitVec 32 := 0#32
  let v210 : BitVec 1 := Scalar.cmpi .slt c16_i32_115 c0_i32_119
  let v211 : BitVec 32 := Scalar.extui v210
  let v212 : BitVec 32 := Scalar.subi v209 v211
  let v213 : BitVec 1 := Scalar.cmpi .ne v207 v212
  let v214 : BitVec 32 := Scalar.remsi v42 c16_i32_115
  let c0_i32_120 : BitVec 32 := 0#32
  let v215 : BitVec 1 := Scalar.cmpi .ne v214 c0_i32_120
  let v216 : BitVec 1 := Scalar.andi v213 v215
  let v202 : BitVec 32 := Scalar.divsi v42 c16_i32_115
  let c1_i32_121 : BitVec 32 := 1#32
  let v217 : BitVec 32 := Scalar.subi v202 c1_i32_121
  let v218 : BitVec 32 := Scalar.select v216 v217 v202
  let c16_i32_122 : BitVec 32 := 16#32
  let v219 : BitVec 32 := Scalar.muli v218 c16_i32_122
  let c8_i32_125 : BitVec 32 := 8#32
  let v224 : BitVec 32 := Scalar.andi v42 c8_i32_125
  let v225 : BitVec 32 := Scalar.addi v219 v224
  let v321 : BitVec 32 := Scalar.addi c2_i32_194 v225
  let v322 : BitVec 32 := Scalar.addi v321 c0_i32_195
  let c1_i32_217 : BitVec 32 := 1#32
  let v350 : BitVec 32 := Scalar.subi v322 c1_i32_217
  let c2_i32_218 : BitVec 32 := 2#32
  let v351 : BitVec 1 := Scalar.cmpi .slt v350 c2_i32_218
  let c2_i32_219 : BitVec 32 := 2#32
  let v352 : BitVec 32 := Scalar.muli c2_i32_219 arg2
  let v353 : BitVec 32 := Scalar.addi v352 v350
  let c2_i32_220 : BitVec 32 := 2#32
  let v354 : BitVec 32 := Scalar.subi v350 c2_i32_220
  let v355 : BitVec 32 := Scalar.select v351 v353 v354
  let c256_i32_221 : BitVec 32 := 256#32
  let v356 : BitVec 32 := Scalar.muli v355 c256_i32_221
  let v357 : BitVec 32 := v356
  let v374 : Index := Scalar.indexCast v357
  ![0, v374.toNat]
def k0_off16 (i : grid0.Coords) (c0_i32_195 : BitVec 32) : Fin 2 → Nat :=
  let c64_254 : Index := 64#32
  let c2_i32_194 : BitVec 32 := 2#32
  let c2_i32 : BitVec 32 := 2#32
  let arg2 : BitVec 32 := BitVec.ofNat 32 (i 2).val
  let v42 : BitVec 32 := Scalar.muli c2_i32 arg2
  let c0_i32_116 : BitVec 32 := 0#32
  let v203 : BitVec 1 := Scalar.cmpi .sgt v42 c0_i32_116
  let v204 : BitVec 32 := Scalar.extui v203
  let c0_i32_117 : BitVec 32 := 0#32
  let v205 : BitVec 1 := Scalar.cmpi .slt v42 c0_i32_117
  let v206 : BitVec 32 := Scalar.extui v205
  let v207 : BitVec 32 := Scalar.subi v204 v206
  let c16_i32_115 : BitVec 32 := 16#32
  let c0_i32_118 : BitVec 32 := 0#32
  let v208 : BitVec 1 := Scalar.cmpi .sgt c16_i32_115 c0_i32_118
  let v209 : BitVec 32 := Scalar.extui v208
  let c0_i32_119 : BitVec 32 := 0#32
  let v210 : BitVec 1 := Scalar.cmpi .slt c16_i32_115 c0_i32_119
  let v211 : BitVec 32 := Scalar.extui v210
  let v212 : BitVec 32 := Scalar.subi v209 v211
  let v213 : BitVec 1 := Scalar.cmpi .ne v207 v212
  let v214 : BitVec 32 := Scalar.remsi v42 c16_i32_115
  let c0_i32_120 : BitVec 32 := 0#32
  let v215 : BitVec 1 := Scalar.cmpi .ne v214 c0_i32_120
  let v216 : BitVec 1 := Scalar.andi v213 v215
  let v202 : BitVec 32 := Scalar.divsi v42 c16_i32_115
  let c1_i32_121 : BitVec 32 := 1#32
  let v217 : BitVec 32 := Scalar.subi v202 c1_i32_121
  let v218 : BitVec 32 := Scalar.select v216 v217 v202
  let c16_i32_122 : BitVec 32 := 16#32
  let v219 : BitVec 32 := Scalar.muli v218 c16_i32_122
  let c8_i32_125 : BitVec 32 := 8#32
  let v224 : BitVec 32 := Scalar.andi v42 c8_i32_125
  let v225 : BitVec 32 := Scalar.addi v219 v224
  let v321 : BitVec 32 := Scalar.addi c2_i32_194 v225
  let v322 : BitVec 32 := Scalar.addi v321 c0_i32_195
  let c1_i32_217 : BitVec 32 := 1#32
  let v350 : BitVec 32 := Scalar.subi v322 c1_i32_217
  let c2_i32_218 : BitVec 32 := 2#32
  let v351 : BitVec 1 := Scalar.cmpi .slt v350 c2_i32_218
  let c2_i32_219 : BitVec 32 := 2#32
  let v352 : BitVec 32 := Scalar.muli c2_i32_219 arg2
  let v353 : BitVec 32 := Scalar.addi v352 v350
  let c2_i32_220 : BitVec 32 := 2#32
  let v354 : BitVec 32 := Scalar.subi v350 c2_i32_220
  let v355 : BitVec 32 := Scalar.select v351 v353 v354
  let c256_i32_221 : BitVec 32 := 256#32
  let v356 : BitVec 32 := Scalar.muli v355 c256_i32_221
  let v357 : BitVec 32 := v356
  let v402 : Index := Scalar.indexCast v357
  ![64, v402.toNat]
def k0_mult86 (i : grid0.Coords) : BitVec 32 :=
  let c2_i32_262 : BitVec 32 := 2#32
  let c2_i32 : BitVec 32 := 2#32
  let arg2 : BitVec 32 := BitVec.ofNat 32 (i 2).val
  let v42 : BitVec 32 := Scalar.muli c2_i32 arg2
  let c0_i32_116 : BitVec 32 := 0#32
  let v203 : BitVec 1 := Scalar.cmpi .sgt v42 c0_i32_116
  let v204 : BitVec 32 := Scalar.extui v203
  let c0_i32_117 : BitVec 32 := 0#32
  let v205 : BitVec 1 := Scalar.cmpi .slt v42 c0_i32_117
  let v206 : BitVec 32 := Scalar.extui v205
  let v207 : BitVec 32 := Scalar.subi v204 v206
  let c16_i32_115 : BitVec 32 := 16#32
  let c0_i32_118 : BitVec 32 := 0#32
  let v208 : BitVec 1 := Scalar.cmpi .sgt c16_i32_115 c0_i32_118
  let v209 : BitVec 32 := Scalar.extui v208
  let c0_i32_119 : BitVec 32 := 0#32
  let v210 : BitVec 1 := Scalar.cmpi .slt c16_i32_115 c0_i32_119
  let v211 : BitVec 32 := Scalar.extui v210
  let v212 : BitVec 32 := Scalar.subi v209 v211
  let v213 : BitVec 1 := Scalar.cmpi .ne v207 v212
  let v214 : BitVec 32 := Scalar.remsi v42 c16_i32_115
  let c0_i32_120 : BitVec 32 := 0#32
  let v215 : BitVec 1 := Scalar.cmpi .ne v214 c0_i32_120
  let v216 : BitVec 1 := Scalar.andi v213 v215
  let v202 : BitVec 32 := Scalar.divsi v42 c16_i32_115
  let c1_i32_121 : BitVec 32 := 1#32
  let v217 : BitVec 32 := Scalar.subi v202 c1_i32_121
  let v218 : BitVec 32 := Scalar.select v216 v217 v202
  let c16_i32_122 : BitVec 32 := 16#32
  let v219 : BitVec 32 := Scalar.muli v218 c16_i32_122
  let c8_i32_125 : BitVec 32 := 8#32
  let v224 : BitVec 32 := Scalar.andi v42 c8_i32_125
  let v225 : BitVec 32 := Scalar.addi v219 v224
  let v414 : BitVec 32 := Scalar.addi c2_i32_262 v225
  let c1_i32_263 : BitVec 32 := 1#32
  let v415 : BitVec 32 := Scalar.addi v414 c1_i32_263
  let c2_i32_264 : BitVec 32 := 2#32
  let v416 : BitVec 1 := Scalar.cmpi .slt v415 c2_i32_264
  let c2_i32_265 : BitVec 32 := 2#32
  let v417 : BitVec 32 := Scalar.muli c2_i32_265 arg2
  let v418 : BitVec 32 := Scalar.addi v417 v415
  let c2_i32_266 : BitVec 32 := 2#32
  let v419 : BitVec 32 := Scalar.subi v415 c2_i32_266
  let v420 : BitVec 32 := Scalar.select v416 v418 v419
  let c256_i32_267 : BitVec 32 := 256#32
  let v421 : BitVec 32 := Scalar.muli v420 c256_i32_267
  v421
def k0_mult87 (i : grid0.Coords) : BitVec 32 :=
  let c2_i32_262 : BitVec 32 := 2#32
  let c2_i32 : BitVec 32 := 2#32
  let arg2 : BitVec 32 := BitVec.ofNat 32 (i 2).val
  let v42 : BitVec 32 := Scalar.muli c2_i32 arg2
  let c0_i32_116 : BitVec 32 := 0#32
  let v203 : BitVec 1 := Scalar.cmpi .sgt v42 c0_i32_116
  let v204 : BitVec 32 := Scalar.extui v203
  let c0_i32_117 : BitVec 32 := 0#32
  let v205 : BitVec 1 := Scalar.cmpi .slt v42 c0_i32_117
  let v206 : BitVec 32 := Scalar.extui v205
  let v207 : BitVec 32 := Scalar.subi v204 v206
  let c16_i32_115 : BitVec 32 := 16#32
  let c0_i32_118 : BitVec 32 := 0#32
  let v208 : BitVec 1 := Scalar.cmpi .sgt c16_i32_115 c0_i32_118
  let v209 : BitVec 32 := Scalar.extui v208
  let c0_i32_119 : BitVec 32 := 0#32
  let v210 : BitVec 1 := Scalar.cmpi .slt c16_i32_115 c0_i32_119
  let v211 : BitVec 32 := Scalar.extui v210
  let v212 : BitVec 32 := Scalar.subi v209 v211
  let v213 : BitVec 1 := Scalar.cmpi .ne v207 v212
  let v214 : BitVec 32 := Scalar.remsi v42 c16_i32_115
  let c0_i32_120 : BitVec 32 := 0#32
  let v215 : BitVec 1 := Scalar.cmpi .ne v214 c0_i32_120
  let v216 : BitVec 1 := Scalar.andi v213 v215
  let v202 : BitVec 32 := Scalar.divsi v42 c16_i32_115
  let c1_i32_121 : BitVec 32 := 1#32
  let v217 : BitVec 32 := Scalar.subi v202 c1_i32_121
  let v218 : BitVec 32 := Scalar.select v216 v217 v202
  let c16_i32_122 : BitVec 32 := 16#32
  let v219 : BitVec 32 := Scalar.muli v218 c16_i32_122
  let c8_i32_125 : BitVec 32 := 8#32
  let v224 : BitVec 32 := Scalar.andi v42 c8_i32_125
  let v225 : BitVec 32 := Scalar.addi v219 v224
  let v414 : BitVec 32 := Scalar.addi c2_i32_262 v225
  let c1_i32_263 : BitVec 32 := 1#32
  let v415 : BitVec 32 := Scalar.addi v414 c1_i32_263
  let c1_i32_285 : BitVec 32 := 1#32
  let v443 : BitVec 32 := Scalar.subi v415 c1_i32_285
  let c2_i32_286 : BitVec 32 := 2#32
  let v444 : BitVec 1 := Scalar.cmpi .slt v443 c2_i32_286
  let c2_i32_287 : BitVec 32 := 2#32
  let v445 : BitVec 32 := Scalar.muli c2_i32_287 arg2
  let v446 : BitVec 32 := Scalar.addi v445 v443
  let c2_i32_288 : BitVec 32 := 2#32
  let v447 : BitVec 32 := Scalar.subi v443 c2_i32_288
  let v448 : BitVec 32 := Scalar.select v444 v446 v447
  let c256_i32_289 : BitVec 32 := 256#32
  let v449 : BitVec 32 := Scalar.muli v448 c256_i32_289
  v449
def k0_mult88 (i : grid0.Coords) : BitVec 32 :=
  let c2_i32_330 : BitVec 32 := 2#32
  let c2_i32 : BitVec 32 := 2#32
  let arg2 : BitVec 32 := BitVec.ofNat 32 (i 2).val
  let v42 : BitVec 32 := Scalar.muli c2_i32 arg2
  let c0_i32_116 : BitVec 32 := 0#32
  let v203 : BitVec 1 := Scalar.cmpi .sgt v42 c0_i32_116
  let v204 : BitVec 32 := Scalar.extui v203
  let c0_i32_117 : BitVec 32 := 0#32
  let v205 : BitVec 1 := Scalar.cmpi .slt v42 c0_i32_117
  let v206 : BitVec 32 := Scalar.extui v205
  let v207 : BitVec 32 := Scalar.subi v204 v206
  let c16_i32_115 : BitVec 32 := 16#32
  let c0_i32_118 : BitVec 32 := 0#32
  let v208 : BitVec 1 := Scalar.cmpi .sgt c16_i32_115 c0_i32_118
  let v209 : BitVec 32 := Scalar.extui v208
  let c0_i32_119 : BitVec 32 := 0#32
  let v210 : BitVec 1 := Scalar.cmpi .slt c16_i32_115 c0_i32_119
  let v211 : BitVec 32 := Scalar.extui v210
  let v212 : BitVec 32 := Scalar.subi v209 v211
  let v213 : BitVec 1 := Scalar.cmpi .ne v207 v212
  let v214 : BitVec 32 := Scalar.remsi v42 c16_i32_115
  let c0_i32_120 : BitVec 32 := 0#32
  let v215 : BitVec 1 := Scalar.cmpi .ne v214 c0_i32_120
  let v216 : BitVec 1 := Scalar.andi v213 v215
  let v202 : BitVec 32 := Scalar.divsi v42 c16_i32_115
  let c1_i32_121 : BitVec 32 := 1#32
  let v217 : BitVec 32 := Scalar.subi v202 c1_i32_121
  let v218 : BitVec 32 := Scalar.select v216 v217 v202
  let c16_i32_122 : BitVec 32 := 16#32
  let v219 : BitVec 32 := Scalar.muli v218 c16_i32_122
  let c8_i32_125 : BitVec 32 := 8#32
  let v224 : BitVec 32 := Scalar.andi v42 c8_i32_125
  let v225 : BitVec 32 := Scalar.addi v219 v224
  let v507 : BitVec 32 := Scalar.addi c2_i32_330 v225
  let c2_i32_331 : BitVec 32 := 2#32
  let v508 : BitVec 32 := Scalar.addi v507 c2_i32_331
  let c2_i32_332 : BitVec 32 := 2#32
  let v509 : BitVec 1 := Scalar.cmpi .slt v508 c2_i32_332
  let c2_i32_333 : BitVec 32 := 2#32
  let v510 : BitVec 32 := Scalar.muli c2_i32_333 arg2
  let v511 : BitVec 32 := Scalar.addi v510 v508
  let c2_i32_334 : BitVec 32 := 2#32
  let v512 : BitVec 32 := Scalar.subi v508 c2_i32_334
  let v513 : BitVec 32 := Scalar.select v509 v511 v512
  let c256_i32_335 : BitVec 32 := 256#32
  let v514 : BitVec 32 := Scalar.muli v513 c256_i32_335
  v514
def k0_mult89 (i : grid0.Coords) : BitVec 32 :=
  let c2_i32_330 : BitVec 32 := 2#32
  let c2_i32 : BitVec 32 := 2#32
  let arg2 : BitVec 32 := BitVec.ofNat 32 (i 2).val
  let v42 : BitVec 32 := Scalar.muli c2_i32 arg2
  let c0_i32_116 : BitVec 32 := 0#32
  let v203 : BitVec 1 := Scalar.cmpi .sgt v42 c0_i32_116
  let v204 : BitVec 32 := Scalar.extui v203
  let c0_i32_117 : BitVec 32 := 0#32
  let v205 : BitVec 1 := Scalar.cmpi .slt v42 c0_i32_117
  let v206 : BitVec 32 := Scalar.extui v205
  let v207 : BitVec 32 := Scalar.subi v204 v206
  let c16_i32_115 : BitVec 32 := 16#32
  let c0_i32_118 : BitVec 32 := 0#32
  let v208 : BitVec 1 := Scalar.cmpi .sgt c16_i32_115 c0_i32_118
  let v209 : BitVec 32 := Scalar.extui v208
  let c0_i32_119 : BitVec 32 := 0#32
  let v210 : BitVec 1 := Scalar.cmpi .slt c16_i32_115 c0_i32_119
  let v211 : BitVec 32 := Scalar.extui v210
  let v212 : BitVec 32 := Scalar.subi v209 v211
  let v213 : BitVec 1 := Scalar.cmpi .ne v207 v212
  let v214 : BitVec 32 := Scalar.remsi v42 c16_i32_115
  let c0_i32_120 : BitVec 32 := 0#32
  let v215 : BitVec 1 := Scalar.cmpi .ne v214 c0_i32_120
  let v216 : BitVec 1 := Scalar.andi v213 v215
  let v202 : BitVec 32 := Scalar.divsi v42 c16_i32_115
  let c1_i32_121 : BitVec 32 := 1#32
  let v217 : BitVec 32 := Scalar.subi v202 c1_i32_121
  let v218 : BitVec 32 := Scalar.select v216 v217 v202
  let c16_i32_122 : BitVec 32 := 16#32
  let v219 : BitVec 32 := Scalar.muli v218 c16_i32_122
  let c8_i32_125 : BitVec 32 := 8#32
  let v224 : BitVec 32 := Scalar.andi v42 c8_i32_125
  let v225 : BitVec 32 := Scalar.addi v219 v224
  let v507 : BitVec 32 := Scalar.addi c2_i32_330 v225
  let c2_i32_331 : BitVec 32 := 2#32
  let v508 : BitVec 32 := Scalar.addi v507 c2_i32_331
  let c1_i32_353 : BitVec 32 := 1#32
  let v536 : BitVec 32 := Scalar.subi v508 c1_i32_353
  let c2_i32_354 : BitVec 32 := 2#32
  let v537 : BitVec 1 := Scalar.cmpi .slt v536 c2_i32_354
  let c2_i32_355 : BitVec 32 := 2#32
  let v538 : BitVec 32 := Scalar.muli c2_i32_355 arg2
  let v539 : BitVec 32 := Scalar.addi v538 v536
  let c2_i32_356 : BitVec 32 := 2#32
  let v540 : BitVec 32 := Scalar.subi v536 c2_i32_356
  let v541 : BitVec 32 := Scalar.select v537 v539 v540
  let c256_i32_357 : BitVec 32 := 256#32
  let v542 : BitVec 32 := Scalar.muli v541 c256_i32_357
  v542
def k0_mult90 (i : grid0.Coords) : BitVec 32 :=
  let c2_i32_398 : BitVec 32 := 2#32
  let c2_i32 : BitVec 32 := 2#32
  let arg2 : BitVec 32 := BitVec.ofNat 32 (i 2).val
  let v42 : BitVec 32 := Scalar.muli c2_i32 arg2
  let c0_i32_116 : BitVec 32 := 0#32
  let v203 : BitVec 1 := Scalar.cmpi .sgt v42 c0_i32_116
  let v204 : BitVec 32 := Scalar.extui v203
  let c0_i32_117 : BitVec 32 := 0#32
  let v205 : BitVec 1 := Scalar.cmpi .slt v42 c0_i32_117
  let v206 : BitVec 32 := Scalar.extui v205
  let v207 : BitVec 32 := Scalar.subi v204 v206
  let c16_i32_115 : BitVec 32 := 16#32
  let c0_i32_118 : BitVec 32 := 0#32
  let v208 : BitVec 1 := Scalar.cmpi .sgt c16_i32_115 c0_i32_118
  let v209 : BitVec 32 := Scalar.extui v208
  let c0_i32_119 : BitVec 32 := 0#32
  let v210 : BitVec 1 := Scalar.cmpi .slt c16_i32_115 c0_i32_119
  let v211 : BitVec 32 := Scalar.extui v210
  let v212 : BitVec 32 := Scalar.subi v209 v211
  let v213 : BitVec 1 := Scalar.cmpi .ne v207 v212
  let v214 : BitVec 32 := Scalar.remsi v42 c16_i32_115
  let c0_i32_120 : BitVec 32 := 0#32
  let v215 : BitVec 1 := Scalar.cmpi .ne v214 c0_i32_120
  let v216 : BitVec 1 := Scalar.andi v213 v215
  let v202 : BitVec 32 := Scalar.divsi v42 c16_i32_115
  let c1_i32_121 : BitVec 32 := 1#32
  let v217 : BitVec 32 := Scalar.subi v202 c1_i32_121
  let v218 : BitVec 32 := Scalar.select v216 v217 v202
  let c16_i32_122 : BitVec 32 := 16#32
  let v219 : BitVec 32 := Scalar.muli v218 c16_i32_122
  let c8_i32_125 : BitVec 32 := 8#32
  let v224 : BitVec 32 := Scalar.andi v42 c8_i32_125
  let v225 : BitVec 32 := Scalar.addi v219 v224
  let v600 : BitVec 32 := Scalar.addi c2_i32_398 v225
  let c3_i32_399 : BitVec 32 := 3#32
  let v601 : BitVec 32 := Scalar.addi v600 c3_i32_399
  let c2_i32_400 : BitVec 32 := 2#32
  let v602 : BitVec 1 := Scalar.cmpi .slt v601 c2_i32_400
  let c2_i32_401 : BitVec 32 := 2#32
  let v603 : BitVec 32 := Scalar.muli c2_i32_401 arg2
  let v604 : BitVec 32 := Scalar.addi v603 v601
  let c2_i32_402 : BitVec 32 := 2#32
  let v605 : BitVec 32 := Scalar.subi v601 c2_i32_402
  let v606 : BitVec 32 := Scalar.select v602 v604 v605
  let c256_i32_403 : BitVec 32 := 256#32
  let v607 : BitVec 32 := Scalar.muli v606 c256_i32_403
  v607
def k0_mult91 (i : grid0.Coords) : BitVec 32 :=
  let c2_i32_398 : BitVec 32 := 2#32
  let c2_i32 : BitVec 32 := 2#32
  let arg2 : BitVec 32 := BitVec.ofNat 32 (i 2).val
  let v42 : BitVec 32 := Scalar.muli c2_i32 arg2
  let c0_i32_116 : BitVec 32 := 0#32
  let v203 : BitVec 1 := Scalar.cmpi .sgt v42 c0_i32_116
  let v204 : BitVec 32 := Scalar.extui v203
  let c0_i32_117 : BitVec 32 := 0#32
  let v205 : BitVec 1 := Scalar.cmpi .slt v42 c0_i32_117
  let v206 : BitVec 32 := Scalar.extui v205
  let v207 : BitVec 32 := Scalar.subi v204 v206
  let c16_i32_115 : BitVec 32 := 16#32
  let c0_i32_118 : BitVec 32 := 0#32
  let v208 : BitVec 1 := Scalar.cmpi .sgt c16_i32_115 c0_i32_118
  let v209 : BitVec 32 := Scalar.extui v208
  let c0_i32_119 : BitVec 32 := 0#32
  let v210 : BitVec 1 := Scalar.cmpi .slt c16_i32_115 c0_i32_119
  let v211 : BitVec 32 := Scalar.extui v210
  let v212 : BitVec 32 := Scalar.subi v209 v211
  let v213 : BitVec 1 := Scalar.cmpi .ne v207 v212
  let v214 : BitVec 32 := Scalar.remsi v42 c16_i32_115
  let c0_i32_120 : BitVec 32 := 0#32
  let v215 : BitVec 1 := Scalar.cmpi .ne v214 c0_i32_120
  let v216 : BitVec 1 := Scalar.andi v213 v215
  let v202 : BitVec 32 := Scalar.divsi v42 c16_i32_115
  let c1_i32_121 : BitVec 32 := 1#32
  let v217 : BitVec 32 := Scalar.subi v202 c1_i32_121
  let v218 : BitVec 32 := Scalar.select v216 v217 v202
  let c16_i32_122 : BitVec 32 := 16#32
  let v219 : BitVec 32 := Scalar.muli v218 c16_i32_122
  let c8_i32_125 : BitVec 32 := 8#32
  let v224 : BitVec 32 := Scalar.andi v42 c8_i32_125
  let v225 : BitVec 32 := Scalar.addi v219 v224
  let v600 : BitVec 32 := Scalar.addi c2_i32_398 v225
  let c3_i32_399 : BitVec 32 := 3#32
  let v601 : BitVec 32 := Scalar.addi v600 c3_i32_399
  let c1_i32_421 : BitVec 32 := 1#32
  let v629 : BitVec 32 := Scalar.subi v601 c1_i32_421
  let c2_i32_422 : BitVec 32 := 2#32
  let v630 : BitVec 1 := Scalar.cmpi .slt v629 c2_i32_422
  let c2_i32_423 : BitVec 32 := 2#32
  let v631 : BitVec 32 := Scalar.muli c2_i32_423 arg2
  let v632 : BitVec 32 := Scalar.addi v631 v629
  let c2_i32_424 : BitVec 32 := 2#32
  let v633 : BitVec 32 := Scalar.subi v629 c2_i32_424
  let v634 : BitVec 32 := Scalar.select v630 v632 v633
  let c256_i32_425 : BitVec 32 := 256#32
  let v635 : BitVec 32 := Scalar.muli v634 c256_i32_425
  v635
def k0_cond3 (i : grid0.Coords) : BitVec 1 :=
  let c2_i32 : BitVec 32 := 2#32
  let arg2 : BitVec 32 := BitVec.ofNat 32 (i 2).val
  let v42 : BitVec 32 := Scalar.muli c2_i32 arg2
  let c2_i32_129 : BitVec 32 := 2#32
  let v232 : BitVec 32 := Scalar.andi v42 c2_i32_129
  let c0_i32_130 : BitVec 32 := 0#32
  let v233 : BitVec 1 := Scalar.cmpi .ne v232 c0_i32_130
  let v234 : BitVec 32 := Scalar.extui v233
  let c0_i32_131 : BitVec 32 := 0#32
  let v235 : BitVec 1 := Scalar.cmpi .ne v234 c0_i32_131
  v235

def k0_mult92 (i : grid0.Coords) : BitVec 32 :=
  let c2_i32_194 : BitVec 32 := 2#32
  let c2_i32 : BitVec 32 := 2#32
  let arg2 : BitVec 32 := BitVec.ofNat 32 (i 2).val
  let v42 : BitVec 32 := Scalar.muli c2_i32 arg2
  let c0_i32_116 : BitVec 32 := 0#32
  let v203 : BitVec 1 := Scalar.cmpi .sgt v42 c0_i32_116
  let v204 : BitVec 32 := Scalar.extui v203
  let c0_i32_117 : BitVec 32 := 0#32
  let v205 : BitVec 1 := Scalar.cmpi .slt v42 c0_i32_117
  let v206 : BitVec 32 := Scalar.extui v205
  let v207 : BitVec 32 := Scalar.subi v204 v206
  let c16_i32_115 : BitVec 32 := 16#32
  let c0_i32_118 : BitVec 32 := 0#32
  let v208 : BitVec 1 := Scalar.cmpi .sgt c16_i32_115 c0_i32_118
  let v209 : BitVec 32 := Scalar.extui v208
  let c0_i32_119 : BitVec 32 := 0#32
  let v210 : BitVec 1 := Scalar.cmpi .slt c16_i32_115 c0_i32_119
  let v211 : BitVec 32 := Scalar.extui v210
  let v212 : BitVec 32 := Scalar.subi v209 v211
  let v213 : BitVec 1 := Scalar.cmpi .ne v207 v212
  let v214 : BitVec 32 := Scalar.remsi v42 c16_i32_115
  let c0_i32_120 : BitVec 32 := 0#32
  let v215 : BitVec 1 := Scalar.cmpi .ne v214 c0_i32_120
  let v216 : BitVec 1 := Scalar.andi v213 v215
  let v202 : BitVec 32 := Scalar.divsi v42 c16_i32_115
  let c1_i32_121 : BitVec 32 := 1#32
  let v217 : BitVec 32 := Scalar.subi v202 c1_i32_121
  let v218 : BitVec 32 := Scalar.select v216 v217 v202
  let c16_i32_122 : BitVec 32 := 16#32
  let v219 : BitVec 32 := Scalar.muli v218 c16_i32_122
  let c8_i32_125 : BitVec 32 := 8#32
  let v224 : BitVec 32 := Scalar.andi v42 c8_i32_125
  let v225 : BitVec 32 := Scalar.addi v219 v224
  let c4_i32_128 : BitVec 32 := 4#32
  let v230 : BitVec 32 := Scalar.andi v42 c4_i32_128
  let v231 : BitVec 32 := Scalar.addi v225 v230
  let v321 : BitVec 32 := Scalar.addi c2_i32_194 v231
  let c0_i32_195 : BitVec 32 := 0#32
  let v322 : BitVec 32 := Scalar.addi v321 c0_i32_195
  let c2_i32_196 : BitVec 32 := 2#32
  let v323 : BitVec 1 := Scalar.cmpi .slt v322 c2_i32_196
  let c2_i32_197 : BitVec 32 := 2#32
  let v324 : BitVec 32 := Scalar.muli c2_i32_197 arg2
  let v325 : BitVec 32 := Scalar.addi v324 v322
  let c2_i32_198 : BitVec 32 := 2#32
  let v326 : BitVec 32 := Scalar.subi v322 c2_i32_198
  let v327 : BitVec 32 := Scalar.select v323 v325 v326
  let c256_i32_199 : BitVec 32 := 256#32
  let v328 : BitVec 32 := Scalar.muli v327 c256_i32_199
  v328
def k0_off17 (i : grid0.Coords) (c0_i32_195 : BitVec 32) : Fin 2 → Nat :=
  let c2_i32_194 : BitVec 32 := 2#32
  let c2_i32 : BitVec 32 := 2#32
  let arg2 : BitVec 32 := BitVec.ofNat 32 (i 2).val
  let v42 : BitVec 32 := Scalar.muli c2_i32 arg2
  let c0_i32_116 : BitVec 32 := 0#32
  let v203 : BitVec 1 := Scalar.cmpi .sgt v42 c0_i32_116
  let v204 : BitVec 32 := Scalar.extui v203
  let c0_i32_117 : BitVec 32 := 0#32
  let v205 : BitVec 1 := Scalar.cmpi .slt v42 c0_i32_117
  let v206 : BitVec 32 := Scalar.extui v205
  let v207 : BitVec 32 := Scalar.subi v204 v206
  let c16_i32_115 : BitVec 32 := 16#32
  let c0_i32_118 : BitVec 32 := 0#32
  let v208 : BitVec 1 := Scalar.cmpi .sgt c16_i32_115 c0_i32_118
  let v209 : BitVec 32 := Scalar.extui v208
  let c0_i32_119 : BitVec 32 := 0#32
  let v210 : BitVec 1 := Scalar.cmpi .slt c16_i32_115 c0_i32_119
  let v211 : BitVec 32 := Scalar.extui v210
  let v212 : BitVec 32 := Scalar.subi v209 v211
  let v213 : BitVec 1 := Scalar.cmpi .ne v207 v212
  let v214 : BitVec 32 := Scalar.remsi v42 c16_i32_115
  let c0_i32_120 : BitVec 32 := 0#32
  let v215 : BitVec 1 := Scalar.cmpi .ne v214 c0_i32_120
  let v216 : BitVec 1 := Scalar.andi v213 v215
  let v202 : BitVec 32 := Scalar.divsi v42 c16_i32_115
  let c1_i32_121 : BitVec 32 := 1#32
  let v217 : BitVec 32 := Scalar.subi v202 c1_i32_121
  let v218 : BitVec 32 := Scalar.select v216 v217 v202
  let c16_i32_122 : BitVec 32 := 16#32
  let v219 : BitVec 32 := Scalar.muli v218 c16_i32_122
  let c8_i32_125 : BitVec 32 := 8#32
  let v224 : BitVec 32 := Scalar.andi v42 c8_i32_125
  let v225 : BitVec 32 := Scalar.addi v219 v224
  let c4_i32_128 : BitVec 32 := 4#32
  let v230 : BitVec 32 := Scalar.andi v42 c4_i32_128
  let v231 : BitVec 32 := Scalar.addi v225 v230
  let v321 : BitVec 32 := Scalar.addi c2_i32_194 v231
  let v322 : BitVec 32 := Scalar.addi v321 c0_i32_195
  let c2_i32_196 : BitVec 32 := 2#32
  let v323 : BitVec 1 := Scalar.cmpi .slt v322 c2_i32_196
  let c2_i32_197 : BitVec 32 := 2#32
  let v324 : BitVec 32 := Scalar.muli c2_i32_197 arg2
  let v325 : BitVec 32 := Scalar.addi v324 v322
  let c2_i32_198 : BitVec 32 := 2#32
  let v326 : BitVec 32 := Scalar.subi v322 c2_i32_198
  let v327 : BitVec 32 := Scalar.select v323 v325 v326
  let c256_i32_199 : BitVec 32 := 256#32
  let v328 : BitVec 32 := Scalar.muli v327 c256_i32_199
  let v329 : BitVec 32 := v328
  let v330 : Index := Scalar.indexCast v329
  let c0_200 : Index := 0#32
  ![v330.toNat, 0]
def k0_mult93 (i : grid0.Coords) : BitVec 32 :=
  let c2_i32_194 : BitVec 32 := 2#32
  let c2_i32 : BitVec 32 := 2#32
  let arg2 : BitVec 32 := BitVec.ofNat 32 (i 2).val
  let v42 : BitVec 32 := Scalar.muli c2_i32 arg2
  let c0_i32_116 : BitVec 32 := 0#32
  let v203 : BitVec 1 := Scalar.cmpi .sgt v42 c0_i32_116
  let v204 : BitVec 32 := Scalar.extui v203
  let c0_i32_117 : BitVec 32 := 0#32
  let v205 : BitVec 1 := Scalar.cmpi .slt v42 c0_i32_117
  let v206 : BitVec 32 := Scalar.extui v205
  let v207 : BitVec 32 := Scalar.subi v204 v206
  let c16_i32_115 : BitVec 32 := 16#32
  let c0_i32_118 : BitVec 32 := 0#32
  let v208 : BitVec 1 := Scalar.cmpi .sgt c16_i32_115 c0_i32_118
  let v209 : BitVec 32 := Scalar.extui v208
  let c0_i32_119 : BitVec 32 := 0#32
  let v210 : BitVec 1 := Scalar.cmpi .slt c16_i32_115 c0_i32_119
  let v211 : BitVec 32 := Scalar.extui v210
  let v212 : BitVec 32 := Scalar.subi v209 v211
  let v213 : BitVec 1 := Scalar.cmpi .ne v207 v212
  let v214 : BitVec 32 := Scalar.remsi v42 c16_i32_115
  let c0_i32_120 : BitVec 32 := 0#32
  let v215 : BitVec 1 := Scalar.cmpi .ne v214 c0_i32_120
  let v216 : BitVec 1 := Scalar.andi v213 v215
  let v202 : BitVec 32 := Scalar.divsi v42 c16_i32_115
  let c1_i32_121 : BitVec 32 := 1#32
  let v217 : BitVec 32 := Scalar.subi v202 c1_i32_121
  let v218 : BitVec 32 := Scalar.select v216 v217 v202
  let c16_i32_122 : BitVec 32 := 16#32
  let v219 : BitVec 32 := Scalar.muli v218 c16_i32_122
  let c8_i32_125 : BitVec 32 := 8#32
  let v224 : BitVec 32 := Scalar.andi v42 c8_i32_125
  let v225 : BitVec 32 := Scalar.addi v219 v224
  let c4_i32_128 : BitVec 32 := 4#32
  let v230 : BitVec 32 := Scalar.andi v42 c4_i32_128
  let v231 : BitVec 32 := Scalar.addi v225 v230
  let v321 : BitVec 32 := Scalar.addi c2_i32_194 v231
  let c0_i32_195 : BitVec 32 := 0#32
  let v322 : BitVec 32 := Scalar.addi v321 c0_i32_195
  let c1_i32_217 : BitVec 32 := 1#32
  let v350 : BitVec 32 := Scalar.subi v322 c1_i32_217
  let c2_i32_218 : BitVec 32 := 2#32
  let v351 : BitVec 1 := Scalar.cmpi .slt v350 c2_i32_218
  let c2_i32_219 : BitVec 32 := 2#32
  let v352 : BitVec 32 := Scalar.muli c2_i32_219 arg2
  let v353 : BitVec 32 := Scalar.addi v352 v350
  let c2_i32_220 : BitVec 32 := 2#32
  let v354 : BitVec 32 := Scalar.subi v350 c2_i32_220
  let v355 : BitVec 32 := Scalar.select v351 v353 v354
  let c256_i32_221 : BitVec 32 := 256#32
  let v356 : BitVec 32 := Scalar.muli v355 c256_i32_221
  v356
def k0_off18 (i : grid0.Coords) (c0_i32_195 : BitVec 32) : Fin 2 → Nat :=
  let c0_234 : Index := 0#32
  let c2_i32_194 : BitVec 32 := 2#32
  let c2_i32 : BitVec 32 := 2#32
  let arg2 : BitVec 32 := BitVec.ofNat 32 (i 2).val
  let v42 : BitVec 32 := Scalar.muli c2_i32 arg2
  let c0_i32_116 : BitVec 32 := 0#32
  let v203 : BitVec 1 := Scalar.cmpi .sgt v42 c0_i32_116
  let v204 : BitVec 32 := Scalar.extui v203
  let c0_i32_117 : BitVec 32 := 0#32
  let v205 : BitVec 1 := Scalar.cmpi .slt v42 c0_i32_117
  let v206 : BitVec 32 := Scalar.extui v205
  let v207 : BitVec 32 := Scalar.subi v204 v206
  let c16_i32_115 : BitVec 32 := 16#32
  let c0_i32_118 : BitVec 32 := 0#32
  let v208 : BitVec 1 := Scalar.cmpi .sgt c16_i32_115 c0_i32_118
  let v209 : BitVec 32 := Scalar.extui v208
  let c0_i32_119 : BitVec 32 := 0#32
  let v210 : BitVec 1 := Scalar.cmpi .slt c16_i32_115 c0_i32_119
  let v211 : BitVec 32 := Scalar.extui v210
  let v212 : BitVec 32 := Scalar.subi v209 v211
  let v213 : BitVec 1 := Scalar.cmpi .ne v207 v212
  let v214 : BitVec 32 := Scalar.remsi v42 c16_i32_115
  let c0_i32_120 : BitVec 32 := 0#32
  let v215 : BitVec 1 := Scalar.cmpi .ne v214 c0_i32_120
  let v216 : BitVec 1 := Scalar.andi v213 v215
  let v202 : BitVec 32 := Scalar.divsi v42 c16_i32_115
  let c1_i32_121 : BitVec 32 := 1#32
  let v217 : BitVec 32 := Scalar.subi v202 c1_i32_121
  let v218 : BitVec 32 := Scalar.select v216 v217 v202
  let c16_i32_122 : BitVec 32 := 16#32
  let v219 : BitVec 32 := Scalar.muli v218 c16_i32_122
  let c8_i32_125 : BitVec 32 := 8#32
  let v224 : BitVec 32 := Scalar.andi v42 c8_i32_125
  let v225 : BitVec 32 := Scalar.addi v219 v224
  let c4_i32_128 : BitVec 32 := 4#32
  let v230 : BitVec 32 := Scalar.andi v42 c4_i32_128
  let v231 : BitVec 32 := Scalar.addi v225 v230
  let v321 : BitVec 32 := Scalar.addi c2_i32_194 v231
  let v322 : BitVec 32 := Scalar.addi v321 c0_i32_195
  let c1_i32_217 : BitVec 32 := 1#32
  let v350 : BitVec 32 := Scalar.subi v322 c1_i32_217
  let c2_i32_218 : BitVec 32 := 2#32
  let v351 : BitVec 1 := Scalar.cmpi .slt v350 c2_i32_218
  let c2_i32_219 : BitVec 32 := 2#32
  let v352 : BitVec 32 := Scalar.muli c2_i32_219 arg2
  let v353 : BitVec 32 := Scalar.addi v352 v350
  let c2_i32_220 : BitVec 32 := 2#32
  let v354 : BitVec 32 := Scalar.subi v350 c2_i32_220
  let v355 : BitVec 32 := Scalar.select v351 v353 v354
  let c256_i32_221 : BitVec 32 := 256#32
  let v356 : BitVec 32 := Scalar.muli v355 c256_i32_221
  let v357 : BitVec 32 := v356
  let v374 : Index := Scalar.indexCast v357
  ![0, v374.toNat]
def k0_off19 (i : grid0.Coords) (c0_i32_195 : BitVec 32) : Fin 2 → Nat :=
  let c64_254 : Index := 64#32
  let c2_i32_194 : BitVec 32 := 2#32
  let c2_i32 : BitVec 32 := 2#32
  let arg2 : BitVec 32 := BitVec.ofNat 32 (i 2).val
  let v42 : BitVec 32 := Scalar.muli c2_i32 arg2
  let c0_i32_116 : BitVec 32 := 0#32
  let v203 : BitVec 1 := Scalar.cmpi .sgt v42 c0_i32_116
  let v204 : BitVec 32 := Scalar.extui v203
  let c0_i32_117 : BitVec 32 := 0#32
  let v205 : BitVec 1 := Scalar.cmpi .slt v42 c0_i32_117
  let v206 : BitVec 32 := Scalar.extui v205
  let v207 : BitVec 32 := Scalar.subi v204 v206
  let c16_i32_115 : BitVec 32 := 16#32
  let c0_i32_118 : BitVec 32 := 0#32
  let v208 : BitVec 1 := Scalar.cmpi .sgt c16_i32_115 c0_i32_118
  let v209 : BitVec 32 := Scalar.extui v208
  let c0_i32_119 : BitVec 32 := 0#32
  let v210 : BitVec 1 := Scalar.cmpi .slt c16_i32_115 c0_i32_119
  let v211 : BitVec 32 := Scalar.extui v210
  let v212 : BitVec 32 := Scalar.subi v209 v211
  let v213 : BitVec 1 := Scalar.cmpi .ne v207 v212
  let v214 : BitVec 32 := Scalar.remsi v42 c16_i32_115
  let c0_i32_120 : BitVec 32 := 0#32
  let v215 : BitVec 1 := Scalar.cmpi .ne v214 c0_i32_120
  let v216 : BitVec 1 := Scalar.andi v213 v215
  let v202 : BitVec 32 := Scalar.divsi v42 c16_i32_115
  let c1_i32_121 : BitVec 32 := 1#32
  let v217 : BitVec 32 := Scalar.subi v202 c1_i32_121
  let v218 : BitVec 32 := Scalar.select v216 v217 v202
  let c16_i32_122 : BitVec 32 := 16#32
  let v219 : BitVec 32 := Scalar.muli v218 c16_i32_122
  let c8_i32_125 : BitVec 32 := 8#32
  let v224 : BitVec 32 := Scalar.andi v42 c8_i32_125
  let v225 : BitVec 32 := Scalar.addi v219 v224
  let c4_i32_128 : BitVec 32 := 4#32
  let v230 : BitVec 32 := Scalar.andi v42 c4_i32_128
  let v231 : BitVec 32 := Scalar.addi v225 v230
  let v321 : BitVec 32 := Scalar.addi c2_i32_194 v231
  let v322 : BitVec 32 := Scalar.addi v321 c0_i32_195
  let c1_i32_217 : BitVec 32 := 1#32
  let v350 : BitVec 32 := Scalar.subi v322 c1_i32_217
  let c2_i32_218 : BitVec 32 := 2#32
  let v351 : BitVec 1 := Scalar.cmpi .slt v350 c2_i32_218
  let c2_i32_219 : BitVec 32 := 2#32
  let v352 : BitVec 32 := Scalar.muli c2_i32_219 arg2
  let v353 : BitVec 32 := Scalar.addi v352 v350
  let c2_i32_220 : BitVec 32 := 2#32
  let v354 : BitVec 32 := Scalar.subi v350 c2_i32_220
  let v355 : BitVec 32 := Scalar.select v351 v353 v354
  let c256_i32_221 : BitVec 32 := 256#32
  let v356 : BitVec 32 := Scalar.muli v355 c256_i32_221
  let v357 : BitVec 32 := v356
  let v402 : Index := Scalar.indexCast v357
  ![64, v402.toNat]
def k0_mult94 (i : grid0.Coords) : BitVec 32 :=
  let c2_i32_262 : BitVec 32 := 2#32
  let c2_i32 : BitVec 32 := 2#32
  let arg2 : BitVec 32 := BitVec.ofNat 32 (i 2).val
  let v42 : BitVec 32 := Scalar.muli c2_i32 arg2
  let c0_i32_116 : BitVec 32 := 0#32
  let v203 : BitVec 1 := Scalar.cmpi .sgt v42 c0_i32_116
  let v204 : BitVec 32 := Scalar.extui v203
  let c0_i32_117 : BitVec 32 := 0#32
  let v205 : BitVec 1 := Scalar.cmpi .slt v42 c0_i32_117
  let v206 : BitVec 32 := Scalar.extui v205
  let v207 : BitVec 32 := Scalar.subi v204 v206
  let c16_i32_115 : BitVec 32 := 16#32
  let c0_i32_118 : BitVec 32 := 0#32
  let v208 : BitVec 1 := Scalar.cmpi .sgt c16_i32_115 c0_i32_118
  let v209 : BitVec 32 := Scalar.extui v208
  let c0_i32_119 : BitVec 32 := 0#32
  let v210 : BitVec 1 := Scalar.cmpi .slt c16_i32_115 c0_i32_119
  let v211 : BitVec 32 := Scalar.extui v210
  let v212 : BitVec 32 := Scalar.subi v209 v211
  let v213 : BitVec 1 := Scalar.cmpi .ne v207 v212
  let v214 : BitVec 32 := Scalar.remsi v42 c16_i32_115
  let c0_i32_120 : BitVec 32 := 0#32
  let v215 : BitVec 1 := Scalar.cmpi .ne v214 c0_i32_120
  let v216 : BitVec 1 := Scalar.andi v213 v215
  let v202 : BitVec 32 := Scalar.divsi v42 c16_i32_115
  let c1_i32_121 : BitVec 32 := 1#32
  let v217 : BitVec 32 := Scalar.subi v202 c1_i32_121
  let v218 : BitVec 32 := Scalar.select v216 v217 v202
  let c16_i32_122 : BitVec 32 := 16#32
  let v219 : BitVec 32 := Scalar.muli v218 c16_i32_122
  let c8_i32_125 : BitVec 32 := 8#32
  let v224 : BitVec 32 := Scalar.andi v42 c8_i32_125
  let v225 : BitVec 32 := Scalar.addi v219 v224
  let c4_i32_128 : BitVec 32 := 4#32
  let v230 : BitVec 32 := Scalar.andi v42 c4_i32_128
  let v231 : BitVec 32 := Scalar.addi v225 v230
  let v414 : BitVec 32 := Scalar.addi c2_i32_262 v231
  let c1_i32_263 : BitVec 32 := 1#32
  let v415 : BitVec 32 := Scalar.addi v414 c1_i32_263
  let c2_i32_264 : BitVec 32 := 2#32
  let v416 : BitVec 1 := Scalar.cmpi .slt v415 c2_i32_264
  let c2_i32_265 : BitVec 32 := 2#32
  let v417 : BitVec 32 := Scalar.muli c2_i32_265 arg2
  let v418 : BitVec 32 := Scalar.addi v417 v415
  let c2_i32_266 : BitVec 32 := 2#32
  let v419 : BitVec 32 := Scalar.subi v415 c2_i32_266
  let v420 : BitVec 32 := Scalar.select v416 v418 v419
  let c256_i32_267 : BitVec 32 := 256#32
  let v421 : BitVec 32 := Scalar.muli v420 c256_i32_267
  v421
def k0_mult95 (i : grid0.Coords) : BitVec 32 :=
  let c2_i32_262 : BitVec 32 := 2#32
  let c2_i32 : BitVec 32 := 2#32
  let arg2 : BitVec 32 := BitVec.ofNat 32 (i 2).val
  let v42 : BitVec 32 := Scalar.muli c2_i32 arg2
  let c0_i32_116 : BitVec 32 := 0#32
  let v203 : BitVec 1 := Scalar.cmpi .sgt v42 c0_i32_116
  let v204 : BitVec 32 := Scalar.extui v203
  let c0_i32_117 : BitVec 32 := 0#32
  let v205 : BitVec 1 := Scalar.cmpi .slt v42 c0_i32_117
  let v206 : BitVec 32 := Scalar.extui v205
  let v207 : BitVec 32 := Scalar.subi v204 v206
  let c16_i32_115 : BitVec 32 := 16#32
  let c0_i32_118 : BitVec 32 := 0#32
  let v208 : BitVec 1 := Scalar.cmpi .sgt c16_i32_115 c0_i32_118
  let v209 : BitVec 32 := Scalar.extui v208
  let c0_i32_119 : BitVec 32 := 0#32
  let v210 : BitVec 1 := Scalar.cmpi .slt c16_i32_115 c0_i32_119
  let v211 : BitVec 32 := Scalar.extui v210
  let v212 : BitVec 32 := Scalar.subi v209 v211
  let v213 : BitVec 1 := Scalar.cmpi .ne v207 v212
  let v214 : BitVec 32 := Scalar.remsi v42 c16_i32_115
  let c0_i32_120 : BitVec 32 := 0#32
  let v215 : BitVec 1 := Scalar.cmpi .ne v214 c0_i32_120
  let v216 : BitVec 1 := Scalar.andi v213 v215
  let v202 : BitVec 32 := Scalar.divsi v42 c16_i32_115
  let c1_i32_121 : BitVec 32 := 1#32
  let v217 : BitVec 32 := Scalar.subi v202 c1_i32_121
  let v218 : BitVec 32 := Scalar.select v216 v217 v202
  let c16_i32_122 : BitVec 32 := 16#32
  let v219 : BitVec 32 := Scalar.muli v218 c16_i32_122
  let c8_i32_125 : BitVec 32 := 8#32
  let v224 : BitVec 32 := Scalar.andi v42 c8_i32_125
  let v225 : BitVec 32 := Scalar.addi v219 v224
  let c4_i32_128 : BitVec 32 := 4#32
  let v230 : BitVec 32 := Scalar.andi v42 c4_i32_128
  let v231 : BitVec 32 := Scalar.addi v225 v230
  let v414 : BitVec 32 := Scalar.addi c2_i32_262 v231
  let c1_i32_263 : BitVec 32 := 1#32
  let v415 : BitVec 32 := Scalar.addi v414 c1_i32_263
  let c1_i32_285 : BitVec 32 := 1#32
  let v443 : BitVec 32 := Scalar.subi v415 c1_i32_285
  let c2_i32_286 : BitVec 32 := 2#32
  let v444 : BitVec 1 := Scalar.cmpi .slt v443 c2_i32_286
  let c2_i32_287 : BitVec 32 := 2#32
  let v445 : BitVec 32 := Scalar.muli c2_i32_287 arg2
  let v446 : BitVec 32 := Scalar.addi v445 v443
  let c2_i32_288 : BitVec 32 := 2#32
  let v447 : BitVec 32 := Scalar.subi v443 c2_i32_288
  let v448 : BitVec 32 := Scalar.select v444 v446 v447
  let c256_i32_289 : BitVec 32 := 256#32
  let v449 : BitVec 32 := Scalar.muli v448 c256_i32_289
  v449
def k0_mult96 (i : grid0.Coords) : BitVec 32 :=
  let c2_i32_132 : BitVec 32 := 2#32
  let c2_i32 : BitVec 32 := 2#32
  let arg2 : BitVec 32 := BitVec.ofNat 32 (i 2).val
  let v42 : BitVec 32 := Scalar.muli c2_i32 arg2
  let v236 : BitVec 32 := Scalar.addi c2_i32_132 v42
  let c1_i32_133 : BitVec 32 := 1#32
  let v237 : BitVec 32 := Scalar.subi v236 c1_i32_133
  let c2_i32_134 : BitVec 32 := 2#32
  let v238 : BitVec 1 := Scalar.cmpi .slt v237 c2_i32_134
  let c2_i32_135 : BitVec 32 := 2#32
  let v239 : BitVec 32 := Scalar.muli c2_i32_135 arg2
  let v240 : BitVec 32 := Scalar.addi v239 v237
  let c2_i32_136 : BitVec 32 := 2#32
  let v241 : BitVec 32 := Scalar.subi v237 c2_i32_136
  let v242 : BitVec 32 := Scalar.select v238 v240 v241
  let c256_i32_137 : BitVec 32 := 256#32
  let v243 : BitVec 32 := Scalar.muli v242 c256_i32_137
  v243
def k0_off20 (i : grid0.Coords) : Fin 2 → Nat :=
  let c0_150 : Index := 0#32
  let c2_i32_132 : BitVec 32 := 2#32
  let c2_i32 : BitVec 32 := 2#32
  let arg2 : BitVec 32 := BitVec.ofNat 32 (i 2).val
  let v42 : BitVec 32 := Scalar.muli c2_i32 arg2
  let v236 : BitVec 32 := Scalar.addi c2_i32_132 v42
  let c1_i32_133 : BitVec 32 := 1#32
  let v237 : BitVec 32 := Scalar.subi v236 c1_i32_133
  let c2_i32_134 : BitVec 32 := 2#32
  let v238 : BitVec 1 := Scalar.cmpi .slt v237 c2_i32_134
  let c2_i32_135 : BitVec 32 := 2#32
  let v239 : BitVec 32 := Scalar.muli c2_i32_135 arg2
  let v240 : BitVec 32 := Scalar.addi v239 v237
  let c2_i32_136 : BitVec 32 := 2#32
  let v241 : BitVec 32 := Scalar.subi v237 c2_i32_136
  let v242 : BitVec 32 := Scalar.select v238 v240 v241
  let c256_i32_137 : BitVec 32 := 256#32
  let v243 : BitVec 32 := Scalar.muli v242 c256_i32_137
  let v244 : BitVec 32 := v243
  let v261 : Index := Scalar.indexCast v244
  ![0, v261.toNat]
def k0_off21 (i : grid0.Coords) : Fin 2 → Nat :=
  let c64_170 : Index := 64#32
  let c2_i32_132 : BitVec 32 := 2#32
  let c2_i32 : BitVec 32 := 2#32
  let arg2 : BitVec 32 := BitVec.ofNat 32 (i 2).val
  let v42 : BitVec 32 := Scalar.muli c2_i32 arg2
  let v236 : BitVec 32 := Scalar.addi c2_i32_132 v42
  let c1_i32_133 : BitVec 32 := 1#32
  let v237 : BitVec 32 := Scalar.subi v236 c1_i32_133
  let c2_i32_134 : BitVec 32 := 2#32
  let v238 : BitVec 1 := Scalar.cmpi .slt v237 c2_i32_134
  let c2_i32_135 : BitVec 32 := 2#32
  let v239 : BitVec 32 := Scalar.muli c2_i32_135 arg2
  let v240 : BitVec 32 := Scalar.addi v239 v237
  let c2_i32_136 : BitVec 32 := 2#32
  let v241 : BitVec 32 := Scalar.subi v237 c2_i32_136
  let v242 : BitVec 32 := Scalar.select v238 v240 v241
  let c256_i32_137 : BitVec 32 := 256#32
  let v243 : BitVec 32 := Scalar.muli v242 c256_i32_137
  let v244 : BitVec 32 := v243
  let v289 : Index := Scalar.indexCast v244
  ![64, v289.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S128x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S1024x32768 : Shape := ⟨2, ![1024, 32768]⟩
abbrev S32768x1024 : Shape := ⟨2, ![32768, 1024]⟩
abbrev S2x16384x4x2x128 : Shape := ⟨5, ![2, 16384, 4, 2, 128]⟩
abbrev S512x32768 : Shape := ⟨2, ![512, 32768]⟩
abbrev S32768x512 : Shape := ⟨2, ![32768, 512]⟩
abbrev S2x16384x8x64 : Shape := ⟨4, ![2, 16384, 8, 64]⟩
abbrev S2x8x16384x64 : Shape := ⟨4, ![2, 8, 16384, 64]⟩
abbrev S2x16384x4x1x128 : Shape := ⟨5, ![2, 16384, 4, 1, 128]⟩
abbrev S2x16384x4x128 : Shape := ⟨4, ![2, 16384, 4, 128]⟩
abbrev S2x16384x4x1x6 : Shape := ⟨5, ![2, 16384, 4, 1, 6]⟩
abbrev S2x16384x4x6 : Shape := ⟨4, ![2, 16384, 4, 6]⟩
abbrev S2x16384x8x3 : Shape := ⟨4, ![2, 16384, 8, 3]⟩
abbrev S_ : Shape := ⟨0, ![]⟩
abbrev S2x16384x8 : Shape := ⟨3, ![2, 16384, 8]⟩
abbrev S2x8x16384 : Shape := ⟨3, ![2, 8, 16384]⟩
abbrev S16384 : Shape := ⟨1, ![16384]⟩
abbrev S2x8x16384x16384 : Shape := ⟨4, ![2, 8, 16384, 16384]⟩
abbrev S2x8x16384x1 : Shape := ⟨4, ![2, 8, 16384, 1]⟩
abbrev S2x8x1x16384 : Shape := ⟨4, ![2, 8, 1, 16384]⟩
abbrev S1x16384 : Shape := ⟨2, ![1, 16384]⟩
abbrev S16384x1 : Shape := ⟨2, ![16384, 1]⟩
abbrev S16384x16384 : Shape := ⟨2, ![16384, 16384]⟩

abbrev nBuf : Space → Nat
  | .hbm => 65
  | .vmem => 0
  | .smem => 0
  | _ => 0

abbrev bufTy : (tb : Table) → Fin (tcTables nBuf tb) → BufTy
  | .hbm, ⟨0, _⟩ => ⟨S1024x32768, .bf16⟩
  | .hbm, ⟨1, _⟩ => ⟨S32768x1024, .bf16⟩
  | .hbm, ⟨2, _⟩ => ⟨S1024x32768, .f32⟩
  | .hbm, ⟨3, _⟩ => ⟨S32768x1024, .f32⟩
  | .hbm, ⟨4, _⟩ => ⟨S2x16384x4x2x128, .f32⟩
  | .hbm, ⟨5, _⟩ => ⟨S512x32768, .f32⟩
  | .hbm, ⟨6, _⟩ => ⟨S32768x512, .f32⟩
  | .hbm, ⟨7, _⟩ => ⟨S2x16384x8x64, .f32⟩
  | .hbm, ⟨8, _⟩ => ⟨S2x8x16384x64, .f32⟩
  | .hbm, ⟨9, _⟩ => ⟨S512x32768, .f32⟩
  | .hbm, ⟨10, _⟩ => ⟨S32768x512, .f32⟩
  | .hbm, ⟨11, _⟩ => ⟨S2x16384x8x64, .f32⟩
  | .hbm, ⟨12, _⟩ => ⟨S2x8x16384x64, .f32⟩
  | .hbm, ⟨13, _⟩ => ⟨S2x16384x4x1x128, .f32⟩
  | .hbm, ⟨14, _⟩ => ⟨S2x16384x4x128, .f32⟩
  | .hbm, ⟨15, _⟩ => ⟨S2x16384x8x64, .f32⟩
  | .hbm, ⟨16, _⟩ => ⟨S2x8x16384x64, .f32⟩
  | .hbm, ⟨17, _⟩ => ⟨S32768x1024, .f32⟩
  | .hbm, ⟨18, _⟩ => ⟨S2x16384x4x2x128, .f32⟩
  | .hbm, ⟨19, _⟩ => ⟨S2x16384x4x1x6, .f32⟩
  | .hbm, ⟨20, _⟩ => ⟨S2x16384x4x6, .f32⟩
  | .hbm, ⟨21, _⟩ => ⟨S2x16384x8x3, .f32⟩
  | .hbm, ⟨22, _⟩ => ⟨S_, .f32⟩
  | .hbm, ⟨23, _⟩ => ⟨S2x16384x8, .f32⟩
  | .hbm, ⟨24, _⟩ => ⟨S2x8x16384, .f32⟩
  | .hbm, ⟨25, _⟩ => ⟨S16384, .i32⟩
  | .hbm, ⟨26, _⟩ => ⟨S2x8x16384x16384, .f32⟩
  | .hbm, ⟨27, _⟩ => ⟨S2x8x16384x1, .f32⟩
  | .hbm, ⟨28, _⟩ => ⟨S2x8x16384x16384, .f32⟩
  | .hbm, ⟨29, _⟩ => ⟨S2x8x16384x16384, .f32⟩
  | .hbm, ⟨30, _⟩ => ⟨S2x8x1x16384, .f32⟩
  | .hbm, ⟨31, _⟩ => ⟨S2x8x16384x16384, .f32⟩
  | .hbm, ⟨32, _⟩ => ⟨S2x8x16384x16384, .f32⟩
  | .hbm, ⟨33, _⟩ => ⟨S_, .f32⟩
  | .hbm, ⟨34, _⟩ => ⟨S_, .f32⟩
  | .hbm, ⟨35, _⟩ => ⟨S2x8x16384x16384, .f32⟩
  | .hbm, ⟨36, _⟩ => ⟨S2x8x16384x16384, .f32⟩
  | .hbm, ⟨37, _⟩ => ⟨S1x16384, .i32⟩
  | .hbm, ⟨38, _⟩ => ⟨S16384x1, .i32⟩
  | .hbm, ⟨39, _⟩ => ⟨S16384x16384, .i32⟩
  | .hbm, ⟨40, _⟩ => ⟨S16384x16384, .i32⟩
  | .hbm, ⟨41, _⟩ => ⟨S16384x16384, .i1⟩
  | .hbm, ⟨42, _⟩ => ⟨S_, .f32⟩
  | .hbm, ⟨43, _⟩ => ⟨S_, .f32⟩
  | .hbm, ⟨44, _⟩ => ⟨S2x8x16384x16384, .i1⟩
  | .hbm, ⟨45, _⟩ => ⟨S2x8x16384x16384, .f32⟩
  | .hbm, ⟨46, _⟩ => ⟨S2x8x16384x16384, .f32⟩
  | .hbm, ⟨47, _⟩ => ⟨S_, .f32⟩
  | .hbm, ⟨48, _⟩ => ⟨S2x8x16384, .f32⟩
  | .hbm, ⟨49, _⟩ => ⟨S_, .f32⟩
  | .hbm, ⟨50, _⟩ => ⟨S2x8x16384, .f32⟩
  | .hbm, ⟨51, _⟩ => ⟨S2x8x16384, .f32⟩
  | .hbm, ⟨52, _⟩ => ⟨S2x8x16384x1, .f32⟩
  | .hbm, ⟨53, _⟩ => ⟨S2x8x16384x16384, .f32⟩
  | .hbm, ⟨54, _⟩ => ⟨S2x8x16384x16384, .f32⟩
  | .hbm, ⟨55, _⟩ => ⟨S2x8x16384x16384, .f32⟩
  | .hbm, ⟨56, _⟩ => ⟨S_, .f32⟩
  | .hbm, ⟨57, _⟩ => ⟨S2x8x16384, .f32⟩
  | .hbm, ⟨58, _⟩ => ⟨S2x8x16384x1, .f32⟩
  | .hbm, ⟨59, _⟩ => ⟨S2x8x16384x16384, .f32⟩
  | .hbm, ⟨60, _⟩ => ⟨S2x8x16384x16384, .f32⟩
  | .hbm, ⟨61, _⟩ => ⟨S2x8x16384x64, .f32⟩
  | .hbm, ⟨62, _⟩ => ⟨S2x16384x8x64, .f32⟩
  | .hbm, ⟨63, _⟩ => ⟨S32768x512, .f32⟩
  | .hbm, ⟨64, _⟩ => ⟨S32768x512, .bf16⟩
  | _, _ => ⟨S1024x32768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_cst : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_cst_0 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_cst_1 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v38 : Ref sig .tc := ⟨.hbm, 46, rfl⟩
abbrev main_cst_2 : Ref sig .tc := ⟨.hbm, 47, rfl⟩
abbrev main_v39 : Ref sig .tc := ⟨.hbm, 48, rfl⟩
abbrev main_cst_3 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_4 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩

abbrev nD : Nat := 1
abbrev τ : Topo := Topo.v7x

variable {F : FTy → Type} [FloatOps F]
-- ==== Odd.lean ====
abbrev S32768x1024 : Shape := ⟨2, ![32768, 1024]⟩
abbrev S1024x2056 : Shape := ⟨2, ![1024, 2056]⟩
abbrev S1024x1024 : Shape := ⟨2, ![1024, 1024]⟩
abbrev S1024x512 : Shape := ⟨2, ![1024, 512]⟩
abbrev S1024x2048 : Shape := ⟨2, ![1024, 2048]⟩
abbrev S1024x8 : Shape := ⟨2, ![1024, 8]⟩
abbrev S_ : Shape := ⟨0, ![]⟩
abbrev S1024x128 : Shape := ⟨2, ![1024, 128]⟩
abbrev S8x1024 : Shape := ⟨2, ![8, 1024]⟩
abbrev S32768x2048 : Shape := ⟨2, ![32768, 2048]⟩
abbrev S32768x128 : Shape := ⟨2, ![32768, 128]⟩
abbrev S8x32768 : Shape := ⟨2, ![8, 32768]⟩

abbrev nBuf : Space → Nat
  | .hbm => 17
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S1024x2056, .f32⟩
  | .hbm, ⟨2, _⟩ => ⟨S1024x1024, .f32⟩
  | .hbm, ⟨3, _⟩ => ⟨S1024x512, .f32⟩
  | .hbm, ⟨4, _⟩ => ⟨S1024x512, .f32⟩
  | .hbm, ⟨5, _⟩ => ⟨S1024x2048, .f32⟩
  | .hbm, ⟨6, _⟩ => ⟨S1024x2048, .bf16⟩
  | .hbm, ⟨7, _⟩ => ⟨S1024x8, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x128, .bf16⟩
  | .hbm, ⟨12, _⟩ => ⟨S8x1024, .f32⟩
  | .hbm, ⟨13, _⟩ => ⟨S8x1024, .bf16⟩
  | .hbm, ⟨14, _⟩ => ⟨S32768x2048, .f32⟩
  | .hbm, ⟨15, _⟩ => ⟨S32768x128, .f32⟩
  | .hbm, ⟨16, _⟩ => ⟨S8x32768, .f32⟩
  | .local _ .vmem, ⟨0, _⟩ => ⟨S1024x1024, .f32⟩
  | .local _ .vmem, ⟨1, _⟩ => ⟨S1024x1024, .f32⟩
  | .local _ .vmem, ⟨2, _⟩ => ⟨S1024x2048, .bf16⟩
  | .local _ .vmem, ⟨3, _⟩ => ⟨S1024x128, .bf16⟩
  | .local _ .vmem, ⟨4, _⟩ => ⟨S8x1024, .bf16⟩
  | .local _ .vmem, ⟨5, _⟩ => ⟨S1024x2048, .f32⟩
  | .local _ .vmem, ⟨6, _⟩ => ⟨S1024x2048, .f32⟩
  | .local _ .vmem, ⟨7, _⟩ => ⟨S1024x128, .f32⟩
  | .local _ .vmem, ⟨8, _⟩ => ⟨S1024x128, .f32⟩
  | .local _ .vmem, ⟨9, _⟩ => ⟨S8x1024, .f32⟩
  | .local _ .vmem, ⟨10, _⟩ => ⟨S8x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v10_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OddReferenceIdeal.lean ====
abbrev S32768x1024 : Shape := ⟨2, ![32768, 1024]⟩
abbrev S1024x2056 : Shape := ⟨2, ![1024, 2056]⟩
abbrev S32768x2056 : Shape := ⟨2, ![32768, 2056]⟩
abbrev S32768x512 : Shape := ⟨2, ![32768, 512]⟩
abbrev S32768x8 : Shape := ⟨2, ![32768, 8]⟩
abbrev S32768x2048 : Shape := ⟨2, ![32768, 2048]⟩
abbrev S_ : Shape := ⟨0, ![]⟩
abbrev S32768x128 : Shape := ⟨2, ![32768, 128]⟩
abbrev S8x32768 : Shape := ⟨2, ![8, 32768]⟩

abbrev nBuf : Space → Nat
  | .hbm => 12
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x2056, .f32⟩
  | .hbm, ⟨2, _⟩ => ⟨S32768x2056, .f32⟩
  | .hbm, ⟨3, _⟩ => ⟨S32768x512, .f32⟩
  | .hbm, ⟨4, _⟩ => ⟨S32768x1024, .f32⟩
  | .hbm, ⟨5, _⟩ => ⟨S32768x8, .f32⟩
  | .hbm, ⟨6, _⟩ => ⟨S32768x512, .f32⟩
  | .hbm, ⟨7, _⟩ => ⟨S32768x2048, .f32⟩
  | .hbm, ⟨8, _⟩ => ⟨S_, .i32⟩
  | .hbm, ⟨9, _⟩ => ⟨S_, .f32⟩
  | .hbm, ⟨10, _⟩ => ⟨S32768x128, .f32⟩
  | .hbm, ⟨11, _⟩ => ⟨S8x32768, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Ffn.lean ====
abbrev S32768x512 : Shape := ⟨2, ![32768, 512]⟩
abbrev S32768x1024 : Shape := ⟨2, ![32768, 1024]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S1024x512 : Shape := ⟨2, ![1024, 512]⟩
abbrev S1032x256 : Shape := ⟨2, ![1032, 256]⟩
abbrev S8x5632 : Shape := ⟨2, ![8, 5632]⟩
abbrev S1024x2816 : Shape := ⟨2, ![1024, 2816]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S8x256 : Shape := ⟨2, ![8, 256]⟩
abbrev S1024x256 : Shape := ⟨2, ![1024, 256]⟩
abbrev S1x256 : Shape := ⟨2, ![1, 256]⟩
abbrev S512x2816 : Shape := ⟨2, ![512, 2816]⟩

abbrev nBuf : Space → Nat
  | .hbm => 21
  | .vmem => 21
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S5632, .f32⟩
  | .hbm, ⟨9, _⟩ => ⟨S2816x1024, .f32⟩
  | .hbm, ⟨10, _⟩ => ⟨S1024, .f32⟩
  | .hbm, ⟨11, _⟩ => ⟨S1024, .f32⟩
  | .hbm, ⟨12, _⟩ => ⟨S1024x1024, .bf16⟩
  | .hbm, ⟨13, _⟩ => ⟨S1x1024, .f32⟩
  | .hbm, ⟨14, _⟩ => ⟨S1x1024, .f32⟩
  | .hbm, ⟨15, _⟩ => ⟨S1024x5632, .bf16⟩
  | .hbm, ⟨16, _⟩ => ⟨S1x5632, .f32⟩
  | .hbm, ⟨17, _⟩ => ⟨S2816x1024, .bf16⟩
  | .hbm, ⟨18, _⟩ => ⟨S1x1024, .f32⟩
  | .hbm, ⟨19, _⟩ => ⟨S1x1024, .f32⟩
  | .hbm, ⟨20, _⟩ => ⟨S32768x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1024x5632, .bf16⟩
  | .local _ .vmem, ⟨10, _⟩ => ⟨S3x5632, .f32⟩
  | .local _ .vmem, ⟨11, _⟩ => ⟨S1x5632, .f32⟩
  | .local _ .vmem, ⟨12, _⟩ => ⟨S2816x1024, .bf16⟩
  | .local _ .vmem, ⟨13, _⟩ => ⟨S1x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S1032x256, .f32⟩
  | .local _ .vmem, ⟨18, _⟩ => ⟨S8x5632, .f32⟩
  | .local _ .vmem, ⟨19, _⟩ => ⟨S1024x2816, .bf16⟩
  | .local _ .vmem, ⟨20, _⟩ => ⟨S1024x1024, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== FfnIdeal.lean ====
variable {F : FTy → Type} [FloatOps F] [Named F]
def κ : String → Option EReal := fun
  | "alpha" => some ((Real.sqrt (Real.sqrt 8) : ℝ) : EReal)
  | _ => none
-- ==== FfnReferenceIdeal.lean ====
abbrev S32768x512 : Shape := ⟨2, ![32768, 512]⟩
abbrev S32768x1024 : Shape := ⟨2, ![32768, 1024]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5632 : Shape := ⟨2, ![32768, 5632]⟩
abbrev S2x16384x5632 : Shape := ⟨3, ![2, 16384, 5632]⟩
abbrev S2x16386x5632 : Shape := ⟨3, ![2, 16386, 5632]⟩
abbrev S1x5632 : Shape := ⟨2, ![1, 5632]⟩
abbrev S1x1x5632 : Shape := ⟨3, ![1, 1, 5632]⟩
abbrev S2x16384x2816 : Shape := ⟨3, ![2, 16384, 2816]⟩
abbrev S32768x2816 : Shape := ⟨2, ![32768, 2816]⟩

abbrev nBuf : Space → Nat
  | .hbm => 127
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S5632, .f32⟩
  | .hbm, ⟨9, _⟩ => ⟨S2816x1024, .f32⟩
  | .hbm, ⟨10, _⟩ => ⟨S1024, .f32⟩
  | .hbm, ⟨11, _⟩ => ⟨S1024, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S32768x1024, .bf16⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S_, .f32⟩
  | .hbm, ⟨22, _⟩ => ⟨S32768, .f32⟩
  | .hbm, ⟨23, _⟩ => ⟨S32768x1, .f32⟩
  | .hbm, ⟨24, _⟩ => ⟨S_, .f32⟩
  | .hbm, ⟨25, _⟩ => ⟨S32768x1, .f32⟩
  | .hbm, ⟨26, _⟩ => ⟨S32768x1, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S_, .f32⟩
  | .hbm, ⟨31, _⟩ => ⟨S32768, .f32⟩
  | .hbm, ⟨32, _⟩ => ⟨S32768x1, .f32⟩
  | .hbm, ⟨33, _⟩ => ⟨S_, .f32⟩
  | .hbm, ⟨34, _⟩ => ⟨S32768x1, .f32⟩
  | .hbm, ⟨35, _⟩ => ⟨S32768x1, .f32⟩
  | .hbm, ⟨36, _⟩ => ⟨S32768x1024, .f32⟩
  | .hbm, ⟨37, _⟩ => ⟨S32768x1024, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S32768x1, .f32⟩
  | .hbm, ⟨42, _⟩ => ⟨S32768x1024, .f32⟩
  | .hbm, ⟨43, _⟩ => ⟨S32768x1024, .f32⟩
  | .hbm, ⟨44, _⟩ => ⟨S1x1024, .f32⟩
  | .hbm, ⟨45, _⟩ => ⟨S32768x1024, .f32⟩
  | .hbm, ⟨46, _⟩ => ⟨S32768x1024, .f32⟩
  | .hbm, ⟨47, _⟩ => ⟨S1x1024, .f32⟩
  | .hbm, ⟨48, _⟩ => ⟨S32768x1024, .f32⟩
  | .hbm, ⟨49, _⟩ => ⟨S32768x1024, .f32⟩
  | .hbm, ⟨50, _⟩ => ⟨S32768x5632, .f32⟩
  | .hbm, ⟨51, _⟩ => ⟨S2x16384x5632, .f32⟩
  | .hbm, ⟨52, _⟩ => ⟨S_, .i32⟩
  | .hbm, ⟨53, _⟩ => ⟨S_, .f32⟩
  | .hbm, ⟨54, _⟩ => ⟨S2x16386x5632, .f32⟩
  | .hbm, ⟨55, _⟩ => ⟨S1x5632, .f32⟩
  | .hbm, ⟨56, _⟩ => ⟨S5632, .f32⟩
  | .hbm, ⟨57, _⟩ => ⟨S2x16384x5632, .f32⟩
  | .hbm, ⟨58, _⟩ => ⟨S1x1x5632, .f32⟩
  | .hbm, ⟨59, _⟩ => ⟨S2x16384x5632, .f32⟩
  | .hbm, ⟨60, _⟩ => ⟨S2x16384x5632, .f32⟩
  | .hbm, ⟨61, _⟩ => ⟨S_, .f32⟩
  | .hbm, ⟨62, _⟩ => ⟨S2x16384x5632, .f32⟩
  | .hbm, ⟨63, _⟩ => ⟨S2x16384x5632, .f32⟩
  | .hbm, ⟨64, _⟩ => ⟨S1x5632, .f32⟩
  | .hbm, ⟨65, _⟩ => ⟨S5632, .f32⟩
  | .hbm, ⟨66, _⟩ => ⟨S2x16384x5632, .f32⟩
  | .hbm, ⟨67, _⟩ => ⟨S1x1x5632, .f32⟩
  | .hbm, ⟨68, _⟩ => ⟨S2x16384x5632, .f32⟩
  | .hbm, ⟨69, _⟩ => ⟨S2x16384x5632, .f32⟩
  | .hbm, ⟨70, _⟩ => ⟨S2x16384x5632, .f32⟩
  | .hbm, ⟨71, _⟩ => ⟨S1x5632, .f32⟩
  | .hbm, ⟨72, _⟩ => ⟨S5632, .f32⟩
  | .hbm, ⟨73, _⟩ => ⟨S2x16384x5632, .f32⟩
  | .hbm, ⟨74, _⟩ => ⟨S1x1x5632, .f32⟩
  | .hbm, ⟨75, _⟩ => ⟨S2x16384x5632, .f32⟩
  | .hbm, ⟨76, _⟩ => ⟨S2x16384x5632, .f32⟩
  | .hbm, ⟨77, _⟩ => ⟨S2x16384x5632, .f32⟩
  | .hbm, ⟨78, _⟩ => ⟨S1x1x5632, .f32⟩
  | .hbm, ⟨79, _⟩ => ⟨S2x16384x5632, .f32⟩
  | .hbm, ⟨80, _⟩ => ⟨S2x16384x5632, .f32⟩
  | .hbm, ⟨81, _⟩ => ⟨S2x16384x2816, .f32⟩
  | .hbm, ⟨82, _⟩ => ⟨S2x16384x2816, .f32⟩
  | .hbm, ⟨83, _⟩ => ⟨S2x16384x2816, .f32⟩
  | .hbm, ⟨84, _⟩ => ⟨S2x16384x2816, .f32⟩
  | .hbm, ⟨85, _⟩ => ⟨S_, .f32⟩
  | .hbm, ⟨86, _⟩ => ⟨S2x16384x2816, .f32⟩
  | .hbm, ⟨87, _⟩ => ⟨S2x16384x2816, .f32⟩
  | .hbm, ⟨88, _⟩ => ⟨S_, .f32⟩
  | .hbm, ⟨89, _⟩ => ⟨S2x16384x2816, .f32⟩
  | .hbm, ⟨90, _⟩ => ⟨S2x16384x2816, .f32⟩
  | .hbm, ⟨91, _⟩ => ⟨S2x16384x2816, .f32⟩
  | .hbm, ⟨92, _⟩ => ⟨S2x16384x2816, .f32⟩
  | .hbm, ⟨93, _⟩ => ⟨S32768x2816, .f32⟩
  | .hbm, ⟨94, _⟩ => ⟨S32768x1024, .f32⟩
  | .hbm, ⟨95, _⟩ => ⟨S32768x1024, .f32⟩
  | .hbm, ⟨96, _⟩ => ⟨S32768x1024, .f32⟩
  | .hbm, ⟨97, _⟩ => ⟨S32768x1024, .f32⟩
  | .hbm, ⟨98, _⟩ => ⟨S_, .f32⟩
  | .hbm, ⟨99, _⟩ => ⟨S32768, .f32⟩
  | .hbm, ⟨100, _⟩ => ⟨S32768x1, .f32⟩
  | .hbm, ⟨101, _⟩ => ⟨S_, .f32⟩
  | .hbm, ⟨102, _⟩ => ⟨S32768x1, .f32⟩
  | .hbm, ⟨103, _⟩ => ⟨S32768x1, .f32⟩
  | .hbm, ⟨104, _⟩ => ⟨S32768x1024, .f32⟩
  | .hbm, ⟨105, _⟩ => ⟨S32768x1024, .f32⟩
  | .hbm, ⟨106, _⟩ => ⟨S32768x1024, .f32⟩
  | .hbm, ⟨107, _⟩ => ⟨S_, .f32⟩
  | .hbm, ⟨108, _⟩ => ⟨S32768, .f32⟩
  | .hbm, ⟨109, _⟩ => ⟨S32768x1, .f32⟩
  | .hbm, ⟨110, _⟩ => ⟨S_, .f32⟩
  | .hbm, ⟨111, _⟩ => ⟨S32768x1, .f32⟩
  | .hbm, ⟨112, _⟩ => ⟨S32768x1, .f32⟩
  | .hbm, ⟨113, _⟩ => ⟨S32768x1024, .f32⟩
  | .hbm, ⟨114, _⟩ => ⟨S32768x1024, .f32⟩
  | .hbm, ⟨115, _⟩ => ⟨S_, .f32⟩
  | .hbm, ⟨116, _⟩ => ⟨S32768x1, .f32⟩
  | .hbm, ⟨117, _⟩ => ⟨S32768x1, .f32⟩
  | .hbm, ⟨118, _⟩ => ⟨S32768x1, .f32⟩
  | .hbm, ⟨119, _⟩ => ⟨S32768x1024, .f32⟩
  | .hbm, ⟨120, _⟩ => ⟨S32768x1024, .f32⟩
  | .hbm, ⟨121, _⟩ => ⟨S1x1024, .f32⟩
  | .hbm, ⟨122, _⟩ => ⟨S32768x1024, .f32⟩
  | .hbm, ⟨123, _⟩ => ⟨S32768x1024, .f32⟩
  | .hbm, ⟨124, _⟩ => ⟨S1x1024, .f32⟩
  | .hbm, ⟨125, _⟩ => ⟨S32768x1024, .f32⟩
  | .hbm, ⟨126, _⟩ => ⟨S32768x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c : Ref sig .tc := ⟨.hbm, 52, rfl⟩
abbrev main_call0_v0 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_5 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_call1_v0 : Ref sig .tc := ⟨.hbm, 83, rfl⟩
abbrev main_call1_v1 : Ref sig .tc := ⟨.hbm, 84, rfl⟩
abbrev main_call1_cst : Ref sig .tc := ⟨.hbm, 85, rfl⟩
abbrev main_call1_v2 : Ref sig .tc := ⟨.hbm, 86, rfl⟩
abbrev main_call1_v3 : Ref sig .tc := ⟨.hbm, 87, rfl⟩
abbrev main_call1_cst_0 : Ref sig .tc := ⟨.hbm, 88, rfl⟩
abbrev main_call1_v4 : Ref sig .tc := ⟨.hbm, 89, rfl⟩
abbrev main_call1_v5 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_6 : Ref sig .tc := ⟨.hbm, 98, rfl⟩
abbrev main_v69 : Ref sig .tc := ⟨.hbm, 99, rfl⟩
abbrev main_v70 : Ref sig .tc := ⟨.hbm, 100, rfl⟩
abbrev main_cst_7 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_8 : Ref sig .tc := ⟨.hbm, 107, rfl⟩
abbrev main_v76 : Ref sig .tc := ⟨.hbm, 108, rfl⟩
abbrev main_v77 : Ref sig .tc := ⟨.hbm, 109, rfl⟩
abbrev main_cst_9 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_10 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩

abbrev nD : Nat := 1
abbrev τ : Topo := Topo.v7x

variable {F : FTy → Type} [FloatOps F]
-- ==== Proof.Steps.lean ====
/-
  The forgetting-attention body as a short structured program. A step over one block of keys writes the block's scores
  and their column maxima into one pair of buffers (`scores`) and folds the scores of the block before it, kept in the
  other pair, into the running maximum and the running accumulator (`fold`). The body is an opening, a list of such
  steps and a closing. Everything here is over any float family, any buffers and any device.
-/
module

public import Idealize.ShloMosaic.Lib.Pipeline
public import Idealize.ShloMosaic.Lib.Scf
public import Idealize.ShloMosaic.PureOps

@[expose] public section

noncomputable section

namespace Fox

open Idealize.ShloMosaic Idealize.SL.Sem

abbrev SQ : Shape := ⟨2, ![128, 512]⟩
abbrev SK : Shape := ⟨2, ![16384, 256]⟩
abbrev SV : Shape := ⟨2, ![128, 16384]⟩
abbrev SO : Shape := ⟨2, ![512, 128]⟩
abbrev SKb : Shape := ⟨2, ![256, 256]⟩
abbrev SVb : Shape := ⟨2, ![64, 256]⟩
abbrev SOnes : Shape := ⟨2, ![16, 256]⟩
abbrev SVe : Shape := ⟨2, ![80, 256]⟩
abbrev SS : Shape := ⟨2, ![256, 512]⟩
abbrev SA : Shape := ⟨2, ![80, 512]⟩
abbrev SM : Shape := ⟨2, ![1, 512]⟩
abbrev SN : Shape := ⟨1, ![512]⟩
abbrev SH : Shape := ⟨2, ![64, 512]⟩
abbrev SS2 : Shape := ⟨3, ![2, 256, 512]⟩
abbrev SS1 : Shape := ⟨3, ![1, 256, 512]⟩
abbrev SA2 : Shape := ⟨3, ![2, 80, 512]⟩
abbrev SA1 : Shape := ⟨3, ![1, 80, 512]⟩
abbrev SM2 : Shape := ⟨3, ![2, 1, 512]⟩
abbrev SM1 : Shape := ⟨3, ![1, 1, 512]⟩
abbrev SH1 : Shape := ⟨3, ![1, 64, 512]⟩

/-- Rows by columns, contracting the columns of the left with the rows of the right: scores. -/
def dotScore : DotDims SKb SS SS where
  lhsContracting := [1]
  rhsContracting := [0]
  lhsNonContracting := [0]
  rhsNonContracting := [1]
  lhsBatch := []
  rhsBatch := []
  wf := by decide

/-- The same for the values against the weights. -/
def dotValue : DotDims SVe SS SA where
  lhsContracting := [1]
  rhsContracting := [0]
  lhsNonContracting := [0]
  rhsNonContracting := [1]
  lhsBatch := []
  rhsBatch := []
  wf := by decide

theorem inbS (h : Fin 2) : ∀ a, (![h.val, 0, 0] : Fin 3 → Nat) a + SS1.size a ≤ SS2.size a := by
  revert h; decide
theorem inbA (h : Fin 2) : ∀ a, (![h.val, 0, 0] : Fin 3 → Nat) a + SA1.size a ≤ SA2.size a := by
  revert h; decide
theorem inbM (h : Fin 2) : ∀ a, (![h.val, 0, 0] : Fin 3 → Nat) a + SM1.size a ≤ SM2.size a := by
  revert h; decide

theorem catQ : Shape.Concatenates [SQ, SQ] SS 0 := by decide
theorem catV : Shape.Concatenates [SVb, SOnes] SVe 0 := by decide
theorem catH : Shape.Concatenates [SH, SH] SQ 0 := by decide
theorem posS : 0 < SS1.numel := by decide
theorem posA : 0 < SA1.numel := by decide
theorem posM : 0 < SM1.numel := by decide
theorem posK : 0 < SKb.numel := by decide
theorem posV : 0 < SVb.numel := by decide

/-- Head `h`'s slab of a pair of score tiles, of accumulators and of rows of maxima. -/
abbrev slabS (h : Fin 2) : Rect SS2 := Rect.unit (s := SS2) ![h.val, 0, 0] SS1.size (inbS h)
abbrev slabA (h : Fin 2) : Rect SA2 := Rect.unit (s := SA2) ![h.val, 0, 0] SA1.size (inbA h)
abbrev slabM (h : Fin 2) : Rect SM2 := Rect.unit (s := SM2) ![h.val, 0, 0] SM1.size (inbM h)

variable {F : FTy → Type} [FloatOps F]

/-! ### The values of one step -/

/-- The scores of a block of keys against the (extended) queries of one head. -/
def scoreTile (q : FVec F SS .bf16) (kb : Vec F SKb .bf16) : FVec F SS .f32 :=
  matmul dotScore none kb q (constant SS .f32 0x00000000#32)

/-- Scores with the keys after their query masked, for a block `off` keys into the block of queries. -/
def maskTile (neg : F .f32) (off : BitVec 32) (s : FVec F SS .f32) : FVec F SS .f32 :=
  select (cmpi .sle (addi (iota .tc SS 32 [0] (by decide)) (broadcast SS off)) (iota .tc SS 32 [1] (by decide))) s
    (broadcast SS neg)

/-- Each query's largest score in the block. -/
def colMax (s : FVec F SS .f32) : FVec F SM .f32 :=
  shapeCast SM (multiReduction .maximumf [0] SN s 0xFF800000#32 (by decide) (.inl rfl) rfl) (by decide)

/-- The queries of the first head over the lanes of both, with the lanes that pick the first head's bias. -/
def query0 (q : Vec F SQ .bf16) : FVec F SS .bf16 :=
  concatenate SS 0
    [⟨SQ, select (cmpi .slt (iota .tc SQ 32 [0] (by decide)) (broadcast SQ 64#32)) q
        (broadcast SQ (Scalar.ofBits .bf16 0x0000#16))⟩,
     ⟨SQ, truncf .bf16 (select (andi (cmpi .sge (iota .tc SQ 32 [0] (by decide)) (broadcast SQ 0#32))
          (cmpi .slt (iota .tc SQ 32 [0] (by decide)) (broadcast SQ 3#32)))
        (broadcast SQ (Scalar.ofBits .f32 0xBF800000#32)) (broadcast SQ (Scalar.ofBits .f32 0x00000000#32))) (by decide)⟩]
    catQ

/-- The queries of the second head, likewise. -/
def query1 (q : Vec F SQ .bf16) : FVec F SS .bf16 :=
  concatenate SS 0
    [⟨SQ, select (cmpi .slt (iota .tc SQ 32 [0] (by decide)) (broadcast SQ 64#32))
        (broadcast SQ (Scalar.ofBits .bf16 0x0000#16)) q⟩,
     ⟨SQ, truncf .bf16 (select (andi (cmpi .sge (iota .tc SQ 32 [0] (by decide)) (broadcast SQ 3#32))
          (cmpi .slt (iota .tc SQ 32 [0] (by decide)) (broadcast SQ 6#32)))
        (broadcast SQ (Scalar.ofBits .f32 0xBF800000#32)) (broadcast SQ (Scalar.ofBits .f32 0x00000000#32))) (by decide)⟩]
    catQ

/-- One row of ones above fifteen of zeros: appended to the values, it sums the weights. -/
def onesRows : FVec F SOnes .bf16 :=
  truncf .bf16 (select (cmpi .eq (iota .tc SOnes 32 [0] (by decide)) (broadcast SOnes 0#32))
    (broadcast SOnes (Scalar.ofBits .f32 0x3F800000#32)) (broadcast SOnes (Scalar.ofBits .f32 0x00000000#32))) (by decide)

/-- The running maximum after a block whose maxima are `mx`. -/
def newMax (m mx : Vec F SM1 .f32) : FVec F SM .f32 :=
  maximumf (shapeCast SM m (by decide)) (shapeCast SM mx (by decide))

/-- The weights of a block of scores under the running maximum `m'`. -/
def weights (m' : FVec F SM .f32) (s : Vec F SS1 .f32) : FVec F SS .bf16 :=
  truncf .bf16 (exp2 (subf (shapeCast SS s (by decide)) (broadcastTo SS m' (by decide)))) (by decide)

/-- The running accumulator after a block with values `vb`. -/
def newAcc (ones : FVec F SOnes .bf16) (m mx : Vec F SM1 .f32) (s : Vec F SS1 .f32) (vb : Vec F SVb .bf16)
    (acc : Vec F SA1 .f32) : FVec F SA .f32 :=
  addf
    (mulf (broadcastTo SA (exp2 (subf (shapeCast SM m (by decide)) (newMax m mx))) (by decide))
      (shapeCast SA acc (by decide)))
    (matmul dotValue none (concatenate SVe 0 [⟨SVb, vb⟩, ⟨SOnes, ones⟩] catV) (weights (newMax m mx) s)
      (constant SA .f32 0x00000000#32))

/-- The rows of one head out of its accumulator: the weighted values over the sum of the weights. -/
def headOut (a : Vec F SH1 .f32) (l : Vec F SM1 .f32) : FVec F SH .f32 :=
  mulf (shapeCast SH a (by decide))
    (broadcastTo SH (divf (broadcast SM (Scalar.ofBits .f32 0x3F800000#32)) (shapeCast SM l (by decide))) (by decide))

/-- The block of results. -/
def outTile (a0 : Vec F SH1 .f32) (l0 : Vec F SM1 .f32) (a1 : Vec F SH1 .f32) (l1 : Vec F SM1 .f32) :
    FVec F SO .bf16 :=
  truncf .bf16 (transpose SO [1, 0] (concatenate SQ 0 [⟨SH, headOut a0 l0⟩, ⟨SH, headOut a1 l1⟩] catH)
    (by decide)) (by decide)

/-! ### The program of one step -/

variable {nD : Nat} {τ : Topo} {sig : RefSig} {Λ : Labels}

/-- A pair of buffers one block's scores and maxima are kept in. -/
structure Slot (sig : RefSig) where
  s : Memref sig .tc .vmem SS2 .f32
  mx : Memref sig .tc .vmem SM2 .f32

/-- The buffers every step uses: keys, values, running maximum, running accumulator. -/
structure Bufs (sig : RefSig) where
  k : Memref sig .tc .vmem SK .bf16
  v : Memref sig .tc .vmem SV .bf16
  m : Memref sig .tc .vmem SM2 .f32
  acc : Memref sig .tc .vmem SA2 .f32

/-- Where a step reads: the keys it scores, and the values of each head it folds. -/
structure At where
  k : Fin 2 → Nat
  hk : ∀ a, k a + SKb.size a ≤ SK.size a
  v0 : Fin 2 → Nat
  hv0 : ∀ a, v0 a + SVb.size a ≤ SV.size a
  v1 : Fin 2 → Nat
  hv1 : ∀ a, v1 a + SVb.size a ≤ SV.size a

abbrev P (nD : Nat) (τ : Topo) (sig : RefSig) (F : FTy → Type) (Λ : Labels) : Type → Type _ :=
  Prog (TpuEff nD τ sig (Elt F) Λ .tc)

def loadS (b : Memref sig .tc .vmem SS2 .f32) (h : Fin 2) : P nD τ sig F Λ (Vec F SS1 .f32) :=
  Prog.lift (.load b (slabS h).toLoadRect (View.loadsAt_vmem posS))
def loadA (b : Memref sig .tc .vmem SA2 .f32) (h : Fin 2) : P nD τ sig F Λ (Vec F SA1 .f32) :=
  Prog.lift (.load b (slabA h).toLoadRect (View.loadsAt_vmem posA))
def loadM (b : Memref sig .tc .vmem SM2 .f32) (h : Fin 2) : P nD τ sig F Λ (Vec F SM1 .f32) :=
  Prog.lift (.load b (slabM h).toLoadRect (View.loadsAt_vmem posM))
def loadK (b : Memref sig .tc .vmem SK .bf16) (o : Fin 2 → Nat) (ho : ∀ a, o a + SKb.size a ≤ SK.size a) :
    P nD τ sig F Λ (Vec F SKb .bf16) :=
  Prog.lift (.load b (Rect.unit (s := SK) o SKb.size ho).toLoadRect (View.loadsAt_vmem posK))
def loadV (b : Memref sig .tc .vmem SV .bf16) (o : Fin 2 → Nat) (ho : ∀ a, o a + SVb.size a ≤ SV.size a) :
    P nD τ sig F Λ (Vec F SVb .bf16) :=
  Prog.lift (.load b (Rect.unit (s := SV) o SVb.size ho).toLoadRect (View.loadsAt_vmem posV))

def storeS (b : Memref sig .tc .vmem SS2 .f32) (h : Fin 2) (v : Vec F SS1 .f32) : P nD τ sig F Λ PUnit :=
  Prog.lift (.store b (slabS h) v Finset.univ (View.stores_vmem_bits_univ posS rfl) (.inl rfl))
def storeA (b : Memref sig .tc .vmem SA2 .f32) (h : Fin 2) (v : Vec F SA1 .f32) : P nD τ sig F Λ PUnit :=
  Prog.lift (.store b (slabA h) v Finset.univ (View.stores_vmem_bits_univ posA rfl) (.inl rfl))
def storeM (b : Memref sig .tc .vmem SM2 .f32) (h : Fin 2) (v : Vec F SM1 .f32) : P nD τ sig F Λ PUnit :=
  Prog.lift (.store b (slabM h) v Finset.univ (View.stores_vmem_bits_univ posM rfl) (.inl rfl))

/-- One head's scores and maxima into a slot (each store is preceded by a load that nothing uses). -/
def putScores (c : Slot sig) (h : Fin 2) (s : FVec F SS .f32) : P nD τ sig F Λ PUnit := do
  let _ ← loadS c.s h
  storeS c.s h (shapeCast SS1 s (by decide))
  let _ ← loadM c.mx h
  storeM c.mx h (shapeCast SM1 (colMax s) (by decide))

/-- The scores of one block of keys, both heads, passed through `f`, into a slot. -/
def scores (b : Bufs sig) (c : Slot sig) (o : Fin 2 → Nat) (ho : ∀ a, o a + SKb.size a ≤ SK.size a)
    (q0 q1 : FVec F SS .bf16) (f : FVec F SS .f32 → FVec F SS .f32) : P nD τ sig F Λ PUnit := do
  let kb ← loadK b.k o ho
  putScores c 0 (f (scoreTile q0 kb))
  putScores c 1 (f (scoreTile q1 kb))

/-- One head's scores out of a slot into the running maximum and the running accumulator. -/
def fold (b : Bufs sig) (c : Slot sig) (ones : FVec F SOnes .bf16) (h : Fin 2) (o : Fin 2 → Nat)
    (ho : ∀ a, o a + SVb.size a ≤ SV.size a) : P nD τ sig F Λ PUnit := do
  let m ← loadM b.m h
  let mx ← loadM c.mx h
  let s ← loadS c.s h
  let _ ← loadM b.m h
  storeM b.m h (shapeCast SM1 (newMax m mx) (by decide))
  let vb ← loadV b.v o ho
  let acc ← loadA b.acc h
  let _ ← loadA b.acc h
  storeA b.acc h (shapeCast SA1 (newAcc ones m mx s vb acc) (by decide))

/-- A step: this block's scores into one slot, the other slot's block folded. -/
def step (b : Bufs sig) (new old : Slot sig) (q0 q1 : FVec F SS .bf16) (ones : FVec F SOnes .bf16)
    (f : FVec F SS .f32 → FVec F SS .f32) (x : At) : P nD τ sig F Λ PUnit := do
  scores b new x.k x.hk q0 q1 f
  fold b old ones 0 x.v0 x.hv0
  fold b old ones 1 x.v1 x.hv1

/-- A run of `n` steps, the two slots changing places after each. -/
def steps (b : Bufs sig) (q0 q1 : FVec F SS .bf16) (ones : FVec F SOnes .bf16) :
    (n : Nat) → (Fin n → At) → Slot sig → Slot sig → P nD τ sig F Λ PUnit
  | 0, _, _, _ => pure ⟨⟩
  | n + 1, x, new, old => do
    step b new old q0 q1 ones id (x 0)
    steps b q0 q1 ones n (fun r => x r.succ) old new

/-! ### The program of the body -/

theorem inbQ : ∀ a, (![0, 0] : Fin 2 → Nat) a + SQ.size a ≤ SQ.size a := by decide
theorem inbM2 : ∀ a, (![0, 0, 0] : Fin 3 → Nat) a + SM2.size a ≤ SM2.size a := by decide
theorem inbA2 : ∀ a, (![0, 0, 0] : Fin 3 → Nat) a + SA2.size a ≤ SA2.size a := by decide
theorem inbO : ∀ a, (![0, 0] : Fin 2 → Nat) a + SO.size a ≤ SO.size a := by decide
theorem inbRow (h : Fin 2) : ∀ a, (![h.val, 0, 0] : Fin 3 → Nat) a + SH1.size a ≤ SA2.size a := by
  revert h; decide
theorem inbSum (h : Fin 2) : ∀ a, (![h.val, 64, 0] : Fin 3 → Nat) a + SM1.size a ≤ SA2.size a := by
  revert h; decide
theorem posQ : 0 < SQ.numel := by decide
theorem posM2 : 0 < SM2.numel := by decide
theorem posA2 : 0 < SA2.numel := by decide
theorem posO : 0 < SO.numel := by decide
theorem posH : 0 < SH1.numel := by decide

abbrev wholeQ : Rect SQ := Rect.unit (s := SQ) ![0, 0] SQ.size inbQ
abbrev wholeM : Rect SM2 := Rect.unit (s := SM2) ![0, 0, 0] SM2.size inbM2
abbrev wholeA : Rect SA2 := Rect.unit (s := SA2) ![0, 0, 0] SA2.size inbA2
abbrev wholeO : Rect SO := Rect.unit (s := SO) ![0, 0] SO.size inbO
/-- Head `h`'s weighted values, and its sums of weights, in the accumulators. -/
abbrev rowsA (h : Fin 2) : Rect SA2 := Rect.unit (s := SA2) ![h.val, 0, 0] SH1.size (inbRow h)
abbrev sumA (h : Fin 2) : Rect SA2 := Rect.unit (s := SA2) ![h.val, 64, 0] SM1.size (inbSum h)

/-- Which blocks of keys and values a body reads: the two on the diagonal, the trips of the loop and the three
    conditional runs, and the last block of values. -/
structure Plan where
  k0 : Fin 2 → Nat
  hk0 : ∀ a, k0 a + SKb.size a ≤ SK.size a
  x1 : At
  L1 : Scf.Loop 32
  ok1 : L1.OK
  l1 : Fin L1.trips → Fin 16 → At
  c8 : BitVec 1
  r8 : c8 = 1#1 → Fin 8 → At
  c4 : BitVec 1
  r4 : c4 = 1#1 → Fin 4 → At
  c2 : BitVec 1
  r2 : c2 = 1#1 → Fin 2 → At
  v0 : Fin 2 → Nat
  hv0 : ∀ a, v0 a + SVb.size a ≤ SV.size a
  v1 : Fin 2 → Nat
  hv1 : ∀ a, v1 a + SVb.size a ≤ SV.size a

/-- The running maximum and accumulator at their starts. -/
def opening (neg : F .f32) (b : Bufs sig) : P nD τ sig F Λ PUnit := do
  let _ ← Prog.lift (.load b.m wholeM.toLoadRect (View.loadsAt_vmem posM2))
  Prog.lift (.store b.m wholeM (shapeCast SM2 (broadcast SM2 neg : FVec F SM2 .f32) (by decide)) Finset.univ
    (View.stores_vmem_bits_univ posM2 rfl) (.inl rfl))
  let _ ← Prog.lift (.load b.acc wholeA.toLoadRect (View.loadsAt_vmem posA2))
  Prog.lift (.store b.acc wholeA
    (shapeCast SA2 (broadcast SA2 (Scalar.ofBits .f32 0x00000000#32) : FVec F SA2 .f32) (by decide)) Finset.univ
    (View.stores_vmem_bits_univ posA2 rfl) (.inl rfl))

omit [FloatOps F] in
/-- A run taken on a condition. -/
def cond (c : BitVec 1) (t : c = 1#1 → P nD τ sig F Λ PUnit) : P nD τ sig F Λ PUnit :=
  if h : c = 1#1 then t h else pure ⟨⟩

/-- All the steps: the two diagonal blocks, then the blocks before them. -/
def middle (neg : F .f32) (p : Plan) (b : Bufs sig) (c0 c1 : Slot sig) (q0 q1 : FVec F SS .bf16)
    (ones : FVec F SOnes .bf16) : P nD τ sig F Λ PUnit := do
  scores b c0 p.k0 p.hk0 q0 q1 (maskTile neg 0#32)
  step b c1 c0 q0 q1 ones (maskTile neg 256#32) p.x1
  Scf.Loop.for p.L1 p.ok1 ⟨⟩ fun t _ => steps b q0 q1 ones 16 (p.l1 t) c0 c1
  cond p.c8 fun h => steps b q0 q1 ones 8 (p.r8 h) c0 c1
  cond p.c4 fun h => steps b q0 q1 ones 4 (p.r4 h) c0 c1
  cond p.c2 fun h => steps b q0 q1 ones 2 (p.r2 h) c0 c1
  fold b c1 ones 0 p.v0 p.hv0
  fold b c1 ones 1 p.v1 p.hv1

omit [FloatOps F] in
/-- A conditional run followed by `k`, when both branches go on with the same rest. -/
theorem dite_eq_cond {c : BitVec 1} {α : Type} {A : c = 1#1 → P nD τ sig F Λ α} {R : P nD τ sig F Λ α}
    {t : c = 1#1 → P nD τ sig F Λ PUnit} {k : PUnit → P nD τ sig F Λ α}
    (hA : ∀ h, A h = t h >>= fun _ => R) (hk : R = k ⟨⟩) : dite (c = 1#1) A (fun _ => R) = cond c t >>= k := by
  unfold cond
  by_cases h : c = 1#1
  · rw [dif_pos h, dif_pos h, hA h, hk]
  · rw [dif_neg h, dif_neg h, hk]; rfl

omit [FloatOps F] in
theorem bind_congr' {α β : Type} {p p' : P nD τ sig F Λ α} {k k' : α → P nD τ sig F Λ β} (h : p = p')
    (hk : ∀ x, k x = k' x) : p >>= k = p' >>= k' := by rw [h, funext hk]

omit [FloatOps F] in
theorem op_congr {α β : Type} {e : TpuEff nD τ sig (Elt F) Λ .tc β} {k k' : β → P nD τ sig F Λ α}
    (hk : ∀ x, k x = k' x) : (Prog.op e k : P nD τ sig F Λ α) = Prog.op e k' := congrArg _ (funext hk)

omit [FloatOps F] in
theorem for_congr {L : Scf.Loop 32} {ok : L.OK} {f g : Fin L.trips → PUnit → P nD τ sig F Λ PUnit}
    (h : ∀ t a, f t a = g t a) : Scf.Loop.for L ok ⟨⟩ f = Scf.Loop.for L ok ⟨⟩ g := by
  rw [show f = g from funext fun t => funext (h t)]

omit [FloatOps F] in
/-- A loop with no trips does nothing. -/
theorem for_zero {L : Scf.Loop 32} (ok : L.OK) (h : L.trips = 0) (f : Fin L.trips → PUnit → P nD τ sig F Λ PUnit) :
    Scf.Loop.for L ok ⟨⟩ f = Prog.ret ⟨⟩ := by
  have hl : List.finRange L.trips = [] := List.eq_nil_of_length_eq_zero (by simpa using h)
  unfold Scf.Loop.for
  rw [Scf.for_eq]
  exact (congrArg (fun l => Scf.forFrom f l ⟨⟩) hl)

/-- The block of results out of the accumulators. -/
def closing (b : Bufs sig) (o : Memref sig .tc .vmem SO .bf16) (ho : (o.access wholeO).Stores Finset.univ) :
    P nD τ sig F Λ PUnit := do
  let a0 ← Prog.lift (.load b.acc (rowsA 0).toLoadRect (View.loadsAt_vmem posH))
  let l0 ← Prog.lift (.load b.acc (sumA 0).toLoadRect (View.loadsAt_vmem posM))
  let a1 ← Prog.lift (.load b.acc (rowsA 1).toLoadRect (View.loadsAt_vmem posH))
  let l1 ← Prog.lift (.load b.acc (sumA 1).toLoadRect (View.loadsAt_vmem posM))
  let _ ← Prog.lift (.load o wholeO.toLoadRect (View.loadsAt_vmem posO))
  Prog.lift (.store o wholeO (outTile a0 l0 a1 l1) Finset.univ ho (.inl rfl))

/-- The body. -/
def body (neg : F .f32) (p : Plan) (q : Memref sig .tc .vmem SQ .bf16) (b : Bufs sig) (c0 c1 : Slot sig)
    (o : Memref sig .tc .vmem SO .bf16) (ho : (o.access wholeO).Stores Finset.univ) : P nD τ sig F Λ PUnit := do
  let qb ← Prog.lift (.load q wholeQ.toLoadRect (View.loadsAt_vmem posQ))
  opening neg b
  middle neg p b c0 c1 (query0 qb) (query1 qb) onesRows
  closing b o ho

end Fox

end
-- ==== Proof.Triples.lean ====
/-
  What the structured program does to its buffers. The state between two steps is the running maximum and accumulator of
  each head and the tile of scores waiting to be folded; every load reads it and every store moves it on.
-/
module

public import proofs.«01_k».proof.Proof.Steps
public import Idealize.ShloMosaic.Lib.Tactic
public import Idealize.ShloMosaic.Lib.Writes
public import Idealize.ShloMosaic.Lib.Memref

@[expose] public section

noncomputable section

namespace Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type}

/-! ### Buffers held slab by slab -/

section Held

variable {nD : Nat} {τ : Topo} {sig : RefSig} {Ix : Type} [DecidableEq Ix]
variable {Name : Type} [DecidableEq Name] {U : Type} [URA U] {Lvl : Type} {Λ : Labels}

local notation "𝕄" => MT nD τ sig Ix (Elt F) Name U Lvl

/-- Core `c` owns the memref, and reads `X h` through slab `h`. -/
def slabs (c : Thread nD τ) {s : Shape} {e : EltTy} (b : Memref sig c.2.kind .vmem s e) (r : Fin 2 → Rect s)
    (X : (h : Fin 2) → (r h).shape.Idx → Elt F e) : sProp 𝕄 :=
  iprop(∃ f, ⌜∀ h x, b.view.read (Elt F) f ((r h).emb x) = X h x⌝ ∗ (b.view.loc c ↦[b.view.set]{fullShare} f))

/-- Slabs that no place lies in two of. -/
def Apart {s : Shape} (r : Fin 2 → Rect s) : Prop := ∀ h h', h ≠ h' → ∀ x, (r h').emb x ∉ (r h).set

variable [Preorder Lvl] {defs : Defs nD τ sig (Elt F) Λ} (𝒱 : Variants) (c : Thread nD τ) (bd : Option 𝒱.V) (E : Set Name)
variable {α : Type} {Q : α → sProp (MT nD τ sig Ix (Elt F) Name U Lvl)}

/-- Loading within slab `h`. -/
theorem wp_load_in {s : Shape} {e : EltTy} {b : Memref sig c.2.kind .vmem s e} {r : Fin 2 → Rect s}
    {X : (h : Fin 2) → (r h).shape.Idx → Elt F e} (h : Fin 2) (r' : Rect s) (Y : r'.shape.Idx → Elt F e)
    (j : r'.shape.Idx → (r h).shape.Idx) (hj : ∀ x, r'.emb x = (r h).emb (j x)) (hY : ∀ x, X h (j x) = Y x)
    {hl : b.view.LoadsAt r'.toLoadRect} {k : (r'.shape.Idx → Elt F e) → Prog (TpuEff nD τ sig (Elt F) Λ c.2) α} :
    (slabs c b r X : sProp 𝕄) ⊢ iprop((slabs c b r X -∗ wp frame (wpE defs 𝒱 c bd) E (k Y) Q)
      -∗ wp frame (wpE defs 𝒱 c bd) E (Prog.lift (.load b r'.toLoadRect hl) >>= k) Q) := by
  unfold slabs
  iintro ⟨%f, %hf, H⟩ Hk
  have hr : (b.access r').read (Elt F) f = Y := by
    funext x
    rw [← hY x, ← hf h (j x), ← hj x]
    rfl
  iapply (wp_load_rect 𝒱 c bd E (b.view.set_slice_subset r')) $$ H
  iintro H
  rw [hr]
  iapply Hk
  iexists f
  isplitr
  · ipureintro; exact hf
  iexact H

/-- Loading slab `h`. -/
theorem wp_load_slab {s : Shape} {e : EltTy} {b : Memref sig c.2.kind .vmem s e} {r : Fin 2 → Rect s}
    {X : (h : Fin 2) → (r h).shape.Idx → Elt F e} (h : Fin 2)
    {hl : b.view.LoadsAt (r h).toLoadRect} {k : ((r h).shape.Idx → Elt F e) → Prog (TpuEff nD τ sig (Elt F) Λ c.2) α} :
    (slabs c b r X : sProp 𝕄) ⊢ iprop((slabs c b r X -∗ wp frame (wpE defs 𝒱 c bd) E (k (X h)) Q)
      -∗ wp frame (wpE defs 𝒱 c bd) E (Prog.lift (.load b (r h).toLoadRect hl) >>= k) Q) :=
  wp_load_in 𝒱 c bd E h (r h) (X h) id (fun _ => rfl) fun _ => rfl

/-- Loading anything, the value unused. -/
theorem wp_load_unused {s : Shape} {e : EltTy} {b : Memref sig c.2.kind .vmem s e} {r : Fin 2 → Rect s}
    {X : (h : Fin 2) → (r h).shape.Idx → Elt F e} {r' : Rect s}
    {hl : b.view.LoadsAt r'.toLoadRect} {p : Prog (TpuEff nD τ sig (Elt F) Λ c.2) α} :
    (slabs c b r X : sProp 𝕄) ⊢ iprop((slabs c b r X -∗ wp frame (wpE defs 𝒱 c bd) E p Q)
      -∗ wp frame (wpE defs 𝒱 c bd) E (Prog.lift (.load b r'.toLoadRect hl) >>= fun _ => p) Q) := by
  unfold slabs
  iintro ⟨%f, %hf, H⟩ Hk
  iapply (wp_load_rect 𝒱 c bd E (b.view.set_slice_subset r')) $$ H
  iintro H
  iapply Hk
  iexists f
  isplitr
  · ipureintro; exact hf
  iexact H

/-- Storing slab `h`. -/
theorem wp_store_slab {s : Shape} {e : EltTy} {b : Memref sig c.2.kind .vmem s e} {r : Fin 2 → Rect s} (hd : Apart r)
    {X : (h : Fin 2) → (r h).shape.Idx → Elt F e} (h : Fin 2) {w : (r h).shape.Idx → Elt F e}
    {hx : (b.access (r h)).Stores Finset.univ} {hm : Finset.univ = Finset.univ ∨ ∀ a, (r h).stride a = 1}
    {k : PUnit → Prog (TpuEff nD τ sig (Elt F) Λ c.2) α} :
    (slabs c b r X : sProp 𝕄) ⊢ iprop((slabs c b r (Function.update X h w) -∗ wp frame (wpE defs 𝒱 c bd) E (k ⟨⟩) Q)
      -∗ wp frame (wpE defs 𝒱 c bd) E (Prog.lift (.store b (r h) w Finset.univ hx hm) >>= k) Q) := by
  unfold slabs
  iintro ⟨%f, %hf, H⟩ Hk
  iapply (wp_store_writes₀ 𝒱 c bd E (w := w) (b.view.set_slice_subset (r h))) $$ H
  iintro H
  iapply Hk
  iexists (b.view.writes (Elt F) f [⟨r h, w⟩])
  isplitr
  · ipureintro
    intro h' x
    by_cases e : h' = h
    · subst e
      rw [View.read_writes_cons_emb, Function.update_self]
    · rw [View.read_writes_cons_miss _ _ _ _ _ (hd h h' (Ne.symm e) x), View.writes_nil, hf, Function.update_of_ne e]
  iexact H

/-- Storing the whole buffer. -/
theorem wp_store_whole {s : Shape} {e : EltTy} {b : Memref sig c.2.kind .vmem s e} {r : Fin 2 → Rect s}
    {X : (h : Fin 2) → (r h).shape.Idx → Elt F e} (Y : (h : Fin 2) → (r h).shape.Idx → Elt F e) {r' : Rect s}
    {w : r'.shape.Idx → Elt F e} (j : s.Idx → r'.shape.Idx) (hj : ∀ y, r'.emb (j y) = y) (hY : ∀ h x, w (j ((r h).emb x)) = Y h x)
    {hx : (b.access r').Stores Finset.univ} {hm : Finset.univ = Finset.univ ∨ ∀ a, r'.stride a = 1}
    {k : PUnit → Prog (TpuEff nD τ sig (Elt F) Λ c.2) α} :
    (slabs c b r X : sProp 𝕄) ⊢ iprop((slabs c b r Y -∗ wp frame (wpE defs 𝒱 c bd) E (k ⟨⟩) Q)
      -∗ wp frame (wpE defs 𝒱 c bd) E (Prog.lift (.store b r' w Finset.univ hx hm) >>= k) Q) := by
  unfold slabs
  iintro ⟨%f, %hf, H⟩ Hk
  iapply (wp_store_writes₀ 𝒱 c bd E (w := w) (b.view.set_slice_subset r')) $$ H
  iintro H
  iapply Hk
  iexists (b.view.writes (Elt F) f [⟨r', w⟩])
  isplitr
  · ipureintro
    intro h x
    exact (View.read_writes_cons_hit b.view f r' w [] (j ((r h).emb x)) _ (hj _)).trans (hY h x)
  iexact H

/-- Loading a block of a memref held whole. -/
theorem wp_load_block {s : Shape} {e : EltTy} {b : Memref sig c.2.kind .vmem s e} {q : PosShare TreeShare} {X : s.Idx → Elt F e}
    (r : Rect s) {hl : b.view.LoadsAt r.toLoadRect} {k : (r.shape.Idx → Elt F e) → Prog (TpuEff nD τ sig (Elt F) Λ c.2) α} :
    (owns c b q X : sProp 𝕄) ⊢ iprop((owns c b q X -∗ wp frame (wpE defs 𝒱 c bd) E (k fun x => X (r.emb x)) Q)
      -∗ wp frame (wpE defs 𝒱 c bd) E (Prog.lift (.load b r.toLoadRect hl) >>= k) Q) := by
  unfold owns
  iintro ⟨%f, %hf, H⟩ Hk
  have hr : (b.access r).read (Elt F) f = fun x => X (r.emb x) := by
    funext x
    rw [← hf]
    rfl
  iapply (wp_load_rect 𝒱 c bd E (b.view.set_slice_subset r)) $$ H
  iintro H
  rw [hr]
  iapply Hk
  iexists f
  isplitr
  · ipureintro; exact hf
  iexact H

/-- Storing a memref whole. -/
theorem wp_store_owns {s : Shape} {e : EltTy} {b : Memref sig c.2.kind .vmem s e} {X : s.Idx → Elt F e} (Y : s.Idx → Elt F e)
    {r' : Rect s} {w : r'.shape.Idx → Elt F e} (j : s.Idx → r'.shape.Idx) (hj : ∀ y, r'.emb (j y) = y) (hY : ∀ y, w (j y) = Y y)
    {hx : (b.access r').Stores Finset.univ} {hm : Finset.univ = Finset.univ ∨ ∀ a, r'.stride a = 1}
    {k : PUnit → Prog (TpuEff nD τ sig (Elt F) Λ c.2) α} :
    (owns c b fullShare X : sProp 𝕄) ⊢ iprop((owns c b fullShare Y -∗ wp frame (wpE defs 𝒱 c bd) E (k ⟨⟩) Q)
      -∗ wp frame (wpE defs 𝒱 c bd) E (Prog.lift (.store b r' w Finset.univ hx hm) >>= k) Q) := by
  unfold owns
  iintro ⟨%f, %hf, H⟩ Hk
  iapply (wp_store_writes₀ 𝒱 c bd E (w := w) (b.view.set_slice_subset r')) $$ H
  iintro H
  iapply Hk
  iexists (b.view.writes (Elt F) f [⟨r', w⟩])
  isplitr
  · ipureintro
    funext y
    exact (View.read_writes_cons_hit b.view f r' w [] (j y) _ (hj _)).trans (hY y)
  iexact H

end Held

theorem apart_of_axis {s : Shape} (r : Fin 2 → Rect s) (a : Fin s.rank) (ho : ∀ h, (r h).off a = h.val)
    (hst : ∀ h, (r h).stride a = 1) (hn : ∀ h, (r h).size a = 1) : Apart r := fun h h' e x => by
  refine Rect.not_mem_set_of_axis (r h) _ a h.val 1 (ho h) (hst h) (hn h) ?_
  have h1 : ((r h').emb x a).val = h'.val + (x a).val := by
    show (r h').off a + (r h').stride a * (x a).val = _
    rw [ho, hst, Nat.one_mul]
  have h2 : (x a).val < 1 := lt_of_lt_of_eq (x a).isLt (hn h')
  have h3 : h.val ≠ h'.val := fun q => e (Fin.ext q)
  omega

theorem apartS : Apart slabS := apart_of_axis _ 0 (fun _ => rfl) (fun _ => rfl) fun _ => rfl
theorem apartA : Apart slabA := apart_of_axis _ 0 (fun _ => rfl) (fun _ => rfl) fun _ => rfl
theorem apartM : Apart slabM := apart_of_axis _ 0 (fun _ => rfl) (fun _ => rfl) fun _ => rfl

end Fox

end
-- ==== Proof.Run.lean ====
/-
  The structured program as a fold over the blocks of keys: what each step does to the running maximum, the running
  accumulator and the tile of scores waiting to be folded.
-/
module

public import proofs.«01_k».proof.Proof.Triples

@[expose] public section

set_option maxRecDepth 16384

noncomputable section

namespace Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type}

/-! ### Values -/

/-- One block's scores and maxima, of both heads. -/
structure Tile (F : FTy → Type) where
  s : Fin 2 → Vec F SS1 .f32
  mx : Fin 2 → Vec F SM1 .f32

/-- The running maximum and accumulator, of both heads. -/
structure Running (F : FTy → Type) where
  m : Fin 2 → Vec F SM1 .f32
  acc : Fin 2 → Vec F SA1 .f32

/-- Block `n` of the keys, and of head `h`'s values. -/
def keyBlock (K : Vec F SK .bf16) (n : Nat) : Vec F SKb .bf16 := fun x =>
  K fun a => match a with
    | ⟨0, _⟩ => ⟨(256 * n + (x 0).val) % 16384, Nat.mod_lt _ (by decide)⟩
    | ⟨1, _⟩ => x 1
def valBlock (V : Vec F SV .bf16) (n : Nat) (h : Fin 2) : Vec F SVb .bf16 := fun x =>
  V fun a => match a with
    | ⟨0, _⟩ => ⟨(64 * h.val + (x 0).val) % 128, Nat.mod_lt _ (by decide)⟩
    | ⟨1, _⟩ => ⟨(256 * n + (x 1).val) % 16384, Nat.mod_lt _ (by decide)⟩

variable [FloatOps F]

/-- The tile of a block of keys, the scores passed through `f`. -/
def tileOf (q : Fin 2 → FVec F SS .bf16) (f : FVec F SS .f32 → FVec F SS .f32) (kb : Vec F SKb .bf16) : Tile F where
  s h := shapeCast SS1 (f (scoreTile (q h) kb)) (by decide)
  mx h := shapeCast SM1 (colMax (f (scoreTile (q h) kb))) (by decide)

theorem tileOf_s (q : Fin 2 → FVec F SS .bf16) (f : FVec F SS .f32 → FVec F SS .f32) (kb : Vec F SKb .bf16) (h : Fin 2) :
    (tileOf q f kb).s h = shapeCast SS1 (f (scoreTile (q h) kb)) (by decide) := by unfold tileOf; dsimp only
theorem tileOf_mx (q : Fin 2 → FVec F SS .bf16) (f : FVec F SS .f32 → FVec F SS .f32) (kb : Vec F SKb .bf16) (h : Fin 2) :
    (tileOf q f kb).mx h = shapeCast SM1 (colMax (f (scoreTile (q h) kb))) (by decide) := by unfold tileOf; dsimp only

/-- A tile folded into the running values. -/
def Running.fold (r : Running F) (ones : FVec F SOnes .bf16) (t : Tile F) (vb : Fin 2 → Vec F SVb .bf16) : Running F where
  m h := shapeCast SM1 (newMax (r.m h) (t.mx h)) (by decide)
  acc h := shapeCast SA1 (newAcc ones (r.m h) (t.mx h) (t.s h) (vb h) (r.acc h)) (by decide)

/-- The running values at the start. -/
def Running.init (neg : F .f32) : Running F where
  m _ := fun _ => neg
  acc _ := fun _ => Scalar.ofBits .f32 0x00000000#32

/-- The block of keys taken `j`-th: the two on the diagonal of query block `n` first, then the ones before, in order. -/
def order (n j : Nat) : Nat := if j < 2 then 2 * n + j else j - 2

/-- How the scores of the `j`-th block are masked: by position in the two on the diagonal, else not at all. -/
def maskOf (neg : F .f32) (j : Nat) : FVec F SS .f32 → FVec F SS .f32 :=
  if j = 0 then maskTile neg 0#32 else if j = 1 then maskTile neg 256#32 else id

/-- The `j`-th tile. -/
def tileAt (neg : F .f32) (q : Fin 2 → FVec F SS .bf16) (K : Vec F SK .bf16) (n j : Nat) : Tile F :=
  tileOf q (maskOf neg j) (keyBlock K (order n j))

/-- The running values after the first `j` blocks. -/
def runAt (neg : F .f32) (ones : FVec F SOnes .bf16) (q : Fin 2 → FVec F SS .bf16) (K : Vec F SK .bf16) (V : Vec F SV .bf16)
    (n : Nat) : Nat → Running F
  | 0 => Running.init neg
  | j + 1 => (runAt neg ones q K V n j).fold ones (tileAt neg q K n j) (valBlock V (order n j))

/-- An accumulator's weighted values, and its sums of weights. -/
abbrev rowsIn : Rect SA1 := Rect.unit (s := SA1) ![0, 0, 0] SH1.size (by decide)
abbrev sumIn : Rect SA1 := Rect.unit (s := SA1) ![0, 64, 0] SM1.size (by decide)

/-- The query block's results from the running values after its last block. -/
def outOf (r : Running F) : FVec F SO .bf16 :=
  outTile (fun x => r.acc 0 (rowsIn.emb x)) (fun x => r.acc 0 (sumIn.emb x)) (fun x => r.acc 1 (rowsIn.emb x))
    (fun x => r.acc 1 (sumIn.emb x))

/-! ### A plan that reads the blocks in order -/

/-- A step scores the `j`-th block and folds the one before it. -/
def At.Is (x : At) (n j : Nat) : Prop :=
  x.k = ![256 * order n j, 0] ∧ x.v0 = ![0, 256 * order n (j - 1)] ∧ x.v1 = ![64, 256 * order n (j - 1)]

/-- The plan of query block `n`. -/
structure Plan.Is (p : Plan) (n : Nat) : Prop where
  k0 : p.k0 = ![256 * order n 0, 0]
  x1 : p.x1.Is n 1
  l1 : ∀ t r, (p.l1 t r).Is n (2 + 16 * t.val + r.val)
  r8 : ∀ h r, (p.r8 h r).Is n (2 + 16 * p.L1.trips + r.val)
  r4 : ∀ h r, (p.r4 h r).Is n (2 + 16 * p.L1.trips + (if p.c8 = 1#1 then 8 else 0) + r.val)
  r2 : ∀ h r, (p.r2 h r).Is n (2 + 16 * p.L1.trips + (if p.c8 = 1#1 then 8 else 0) + (if p.c4 = 1#1 then 4 else 0) + r.val)
  len : 16 * p.L1.trips + (if p.c8 = 1#1 then 8 else 0) + (if p.c4 = 1#1 then 4 else 0) + (if p.c2 = 1#1 then 2 else 0) = 2 * n
  v0 : p.v0 = ![0, 256 * order n (2 * n + 1)]
  v1 : p.v1 = ![64, 256 * order n (2 * n + 1)]

theorem keyBlock_of {K : Vec F SK .bf16} {o : Fin 2 → Nat} (ho : ∀ a, o a + SKb.size a ≤ SK.size a) {n : Nat}
    (h : o = ![256 * n, 0]) : (fun x => K ((Rect.unit (s := SK) o SKb.size ho).emb x)) = keyBlock K n := by
  subst h
  funext x
  refine congrArg K (funext fun a => ?_)
  have hb : 256 * n + 256 ≤ 16384 := ho 0
  match a with
  | ⟨0, _⟩ =>
    have hx : (x 0).val < 256 := (x 0).isLt
    refine Fin.ext ?_
    show 256 * n + 1 * (x 0).val = (256 * n + (x 0).val) % 16384
    omega
  | ⟨1, _⟩ =>
    refine Fin.ext ?_
    show 0 + 1 * (x 1).val = (x 1).val
    omega

theorem valBlock_of {V : Vec F SV .bf16} {o : Fin 2 → Nat} (ho : ∀ a, o a + SVb.size a ≤ SV.size a) {n : Nat} (hh : Fin 2)
    (h : o = ![64 * hh.val, 256 * n]) : (fun x => V ((Rect.unit (s := SV) o SVb.size ho).emb x)) = valBlock V n hh := by
  subst h
  funext x
  refine congrArg V (funext fun a => ?_)
  have hb : 256 * n + 256 ≤ 16384 := ho 1
  match a with
  | ⟨0, _⟩ =>
    have hx : (x 0).val < 64 := (x 0).isLt
    have := hh.isLt
    refine Fin.ext ?_
    show 64 * hh.val + 1 * (x 0).val = (64 * hh.val + (x 0).val) % 128
    omega
  | ⟨1, _⟩ =>
    have hx : (x 1).val < 256 := (x 1).isLt
    refine Fin.ext ?_
    show 256 * n + 1 * (x 1).val = (256 * n + (x 1).val) % 16384
    omega

/-! ### Triples -/

variable {nD : Nat} {τ : Topo} {sig : RefSig} {Ix : Type} [DecidableEq Ix]
variable {Name : Type} [DecidableEq Name] {U : Type} [URA U] {Lvl : Type} {Λ : Labels}

local notation "𝕄" => MT nD τ sig Ix (Elt F) Name U Lvl

/-- A slot holding a tile. -/
def slot (c : Dev nD) (s : Slot sig) (t : Tile F) : sProp 𝕄 :=
  iprop(slabs (c : Thread nD τ) s.s slabS t.s ∗ slabs (c : Thread nD τ) s.mx slabM t.mx)

/-- The buffers holding the running values. -/
def running (c : Dev nD) (b : Bufs sig) (r : Running F) : sProp 𝕄 :=
  iprop(slabs (c : Thread nD τ) b.m slabM r.m ∗ slabs (c : Thread nD τ) b.acc slabA r.acc)

variable [Preorder Lvl] {defs : Defs nD τ sig (Elt F) Λ} (𝒱 : Variants) (c : Dev nD) (bd : Option 𝒱.V) (E : Set Name)
variable {α : Type} {Q : α → sProp (MT nD τ sig Ix (Elt F) Name U Lvl)}

theorem update_pair {β : Fin 2 → Type} (X : (h : Fin 2) → β h) (Y : (h : Fin 2) → β h) :
    Function.update (Function.update X 0 (Y 0)) 1 (Y 1) = Y := by
  funext h
  match h with
  | 0 => rw [Function.update_of_ne (by decide), Function.update_self]
  | 1 => rw [Function.update_self]

theorem tile_pair (t : Tile F) (S0 S1 : Vec F SS1 .f32) (X0 X1 : Vec F SM1 .f32) (t' : Tile F) (h0 : t'.s 0 = S0)
    (h1 : t'.s 1 = S1) (h2 : t'.mx 0 = X0) (h3 : t'.mx 1 = X1) :
    (⟨Function.update (Function.update t.s 0 S0) 1 S1, Function.update (Function.update t.mx 0 X0) 1 X1⟩ : Tile F) = t' := by
  subst h0 h1 h2 h3
  rw [update_pair, update_pair]

theorem running_pair (r : Running F) (S0 S1 : Vec F SM1 .f32) (X0 X1 : Vec F SA1 .f32) (t' : Running F) (h0 : t'.m 0 = S0)
    (h1 : t'.m 1 = S1) (h2 : t'.acc 0 = X0) (h3 : t'.acc 1 = X1) :
    (⟨Function.update (Function.update r.m 0 S0) 1 S1, Function.update (Function.update r.acc 0 X0) 1 X1⟩ : Running F) = t' := by
  subst h0 h1 h2 h3
  rw [update_pair, update_pair]

/-- One head's scores and maxima into a slot. -/
theorem wp_putScores (s : Slot sig) (h : Fin 2) (v : FVec F SS .f32) (t : Tile F)
    {k : PUnit → P nD τ sig F Λ α} :
    (slot c s t : sProp 𝕄) ⊢ iprop((slot c s ⟨Function.update t.s h (shapeCast SS1 v (by decide)),
        Function.update t.mx h (shapeCast SM1 (colMax v) (by decide))⟩ -∗ wp frame (wpE defs 𝒱 c bd) E (k ⟨⟩) Q)
      -∗ wp frame (wpE defs 𝒱 c bd) E (putScores s h v >>= k) Q) := by
  unfold slot putScores loadS storeS loadM storeM
  simp only [bind_assoc]
  iintro ⟨HS, HM⟩ Hk
  iapply (wp_load_unused 𝒱 (c : Thread nD τ) bd E) $$ HS
  iintro HS
  iapply (wp_store_slab 𝒱 (c : Thread nD τ) bd E apartS h) $$ HS
  iintro HS
  iapply (wp_load_unused 𝒱 (c : Thread nD τ) bd E) $$ HM
  iintro HM
  iapply (wp_store_slab 𝒱 (c : Thread nD τ) bd E apartM h) $$ HM
  iintro HM
  iapply Hk
  isplitl [HS]
  · iexact HS
  iexact HM

/-- A block's tile into a slot. -/
theorem wp_scores (b : Bufs sig) (s : Slot sig) (q : Fin 2 → FVec F SS .bf16) (f : FVec F SS .f32 → FVec F SS .f32)
    {o : Fin 2 → Nat} {ho : ∀ a, o a + SKb.size a ≤ SK.size a} {n : Nat} (hn : o = ![256 * n, 0]) (K : Vec F SK .bf16)
    {k : PUnit → P nD τ sig F Λ α} :
    iprop(owns (c : Thread nD τ) b.k fullShare K ∗ ∃ t, slot c s t) ⊢ iprop((owns (c : Thread nD τ) b.k fullShare K
        -∗ slot c s (tileOf q f (keyBlock K n)) -∗ wp frame (wpE defs 𝒱 c bd) E (k ⟨⟩) Q)
      -∗ (wp frame (wpE defs 𝒱 c bd) E (scores b s o ho (q 0) (q 1) f >>= k) Q : sProp 𝕄)) := by
  unfold scores loadK
  simp only [bind_assoc]
  iintro ⟨HK, ⟨%t, HS⟩⟩ Hk
  iapply (wp_load_block 𝒱 (c : Thread nD τ) bd E) $$ HK
  iintro HK
  rw [keyBlock_of ho hn]
  iapply (wp_putScores 𝒱 c bd E s 0) $$ HS
  iintro HS
  iapply (wp_putScores 𝒱 c bd E s 1) $$ HS
  iintro HS
  iapply Hk $$ HK
  dsimp only
  rw [tile_pair (t' := tileOf q f (keyBlock K n)) (h0 := ?_) (h1 := ?_) (h2 := ?_) (h3 := ?_)]
  · iexact HS
  · exact tileOf_s q f _ 0
  · exact tileOf_s q f _ 1
  · exact tileOf_mx q f _ 0
  · exact tileOf_mx q f _ 1

/-- One head's tile folded into the running values. -/
theorem wp_fold (b : Bufs sig) (s : Slot sig) (ones : FVec F SOnes .bf16) (h : Fin 2)
    {o : Fin 2 → Nat} {ho : ∀ a, o a + SVb.size a ≤ SV.size a} {n : Nat} (hn : o = ![64 * h.val, 256 * n])
    (V : Vec F SV .bf16) (r : Running F) (t : Tile F) {k : PUnit → P nD τ sig F Λ α} :
    iprop(owns (c : Thread nD τ) b.v fullShare V ∗ slot c s t ∗ running c b r)
      ⊢ iprop((owns (c : Thread nD τ) b.v fullShare V -∗ slot c s t
        -∗ running c b ⟨Function.update r.m h (shapeCast SM1 (newMax (r.m h) (t.mx h)) (by decide)),
            Function.update r.acc h (shapeCast SA1 (newAcc ones (r.m h) (t.mx h) (t.s h) (valBlock V n h) (r.acc h)) (by decide))⟩
        -∗ wp frame (wpE defs 𝒱 c bd) E (k ⟨⟩) Q)
      -∗ (wp frame (wpE defs 𝒱 c bd) E (fold b s ones h o ho >>= k) Q : sProp 𝕄)) := by
  unfold slot running fold loadV loadM loadS loadA storeM storeA
  simp only [bind_assoc]
  iintro ⟨HV, ⟨HS, HX⟩, ⟨HM, HA⟩⟩ Hk
  iapply (wp_load_slab 𝒱 (c : Thread nD τ) bd E h) $$ HM
  iintro HM
  iapply (wp_load_slab 𝒱 (c : Thread nD τ) bd E h) $$ HX
  iintro HX
  iapply (wp_load_slab 𝒱 (c : Thread nD τ) bd E h) $$ HS
  iintro HS
  iapply (wp_load_unused 𝒱 (c : Thread nD τ) bd E) $$ HM
  iintro HM
  iapply (wp_store_slab 𝒱 (c : Thread nD τ) bd E apartM h) $$ HM
  iintro HM
  iapply (wp_load_block 𝒱 (c : Thread nD τ) bd E) $$ HV
  iintro HV
  rw [valBlock_of ho h hn]
  iapply (wp_load_slab 𝒱 (c : Thread nD τ) bd E h) $$ HA
  iintro HA
  iapply (wp_load_unused 𝒱 (c : Thread nD τ) bd E) $$ HA
  iintro HA
  iapply (wp_store_slab 𝒱 (c : Thread nD τ) bd E apartA h) $$ HA
  iintro HA
  iapply Hk $$ HV [HS HX] [HM HA]
  · isplitl [HS]
    · iexact HS
    iexact HX
  isplitl [HM]
  · iexact HM
  iexact HA

/-- Both heads' tile folded. -/
theorem wp_folds (b : Bufs sig) (s : Slot sig) (ones : FVec F SOnes .bf16)
    {o0 o1 : Fin 2 → Nat} {ho0 : ∀ a, o0 a + SVb.size a ≤ SV.size a} {ho1 : ∀ a, o1 a + SVb.size a ≤ SV.size a} {n : Nat}
    (h0 : o0 = ![0, 256 * n]) (h1 : o1 = ![64, 256 * n])
    (V : Vec F SV .bf16) (r : Running F) (t : Tile F) {k : PUnit → P nD τ sig F Λ α} :
    iprop(owns (c : Thread nD τ) b.v fullShare V ∗ slot c s t ∗ running c b r)
      ⊢ iprop((owns (c : Thread nD τ) b.v fullShare V -∗ slot c s t -∗ running c b (r.fold ones t (valBlock V n))
        -∗ wp frame (wpE defs 𝒱 c bd) E (k ⟨⟩) Q)
      -∗ (wp frame (wpE defs 𝒱 c bd) E (fold b s ones 0 o0 ho0 >>= fun _ => fold b s ones 1 o1 ho1 >>= k) Q : sProp 𝕄)) := by
  iintro H Hk
  iapply (wp_fold 𝒱 c bd E b s ones 0 h0 V r t) $$ H
  iintro HV HS HR
  iapply (wp_fold 𝒱 c bd E b s ones 1 h1 V _ t) $$ [HV HS HR]
  · isplitl [HV]
    · iexact HV
    isplitl [HS]
    · iexact HS
    iexact HR
  iintro HV HS HR
  iapply Hk $$ HV HS
  dsimp only
  have e (β : Fin 2 → Type) (X : (h : Fin 2) → β h) (w) : Function.update X 0 w 1 = X 1 := Function.update_of_ne (by decide) _ _
  rw [e, e, running_pair (t' := r.fold ones t (valBlock V n)) (h0 := ?_) (h1 := ?_) (h2 := ?_) (h3 := ?_)]
  · iexact HR
  all_goals rfl

variable (neg : F .f32) (ones : FVec F SOnes .bf16) (q : Fin 2 → FVec F SS .bf16) (K : Vec F SK .bf16) (V : Vec F SV .bf16)

/-- What the steps hold once `j + 1` blocks are scored and the `j` before the last of them folded: the last one's tile in
    slot `cur`, anything in slot `old`. -/
def mid (b : Bufs sig) (old cur : Slot sig) (n j : Nat) : sProp 𝕄 :=
  iprop(owns (c : Thread nD τ) b.k fullShare K ∗ owns (c : Thread nD τ) b.v fullShare V ∗ (∃ t, slot c old t)
    ∗ slot c cur (tileAt neg q K n j) ∗ running c b (runAt neg ones q K V n j))

/-- One step. -/
theorem wp_step (b : Bufs sig) (old cur : Slot sig) (n j : Nat) (x : At) (hx : x.Is n (j + 1))
    {k : PUnit → P nD τ sig F Λ α} :
    (mid c neg ones q K V b old cur n j : sProp 𝕄) ⊢ iprop((mid c neg ones q K V b cur old n (j + 1)
        -∗ wp frame (wpE defs 𝒱 c bd) E (k ⟨⟩) Q)
      -∗ wp frame (wpE defs 𝒱 c bd) E (step b old cur (q 0) (q 1) ones (maskOf neg (j + 1)) x >>= k) Q) := by
  unfold mid step
  simp only [bind_assoc]
  iintro ⟨HK, HV, HO, HC, HR⟩ Hk
  iapply (wp_scores 𝒱 c bd E b old q (maskOf neg (j + 1)) hx.1 K) $$ [HK HO]
  · isplitl [HK]
    · iexact HK
    iexact HO
  iintro HK HO
  iapply (wp_folds 𝒱 c bd E b cur ones hx.2.1 hx.2.2 V) $$ [HV HC HR]
  · isplitl [HV]
    · iexact HV
    isplitl [HC]
    · iexact HC
    iexact HR
  iintro HV HC HR
  iapply Hk
  isplitl [HK]
  · iexact HK
  isplitl [HV]
  · iexact HV
  isplitl [HC]
  · iexists _
    iexact HC
  isplitl [HO]
  · iexact HO
  iexact HR

/-- Which slots an even run of steps ends with: the same. -/
theorem wp_steps (b : Bufs sig) : ∀ (i : Nat) (old cur : Slot sig) (n j : Nat) (x : Fin (2 * i) → At)
    (hj : 1 ≤ j) (hx : ∀ r, (x r).Is n (j + 1 + r.val)) {k : PUnit → P nD τ sig F Λ α},
    (mid c neg ones q K V b old cur n j : sProp 𝕄) ⊢ iprop((mid c neg ones q K V b old cur n (j + 2 * i)
        -∗ wp frame (wpE defs 𝒱 c bd) E (k ⟨⟩) Q)
      -∗ wp frame (wpE defs 𝒱 c bd) E (steps b (q 0) (q 1) ones (2 * i) x old cur >>= k) Q)
  | 0, old, cur, n, j, x, hj, hx, k => by
    show _ ⊢ iprop(_ -∗ wp frame (wpE defs 𝒱 c bd) E ((pure ⟨⟩ : P nD τ sig F Λ PUnit) >>= k) Q)
    rw [pure_bind]
    iintro H Hk
    iapply Hk
    iexact H
  | i + 1, old, cur, n, j, x, hj, hx, k => by
    have hm : ∀ j', 1 ≤ j' → (id : FVec F SS .f32 → FVec F SS .f32) = maskOf neg (j' + 1) := fun j' h => by
      unfold maskOf
      rw [if_neg (by omega), if_neg (by omega)]
    show _ ⊢ iprop(_ -∗ wp frame (wpE defs 𝒱 c bd) E ((step b old cur (q 0) (q 1) ones id (x 0) >>= fun _ =>
      step b cur old (q 0) (q 1) ones id (x (Fin.succ 0)) >>= fun _ =>
        steps b (q 0) (q 1) ones (2 * i) (fun r => x r.succ.succ) old cur) >>= k) Q)
    simp only [bind_assoc]
    iintro H Hk
    rw [hm j hj]
    iapply (wp_step 𝒱 c bd E neg ones q K V b old cur n j _ (hx 0)) $$ H
    iintro H
    rw [← hm j hj, hm (j + 1) (by omega)]
    iapply (wp_step 𝒱 c bd E neg ones q K V b cur old n (j + 1) _ (hx (Fin.succ 0))) $$ H
    iintro H
    iapply (wp_steps b i old cur n (j + 2) (fun r => x r.succ.succ) (by omega) fun r => ?_) $$ H
    · have := hx r.succ.succ
      rw [Fin.val_succ, Fin.val_succ] at this
      rw [show j + 2 + 1 + r.val = j + 1 + (r.val + 1 + 1) by omega]
      exact this
    rw [show j + 2 + 2 * i = j + 2 * (i + 1) by omega]
    iexact Hk

end Fox

end
-- ==== Proof.Whole.lean ====
/-
  The whole body: from its blocks of queries, keys and values it leaves the block of results, the running values folded over
  the blocks of keys in order.
-/
module

public import proofs.«01_k».proof.Proof.Run

@[expose] public section

set_option maxRecDepth 16384

noncomputable section

namespace Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The two heads' queries, as the scores take them. -/
def queries (qb : Vec F SQ .bf16) : Fin 2 → FVec F SS .bf16 := ![query0 qb, query1 qb]

/-- Query block `n`'s results. -/
def result (neg : F .f32) (n : Nat) (qb : Vec F SQ .bf16) (K : Vec F SK .bf16) (V : Vec F SV .bf16) : FVec F SO .bf16 :=
  outOf (runAt neg onesRows (queries qb) K V n (2 * n + 2))

variable {nD : Nat} {τ : Topo} {sig : RefSig} {Ix : Type} [DecidableEq Ix]
variable {Name : Type} [DecidableEq Name] {U : Type} [URA U] {Lvl : Type} {Λ : Labels}

local notation "𝕄" => MT nD τ sig Ix (Elt F) Name U Lvl

omit [FloatOps F] in
theorem slabs_intro (c : Thread nD τ) {s : Shape} {e : EltTy} (b : Memref sig c.2.kind .vmem s e) (hb : b.IsWhole)
    (r : Fin 2 → Rect s) (f : Buf (Elt F) (b.view.loc c)) :
    ((b.view.loc c ↦{fullShare} f) : sProp 𝕄) ⊢ slabs c b r (fun h x => b.view.read (Elt F) f ((r h).emb x)) := by
  unfold slabs
  rw [hb.set_eq_univ]
  iintro H
  iexists f
  isplitr
  · ipureintro; intro h x; rfl
  iexact H

omit [FloatOps F] in
theorem slabs_elim (c : Thread nD τ) {s : Shape} {e : EltTy} (b : Memref sig c.2.kind .vmem s e) (hb : b.IsWhole)
    (r : Fin 2 → Rect s) (X) : (slabs c b r X : sProp 𝕄) ⊢ iprop(∃ f, (b.view.loc c ↦{fullShare} f)) := by
  unfold slabs
  rw [hb.set_eq_univ]
  iintro ⟨%f, -, H⟩
  iexists f
  iexact H

variable [Preorder Lvl] {defs : Defs nD τ sig (Elt F) Λ} (𝒱 : Variants) (c : Dev nD) (bd : Option 𝒱.V) (E : Set Name)
variable {α : Type} {Q : α → sProp (MT nD τ sig Ix (Elt F) Name U Lvl)}

theorem emb_whole {s : Shape} (o : Fin s.rank → Nat) (h0 : ∀ a, o a = 0) (h : ∀ a, o a + s.size a ≤ s.size a) (y : s.Idx) :
    (Rect.unit (s := s) o s.size h).emb y = y := funext fun a => Fin.ext (by
  show o a + 1 * (y a).val = (y a).val
  rw [h0 a]; omega)

theorem zero2 : ∀ a, (![0, 0] : Fin 2 → Nat) a = 0 := by decide
theorem zero3 : ∀ a, (![0, 0, 0] : Fin 3 → Nat) a = 0 := by decide

/-- The running values at their starts. -/
theorem wp_opening (neg : F .f32) (b : Bufs sig) {k : PUnit → P nD τ sig F Λ α} :
    iprop(∃ r, running c b r) ⊢ iprop((running c b (Running.init neg) -∗ wp frame (wpE defs 𝒱 c bd) E (k ⟨⟩) Q)
      -∗ (wp frame (wpE defs 𝒱 c bd) E (opening neg b >>= k) Q : sProp 𝕄)) := by
  unfold opening running
  simp only [bind_assoc]
  iintro ⟨%r, HM, HA⟩ Hk
  iapply (wp_load_unused 𝒱 (c : Thread nD τ) bd E) $$ HM
  iintro HM
  iapply (wp_store_whole 𝒱 (c : Thread nD τ) bd E (Running.init neg).m id (emb_whole _ zero3 _) fun _ _ => rfl) $$ HM
  iintro HM
  iapply (wp_load_unused 𝒱 (c : Thread nD τ) bd E) $$ HA
  iintro HA
  iapply (wp_store_whole 𝒱 (c : Thread nD τ) bd E (Running.init neg).acc id (emb_whole _ zero3 _) fun _ _ => rfl) $$ HA
  iintro HA
  iapply Hk
  isplitl [HM]
  · iexact HM
  iexact HA

/-- A loop by an invariant on the trips done. -/
theorem wp_loop (L : Scf.Loop 32) (ok : L.OK) (f : Fin L.trips → PUnit → P nD τ sig F Λ PUnit) (I : Nat → sProp 𝕄)
    (h : ∀ t : Fin L.trips, I t.val ⊢ wp frame (wpE defs 𝒱 c bd) E (f t ⟨⟩) fun _ => I (t.val + 1)) {k : PUnit → P nD τ sig F Λ α} :
    I 0 ⊢ iprop((I L.trips -∗ wp frame (wpE defs 𝒱 c bd) E (k ⟨⟩) Q)
      -∗ wp frame (wpE defs 𝒱 c bd) E (Scf.Loop.for L ok ⟨⟩ f >>= k) Q) := by
  have := Scf.wp_for_bind frame (wpE defs 𝒱 (c : Thread nD τ) bd) E L.lb L.ub L.st ok ⟨⟩ f (fun t _ => I t) (fun t _ => h t) (kk := k) (Q := Q)
  iintro H Hk
  iapply this $$ H
  iintro %_ H
  iapply Hk
  iexact H

section Middle

variable (neg : F .f32) (ones : FVec F SOnes .bf16) (q : Fin 2 → FVec F SS .bf16) (K : Vec F SK .bf16) (V : Vec F SV .bf16)

/-- A conditional run of steps. -/
theorem wp_cond (b : Bufs sig) (i : Nat) (old cur : Slot sig) (n j : Nat) (cc : BitVec 1) (x : cc = 1#1 → Fin (2 * i) → At)
    (hj : 1 ≤ j) (hx : ∀ h r, (x h r).Is n (j + 1 + r.val)) {k : PUnit → P nD τ sig F Λ α} :
    (mid c neg ones q K V b old cur n j : sProp 𝕄) ⊢ iprop((mid c neg ones q K V b old cur n (j + if cc = 1#1 then 2 * i else 0)
        -∗ wp frame (wpE defs 𝒱 c bd) E (k ⟨⟩) Q)
      -∗ wp frame (wpE defs 𝒱 c bd) E (cond cc (fun h => steps b (q 0) (q 1) ones (2 * i) (x h) old cur) >>= k) Q) := by
  unfold cond
  by_cases h : cc = 1#1
  · rw [dif_pos h, if_pos h]
    exact wp_steps 𝒱 c bd E neg ones q K V b i old cur n j (x h) hj (hx h)
  · rw [dif_neg h, if_neg h, pure_bind]
    iintro H Hk
    iapply Hk
    iexact H

/-- All the steps. -/
theorem wp_middle (b : Bufs sig) (c0 c1 : Slot sig) (p : Plan) (n : Nat) (hp : p.Is n) {k : PUnit → P nD τ sig F Λ α} :
    iprop(owns (c : Thread nD τ) b.k fullShare K ∗ owns (c : Thread nD τ) b.v fullShare V ∗ (∃ t, slot c c0 t) ∗ (∃ t, slot c c1 t)
        ∗ running c b (Running.init neg))
      ⊢ iprop((owns (c : Thread nD τ) b.k fullShare K -∗ owns (c : Thread nD τ) b.v fullShare V -∗ (∃ t, slot c c0 t) -∗ (∃ t, slot c c1 t)
        -∗ running c b (runAt neg ones q K V n (2 * n + 2)) -∗ wp frame (wpE defs 𝒱 c bd) E (k ⟨⟩) Q)
      -∗ (wp frame (wpE defs 𝒱 c bd) E (middle neg p b c0 c1 (q 0) (q 1) ones >>= k) Q : sProp 𝕄)) := by
  rw [show runAt neg ones q K V n (2 * n + 2) = (runAt neg ones q K V n (2 * n + 1)).fold ones (tileAt neg q K n (2 * n + 1))
    (valBlock V (order n (2 * n + 1))) from rfl]
  unfold middle
  simp only [bind_assoc]
  iintro ⟨HK, HV, H0, H1, HR⟩ Hk
  iapply (wp_scores 𝒱 c bd E b c0 q (maskTile neg 0#32) hp.k0 K) $$ [HK H0]
  · isplitl [HK]
    · iexact HK
    iexact H0
  iintro HK H0
  ihave H := (show iprop(owns (c : Thread nD τ) b.k fullShare K ∗ owns (c : Thread nD τ) b.v fullShare V ∗ (∃ t, slot c c1 t)
    ∗ slot c c0 (tileOf q (maskTile neg 0#32) (keyBlock K (order n 0))) ∗ running c b (Running.init neg))
    ⊢ (mid c neg ones q K V b c1 c0 n 0 : sProp 𝕄) from .rfl) $$ [HK HV H0 H1 HR]
  · isplitl [HK]
    · iexact HK
    isplitl [HV]
    · iexact HV
    isplitl [H1]
    · iexact H1
    isplitl [H0]
    · iexact H0
    iexact HR
  iapply (wp_step 𝒱 c bd E neg ones q K V b c1 c0 n 0 p.x1 hp.x1) $$ H
  iintro H
  iapply (wp_loop 𝒱 c bd E p.L1 p.ok1 _ (fun t => (mid c neg ones q K V b c0 c1 n (1 + 16 * t) : sProp 𝕄)) fun t => ?_) $$ H
  · have h := wp_steps 𝒱 c bd E (defs := defs) (Q := fun _ => (mid c neg ones q K V b c0 c1 n (1 + 16 * (t.val + 1)) : sProp 𝕄))
      neg ones q K V b 8 c0 c1 n (1 + 16 * t.val) (p.l1 t) (by omega) (fun r => by
        have := hp.l1 t r
        rwa [show 1 + 16 * t.val + 1 + r.val = 2 + 16 * t.val + r.val by omega]) (k := pure)
    rw [bind_pure] at h
    iintro H
    iapply h $$ H
    rw [show 1 + 16 * t.val + 2 * 8 = 1 + 16 * (t.val + 1) by omega,
      show (pure ⟨⟩ : P nD τ sig F Λ PUnit) = Prog.ret ⟨⟩ from rfl, wp_ret]
    iintro H
    imodintro
    iexact H
  iintro H
  iapply (wp_cond 𝒱 c bd E neg ones q K V b 4 c0 c1 n _ p.c8 p.r8 (by omega) fun h r => ?_) $$ H
  · have := hp.r8 h r
    rwa [show 1 + 16 * p.L1.trips + 1 + r.val = 2 + 16 * p.L1.trips + r.val by omega]
  iintro H
  iapply (wp_cond 𝒱 c bd E neg ones q K V b 2 c0 c1 n _ p.c4 p.r4 (by omega) fun h r => ?_) $$ H
  · have := hp.r4 h r
    rwa [show 1 + 16 * p.L1.trips + (if p.c8 = 1#1 then 8 else 0) + 1 + r.val
      = 2 + 16 * p.L1.trips + (if p.c8 = 1#1 then 8 else 0) + r.val by omega]
  iintro H
  iapply (wp_cond 𝒱 c bd E neg ones q K V b 1 c0 c1 n _ p.c2 p.r2 (by omega) fun h r => ?_) $$ H
  · have := hp.r2 h r
    rwa [show 1 + 16 * p.L1.trips + (if p.c8 = 1#1 then 8 else 0) + (if p.c4 = 1#1 then 4 else 0) + 1 + r.val
      = 2 + 16 * p.L1.trips + (if p.c8 = 1#1 then 8 else 0) + (if p.c4 = 1#1 then 4 else 0) + r.val by omega]
  iintro H
  have hl := hp.len
  have e : 1 + 16 * p.L1.trips + (if p.c8 = 1#1 then 2 * 4 else 0) + (if p.c4 = 1#1 then 2 * 2 else 0)
      + (if p.c2 = 1#1 then 2 * 1 else 0) = 2 * n + 1 := by
    show 1 + 16 * p.L1.trips + (if p.c8 = 1#1 then 8 else 0) + (if p.c4 = 1#1 then 4 else 0) + (if p.c2 = 1#1 then 2 else 0) = _
    omega
  ihave H := (show (mid c neg ones q K V b c0 c1 n (1 + 16 * p.L1.trips + (if p.c8 = 1#1 then 2 * 4 else 0)
      + (if p.c4 = 1#1 then 2 * 2 else 0) + (if p.c2 = 1#1 then 2 * 1 else 0)) : sProp 𝕄) ⊢ iprop(owns (c : Thread nD τ) b.k fullShare K
    ∗ owns (c : Thread nD τ) b.v fullShare V ∗ (∃ t, slot c c0 t) ∗ slot c c1 (tileAt neg q K n (2 * n + 1))
    ∗ running c b (runAt neg ones q K V n (2 * n + 1))) from by rw [e]; exact .rfl) $$ H
  icases H with ⟨HK, HV, H0, H1, HR⟩
  iapply (wp_folds 𝒱 c bd E b c1 ones hp.v0 hp.v1 V) $$ [HV H1 HR]
  · isplitl [HV]
    · iexact HV
    isplitl [H1]
    · iexact H1
    iexact HR
  iintro HV H1 HR
  iapply Hk $$ HK HV H0 [H1] HR
  iexists _
  iexact H1

end Middle

theorem emb_rows (h : Fin 2) (x : (rowsA h).shape.Idx) : (rowsA h).emb x = (slabA h).emb (rowsIn.emb x) := by
  funext a
  refine Fin.ext ?_
  match a with
  | ⟨0, _⟩ => show h.val + 1 * (x 0).val = h.val + 1 * (0 + 1 * (x 0).val); omega
  | ⟨1, _⟩ => show 0 + 1 * (x 1).val = 0 + 1 * (0 + 1 * (x 1).val); omega
  | ⟨2, _⟩ => show 0 + 1 * (x 2).val = 0 + 1 * (0 + 1 * (x 2).val); omega

theorem emb_sum (h : Fin 2) (x : (sumA h).shape.Idx) : (sumA h).emb x = (slabA h).emb (sumIn.emb x) := by
  funext a
  refine Fin.ext ?_
  match a with
  | ⟨0, _⟩ => show h.val + 1 * (x 0).val = h.val + 1 * (0 + 1 * (x 0).val); omega
  | ⟨1, _⟩ => show 64 + 1 * (x 1).val = 0 + 1 * (64 + 1 * (x 1).val); omega
  | ⟨2, _⟩ => show 0 + 1 * (x 2).val = 0 + 1 * (0 + 1 * (x 2).val); omega

/-- The results out of the running values. -/
theorem wp_closing (b : Bufs sig) (o : Memref sig .tc .vmem SO .bf16) (ho : (o.access wholeO).Stores Finset.univ) (r : Running F)
    {k : PUnit → P nD τ sig F Λ α} :
    iprop(running c b r ∗ ∃ d, owns (c : Thread nD τ) o fullShare d)
      ⊢ iprop((running c b r -∗ owns (c : Thread nD τ) o fullShare (outOf r) -∗ wp frame (wpE defs 𝒱 c bd) E (k ⟨⟩) Q)
      -∗ (wp frame (wpE defs 𝒱 c bd) E (closing b o ho >>= k) Q : sProp 𝕄)) := by
  unfold closing running
  simp only [bind_assoc]
  iintro ⟨⟨HM, HA⟩, ⟨%d, HO⟩⟩ Hk
  iapply (wp_load_in 𝒱 (c : Thread nD τ) bd E (r := slabA) 0 (rowsA 0) (fun x => r.acc 0 (rowsIn.emb x)) (fun x => rowsIn.emb x) (emb_rows 0) fun _ => rfl) $$ HA
  iintro HA
  iapply (wp_load_in 𝒱 (c : Thread nD τ) bd E (r := slabA) 0 (sumA 0) (fun x => r.acc 0 (sumIn.emb x)) (fun x => sumIn.emb x) (emb_sum 0) fun _ => rfl) $$ HA
  iintro HA
  iapply (wp_load_in 𝒱 (c : Thread nD τ) bd E (r := slabA) 1 (rowsA 1) (fun x => r.acc 1 (rowsIn.emb x)) (fun x => rowsIn.emb x) (emb_rows 1) fun _ => rfl) $$ HA
  iintro HA
  iapply (wp_load_in 𝒱 (c : Thread nD τ) bd E (r := slabA) 1 (sumA 1) (fun x => r.acc 1 (sumIn.emb x)) (fun x => sumIn.emb x) (emb_sum 1) fun _ => rfl) $$ HA
  iintro HA
  iapply (wp_load_block 𝒱 (c : Thread nD τ) bd E) $$ HO
  iintro HO
  iapply (wp_store_owns 𝒱 (c : Thread nD τ) bd E (outOf r) id (emb_whole _ zero2 _) fun _ => rfl) $$ HO
  iintro HO
  iapply Hk $$ [HM HA] HO
  isplitl [HM]
  · iexact HM
  iexact HA

/-- The body. -/
theorem wp_body (neg : F .f32) (p : Plan) (n : Nat) (hp : p.Is n) (qr : Memref sig .tc .vmem SQ .bf16) (b : Bufs sig) (c0 c1 : Slot sig)
    (o : Memref sig .tc .vmem SO .bf16) (ho : (o.access wholeO).Stores Finset.univ)
    (qb : Vec F SQ .bf16) (K : Vec F SK .bf16) (V : Vec F SV .bf16) {Q : PUnit → sProp 𝕄} :
    iprop(owns (c : Thread nD τ) qr fullShare qb ∗ owns (c : Thread nD τ) b.k fullShare K ∗ owns (c : Thread nD τ) b.v fullShare V
        ∗ (∃ d, owns (c : Thread nD τ) o fullShare d) ∗ (∃ r, running c b r) ∗ (∃ t, slot c c0 t) ∗ (∃ t, slot c c1 t))
      ⊢ iprop((owns (c : Thread nD τ) qr fullShare qb -∗ owns (c : Thread nD τ) b.k fullShare K -∗ owns (c : Thread nD τ) b.v fullShare V
        -∗ owns (c : Thread nD τ) o fullShare (result neg n qb K V) -∗ (∃ r, running c b r) -∗ (∃ t, slot c c0 t) -∗ (∃ t, slot c c1 t)
        -∗ Q ⟨⟩)
      -∗ (wp frame (wpE defs 𝒱 c bd) E (body neg p qr b c0 c1 o ho) Q : sProp 𝕄)) := by
  rw [← bind_pure (body neg p qr b c0 c1 o ho)]
  unfold body result
  simp only [bind_assoc]
  iintro ⟨HQ, HK, HV, HO, HR, H0, H1⟩ Hk
  iapply (wp_load_block 𝒱 (c : Thread nD τ) bd E) $$ HQ
  iintro HQ
  rw [show (fun x => qb (wholeQ.emb x)) = qb from funext fun x => congrArg qb (emb_whole _ zero2 _ x)]
  iapply (wp_opening 𝒱 c bd E neg b) $$ HR
  iintro HR
  iapply (wp_middle 𝒱 c bd E neg onesRows (queries qb) K V b c0 c1 p n hp) $$ [HK HV H0 H1 HR]
  · isplitl [HK]
    · iexact HK
    isplitl [HV]
    · iexact HV
    isplitl [H0]
    · iexact H0
    isplitl [H1]
    · iexact H1
    iexact HR
  iintro HK HV H0 H1 HR
  iapply (wp_closing 𝒱 c bd E b o ho) $$ [HR HO]
  · isplitl [HR]
    · iexact HR
    iexact HO
  iintro HR HO
  rw [show (pure ⟨⟩ : P nD τ sig F Λ PUnit) = Prog.ret ⟨⟩ from rfl, wp_ret]
  imodintro
  iapply Hk $$ HQ HK HV HO [HR] H0 H1
  iexists _
  iexact HR

end Fox

end
-- ==== Proof.PartsKernelIdeal.lean ====
/-
  The printed body of the kernel is the structured program `Fox.body`, over the blocks its offsets name (`plan`).
-/
module

public import proofs.«01_k».proof.Proof.Gen.KernelIdeal
public import proofs.«01_k».proof.Proof.Steps
@[expose] public section
set_option maxRecDepth 100000
set_option maxHeartbeats 1000000
noncomputable section
namespace Cert.KernelIdeal
open Idealize.ShloMosaic Idealize.SL.Sem Facts₀
variable {F : FTy → Type} [FloatOps F] [Named F]

/-- The blocks of keys and values each run of steps reads. -/
def plan (i : grid0.Coords) : Fox.Plan where
  k0 := k0_off1 i
  hk0 := k0_off1_inb i
  x1 := ⟨k0_off2 i, k0_off2_inb i, k0_off3 i, k0_off3_inb i, k0_off4 i, k0_off4_inb i⟩
  L1 := k0_t1_loop i
  ok1 := k0_t1_ok i
  l1 := fun t r => ⟨k0_off5 i t (BitVec.ofNat 32 r.val), k0_off5_inb i t r, k0_off6 i t (BitVec.ofNat 32 r.val), k0_off6_inb i t r, k0_off7 i t (BitVec.ofNat 32 r.val), k0_off7_inb i t r⟩
  c8 := k0_cond1 i
  r8 := fun h r => ⟨k0_off11 i (BitVec.ofNat 32 r.val), k0_off11_inb i h r, k0_off12 i (BitVec.ofNat 32 r.val), k0_off12_inb i h r, k0_off13 i (BitVec.ofNat 32 r.val), k0_off13_inb i h r⟩
  c4 := k0_cond2 i
  r4 := fun h r => ⟨k0_off14 i (BitVec.ofNat 32 r.val), k0_off14_inb i h r, k0_off15 i (BitVec.ofNat 32 r.val), k0_off15_inb i h r, k0_off16 i (BitVec.ofNat 32 r.val), k0_off16_inb i h r⟩
  c2 := k0_cond3 i
  r2 := fun h r => ⟨k0_off17 i (BitVec.ofNat 32 r.val), k0_off17_inb i h r, k0_off18 i (BitVec.ofNat 32 r.val), k0_off18_inb i h r, k0_off19 i (BitVec.ofNat 32 r.val), k0_off19_inb i h r⟩
  v0 := k0_off20 i
  hv0 := k0_off20_inb i
  v1 := k0_off21 i
  hv1 := k0_off21_inb i

variable (i : grid0.Coords) (t : Fin (k0_t1_loop i).trips)

/-- The second loop covers the steps left by the first in units its own condition leaves none of. -/
theorem trips2 (i : grid0.Coords) : (k0_t2_loop i).trips = 0 := by
  revert i; decide +kernel

theorem part136_eq (arg3 : Memref sig .tc .vmem S128x512 .bf16) (harg3 : arg3.IsWhole) (arg4 : Memref sig .tc .vmem S16384x256 .bf16) (harg4 : arg4.IsWhole) (arg5 : Memref sig .tc .vmem S128x16384 .bf16) (harg5 : arg5.IsWhole) (arg6 : Memref sig .tc .vmem S512x128 .bf16) (harg6 : arg6.IsWhole) (arg7 : Memref sig .tc .vmem S2x1x512 .f32) (harg7 : arg7.IsWhole) (arg8 : Memref sig .tc .vmem S2x80x512 .f32) (harg8 : arg8.IsWhole) (arg9 : Memref sig .tc .vmem S2x256x512 .f32) (harg9 : arg9.IsWhole) (arg10 : Memref sig .tc .vmem S2x256x512 .f32) (harg10 : arg10.IsWhole) (arg11 : Memref sig .tc .vmem S2x1x512 .f32) (harg11 : arg11.IsWhole) (arg12 : Memref sig .tc .vmem S2x1x512 .f32) (harg12 : arg12.IsWhole) (arg2 : BitVec 32) (v15 v26 : FVec F S256x512 .bf16) (v41 : FVec F S16x256 .bf16) (v42 : BitVec 32)
   (v158 : FVec F S1x512 .f32) (v164 : FVec F S256x512 .bf16) (v170 : FVec F S80x256 .bf16) :
   (k0_part136 i arg3 harg3 arg4 harg4 arg5 harg5 arg6 harg6 arg7 harg7 arg8 harg8 arg9 harg9 arg10 harg10 arg11 harg11 arg12 harg12 arg2 v15 v26 v41 v42 v158 v164 v170) = (do
    let acc ← Fox.loadA (F := F) arg8 1
    let _ ← Fox.loadA (F := F) arg8 1
    Fox.storeA arg8 1 (shapeCast _ (addf (mulf (broadcastTo Fox.SA v158 broadcasts_S1x512_S80x512) (shapeCast Fox.SA acc shapeCasts_S1x80x512_S80x512))
      (matmul Fox.dotValue none v170 v164 (constant Fox.SA .f32 0x00000000#32))) shapeCasts_S80x512_S1x80x512)
    Scf.Loop.for (plan i).L1 (plan i).ok1 ⟨⟩ fun t _ => Fox.steps ⟨arg4, arg5, arg7, arg8⟩ v15 v26 v41 16 ((plan i).l1 t) ⟨arg9, arg11⟩ ⟨arg10, arg12⟩
    pure ⟨16#32, Scalar.divsi v42 16#32, Scalar.subi (Scalar.extui (Scalar.cmpi .sgt v42 0#32)) (Scalar.extui (Scalar.cmpi .slt v42 0#32))⟩) := by
  unfold k0_part136
  refine Fox.bind_congr' rfl fun _ => Fox.bind_congr' rfl fun _ => Fox.bind_congr' rfl fun _ => ?_
  refine Fox.bind_congr' (Fox.for_congr fun t _ => ?_) fun _ => ?_
  · rfl
  exact Fox.bind_congr' (Fox.for_zero _ (trips2 i) _) fun _ => rfl

theorem part137_eq (arg3 : Memref sig .tc .vmem S128x512 .bf16) (harg3 : arg3.IsWhole) (arg4 : Memref sig .tc .vmem S16384x256 .bf16) (harg4 : arg4.IsWhole) (arg5 : Memref sig .tc .vmem S128x16384 .bf16) (harg5 : arg5.IsWhole) (arg6 : Memref sig .tc .vmem S512x128 .bf16) (harg6 : arg6.IsWhole) (arg7 : Memref sig .tc .vmem S2x1x512 .f32) (harg7 : arg7.IsWhole) (arg8 : Memref sig .tc .vmem S2x80x512 .f32) (harg8 : arg8.IsWhole) (arg9 : Memref sig .tc .vmem S2x256x512 .f32) (harg9 : arg9.IsWhole) (arg10 : Memref sig .tc .vmem S2x256x512 .f32) (harg10 : arg10.IsWhole) (arg11 : Memref sig .tc .vmem S2x1x512 .f32) (harg11 : arg11.IsWhole) (arg12 : Memref sig .tc .vmem S2x1x512 .f32) (harg12 : arg12.IsWhole) (arg2 : BitVec 32) (v15 v26 : FVec F S256x512 .bf16) (v41 : FVec F S16x256 .bf16) (v42 a b c : BitVec 32) :
   (k0_part137 (F := F) i arg3 harg3 arg4 harg4 arg5 harg5 arg6 harg6 arg7 harg7 arg8 harg8 arg9 harg9 arg10 harg10 arg11 harg11 arg12 harg12 arg2 v15 v26 v41 v42 a b c) = (do
    Fox.cond (F := F) (plan i).c8 fun h => Fox.steps (F := F) ⟨arg4, arg5, arg7, arg8⟩ v15 v26 v41 8 ((plan i).r8 h) ⟨arg9, arg11⟩ ⟨arg10, arg12⟩
    Fox.cond (F := F) (plan i).c4 fun h => Fox.steps (F := F) ⟨arg4, arg5, arg7, arg8⟩ v15 v26 v41 4 ((plan i).r4 h) ⟨arg9, arg11⟩ ⟨arg10, arg12⟩
    Fox.cond (F := F) (plan i).c2 fun h => Fox.steps (F := F) ⟨arg4, arg5, arg7, arg8⟩ v15 v26 v41 2 ((plan i).r2 h) ⟨arg9, arg11⟩ ⟨arg10, arg12⟩
    pure ⟨Scalar.select (Scalar.cmpi .slt (Scalar.subi (Scalar.addi 2#32 v42) 1#32) 2#32)
      (Scalar.addi (Scalar.muli 2#32 arg2) (Scalar.subi (Scalar.addi 2#32 v42) 1#32)) (Scalar.subi (Scalar.subi (Scalar.addi 2#32 v42) 1#32) 2#32), 256#32⟩) := by
  unfold k0_part137
  refine Fox.dite_eq_cond (fun h => ?_) ?_
  · rfl
  refine Fox.dite_eq_cond (fun h => ?_) ?_
  · rfl
  refine Fox.dite_eq_cond (fun h => ?_) ?_
  · rfl
  rfl

theorem body_eq (arg3 : Memref sig .tc .vmem S128x512 .bf16) (harg3 : arg3.IsWhole) (arg4 : Memref sig .tc .vmem S16384x256 .bf16) (harg4 : arg4.IsWhole) (arg5 : Memref sig .tc .vmem S128x16384 .bf16) (harg5 : arg5.IsWhole) (arg6 : Memref sig .tc .vmem S512x128 .bf16) (harg6 : arg6.IsWhole) (arg7 : Memref sig .tc .vmem S2x1x512 .f32) (harg7 : arg7.IsWhole) (arg8 : Memref sig .tc .vmem S2x80x512 .f32) (harg8 : arg8.IsWhole) (arg9 : Memref sig .tc .vmem S2x256x512 .f32) (harg9 : arg9.IsWhole) (arg10 : Memref sig .tc .vmem S2x256x512 .f32) (harg10 : arg10.IsWhole) (arg11 : Memref sig .tc .vmem S2x1x512 .f32) (harg11 : arg11.IsWhole) (arg12 : Memref sig .tc .vmem S2x1x512 .f32) (harg12 : arg12.IsWhole) :
   (cc0_fox_attention i arg3 harg3 arg4 harg4 arg5 harg5 arg6 harg6 arg7 harg7 arg8 harg8 arg9 harg9 arg10 harg10 arg11 harg11 arg12 harg12 : Prog (TpuEff nD τ sig (Elt F) Λ₀ .tc) PUnit) =
   Fox.body ((Named.named κ "mask" 0xF149F2CA#32 : F .f32)) (plan i) arg3 ⟨arg4, arg5, arg7, arg8⟩ ⟨arg9, arg11⟩ ⟨arg10, arg12⟩ arg6
     (View.stores_vmem h_S512x128 (harg6.storeExact_slice rfl _ packedbf16_S512x128_S512x128_0_0) (fun _ => rfl)) := by
  simp only [cc0_fox_attention, part136_eq, part137_eq, Fox.body, Fox.middle, bind_assoc, pure_bind]
  rfl
end Cert.KernelIdeal
end
-- ==== Proof.PlanKernelIdeal.lean ====
/-
  The blocks the printed offsets name, in closed form: the two on the diagonal of the query block, then the ones before it in order.
-/
module

public import proofs.«01_k».proof.Proof.Gen.KernelIdeal
public import proofs.«01_k».proof.Proof.PartsKernelIdeal
public import proofs.«01_k».proof.Proof.Run

@[expose] public section

set_option maxRecDepth 16384

namespace Cert.KernelIdeal

open Idealize.ShloMosaic

theorem plan_k0 : ∀ i : grid0.Coords, (plan i).k0 = ![256 * Fox.order (i 2).val 0, 0] := by decide +kernel

theorem plan_x1 (i : grid0.Coords) : (plan i).x1.Is (i 2).val 1 := by
  unfold Fox.At.Is; revert i; decide +kernel

theorem plan_l1 (i : grid0.Coords) (t : Fin (plan i).L1.trips) (r : Fin 16) : ((plan i).l1 t r).Is (i 2).val (2 + 16 * t.val + r.val) := by
  unfold Fox.At.Is; revert r t i; decide +kernel

theorem plan_r8 (i : grid0.Coords) (h : (plan i).c8 = 1#1) (r : Fin 8) :
    ((plan i).r8 h r).Is (i 2).val (2 + 16 * (plan i).L1.trips + r.val) := by
  unfold Fox.At.Is; revert r h i; decide +kernel

theorem plan_r4 (i : grid0.Coords) (h : (plan i).c4 = 1#1) (r : Fin 4) :
    ((plan i).r4 h r).Is (i 2).val (2 + 16 * (plan i).L1.trips + (if (plan i).c8 = 1#1 then 8 else 0) + r.val) := by
  unfold Fox.At.Is; revert r h i; decide +kernel

theorem plan_r2 (i : grid0.Coords) (h : (plan i).c2 = 1#1) (r : Fin 2) :
    ((plan i).r2 h r).Is (i 2).val (2 + 16 * (plan i).L1.trips + (if (plan i).c8 = 1#1 then 8 else 0)
      + (if (plan i).c4 = 1#1 then 4 else 0) + r.val) := by
  unfold Fox.At.Is; revert r h i; decide +kernel

theorem plan_len : ∀ i : grid0.Coords, 16 * (plan i).L1.trips + (if (plan i).c8 = 1#1 then 8 else 0)
    + (if (plan i).c4 = 1#1 then 4 else 0) + (if (plan i).c2 = 1#1 then 2 else 0) = 2 * (i 2).val := by decide +kernel

theorem plan_v0 : ∀ i : grid0.Coords, (plan i).v0 = ![0, 256 * Fox.order (i 2).val (2 * (i 2).val + 1)] := by decide +kernel
theorem plan_v1 : ∀ i : grid0.Coords, (plan i).v1 = ![64, 256 * Fox.order (i 2).val (2 * (i 2).val + 1)] := by decide +kernel

/-- The body at grid point `i` is query block `i 2`'s. -/
theorem plan_is (i : grid0.Coords) : (plan i).Is (i 2).val :=
  ⟨plan_k0 i, plan_x1 i, plan_l1 i, plan_r8 i, plan_r4 i, plan_r2 i, plan_len i, plan_v0 i, plan_v1 i⟩

end Cert.KernelIdeal

end
-- ==== Proof.BodyKernelIdeal.lean ====
/-
  The run of `KernelIdeal`: the body's triple at every grid point, the pipeline's proof data, the launch and the frame.
-/
module

public import proofs.«01_k».proof.Proof.Gen.KernelIdeal.Frame
public import proofs.«01_k».proof.Proof.PlanKernelIdeal
public import proofs.«01_k».proof.Proof.Whole
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The constant that stands for minus infinity. -/
abbrev neg : F .f32 := Named.named κ "mask" 0xF149F2CA#32

/-- What the body leaves in the result's buffer at grid point `i`. -/
def out (i : grid0.Coords) (x0 : Vec F S128x512 .bf16) (x1 : Vec F S16384x256 .bf16) (x2 : Vec F S128x16384 .bf16) : Vec F S512x128 .bf16 :=
  Fox.result neg (i 2).val x0 x1 x2

/-- Two scratch buffers at some contents hold some running values, and back. -/
theorem running_intro (c : Dev nD) (b : Fox.Bufs sig) (hm : b.m.IsWhole) (ha : b.acc.IsWhole) (f g) :
    iprop((b.m.view.loc (c : Thread nD τ) ↦{fullShare} f) ∗ (b.acc.view.loc (c : Thread nD τ) ↦{fullShare} g))
      ⊢ (iprop(∃ r, Fox.running (F := F) c b r) : sProp 𝕄) := by
  unfold Fox.running
  iintro ⟨H, H'⟩
  iexists ⟨_, _⟩
  isplitl [H]
  · iapply (Fox.slabs_intro (c : Thread nD τ) b.m hm Fox.slabM f)
    iexact H
  iapply (Fox.slabs_intro (c : Thread nD τ) b.acc ha Fox.slabA g)
  iexact H'

theorem running_elim (c : Dev nD) (b : Fox.Bufs sig) (hm : b.m.IsWhole) (ha : b.acc.IsWhole) :
    (iprop(∃ r, Fox.running (F := F) c b r) : sProp 𝕄) ⊢ iprop((∃ f, (b.m.view.loc (c : Thread nD τ) ↦{fullShare} f))
      ∗ (∃ g, (b.acc.view.loc (c : Thread nD τ) ↦{fullShare} g))) := by
  unfold Fox.running
  iintro ⟨%r, H, H'⟩
  isplitl [H]
  · iapply (Fox.slabs_elim (c : Thread nD τ) b.m hm Fox.slabM)
    iexact H
  iapply (Fox.slabs_elim (c : Thread nD τ) b.acc ha Fox.slabA)
  iexact H'

/-- The same for a slot. -/
theorem slot_intro (c : Dev nD) (b : Fox.Slot sig) (hs : b.s.IsWhole) (hx : b.mx.IsWhole) (f g) :
    iprop((b.s.view.loc (c : Thread nD τ) ↦{fullShare} f) ∗ (b.mx.view.loc (c : Thread nD τ) ↦{fullShare} g))
      ⊢ (iprop(∃ r, Fox.slot (F := F) c b r) : sProp 𝕄) := by
  unfold Fox.slot
  iintro ⟨H, H'⟩
  iexists ⟨_, _⟩
  isplitl [H]
  · iapply (Fox.slabs_intro (c : Thread nD τ) b.s hs Fox.slabS f)
    iexact H
  iapply (Fox.slabs_intro (c : Thread nD τ) b.mx hx Fox.slabM g)
  iexact H'

theorem slot_elim (c : Dev nD) (b : Fox.Slot sig) (hs : b.s.IsWhole) (hx : b.mx.IsWhole) :
    (iprop(∃ r, Fox.slot (F := F) c b r) : sProp 𝕄) ⊢ iprop((∃ f, (b.s.view.loc (c : Thread nD τ) ↦{fullShare} f))
      ∗ (∃ g, (b.mx.view.loc (c : Thread nD τ) ↦{fullShare} g))) := by
  unfold Fox.slot
  iintro ⟨%r, H, H'⟩
  isplitl [H]
  · iapply (Fox.slabs_elim (c : Thread nD τ) b.s hs Fox.slabS)
    iexact H
  iapply (Fox.slabs_elim (c : Thread nD τ) b.mx hx Fox.slabM)
  iexact H'

/-! ## The body's triple -/

/-- The buffers the steps use, at the launch's scratch. -/
abbrev bufs (a1 : Memref sig .tc .vmem S16384x256 .bf16) (a2 : Memref sig .tc .vmem S128x16384 .bf16) : Fox.Bufs sig :=
  ⟨a1, a2, Memref.whole cc0_scratch0, Memref.whole cc0_scratch1⟩
abbrev slot0 : Fox.Slot sig := ⟨Memref.whole cc0_scratch2, Memref.whole cc0_scratch4⟩
abbrev slot1 : Fox.Slot sig := ⟨Memref.whole cc0_scratch3, Memref.whole cc0_scratch5⟩

/-- The body on whole staging memrefs and the launch's scratch. -/
theorem sound_kernel (c : Dev nD) (E : Set ℕ) (i : grid0.Coords)
    (a0 : Memref sig .tc .vmem S128x512 .bf16) (h0 : a0.IsWhole) (a1 : Memref sig .tc .vmem S16384x256 .bf16) (h1 : a1.IsWhole)
    (a2 : Memref sig .tc .vmem S128x16384 .bf16) (h2 : a2.IsWhole) (a3 : Memref sig .tc .vmem S512x128 .bf16) (h3 : a3.IsWhole)
    (x0 : Vec F S128x512 .bf16) (x1 : Vec F S16384x256 .bf16) (x2 : Vec F S128x16384 .bf16) (K : PUnit → sProp 𝕄) :
    iprop(Pipeline.ΦA spec0 c ∗ owns (c : Thread nD τ) a0 fullShare x0 ∗ owns (c : Thread nD τ) a1 fullShare x1
        ∗ owns (c : Thread nD τ) a2 fullShare x2 ∗ (∃ d, owns (c : Thread nD τ) a3 fullShare d)
        ∗ (iprop(Pipeline.ΦA spec0 c ∗ owns (c : Thread nD τ) a0 fullShare x0 ∗ owns (c : Thread nD τ) a1 fullShare x1
          ∗ owns (c : Thread nD τ) a2 fullShare x2 ∗ owns (c : Thread nD τ) a3 fullShare (out i x0 x1 x2)) -∗ K ⟨⟩))
      ⊢ wp frame (wpE (defs₀ (F := F)) Variants.none c none) E (cc0_fox_attention i a0 h0 a1 h1 a2 h2 a3 h3
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)) K := by
  rw [body_eq]
  unfold Pipeline.ΦA
  rw [scopedRest0_eq]
  iintro ⟨⟨⟨⟨%f0, S0⟩, ⟨%f1, S1⟩, ⟨%f2, S2⟩, ⟨%f3, S3⟩, ⟨%f4, S4⟩, ⟨%f5, S5⟩⟩, HP⟩, H0, H1, H2, H3, Hk⟩
  ihave HR := (running_intro c (bufs a1 a2) (Memref.isWhole_whole _) (Memref.isWhole_whole _) f0 f1) $$ [S0 S1]
  · isplitl [S0]
    · iexact S0
    iexact S1
  ihave HS := (slot_intro c slot0 (Memref.isWhole_whole _) (Memref.isWhole_whole _) f2 f4) $$ [S2 S4]
  · isplitl [S2]
    · iexact S2
    iexact S4
  ihave HT := (slot_intro c slot1 (Memref.isWhole_whole _) (Memref.isWhole_whole _) f3 f5) $$ [S3 S5]
  · isplitl [S3]
    · iexact S3
    iexact S5
  iapply (Fox.wp_body Variants.none c none E neg (plan i) (i 2).val (plan_is i) a0 (bufs a1 a2) slot0 slot1 a3 _ x0 x1 x2) $$ [H0 H1 H2 H3 HR HS HT]
  · isplitl [H0]
    · iexact H0
    isplitl [H1]
    · iexact H1
    isplitl [H2]
    · iexact H2
    isplitl [H3]
    · iexact H3
    isplitl [HR]
    · iexact HR
    isplitl [HS]
    · iexact HS
    iexact HT
  iintro H0 H1 H2 H3 HR HS HT
  ihave HR := (running_elim c (bufs a1 a2) (Memref.isWhole_whole _) (Memref.isWhole_whole _)) $$ HR
  ihave HS := (slot_elim c slot0 (Memref.isWhole_whole _) (Memref.isWhole_whole _)) $$ HS
  ihave HT := (slot_elim c slot1 (Memref.isWhole_whole _) (Memref.isWhole_whole _)) $$ HT
  icases HR with ⟨S0, S1⟩
  icases HS with ⟨S2, S4⟩
  icases HT with ⟨S3, S5⟩
  iapply Hk
  isplitl [S0 S1 S2 S3 S4 S5 HP]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact HP
  isplitl [H0]; · iexact H0
  isplitl [H1]; · iexact H1
  isplitl [H2]; · iexact H2
  iexact H3

/-! ## The pipeline's proof data -/

/-- The proof data on core `c`: the arrays as the region finds them; after the body each input's buffer at its block and the
    result's at `out` of them; the scratch at anything; the input array that two windows read held in shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out (grid0.coords t) (iblk m c 0 t) (iblk m c 1 t) (iblk m c 2 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out (grid0.coords t) (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [HΦ]; · iexact HΦ
  isplitl [H0]; · iexact H0
  isplitl [H1]; · iexact H1
  isplitl [H2]; · iexact H2
  isplitl [H3]; · iexists _; iexact H3
  iintro ⟨HΦ, H0, H1, H2, H3⟩
  isplitl [HΦ]; · iexact HΦ
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every final state has the arrays at what the proof data say, and the semaphores at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun c w _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: the arguments end unchanged, the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Run

end
-- ==== Proof.Softmax.lean ====
/-
  The softmax taken block by block, over the extended reals: weights kept under a running maximum and rescaled when it
  grows are the weights under the last maximum.
-/
module

public import Idealize.ShloMosaic.PureOps.Ideal
public import Mathlib.Data.EReal.Operations

@[expose] public section

noncomputable section

namespace Fox

open Idealize.ShloMosaic

/-! ### The exponential -/

/-- The weight of a score under a maximum. -/
def weight (s m : EReal) : EReal := Ideal.exp2 (s - m)

theorem exp2_coe (r : ℝ) : Ideal.exp2 (r : EReal) = ((Real.rpow 2 r : ℝ) : EReal) := rfl
theorem exp2_bot : Ideal.exp2 ⊥ = 0 := rfl
theorem exp_coe (r : ℝ) : Ideal.exp (r : EReal) = ((Real.exp r : ℝ) : EReal) := rfl
theorem exp_bot : Ideal.exp ⊥ = 0 := rfl

theorem weight_bot (m : EReal) : weight ⊥ m = 0 := by
  unfold weight; rw [EReal.bot_sub]; rfl
theorem weight_top (s : EReal) : weight s ⊤ = 0 := by
  unfold weight; rw [EReal.sub_top]; rfl
theorem weight_coe (s m : ℝ) : weight s m = ((Real.rpow 2 (s - m) : ℝ) : EReal) := by
  unfold weight; rw [← EReal.coe_sub]; rfl

/-- A weight that is not above its maximum is a real that is not negative. -/
theorem weight_real {s m : EReal} (h : s ≤ m) : ∃ r : ℝ, 0 ≤ r ∧ weight s m = (r : EReal) := by
  induction s with
  | bot => exact ⟨0, le_rfl, weight_bot m⟩
  | top => exact ⟨0, le_rfl, by rw [top_le_iff.1 h]; exact weight_top _⟩
  | coe s =>
    induction m with
    | bot => exact absurd (le_bot_iff.1 h) (EReal.coe_ne_bot s)
    | top => exact ⟨0, le_rfl, weight_top _⟩
    | coe m => exact ⟨_, (Real.rpow_pos_of_pos two_pos _).le, weight_coe s m⟩

/-- A weight rescaled to a greater maximum. -/
theorem weight_mul {s m m' : EReal} (h : s ≤ m) (h' : m ≤ m') : weight m m' * weight s m = weight s m' := by
  induction s with
  | bot => rw [weight_bot, weight_bot, mul_zero]
  | top =>
    rw [top_le_iff.1 h] at h' ⊢
    rw [top_le_iff.1 h', weight_top, mul_zero]
  | coe s =>
    induction m with
    | bot => exact absurd (le_bot_iff.1 h) (EReal.coe_ne_bot s)
    | top => rw [top_le_iff.1 h', weight_top, weight_top, mul_zero]
    | coe m =>
      induction m' with
      | bot => exact absurd (le_bot_iff.1 h') (EReal.coe_ne_bot m)
      | top => rw [weight_top, weight_top, zero_mul]
      | coe m' =>
        rw [weight_coe, weight_coe, weight_coe, ← EReal.coe_mul]
        congr 1
        show (2:ℝ) ^ (m - m') * (2:ℝ) ^ (s - m) = (2:ℝ) ^ (s - m')
        rw [← Real.rpow_add two_pos]
        congr 1
        ring

/-! ### Sums -/

theorem coe_sum {ι : Type} (S : Finset ι) (f : ι → ℝ) : ((∑ i ∈ S, f i : ℝ) : EReal) = ∑ i ∈ S, (f i : EReal) := by
  classical
  induction S using Finset.induction_on with
  | empty => rfl
  | insert a S ha ih => rw [Finset.sum_insert ha, Finset.sum_insert ha, EReal.coe_add, ih]

theorem mul_sum_real {ι : Type} (S : Finset ι) (f : ι → EReal) {r : ℝ} (hr : 0 ≤ r) :
    (r : EReal) * ∑ i ∈ S, f i = ∑ i ∈ S, (r : EReal) * f i := by
  classical
  induction S using Finset.induction_on with
  | empty => rw [Finset.sum_empty, Finset.sum_empty, mul_zero]
  | insert a S ha ih =>
    rw [Finset.sum_insert ha, Finset.sum_insert ha,
      EReal.left_distrib_of_nonneg_of_ne_top (EReal.coe_nonneg.2 hr) (EReal.coe_ne_top r), ih]

/-- The weighted sums under a maximum, rescaled to a greater one. -/
theorem rescale {ι : Type} (S : Finset ι) (s v : ι → EReal) {m m' : EReal} (h : ∀ i ∈ S, s i ≤ m) (h' : m ≤ m') :
    weight m m' * ∑ i ∈ S, v i * weight (s i) m = ∑ i ∈ S, v i * weight (s i) m' := by
  obtain ⟨r, hr, e⟩ := weight_real h'
  rw [e, mul_sum_real S _ hr]
  refine Finset.sum_congr rfl fun i hi => ?_
  rw [← weight_mul (h i hi) h', e]
  exact mul_left_comm _ _ _

/-- Blocks of scores `s j` with values `v j`, folded one after another: the running maximum is the greatest score so far and
    the running sum is weighted under it. -/
theorem fold_spec {κ : Type} [Fintype κ] (s v : Nat → κ → EReal) (m acc : Nat → EReal)
    (m0 : m 0 = ⊥) (a0 : acc 0 = 0) (N : Nat)
    (hm : ∀ j < N, m (j + 1) = max (m j) (Finset.univ.sup (s j)))
    (ha : ∀ j < N, acc (j + 1) = weight (m j) (m (j + 1)) * acc j + ∑ k, v j k * weight (s j k) (m (j + 1))) (T : Nat) (hT : T ≤ N) :
    m T = (Finset.range T).sup (fun j => Finset.univ.sup (s j))
      ∧ acc T = ∑ j ∈ Finset.range T, ∑ k, v j k * weight (s j k) (m T) := by
  induction T with
  | zero => exact ⟨by rw [m0]; rfl, by rw [a0]; rfl⟩
  | succ T ih =>
    obtain ⟨im, ia⟩ := ih (Nat.le_of_succ_le hT)
    have e : m (T + 1) = (Finset.range (T + 1)).sup (fun j => Finset.univ.sup (s j)) := by
      rw [hm T hT, im, Finset.range_add_one, Finset.sup_insert]
      exact max_comm _ _
    refine ⟨e, ?_⟩
    have hle : m T ≤ m (T + 1) := by rw [hm T hT]; exact le_max_left _ _
    have hs : ∀ x ∈ Finset.range T ×ˢ (Finset.univ : Finset κ), s x.1 x.2 ≤ m T := fun x hx => by
      rw [im]
      exact (Finset.le_sup (f := s x.1) (Finset.mem_univ x.2)).trans
        (Finset.le_sup (f := fun j => Finset.univ.sup (s j)) (Finset.mem_product.1 hx).1)
    rw [ha T hT, ia, Finset.sum_range_succ]
    congr 1
    rw [← Finset.sum_product', ← Finset.sum_product']
    exact rescale _ (fun x : Nat × κ => s x.1 x.2) (fun x : Nat × κ => v x.1 x.2) hs hle

/-! ### The plain softmax -/

/-- A score scaled by the logarithm of two and exponentiated is the power of two. -/
theorem exp_log_two (s m F : ℝ) :
    Ideal.exp ((((s + F) * Real.log 2 : ℝ) : EReal) - (((m + F) * Real.log 2 : ℝ) : EReal)) = weight s m := by
  rw [weight_coe, ← EReal.coe_sub, exp_coe]
  congr 1
  show _ = (2:ℝ) ^ (s - m)
  rw [Real.rpow_def_of_pos two_pos]
  congr 1
  ring

/-- A sum of weights each over a positive total is the total's inverse times the sum of the weights. -/
theorem sum_div {ι : Type} (S : Finset ι) (w v : ι → EReal) {l : ℝ} (hl : 0 < l) :
    ∑ i ∈ S, Ideal.div (w i) l * v i = (∑ i ∈ S, v i * w i) * Ideal.div 1 l := by
  have hne : (l : EReal) ≠ 0 := by exact_mod_cast hl.ne'
  have e : ∀ x : EReal, Ideal.div x l = x * ((l⁻¹ : ℝ) : EReal) := fun x => by
    unfold Ideal.div; rw [if_neg hne, EReal.coe_inv]
  rw [e, one_mul, mul_comm, mul_sum_real S _ (inv_nonneg.2 hl.le)]
  refine Finset.sum_congr rfl fun i _ => ?_
  rw [e, mul_comm (v i), ← mul_assoc, mul_comm (w i)]

/-- A softmax over all the keys, those after `t` masked and every logit shifted by `F` and scaled by the logarithm of two, is
    the sum over the keys up to `T` alone, weighted by powers of two. -/
theorem softmax_spec (N T t : Nat) (ht : t < T) (hT : T ≤ N) (σ : Nat → ℝ) (F : ℝ) (s L v : Nat → EReal)
    (hs : ∀ u, s u = if u ≤ t then ((σ u : ℝ) : EReal) else ⊥)
    (hL : ∀ u, L u = if u ≤ t then (((σ u + F) * Real.log 2 : ℝ) : EReal) else ⊥) :
    ∑ u ∈ Finset.range N, Ideal.div (Ideal.exp (L u - (Finset.range N).sup L))
        (∑ u' ∈ Finset.range N, Ideal.exp (L u' - (Finset.range N).sup L)) * v u
      = (∑ u ∈ Finset.range T, v u * weight (s u) ((Finset.range T).sup s))
        * Ideal.div 1 (∑ u ∈ Finset.range T, weight (s u) ((Finset.range T).sup s)) := by
  -- the greatest score is a real, that of a key that is seen
  obtain ⟨u0, h0, hσ⟩ := Finset.exists_max_image (Finset.range (t + 1)) σ ⟨0, Finset.mem_range.2 (Nat.succ_pos t)⟩
  have h0 : u0 ≤ t := Nat.lt_succ_iff.1 (Finset.mem_range.1 h0)
  have hσ : ∀ u ≤ t, σ u ≤ σ u0 := fun u hu => hσ u (Finset.mem_range.2 (Nat.lt_succ_iff.2 hu))
  have em : (Finset.range T).sup s = ((σ u0 : ℝ) : EReal) := by
    refine le_antisymm (Finset.sup_le fun u _ => ?_) ?_
    · rw [hs]
      split
      · rename_i hu; exact EReal.coe_le_coe_iff.2 (hσ u hu)
      · exact bot_le
    · refine le_trans (le_of_eq ?_) (Finset.le_sup (f := s) (Finset.mem_range.2 (lt_of_le_of_lt h0 ht)))
      rw [hs, if_pos h0]
  have eM : (Finset.range N).sup L = (((σ u0 + F) * Real.log 2 : ℝ) : EReal) := by
    refine le_antisymm (Finset.sup_le fun u _ => ?_) ?_
    · rw [hL]
      split
      · rename_i hu
        exact EReal.coe_le_coe_iff.2 (mul_le_mul_of_nonneg_right (add_le_add_left (hσ u hu) _) (Real.log_nonneg one_le_two))
      · exact bot_le
    · refine le_trans (le_of_eq ?_) (Finset.le_sup (f := L) (Finset.mem_range.2 (lt_of_le_of_lt h0 (lt_of_lt_of_le ht hT))))
      rw [hL, if_pos h0]
  rw [em, eM]
  have ew : ∀ u, Ideal.exp (L u - (((σ u0 + F) * Real.log 2 : ℝ) : EReal)) = weight (s u) ((σ u0 : ℝ) : EReal) := fun u => by
    rw [hL, hs]
    split
    · exact exp_log_two _ _ _
    · rw [weight_bot, EReal.bot_sub]; rfl
  simp only [ew]
  have hle : ∀ u, s u ≤ ((σ u0 : ℝ) : EReal) := fun u => by
    rw [hs]
    split
    · rename_i hu; exact EReal.coe_le_coe_iff.2 (hσ u hu)
    · exact bot_le
  have hz : ∀ u, T ≤ u → weight (s u) ((σ u0 : ℝ) : EReal) = 0 := fun u hu => by
    rw [hs, if_neg (by omega), weight_bot]
  -- the keys from `T` on weigh nothing
  have cut : ∑ u ∈ Finset.range N, weight (s u) ((σ u0 : ℝ) : EReal) = ∑ u ∈ Finset.range T, weight (s u) ((σ u0 : ℝ) : EReal) :=
    (Finset.sum_subset (Finset.range_mono hT) (fun u _ hu => hz u (not_lt.1 fun h => hu (Finset.mem_range.2 h)))).symm
  have cutv : ∑ u ∈ Finset.range N, v u * weight (s u) ((σ u0 : ℝ) : EReal)
      = ∑ u ∈ Finset.range T, v u * weight (s u) ((σ u0 : ℝ) : EReal) :=
    (Finset.sum_subset (Finset.range_mono hT) (fun u _ hu => by
      rw [hz u (not_lt.1 fun h => hu (Finset.mem_range.2 h)), mul_zero])).symm
  choose w hw0 hw using fun u => weight_real (hle u)
  have hl : ∑ u ∈ Finset.range T, weight (s u) ((σ u0 : ℝ) : EReal) = ((∑ u ∈ Finset.range T, w u : ℝ) : EReal) := by
    simp only [hw]
    exact (coe_sum _ _).symm
  have hpos : 0 < ∑ u ∈ Finset.range T, w u := by
    refine Finset.sum_pos' (fun u _ => hw0 u) ⟨u0, Finset.mem_range.2 (lt_of_le_of_lt h0 ht), ?_⟩
    have e := hw u0
    rw [hs, if_pos h0, weight_coe, sub_self] at e
    have e := EReal.coe_eq_coe_iff.1 e
    rw [← e]
    exact Real.rpow_pos_of_pos two_pos _
  rw [cut, hl, sum_div _ _ _ hpos, cutv]

end Fox

end
-- ==== Proof.Attention.lean ====
/-
  What a query block's results are, element by element: the sum of the values seen, each weighted by two to the power of its
  score under the greatest score, over the sum of the weights.
-/
module

public import proofs.«01_k».proof.Proof.Whole
public import proofs.«01_k».proof.Proof.Softmax
public import Idealize.ShloMosaic.Lib.Pointwise
public import Idealize.ShloMosaic.Lib.WordCmp
public import Idealize.ShloMosaic.Lib.Affine

@[expose] public section

set_option maxRecDepth 16384

noncomputable section

namespace Fox

open Idealize.ShloMosaic

theorem select_iff {α : Type} {c : BitVec 1} {p : Prop} [Decidable p] (h : c = 1 ↔ p) (x y : α) :
    Scalar.select c x y = if p then x else y := by
  unfold Scalar.select
  by_cases hp : p
  · rw [if_pos hp, if_pos (h.2 hp)]
  · rw [if_neg hp, if_neg (fun e => hp (h.1 e))]

theorem ofBits_neg_inf : Ideal.ofBits .f32 0xFF800000#32 = ⊥ := by
  simp [Ideal.ofBits, Ideal.ieee]

theorem fold_max_bot {ι : Type} (S : Finset ι) (f : ι → EReal) : Finset.fold max ⊥ f S = S.sup f := rfl

/-! ### Sums and suprema over blocks of numbers -/

theorem sum_blocks {M : Type} [AddCommMonoid M] (N : Nat) (f : Nat → M) (B : Nat) :
    ∑ b ∈ Finset.range B, ∑ k : Fin N, f (N * b + k.val) = ∑ u ∈ Finset.range (N * B), f u := by
  induction B with
  | zero => rfl
  | succ B ih =>
    rw [Finset.sum_range_succ, ih, Nat.mul_succ, Finset.sum_range_add, Fin.sum_univ_eq_sum_range (fun k => f (N * B + k))]

theorem sum_order {M : Type} [AddCommMonoid M] (n : Nat) (g : Nat → M) :
    ∑ j ∈ Finset.range (2 * n + 2), g (order n j) = ∑ b ∈ Finset.range (2 * n + 2), g b := by
  rw [Nat.add_comm (2 * n) 2, Finset.sum_range_add, Nat.add_comm 2 (2 * n), Finset.sum_range_add, add_comm]
  refine congrArg₂ _ (Finset.sum_congr rfl fun j _ => congrArg g ?_) (Finset.sum_congr rfl fun j hj => congrArg g ?_)
  · unfold order; rw [if_neg (by omega)]
    omega
  · unfold order; rw [if_pos (Finset.mem_range.1 hj)]

theorem sup_order (n : Nat) (f : Nat → EReal) :
    (Finset.range (2 * n + 2)).sup (fun j => Finset.univ.sup fun k : Fin 256 => f (256 * order n j + k.val))
      = (Finset.range (256 * (2 * n + 2))).sup f := by
  refine le_antisymm (Finset.sup_le fun j hj => Finset.sup_le fun k _ => ?_) (Finset.sup_le fun u hu => ?_)
  · refine Finset.le_sup (f := f) (Finset.mem_range.2 ?_)
    have hj := Finset.mem_range.1 hj
    have hk := k.isLt
    unfold order
    split <;> omega
  · have hu := Finset.mem_range.1 hu
    have hj : (if u / 256 < 2 * n then u / 256 + 2 else u / 256 - 2 * n) ∈ Finset.range (2 * n + 2) := by
      refine Finset.mem_range.2 ?_
      split <;> omega
    refine le_trans ?_ (Finset.le_sup (f := fun j => Finset.univ.sup fun k : Fin 256 => f (256 * order n j + k.val)) hj)
    refine le_trans (le_of_eq (congrArg f ?_)) (Finset.le_sup (f := fun k : Fin 256 => f (256 * order n _ + k.val))
      (Finset.mem_univ ⟨u % 256, Nat.mod_lt _ (by decide)⟩))
    show u = 256 * order n _ + u % 256
    unfold order
    split <;> split <;> omega

/-! ### The scores and the values -/

/-- The score of key `u` against query `c` of the block. -/
def scoreAt (q : FVec Ideal SS .bf16) (K : Vec Ideal SK .bf16) (c : Fin 512) (u : Nat) : EReal :=
  ∑ x : Fin 256, K (ix2 ⟨u % 16384, Nat.mod_lt _ (by decide)⟩ x) * q (ix2 x c)

/-- The same where query `c` of block `n` sees key `u`, else −∞. -/
def seen (n : Nat) (q : FVec Ideal SS .bf16) (K : Vec Ideal SK .bf16) (c : Fin 512) (u : Nat) : EReal :=
  if u ≤ 512 * n + c.val then scoreAt q K c u else ⊥

/-- Head `h`'s value `d` of key `u`. -/
def valueAt (V : Vec Ideal SV .bf16) (h : Fin 2) (d : Fin 64) (u : Nat) : EReal :=
  V (ix2 ⟨(64 * h.val + d.val) % 128, Nat.mod_lt _ (by decide)⟩ ⟨u % 16384, Nat.mod_lt _ (by decide)⟩)

theorem keyBlock_apply (K : Vec Ideal SK .bf16) (n : Nat) (k x : Fin 256) :
    keyBlock K n (ix2 k x) = K (ix2 ⟨(256 * n + k.val) % 16384, Nat.mod_lt _ (by decide)⟩ x) := by
  unfold keyBlock
  refine congrArg K (funext fun a => ?_)
  match a with
  | ⟨0, _⟩ => rfl
  | ⟨1, _⟩ => rfl

theorem valBlock_apply (V : Vec Ideal SV .bf16) (n : Nat) (h : Fin 2) (d : Fin 64) (k : Fin 256) :
    valBlock V n h (ix2 d k) = valueAt V h d (256 * n + k.val) := by
  unfold valBlock valueAt
  refine congrArg V (funext fun a => ?_)
  match a with
  | ⟨0, _⟩ => rfl
  | ⟨1, _⟩ => rfl

theorem scoreTile_apply (q : FVec Ideal SS .bf16) (K : Vec Ideal SK .bf16) (n : Nat) (k : Fin 256) (c : Fin 512) :
    scoreTile q (keyBlock K n) (ix2 k c) = scoreAt q K c (256 * n + k.val) := by
  pointwise [scoreTile, dotScore]
  exact Finset.sum_congr rfl fun x _ => by rw [keyBlock_apply]

theorem maskTile_apply (neg : EReal) (off : Nat) (ho : off ≤ 256) (s : FVec Ideal SS .f32) (k : Fin 256) (c : Fin 512) :
    maskTile (F := Ideal) neg (BitVec.ofNat 32 off) s (ix2 k c) = if k.val + off ≤ c.val then s (ix2 k c) else neg := by
  pointwise [maskTile]
  refine select_iff ?_ _ _
  have hk := k.isLt
  have hc := c.isLt
  rw [show IntOp.addi (BitVec.ofNat 32 k.val) (BitVec.ofNat 32 off) = BitVec.ofNat 32 (k.val + off) from (BitVec.ofNat_add _ _).symm,
    WordCmp.cmpi_sle_ofNat (by omega) (by omega)]
  exact WordCmp.ofBool_decide_eq_one_iff _

theorem colMax_apply (s : FVec Ideal SS .f32) (c : Fin 512) :
    shapeCast SM1 (colMax s) (by decide) (ix3 0 0 c) = Finset.univ.sup fun k : Fin 256 => s (ix2 k c) := by
  pointwise [colMax]
  rw [ofBits_neg_inf, fold_max_bot]

/-- The scores of the `j`-th block, masked. -/
theorem masked_apply (q : FVec Ideal SS .bf16) (K : Vec Ideal SK .bf16) (n j : Nat) (hj : j < 2 * n + 2) (k : Fin 256)
    (c : Fin 512) :
    maskOf (F := Ideal) (⊥ : EReal) j (scoreTile q (keyBlock K (order n j))) (ix2 k c)
      = seen n q K c (256 * order n j + k.val) := by
  have hk := k.isLt
  unfold maskOf seen
  by_cases h0 : j = 0
  · subst h0
    rw [if_pos rfl, maskTile_apply _ 0 (by omega), scoreTile_apply]
    have e : order n 0 = 2 * n := rfl
    rw [e]
    exact if_congr (by omega) rfl rfl
  · rw [if_neg h0]
    by_cases h1 : j = 1
    · subst h1
      rw [if_pos rfl, maskTile_apply _ 256 (by omega), scoreTile_apply]
      have e : order n 1 = 2 * n + 1 := rfl
      rw [e]
      exact if_congr (by omega) rfl rfl
    · rw [if_neg h1, id_eq, scoreTile_apply]
      have e : order n j = j - 2 := if_neg (by omega)
      rw [e, if_pos (by omega)]

theorem tileAt_s (q : Fin 2 → FVec Ideal SS .bf16) (K : Vec Ideal SK .bf16) (n j : Nat) (hj : j < 2 * n + 2) (h : Fin 2)
    (k : Fin 256) (c : Fin 512) :
    (tileAt (F := Ideal) (⊥ : EReal) q K n j).s h (ix3 0 k c) = seen n (q h) K c (256 * order n j + k.val) := by
  unfold tileAt
  rw [tileOf_s, ← masked_apply _ _ _ _ hj]
  generalize maskOf (F := Ideal) (⊥ : EReal) j (scoreTile (q h) (keyBlock K (order n j))) = s
  pointwise

theorem tileAt_mx (q : Fin 2 → FVec Ideal SS .bf16) (K : Vec Ideal SK .bf16) (n j : Nat) (hj : j < 2 * n + 2) (h : Fin 2)
    (c : Fin 512) :
    (tileAt (F := Ideal) (⊥ : EReal) q K n j).mx h (ix3 0 0 c)
      = Finset.univ.sup fun k : Fin 256 => seen n (q h) K c (256 * order n j + k.val) := by
  unfold tileAt
  rw [tileOf_mx, colMax_apply]
  exact congrArg _ (funext fun k => masked_apply _ _ _ _ hj _ _)

/-! ### The running values -/

theorem newMax_apply (m mx : Vec Ideal SM1 .f32) (c : Fin 512) :
    shapeCast SM1 (newMax m mx) (by decide) (ix3 0 0 c) = max (m (ix3 0 0 c)) (mx (ix3 0 0 c)) := by
  pointwise [newMax]

theorem newAcc_apply (ones : FVec Ideal SOnes .bf16) (m mx : Vec Ideal SM1 .f32) (s : Vec Ideal SS1 .f32)
    (vb : Vec Ideal SVb .bf16) (acc : Vec Ideal SA1 .f32) (k : Fin 80) (c : Fin 512) :
    shapeCast SA1 (newAcc ones m mx s vb acc) (by decide) (ix3 0 k c)
      = weight (m (ix3 0 0 c)) (max (m (ix3 0 0 c)) (mx (ix3 0 0 c))) * acc (ix3 0 k c)
        + ∑ x : Fin 256, (if h : k.val < 64 then vb (ix2 ⟨k.val, h⟩ x) else ones (ix2 ⟨k.val - 64, by omega⟩ x))
            * weight (s (ix3 0 x c)) (max (m (ix3 0 0 c)) (mx (ix3 0 0 c))) := by
  pointwise [newAcc, newMax, weights, dotValue]
  rfl

theorem onesRows_apply (r : Fin 16) (x : Fin 256) :
    onesRows (F := Ideal) (ix2 r x) = if r.val = 0 then 1 else 0 := by
  pointwise [onesRows]
  refine select_iff ?_ _ _
  have hr := r.isLt
  revert r
  decide

/-- Row `k` of the values with the row of ones below them. -/
def valueRow (V : Vec Ideal SV .bf16) (h : Fin 2) (k : Fin 80) (u : Nat) : EReal :=
  if hk : k.val < 64 then valueAt V h ⟨k.val, hk⟩ u else if k.val - 64 = 0 then 1 else 0

/-- After `T` blocks: the greatest score, and the values weighted under it. -/
theorem runAt_apply (q : Fin 2 → FVec Ideal SS .bf16) (K : Vec Ideal SK .bf16) (V : Vec Ideal SV .bf16) (n : Nat) (h : Fin 2)
    (k : Fin 80) (c : Fin 512) :
    (runAt (F := Ideal) (⊥ : EReal) onesRows q K V n (2 * n + 2)).acc h (ix3 0 k c)
      = ∑ u ∈ Finset.range (512 * n + 512), valueRow V h k u
          * weight (seen n (q h) K c u) ((Finset.range (512 * n + 512)).sup (seen n (q h) K c)) := by
  -- past the last block the recursion is continued by blocks of its own: only the first `2 n + 2` are read
  have key : ∀ T, T ≤ 2 * n + 2 →
      (runAt (F := Ideal) (⊥ : EReal) onesRows q K V n T).m h (ix3 0 0 c)
          = (Finset.range T).sup (fun j => Finset.univ.sup fun x : Fin 256 => seen n (q h) K c (256 * order n j + x.val))
        ∧ (runAt (F := Ideal) (⊥ : EReal) onesRows q K V n T).acc h (ix3 0 k c)
          = ∑ j ∈ Finset.range T, ∑ x : Fin 256, valueRow V h k (256 * order n j + x.val)
              * weight (seen n (q h) K c (256 * order n j + x.val))
                  ((runAt (F := Ideal) (⊥ : EReal) onesRows q K V n T).m h (ix3 0 0 c)) := by
    intro T hT
    refine fold_spec (fun j (x : Fin 256) => seen n (q h) K c (256 * order n j + x.val))
      (fun j x => valueRow V h k (256 * order n j + x.val))
      (fun j => (runAt (F := Ideal) (⊥ : EReal) onesRows q K V n j).m h (ix3 0 0 c))
      (fun j => (runAt (F := Ideal) (⊥ : EReal) onesRows q K V n j).acc h (ix3 0 k c))
      rfl Ideal.ofBits_zero_f32 (2 * n + 2) (fun j hj => ?_) (fun j hj => ?_) T hT
    · rw [← tileAt_mx q K n j hj h c]
      exact newMax_apply _ _ c
    · have em := newMax_apply ((runAt (F := Ideal) (⊥ : EReal) onesRows q K V n j).m h)
        ((tileAt (F := Ideal) (⊥ : EReal) q K n j).mx h) c
      have ea := newAcc_apply onesRows ((runAt (F := Ideal) (⊥ : EReal) onesRows q K V n j).m h)
        ((tileAt (F := Ideal) (⊥ : EReal) q K n j).mx h) ((tileAt (F := Ideal) (⊥ : EReal) q K n j).s h)
        (valBlock V (order n j) h) ((runAt (F := Ideal) (⊥ : EReal) onesRows q K V n j).acc h) k c
      rw [← em] at ea
      refine ea.trans (congrArg₂ _ rfl (Finset.sum_congr rfl fun x _ => ?_))
      rw [tileAt_s q K n j hj h x c]
      refine congrArg₂ _ ?_ rfl
      unfold valueRow
      by_cases hk : k.val < 64
      · rw [dif_pos hk, dif_pos hk, valBlock_apply]
      · rw [dif_neg hk, dif_neg hk, onesRows_apply]
  obtain ⟨hm, ha⟩ := key _ le_rfl
  rw [ha, hm, sup_order n (seen n (q h) K c),
    sum_order n (fun b => ∑ x : Fin 256, valueRow V h k (256 * b + x.val) * weight (seen n (q h) K c (256 * b + x.val)) _),
    sum_blocks 256 (fun u => valueRow V h k u * weight (seen n (q h) K c u) _)]
  rw [show 256 * (2 * n + 2) = 512 * n + 512 from by omega]

theorem outTile_apply (a0 : Vec Ideal SH1 .f32) (l0 : Vec Ideal SM1 .f32) (a1 : Vec Ideal SH1 .f32) (l1 : Vec Ideal SM1 .f32)
    (r : Fin 512) (c : Fin 128) :
    outTile a0 l0 a1 l1 (ix2 r c)
      = if h : c.val < 64 then a0 (ix3 0 ⟨c.val, h⟩ r) * Ideal.div 1 (l0 (ix3 0 0 r))
        else a1 (ix3 0 ⟨c.val - 64, by omega⟩ r) * Ideal.div 1 (l1 (ix3 0 0 r)) := by
  pointwise [outTile, headOut]

/-- The results of query block `n`, element by element. -/
theorem result_apply (qb : Vec Ideal SQ .bf16) (K : Vec Ideal SK .bf16) (V : Vec Ideal SV .bf16) (n : Nat) (h : Fin 2) (d : Fin 64)
    (r : Fin 512) (hc : 64 * h.val + d.val < 128) :
    result (F := Ideal) (⊥ : EReal) n qb K V (ix2 r ⟨64 * h.val + d.val, hc⟩)
      = (∑ u ∈ Finset.range (512 * n + 512), valueAt V h d u
          * weight (seen n (queries qb h) K r u) ((Finset.range (512 * n + 512)).sup (seen n (queries qb h) K r)))
        * Ideal.div 1 (∑ u ∈ Finset.range (512 * n + 512),
            weight (seen n (queries qb h) K r u) ((Finset.range (512 * n + 512)).sup (seen n (queries qb h) K r))) := by
  have hv : ∀ u, valueRow V h ⟨d.val, by omega⟩ u = valueAt V h d u := fun u => dif_pos d.isLt
  have ho : ∀ u, valueRow V h (64 : Fin 80) u = 1 := fun u => rfl
  have e1 := runAt_apply (queries qb) K V n h ⟨d.val, by omega⟩ r
  have e2 := runAt_apply (queries qb) K V n h (64 : Fin 80) r
  simp only [hv] at e1
  simp only [ho, one_mul] at e2
  rw [← e1, ← e2]
  have rows : ∀ (x : Fin 64), rowsIn.emb (ix3 0 x r) = ix3 0 ⟨x.val, by omega⟩ r := fun x => funext fun a => Fin.ext <| by
    match a with
    | ⟨0, _⟩ => rfl
    | ⟨1, _⟩ => show 0 + 1 * x.val = x.val; omega
    | ⟨2, _⟩ => show 0 + 1 * r.val = r.val; omega
  have sums : sumIn.emb (ix3 0 0 r) = ix3 0 64 r := funext fun a => Fin.ext <| by
    match a with
    | ⟨0, _⟩ => rfl
    | ⟨1, _⟩ => rfl
    | ⟨2, _⟩ => show 0 + 1 * r.val = r.val; omega
  unfold result
  clear e1 e2 hv ho
  generalize runAt (F := Ideal) (⊥ : EReal) onesRows (queries qb) K V n (2 * n + 2) = R
  match h, hc with
  | ⟨0, _⟩, hc =>
    have hd : 64 * 0 + d.val < 64 := by omega
    refine (outTile_apply _ _ _ _ _ _).trans ((dif_pos hd).trans ?_)
    show R.acc 0 (rowsIn.emb _) * Ideal.div 1 (R.acc 0 (sumIn.emb _)) = _
    rw [rows, sums]
    congr 3
    exact Fin.ext (by show 64 * 0 + d.val = d.val; omega)
  | ⟨1, _⟩, hc =>
    have hd : ¬ 64 * 1 + d.val < 64 := by omega
    refine (outTile_apply _ _ _ _ _ _).trans ((dif_neg hd).trans ?_)
    show R.acc 1 (rowsIn.emb _) * Ideal.div 1 (R.acc 1 (sumIn.emb _)) = _
    rw [rows, sums]
    congr 3
    exact Fin.ext (by show 64 * 1 + d.val - 64 = d.val; omega)

/-! ### The scores out of the extended queries -/

theorem ofBits_neg_one : Ideal.ofBits .f32 0xBF800000#32 = -1 := by
  simp [Ideal.ofBits, Ideal.ieee, -EReal.coe_mul]
  norm_num

/-- Head `h`'s queries: its own lanes, then minus one on the three lanes of its bias. -/
theorem queries_apply (qb : Vec Ideal SQ .bf16) (h : Fin 2) (x : Fin 256) (c : Fin 512) :
    queries (F := Ideal) qb h (ix2 x c)
      = if x.val < 128 then (if x.val / 64 = h.val then qb (ix2 ⟨x.val % 128, Nat.mod_lt _ (by decide)⟩ c) else 0)
        else if (x.val - 128) / 3 = h.val then -1 else 0 := by
  have hx := x.isLt
  match h with
  | ⟨0, _⟩ =>
    show query0 qb (ix2 x c) = _
    pointwise [query0]
    by_cases h1 : x.val < 128
    · rw [dif_pos h1, if_pos h1]
      have e : (⟨x.val % 128, Nat.mod_lt _ (by decide)⟩ : Fin 128) = ⟨x.val, h1⟩ := Fin.ext (Nat.mod_eq_of_lt h1)
      rw [e]
      refine (select_iff (p := x.val < 64) ?_ _ _).trans (if_congr (by omega) rfl rfl)
      rw [WordCmp.cmpi_slt_ofNat (by omega) (by omega)]
      exact WordCmp.ofBool_decide_eq_one_iff _
    · rw [dif_neg h1, if_neg h1, ofBits_neg_one]
      refine (select_iff (p := (x.val - 128) / 3 = 0) ?_ _ _)
      rw [WordCmp.cmpi_slt_ofNat (by omega) (by omega), WordCmp.cmpi_sge_ofNat (by omega) (by omega)]
      refine IntOp.andi_eq_one.trans ?_
      rw [WordCmp.ofBool_decide_eq_one_iff, WordCmp.ofBool_decide_eq_one_iff]
      omega
  | ⟨1, _⟩ =>
    show query1 qb (ix2 x c) = _
    pointwise [query1]
    by_cases h1 : x.val < 128
    · rw [dif_pos h1, if_pos h1]
      have e : (⟨x.val % 128, Nat.mod_lt _ (by decide)⟩ : Fin 128) = ⟨x.val, h1⟩ := Fin.ext (Nat.mod_eq_of_lt h1)
      rw [e]
      refine (select_iff (p := x.val < 64) ?_ _ _).trans ?_
      · rw [WordCmp.cmpi_slt_ofNat (by omega) (by omega)]
        exact WordCmp.ofBool_decide_eq_one_iff _
      · by_cases h2 : x.val < 64
        · rw [if_pos h2, if_neg (by omega)]
        · rw [if_neg h2, if_pos (by omega)]
    · rw [dif_neg h1, if_neg h1, ofBits_neg_one]
      refine (select_iff (p := (x.val - 128) / 3 = 1) ?_ _ _)
      rw [WordCmp.cmpi_slt_ofNat (by omega) (by omega), WordCmp.cmpi_sge_ofNat (by omega) (by omega)]
      refine IntOp.andi_eq_one.trans ?_
      rw [WordCmp.ofBool_decide_eq_one_iff, WordCmp.ofBool_decide_eq_one_iff]
      omega

/-- A sum over the 256 lanes whose terms vanish outside head `h`'s own. -/
theorem sum_lanes (g : Nat → EReal) (h : Fin 2) (h1 : ∀ i < 128, i / 64 ≠ h.val → g i = 0)
    (h2 : ∀ i < 128, i / 3 ≠ h.val → g (128 + i) = 0) :
    ∑ x : Fin 256, g x.val = (∑ d : Fin 64, g (64 * h.val + d.val))
      + (g (128 + 3 * h.val) + g (128 + 3 * h.val + 1) + g (128 + 3 * h.val + 2)) := by
  have a : ∑ i ∈ Finset.range 128, g i = ∑ d : Fin 64, g (64 * h.val + d.val) := by
    rw [Fin.sum_univ_eq_sum_range (fun d => g (64 * h.val + d)), Finset.sum_range_add _ 64 64]
    match h with
    | ⟨0, _⟩ =>
      rw [Finset.sum_eq_zero (s := Finset.range 64) (f := fun x => g (64 + x)) (fun i hi => by
        have := Finset.mem_range.1 hi
        exact h1 _ (by omega) (by show (64 + i) / 64 ≠ 0; omega)), add_zero]
      exact Finset.sum_congr rfl fun i _ => congrArg g (by show i = 64 * 0 + i; omega)
    | ⟨1, _⟩ =>
      rw [Finset.sum_eq_zero (s := Finset.range 64) (f := g) (fun i hi => by
        have := Finset.mem_range.1 hi
        exact h1 _ (by omega) (by show i / 64 ≠ 1; omega)), zero_add]
      exact Finset.sum_congr rfl fun i _ => congrArg g (by show 64 + i = 64 * 1 + i; omega)
  have b : ∑ i ∈ Finset.range 128, g (128 + i) = g (128 + 3 * h.val) + g (128 + 3 * h.val + 1) + g (128 + 3 * h.val + 2) := by
    have hs : Finset.Ico (3 * h.val) (3 * h.val + 3) ⊆ Finset.range 128 := fun i hi => by
      have := Finset.mem_Ico.1 hi
      have := h.isLt
      exact Finset.mem_range.2 (by omega)
    rw [← Finset.sum_subset hs (fun i hi hn => h2 i (Finset.mem_range.1 hi) (fun e => hn (Finset.mem_Ico.2 (by omega)))),
      Finset.sum_Ico_eq_sum_range, Nat.add_sub_cancel_left, Finset.sum_range_succ, Finset.sum_range_succ, Finset.sum_range_one]
    rfl
  rw [Fin.sum_univ_eq_sum_range g, Finset.sum_range_add _ 128 128, a, b]

/-- The score of a key: its product with the query over the head's 64 lanes, less its bias. -/
theorem scoreAt_queries (qb : Vec Ideal SQ .bf16) (K : Vec Ideal SK .bf16) (h : Fin 2) (c : Fin 512) (u : Nat)
    (k : Nat → EReal) (hk : ∀ x : Fin 256, K (ix2 ⟨u % 16384, Nat.mod_lt _ (by decide)⟩ x) = k x.val) :
    scoreAt (queries qb h) K c u
      = (∑ d : Fin 64, k (64 * h.val + d.val) * qb (ix2 ⟨(64 * h.val + d.val) % 128, Nat.mod_lt _ (by decide)⟩ c))
        + (k (128 + 3 * h.val) * -1 + k (128 + 3 * h.val + 1) * -1 + k (128 + 3 * h.val + 2) * -1) := by
  let g : Nat → EReal := fun i => k i *
    (if i < 128 then (if i / 64 = h.val then qb (ix2 ⟨i % 128, Nat.mod_lt _ (by decide)⟩ c) else 0)
        else if (i - 128) / 3 = h.val then -1 else 0)
  have hh := h.isLt
  have e : scoreAt (queries qb h) K c u = ∑ x : Fin 256, g x.val := by
    unfold scoreAt
    exact Finset.sum_congr rfl fun x _ => by rw [hk, queries_apply]
  rw [e, sum_lanes g h (fun i hi hn => ?_) (fun i hi hn => ?_)]
  · refine congrArg₂ _ (Finset.sum_congr rfl fun d _ => ?_) (congrArg₂ _ (congrArg₂ _ ?_ ?_) ?_)
    · show k _ * _ = _
      rw [if_pos (by omega), if_pos (by omega)]
    · show k _ * _ = _
      rw [if_neg (by omega), if_pos (by omega)]
    · show k _ * _ = _
      rw [if_neg (by omega), if_pos (by omega)]
    · show k _ * _ = _
      rw [if_neg (by omega), if_pos (by omega)]
  · show k _ * _ = _
    rw [if_pos hi, if_neg hn, mul_zero]
  · show k _ * _ = _
    rw [if_neg (by omega), if_neg (by rwa [Nat.add_sub_cancel_left]), mul_zero]

end Fox

end
-- ==== Proof.Reference.lean ====
/-
  What the reference returns, element by element.
-/
module

public import proofs.«01_k».proof.Defs
public import proofs.«01_k».proof.Proof.Gen.ReferenceIdeal.Run
public import proofs.«01_k».proof.Proof.Attention

@[expose] public section

set_option maxRecDepth 16384

noncomputable section

namespace Cert.ReferenceIdeal

open Idealize.ShloMosaic
open Idealize.ShloMosaic.TcCoe
open Cert.ReferenceIdeal.Gen

variable (A : FVec Ideal S1024x32768 .bf16) (B : FVec Ideal S32768x1024 .bf16)

/-! ### The reference in stages -/

/-- The queries, keys and values of each head. -/
def refQ : FVec Ideal S2x8x16384x64 .f32 :=
  transpose S2x8x16384x64 [0, 2, 1, 3] (shapeCast S2x16384x8x64 (transpose S32768x512 [1, 0] (extractStridedSlice S512x32768 ![0, 0] (extf .f32 A bitsLt_bf16_f32) slices_S1024x32768_S512x32768_0_0) transposes_S512x32768_S32768x512_1_0) shapeCasts_S32768x512_S2x16384x8x64) transposes_S2x16384x8x64_S2x8x16384x64_0_2_1_3
def refV : FVec Ideal S2x8x16384x64 .f32 :=
  transpose S2x8x16384x64 [0, 2, 1, 3] (shapeCast S2x16384x8x64 (transpose S32768x512 [1, 0] (extractStridedSlice S512x32768 ![512, 0] (extf .f32 A bitsLt_bf16_f32) slices_S1024x32768_S512x32768_512_0) transposes_S512x32768_S32768x512_1_0) shapeCasts_S32768x512_S2x16384x8x64) transposes_S2x16384x8x64_S2x8x16384x64_0_2_1_3
def refK : FVec Ideal S2x8x16384x64 .f32 :=
  transpose S2x8x16384x64 [0, 2, 1, 3] (shapeCast S2x16384x8x64 (shapeCast S2x16384x4x128 (extractStridedSlice S2x16384x4x1x128 ![0, 0, 0, 0, 0] (shapeCast S2x16384x4x2x128 (extf .f32 B bitsLt_bf16_f32) shapeCasts_S32768x1024_S2x16384x4x2x128) slices_S2x16384x4x2x128_S2x16384x4x1x128_0_0_0_0_0) shapeCasts_S2x16384x4x1x128_S2x16384x4x128) shapeCasts_S2x16384x4x128_S2x16384x8x64) transposes_S2x16384x8x64_S2x8x16384x64_0_2_1_3

/-- The cumulative gate of each head. -/
def refF : FVec Ideal S2x8x16384 .f32 :=
  transpose S2x8x16384 [0, 2, 1] (Host.reduceAdd (shapeCast S2x16384x8x3 (shapeCast S2x16384x4x6 (extractStridedSlice S2x16384x4x1x6 ![0, 0, 0, 1, 0] (shapeCast S2x16384x4x2x128 (extf .f32 B bitsLt_bf16_f32) shapeCasts_S32768x1024_S2x16384x4x2x128) slices_S2x16384x4x2x128_S2x16384x4x1x6_0_0_0_1_0) shapeCasts_S2x16384x4x1x6_S2x16384x4x6) shapeCasts_S2x16384x4x6_S2x16384x8x3) (constant S_ .f32 0x00000000#32) reducesTo_S2x16384x8x3_S2x16384x8_d3 h_S_) transposes_S2x16384x8_S2x8x16384_0_2_1

/-- Which keys a query sees. -/
def refMask : IVec S2x8x16384x16384 1 :=
  broadcastInDim S2x8x16384x16384 ![2, 3] bcast_S16384x16384_S2x8x16384x16384_2_3 (cmpi .sle (broadcastInDim S16384x16384 ![0, 1] bcast_S1x16384_S16384x16384_0_1 (broadcastInDim S1x16384 ![1] bcast_S16384_S1x16384_1 (iotaInDim S16384 32 0))) (broadcastInDim S16384x16384 ![0, 1] bcast_S16384x1_S16384x16384_0_1 (broadcastInDim S16384x1 ![0] bcast_S16384_S16384x1_0 (iotaInDim S16384 32 0))))

/-- The logits, from the queries, the keys and the gate. -/
def refLogits (q k : FVec Ideal S2x8x16384x64 .f32) (f : FVec Ideal S2x8x16384 .f32) (mask : IVec S2x8x16384x16384 1) : FVec Ideal S2x8x16384x16384 .f32 :=
  select mask (mulf (subf (addf (Host.dotGeneral dot_S2x8x16384x64_S2x8x16384x64_S2x8x16384x16384_3_3_2_2_01_01 none q k)
      (broadcastInDim S2x8x16384x16384 ![0, 1, 2, 3] bcast_S2x8x16384x1_S2x8x16384x16384_0_1_2_3 (broadcastInDim S2x8x16384x1 ![0, 1, 2] bcast_S2x8x16384_S2x8x16384x1_0_1_2 f)))
      (broadcastInDim S2x8x16384x16384 ![0, 1, 2, 3] bcast_S2x8x1x16384_S2x8x16384x16384_0_1_2_3 (broadcastInDim S2x8x1x16384 ![0, 1, 3] bcast_S2x8x16384_S2x8x1x16384_0_1_3 f)))
      (broadcastInDim S2x8x16384x16384 ![] bcast_S_S2x8x16384x16384 (Host.log (constant S_ .f32 0x40000000#32))))
    (broadcastInDim S2x8x16384x16384 ![] bcast_S_S2x8x16384x16384 (id (constant S_ .f32 0xFF800000#32)))

/-- The greatest logit of each query. -/
def refMax (l : FVec Ideal S2x8x16384x16384 .f32) : FVec Ideal S2x8x16384 .f32 :=
  Host.reduce FloatOps.maximumf l (constant S_ .f32 0xFF800000#32) reducesTo_S2x8x16384x16384_S2x8x16384_d3 h_S_

/-- The exponentials of the logits less their greatest. -/
def refExp (l : FVec Ideal S2x8x16384x16384 .f32) (m : FVec Ideal S2x8x16384 .f32) : FVec Ideal S2x8x16384x16384 .f32 :=
  Host.exp (subf l (broadcastInDim S2x8x16384x16384 ![0, 1, 2, 3] bcast_S2x8x16384x1_S2x8x16384x16384_0_1_2_3 (broadcastInDim S2x8x16384x1 ![0, 1, 2] bcast_S2x8x16384_S2x8x16384x1_0_1_2 (maximumf (broadcastInDim S2x8x16384 ![] bcast_S_S2x8x16384 (constant S_ .f32 0xFF800000#32)) m))))

/-- Those over their sum. -/
def refProb (e : FVec Ideal S2x8x16384x16384 .f32) : FVec Ideal S2x8x16384x16384 .f32 :=
  Host.divf e (broadcastInDim S2x8x16384x16384 ![0, 1, 2, 3] bcast_S2x8x16384x1_S2x8x16384x16384_0_1_2_3 (broadcastInDim S2x8x16384x1 ![0, 1, 2] bcast_S2x8x16384_S2x8x16384x1_0_1_2 (Host.reduceAdd e (constant S_ .f32 0x00000000#32) reducesTo_S2x8x16384x16384_S2x8x16384_d3 h_S_)))

/-- The results, laid out as the kernel's. -/
def refOut (p : FVec Ideal S2x8x16384x16384 .f32) (v : FVec Ideal S2x8x16384x64 .f32) : FVec Ideal S32768x512 .bf16 :=
  truncf .bf16 (shapeCast S32768x512 (transpose S2x16384x8x64 [0, 2, 1, 3] (Host.dotGeneral dot_S2x8x16384x16384_S2x8x16384x64_S2x8x16384x64_3_2_2_3_01_01 none p v) transposes_S2x8x16384x64_S2x16384x8x64_0_2_1_3) shapeCasts_S2x16384x8x64_S32768x512) bitsLt_bf16_f32

set_option maxHeartbeats 4000000 in
theorem res_stages (m : (ℓ : Loc nD τ sig) → Buf (Elt Ideal) ℓ) (c : Dev nD) :
    Value.res_main_v53 m c
      = refOut (refProb (refExp (refLogits (refQ (m ((c.tc : Thread nD τ).loc main_arg0))) (refK (m ((c.tc : Thread nD τ).loc main_arg1)))
          (refF (m ((c.tc : Thread nD τ).loc main_arg1))) refMask)
        (refMax (refLogits (refQ (m ((c.tc : Thread nD τ).loc main_arg0))) (refK (m ((c.tc : Thread nD τ).loc main_arg1)))
          (refF (m ((c.tc : Thread nD τ).loc main_arg1))) refMask)))) (refV (m ((c.tc : Thread nD τ).loc main_arg0))) := by
  unfold Value.res_main_v53 refOut refProb refExp refMax refLogits refQ refK refF refMask refV
  rfl

/-! ### The stages at an index -/

/-- The queries and values, and the keys and gates, at row and column numbers. -/
def inA (A : FVec Ideal S1024x32768 .bf16) (i j : Nat) : EReal :=
  A (ix2 (⟨i % 1024, Nat.mod_lt _ (by decide)⟩ : Fin 1024) (⟨j % 32768, Nat.mod_lt _ (by decide)⟩ : Fin 32768))
def inB (B : FVec Ideal S32768x1024 .bf16) (i j : Nat) : EReal :=
  B (ix2 (⟨i % 32768, Nat.mod_lt _ (by decide)⟩ : Fin 32768) (⟨j % 1024, Nat.mod_lt _ (by decide)⟩ : Fin 1024))

theorem inA_eq (i j : Nat) (hi : i < 1024) (hj : j < 32768) : A (ix2 ⟨i, hi⟩ ⟨j, hj⟩) = inA A i j := by
  unfold inA
  congr 2
  · exact Fin.ext (Nat.mod_eq_of_lt hi).symm
  · exact Fin.ext (Nat.mod_eq_of_lt hj).symm

theorem inB_eq (i j : Nat) (hi : i < 32768) (hj : j < 1024) : B (ix2 ⟨i, hi⟩ ⟨j, hj⟩) = inB B i j := by
  unfold inB
  congr 2
  · exact Fin.ext (Nat.mod_eq_of_lt hi).symm
  · exact Fin.ext (Nat.mod_eq_of_lt hj).symm

theorem refQ_apply (b : Fin 2) (h : Fin 8) (t : Fin 16384) (d : Fin 64) :
    refQ A (ix4 b h t d) = inA A (h.val * 64 + d.val) (b.val * 16384 + t.val) := by
  refine Eq.trans ?_ (inA_eq A _ _ (by omega) (by omega))
  pointwise [refQ]

theorem refV_apply (b : Fin 2) (h : Fin 8) (t : Fin 16384) (d : Fin 64) :
    refV A (ix4 b h t d) = inA A (512 + (h.val * 64 + d.val)) (b.val * 16384 + t.val) := by
  refine Eq.trans ?_ (inA_eq A _ _ (by omega) (by omega))
  pointwise [refV]

theorem refK_apply (b : Fin 2) (h : Fin 8) (t : Fin 16384) (d : Fin 64) :
    refK B (ix4 b h t d) = inB B (b.val * 16384 + t.val) (h.val / 2 * 256 + (h.val % 2 * 64 + d.val)) := by
  refine Eq.trans ?_ (inB_eq B _ _ (by omega) (by omega))
  pointwise [refK]

/-- The cumulative gate: three parts side by side. -/
def gate (B : FVec Ideal S32768x1024 .bf16) (b h t : Nat) : EReal :=
  ∑ x : Fin 3, inB B (b * 16384 + t) (h / 2 * 256 + 128 + (h % 2 * 3 + x.val))

theorem refF_apply (b : Fin 2) (h : Fin 8) (t : Fin 16384) : refF B (ix3 b h t) = gate B b h t := by
  refine Eq.trans ?_ (Finset.sum_congr rfl fun (x : Fin 3) _ => inB_eq B (b.val * 16384 + t.val) (h.val / 2 * 256 + 128 + (h.val % 2 * 3 + x.val)) (by omega) (by omega))
  pointwise [refF]

theorem refMask_apply (b : Fin 2) (h : Fin 8) (t u : Fin 16384) : (refMask (ix4 b h t u) = 1#1) = (u.val ≤ t.val) := by
  have e : refMask (ix4 b h t u) = IntOp.cmpi .sle (BitVec.ofNat 32 u) (BitVec.ofNat 32 t) := by
    pointwise [refMask]
  rw [e, WordCmp.cmpi_sle_ofNat (by omega) (by omega), WordCmp.ofBool_decide_eq_one_iff]

theorem refLogits_raw (q k : FVec Ideal S2x8x16384x64 .f32) (f : FVec Ideal S2x8x16384 .f32) (mask : IVec S2x8x16384x16384 1) (b : Fin 2) (h : Fin 8) (t u : Fin 16384) :
    refLogits q k f mask (ix4 b h t u)
      = Scalar.select (mask (ix4 b h t u)) (((∑ x : Fin 64, q (ix4 b h t x) * k (ix4 b h u x)) + f (ix3 b h t) - f (ix3 b h u)) * Ideal.log (Ideal.ofBits .f32 1073741824#32))
          (Ideal.ofBits .f32 4286578688#32) := by
  pointwise [refLogits]
  rfl

theorem refExp_apply (l : FVec Ideal S2x8x16384x16384 .f32) (m : FVec Ideal S2x8x16384 .f32) (b : Fin 2) (h : Fin 8) (t u : Fin 16384) :
    refExp l m (ix4 b h t u) = Ideal.exp (l (ix4 b h t u) - max (Ideal.ofBits FTy.f32 4286578688#32) (m (ix3 b h t))) := by
  pointwise [refExp]

theorem refProb_apply (l : FVec Ideal S2x8x16384x16384 .f32) (b : Fin 2) (h : Fin 8) (t u : Fin 16384) :
    refProb l (ix4 b h t u) = Ideal.div (l (ix4 b h t u)) (∑ x : Fin 16384, l (ix4 b h t x)) := by
  pointwise [refProb]

theorem refOut_apply (p : FVec Ideal S2x8x16384x16384 .f32) (v : FVec Ideal S2x8x16384x64 .f32) (i : Fin 32768) (j : Fin 512) :
    refOut p v (ix2 i j)
      = ∑ x : Fin 16384, p (ix4 (⟨i.val / 16384, by omega⟩ : Fin 2) (⟨j.val / 64, by omega⟩ : Fin 8) (⟨i.val % 16384, by omega⟩ : Fin 16384) x)
          * v (ix4 (⟨i.val / 16384, by omega⟩ : Fin 2) (⟨j.val / 64, by omega⟩ : Fin 8) x (⟨j.val % 64, by omega⟩ : Fin 64)) := by
  pointwise [refOut]

/-- The reduced index with a key put back. -/
private theorem lift_ix3 (hr : S2x8x16384x16384.Reduces [3] S2x8x16384) (b : Fin 2) (h : Fin 8) (t : Fin 16384) (k : Fin (S2x8x16384x16384.size 3)) :
    hr.lift (ix3 b h t) k = ix4 b h t (⟨k.val, k.isLt⟩ : Fin 16384) := by
  funext c; apply Fin.ext
  fin_cases c <;> rfl

theorem refMax_apply (l : FVec Ideal S2x8x16384x16384 .f32) (b : Fin 2) (h : Fin 8) (t : Fin 16384) :
    refMax l (ix3 b h t) = (Finset.univ : Finset (Fin 16384)).fold max (Ideal.ofBits .f32 4286578688#32) (fun u => l (ix4 b h t u)) := by
  have hr : S2x8x16384x16384.Reduces [3] S2x8x16384 := by decide
  unfold refMax
  rw [Host.reduce_eq_fold_single FloatOps.maximumf l _ reducesTo_S2x8x16384x16384_S2x8x16384_d3 hr h_S_]
  have hf : (l ∘ hr.lift (ix3 b h t)) = fun k : Fin 16384 => l (ix4 b h t k) := funext fun k => congrArg l (lift_ix3 hr b h t k)
  exact congrArg (fun f => Finset.fold max (Ideal.ofBits .f32 0xFF800000#32) f (Finset.univ : Finset (Fin 16384))) hf

theorem log_two : Ideal.log (Ideal.ofBits .f32 1073741824#32) = ((Real.log 2 : ℝ) : EReal) := by
  have e : Ideal.ofBits .f32 1073741824#32 = ((2 : ℝ) : EReal) := by
    simp [Ideal.ofBits, Ideal.ieee, -EReal.coe_mul]
    norm_num
  rw [e]
  show (if (2 : ℝ) ≤ 0 then (⊥ : EReal) else ((Real.log 2 : ℝ) : EReal)) = _
  rw [if_neg (by norm_num)]

/-- The logit of query `t` and key `u`. -/
def logit (A : FVec Ideal S1024x32768 .bf16) (B : FVec Ideal S32768x1024 .bf16) (b h t u : Nat) : EReal :=
  if u ≤ t then
    ((∑ x : Fin 64, inA A (h * 64 + x.val) (b * 16384 + t) * inB B (b * 16384 + u) (h / 2 * 256 + (h % 2 * 64 + x.val)))
      + gate B b h t - gate B b h u) * ((Real.log 2 : ℝ) : EReal)
  else ⊥

theorem refLogits_apply (b : Fin 2) (h : Fin 8) (t u : Fin 16384) :
    refLogits (refQ A) (refK B) (refF B) refMask (ix4 b h t u) = logit A B b h t u := by
  rw [refLogits_raw, Fox.select_iff (p := u.val ≤ t.val) (iff_of_eq (refMask_apply b h t u)), log_two, Fox.ofBits_neg_inf, refF_apply, refF_apply]
  unfold logit
  refine if_congr Iff.rfl ?_ rfl
  congr 3
  exact Finset.sum_congr rfl fun x _ => by rw [refQ_apply, refK_apply]

theorem sup_fin (N : Nat) (f : Nat → EReal) : (Finset.univ : Finset (Fin N)).sup (fun u => f u.val) = (Finset.range N).sup f :=
  le_antisymm (Finset.sup_le fun u _ => Finset.le_sup (f := f) (Finset.mem_range.2 u.isLt))
    (Finset.sup_le fun u hu => Finset.le_sup (f := fun u : Fin N => f u.val) (Finset.mem_univ (⟨u, Finset.mem_range.1 hu⟩ : Fin N)))

theorem refMax_logits (b : Fin 2) (h : Fin 8) (t : Fin 16384) :
    refMax (refLogits (refQ A) (refK B) (refF B) refMask) (ix3 b h t) = (Finset.range 16384).sup (logit A B b h t) := by
  rw [refMax_apply, Fox.ofBits_neg_inf, Fox.fold_max_bot, ← sup_fin]
  exact congrArg (Finset.sup Finset.univ) (funext fun u => refLogits_apply A B b h t u)

theorem refExp_logits (b : Fin 2) (h : Fin 8) (t u : Fin 16384) :
    refExp (refLogits (refQ A) (refK B) (refF B) refMask) (refMax (refLogits (refQ A) (refK B) (refF B) refMask)) (ix4 b h t u)
      = Ideal.exp (logit A B b h t u - (Finset.range 16384).sup (logit A B b h t)) := by
  rw [refExp_apply, refMax_logits, refLogits_apply, Fox.ofBits_neg_inf, max_eq_right bot_le]

/-- Causal attention with a forgetting gate, at a row and a column of the result. -/
def attend (A : FVec Ideal S1024x32768 .bf16) (B : FVec Ideal S32768x1024 .bf16) (i j : Nat) : EReal :=
  ∑ u ∈ Finset.range 16384,
    Ideal.div (Ideal.exp (logit A B (i / 16384) (j / 64) (i % 16384) u - (Finset.range 16384).sup (logit A B (i / 16384) (j / 64) (i % 16384))))
      (∑ u' ∈ Finset.range 16384, Ideal.exp (logit A B (i / 16384) (j / 64) (i % 16384) u' - (Finset.range 16384).sup (logit A B (i / 16384) (j / 64) (i % 16384))))
    * inA A (512 + (j / 64 * 64 + j % 64)) (i / 16384 * 16384 + u)

theorem sum_exp (b : Fin 2) (h : Fin 8) (t : Fin 16384) :
    ∑ x : Fin 16384, refExp (refLogits (refQ A) (refK B) (refF B) refMask) (refMax (refLogits (refQ A) (refK B) (refF B) refMask)) (ix4 b h t x)
      = ∑ u ∈ Finset.range 16384, Ideal.exp (logit A B b h t u - (Finset.range 16384).sup (logit A B b h t)) := by
  generalize hM : (Finset.range 16384).sup (logit A B b h t) = M
  rw [Finset.sum_range]
  exact Finset.sum_congr rfl fun u _ => (refExp_logits A B b h t u).trans (by rw [hM])

theorem stages_apply (i : Fin 32768) (j : Fin 512) :
    refOut (refProb (refExp (refLogits (refQ A) (refK B) (refF B) refMask) (refMax (refLogits (refQ A) (refK B) (refF B) refMask)))) (refV A) (ix2 i j)
      = attend A B i j := by
  unfold attend
  rw [refOut_apply, Finset.sum_range]
  refine Finset.sum_congr rfl fun u _ => ?_
  rw [refProb_apply, refV_apply, refExp_logits, sum_exp]

/-- The reference's result at a row and a column. -/
theorem res_apply (m : (ℓ : Loc nD τ sig) → Buf (Elt Ideal) ℓ) (c : Dev nD) (i : Fin 32768) (j : Fin 512) :
    (Value.res_main_v53 m c : FVec Ideal S32768x512 .bf16) (ix2 i j)
      = attend (m ((c.tc : Thread nD τ).loc main_arg0)) (m ((c.tc : Thread nD τ).loc main_arg1)) i j := by
  rw [res_stages]
  exact stages_apply _ _ i j

end Cert.ReferenceIdeal
end
-- ==== Proof.Bridge.lean ====
/-
  A result block of the kernel, over the exact numbers, is the reference's attention at the block's place.
-/
module

public import proofs.«01_k».proof.Proof.Reference

@[expose] public section

set_option maxRecDepth 16384

noncomputable section

namespace Cert.ReferenceIdeal

open Idealize.ShloMosaic
open Idealize.ShloMosaic.TcCoe
open Fox

variable (A : FVec Ideal S1024x32768 .bf16) (B : FVec Ideal S32768x1024 .bf16)

/-! ### Scores and logits of real numbers -/

theorem score_real (q k : Fin 64 → EReal) (x y z : EReal) (hq : ∀ d, q d = ((q d).toReal : EReal)) (hk : ∀ d, k d = ((k d).toReal : EReal))
    (hx : x = (x.toReal : EReal)) (hy : y = (y.toReal : EReal)) (hz : z = (z.toReal : EReal)) :
    (∑ d : Fin 64, k d * q d) + (x * -1 + y * -1 + z * -1)
      = ((∑ d : Fin 64, (q d).toReal * (k d).toReal - (x.toReal + y.toReal + z.toReal) : ℝ) : EReal) := by
  have e : ∑ d : Fin 64, k d * q d = ((∑ d : Fin 64, (q d).toReal * (k d).toReal : ℝ) : EReal) := by
    rw [coe_sum]
    refine Finset.sum_congr rfl fun d _ => ?_
    rw [EReal.coe_mul, ← hq, ← hk, mul_comm]
  have n1 : (-1 : EReal) = ((-1 : ℝ) : EReal) := by norm_num
  rw [e, hx, hy, hz, n1]
  simp only [EReal.toReal_coe]
  rw [← EReal.coe_mul, ← EReal.coe_mul, ← EReal.coe_mul, ← EReal.coe_add, ← EReal.coe_add, ← EReal.coe_add]
  congr 1
  ring

theorem logit_real (q k : Fin 64 → EReal) (x y z x' y' z' : EReal) (l : ℝ) (hq : ∀ d, q d = ((q d).toReal : EReal)) (hk : ∀ d, k d = ((k d).toReal : EReal))
    (hx : x = (x.toReal : EReal)) (hy : y = (y.toReal : EReal)) (hz : z = (z.toReal : EReal))
    (hx' : x' = (x'.toReal : EReal)) (hy' : y' = (y'.toReal : EReal)) (hz' : z' = (z'.toReal : EReal)) :
    ((∑ d : Fin 64, q d * k d) + (x' + y' + z') - (x + y + z)) * (l : EReal)
      = (((∑ d : Fin 64, (q d).toReal * (k d).toReal - (x.toReal + y.toReal + z.toReal) + (x'.toReal + y'.toReal + z'.toReal)) * l : ℝ) : EReal) := by
  have e : ∑ d : Fin 64, q d * k d = ((∑ d : Fin 64, (q d).toReal * (k d).toReal : ℝ) : EReal) := by
    rw [coe_sum]
    refine Finset.sum_congr rfl fun d _ => ?_
    rw [EReal.coe_mul, ← hq, ← hk]
  rw [e, hx, hy, hz, hx', hy', hz']
  simp only [EReal.toReal_coe]
  rw [← EReal.coe_add, ← EReal.coe_add, ← EReal.coe_add, ← EReal.coe_add, ← EReal.coe_add, ← EReal.coe_sub, ← EReal.coe_mul]
  congr 1
  ring

theorem gate_eq (b h t : Nat) :
    gate B b h t = inB B (b * 16384 + t) (h / 2 * 256 + 128 + (h % 2 * 3)) + inB B (b * 16384 + t) (h / 2 * 256 + 128 + (h % 2 * 3 + 1))
      + inB B (b * 16384 + t) (h / 2 * 256 + 128 + (h % 2 * 3 + 2)) := by
  unfold gate
  rw [Fin.sum_univ_three]
  rfl

/-- The kernel's score of key `u` in base two. -/
def scoreReal (A : FVec Ideal S1024x32768 .bf16) (B : FVec Ideal S32768x1024 .bf16) (b p h t u : Nat) : ℝ :=
  ∑ d : Fin 64, (inA A ((2 * p + h) * 64 + d.val) (b * 16384 + t)).toReal * (inB B (b * 16384 + u) (256 * p + (64 * h + d.val))).toReal
    - ((inB B (b * 16384 + u) (256 * p + (128 + 3 * h))).toReal + (inB B (b * 16384 + u) (256 * p + (128 + 3 * h + 1))).toReal
      + (inB B (b * 16384 + u) (256 * p + (128 + 3 * h + 2))).toReal)

/-- The gate as a real number. -/
def gateReal (B : FVec Ideal S32768x1024 .bf16) (b p h t : Nat) : ℝ :=
  (inB B (b * 16384 + t) (256 * p + (128 + 3 * h))).toReal + (inB B (b * 16384 + t) (256 * p + (128 + 3 * h + 1))).toReal
      + (inB B (b * 16384 + t) (256 * p + (128 + 3 * h + 2))).toReal

/-- The queries, and the keys and gates, are real numbers. -/
def RealScores (A : FVec Ideal S1024x32768 .bf16) (B : FVec Ideal S32768x1024 .bf16) : Prop :=
  (∀ i j : Nat, i < 512 → j < 32768 → inA A i j = ((inA A i j).toReal : EReal))
    ∧ ∀ i p x : Nat, i < 32768 → p < 4 → x < 134 → inB B i (256 * p + x) = ((inB B i (256 * p + x)).toReal : EReal)

theorem logit_eq (hR : RealScores A B) (b p h t u : Nat) (hb : b < 2) (hp : p < 4) (hh : h < 2) (ht : t < 16384) (hu : u < 16384) :
    logit A B b (2 * p + h) t u = if u ≤ t then (((scoreReal A B b p h t u + gateReal B b p h t) * Real.log 2 : ℝ) : EReal) else ⊥ := by
  have d2 : (2 * p + h) / 2 = p := by omega
  have m2 : (2 * p + h) % 2 = h := by omega
  unfold logit
  refine if_congr Iff.rfl ?_ rfl
  rw [gate_eq, gate_eq, d2, m2]
  have ec : ∀ r : Nat, inB B r (p * 256 + 128 + h * 3) = inB B r (256 * p + (128 + 3 * h)) := fun r => congrArg _ (by ring)
  have ec1 : ∀ r : Nat, inB B r (p * 256 + 128 + (h * 3 + 1)) = inB B r (256 * p + (128 + 3 * h + 1)) := fun r => congrArg _ (by ring)
  have ec2 : ∀ r : Nat, inB B r (p * 256 + 128 + (h * 3 + 2)) = inB B r (256 * p + (128 + 3 * h + 2)) := fun r => congrArg _ (by ring)
  have ek : ∀ x : Fin 64, inB B (b * 16384 + u) (p * 256 + (h * 64 + x.val)) = inB B (b * 16384 + u) (256 * p + (64 * h + x.val)) := fun x => congrArg _ (by ring)
  simp only [ec, ec1, ec2, ek]
  unfold scoreReal gateReal
  exact logit_real (fun x : Fin 64 => inA A ((2 * p + h) * 64 + x.val) (b * 16384 + t)) (fun x : Fin 64 => inB B (b * 16384 + u) (256 * p + (64 * h + x.val)))
    _ _ _ _ _ _ _ (fun x => hR.1 _ _ (by omega) (by omega)) (fun x => hR.2 _ _ _ (by omega) hp (by omega))
    (hR.2 _ _ _ (by omega) hp (by omega)) (hR.2 _ _ _ (by omega) hp (by omega)) (hR.2 _ _ _ (by omega) hp (by omega))
    (hR.2 _ _ _ (by omega) hp (by omega)) (hR.2 _ _ _ (by omega) hp (by omega)) (hR.2 _ _ _ (by omega) hp (by omega))

section Block
variable (b p n : Nat) (hb : b < 2) (hp : p < 4) (hn : n < 32)
  (qb : Vec Ideal SQ .bf16) (K : Vec Ideal SK .bf16) (V : Vec Ideal SV .bf16)
  (hq : ∀ (x : Fin 128) (c : Fin 512), qb (ix2 x c) = inA A (128 * p + x.val) (512 * (32 * b + n) + c.val))
  (hK : ∀ (u : Fin 16384) (x : Fin 256), K (ix2 u x) = inB B (16384 * b + u.val) (256 * p + x.val))
  (hV : ∀ (x : Fin 128) (u : Fin 16384), V (ix2 x u) = inA A (512 + 128 * p + x.val) (16384 * b + u.val))

include hb hp hn hq hK in
theorem seen_eq (hR : RealScores A B) (h : Fin 2) (r : Fin 512) (u : Nat) :
    seen n (queries qb h) K r u
      = if u ≤ 512 * n + r.val then ((scoreReal A B b p h.val (512 * n + r.val) u : ℝ) : EReal) else ⊥ := by
  unfold seen
  refine ite_congr rfl (fun hu => ?_) (fun _ => rfl)
  have hu' : u < 16384 := by have := r.isLt; omega
  rw [scoreAt_queries qb K h r u (fun x => inB B (16384 * b + u) (256 * p + x)) (fun x => by
    rw [hK]
    show inB B (16384 * b + u % 16384) _ = _
    rw [Nat.mod_eq_of_lt hu'])]
  have er : ∀ c : Nat, inB B (16384 * b + u) c = inB B (b * 16384 + u) c := fun c => by rw [mul_comm]
  have eq' : ∀ (d : Fin 64) (hd : (64 * h.val + d.val) % 128 < 128), qb (ix2 (⟨(64 * h.val + d.val) % 128, hd⟩ : Fin 128) r)
      = inA A ((2 * p + h.val) * 64 + d.val) (b * 16384 + (512 * n + r.val)) := fun d hd => by
    rw [hq]
    have e1 : 128 * p + (64 * h.val + d.val) % 128 = (2 * p + h.val) * 64 + d.val := by have := h.isLt; have := d.isLt; omega
    have e2 : 512 * (32 * b + n) + r.val = b * 16384 + (512 * n + r.val) := by omega
    show inA A (128 * p + (64 * h.val + d.val) % 128) _ = _
    rw [e1, e2]
  simp only [er, eq']
  unfold scoreReal
  have := h.isLt
  have := r.isLt
  exact score_real (fun d : Fin 64 => inA A ((2 * p + h.val) * 64 + d.val) (b * 16384 + (512 * n + r.val)))
    (fun d : Fin 64 => inB B (b * 16384 + u) (256 * p + (64 * h.val + d.val))) _ _ _
    (fun x => hR.1 _ _ (by omega) (by omega)) (fun x => hR.2 _ _ _ (by omega) hp (by omega))
    (hR.2 _ _ _ (by omega) hp (by omega)) (hR.2 _ _ _ (by omega) hp (by omega)) (hR.2 _ _ _ (by omega) hp (by omega))

include hb hp hn hq hK hV in
/-- The block's result is the attention at the block's place. -/
theorem result_eq (hR : RealScores A B) (h : Fin 2) (d : Fin 64) (r : Fin 512) (hc : 64 * h.val + d.val < 128) :
    result (F := Ideal) (⊥ : EReal) n qb K V (ix2 r ⟨64 * h.val + d.val, hc⟩)
      = attend A B (512 * (32 * b + n) + r.val) (128 * p + (64 * h.val + d.val)) := by
  have hh := h.isLt
  have hr := r.isLt
  have hd := d.isLt
  have e1 : (512 * (32 * b + n) + r.val) / 16384 = b := by omega
  have e2 : (512 * (32 * b + n) + r.val) % 16384 = 512 * n + r.val := by omega
  have e3 : (128 * p + (64 * h.val + d.val)) / 64 = 2 * p + h.val := by omega
  have e4 : (128 * p + (64 * h.val + d.val)) % 64 = d.val := by omega
  rw [result_apply]
  unfold attend
  rw [e1, e2, e3, e4]
  have hs := seen_eq A B b p n hb hp hn qb K hq hK hR h r
  have spec := softmax_spec 16384 (512 * n + 512) (512 * n + r.val) (by omega) (by omega)
    (scoreReal A B b p h.val (512 * n + r.val)) (gateReal B b p h.val (512 * n + r.val))
    (seen n (queries qb h) K r) (fun u => if u < 16384 then logit A B b (2 * p + h.val) (512 * n + r.val) u else ⊥) (valueAt V h d) hs (fun u => by
      by_cases hu : u < 16384
      · rw [if_pos hu]
        exact logit_eq A B hR b p h.val (512 * n + r.val) u hb hp hh (by omega) hu
      · rw [if_neg hu, if_neg (by omega)])
  rw [← spec]
  have eL : ∀ u ∈ Finset.range 16384, (if u < 16384 then logit A B b (2 * p + h.val) (512 * n + r.val) u else ⊥)
      = logit A B b (2 * p + h.val) (512 * n + r.val) u := fun u hu => if_pos (Finset.mem_range.1 hu)
  have eM := Finset.sup_congr rfl eL
  rw [eM]
  have eS : ∑ u' ∈ Finset.range 16384, Ideal.exp ((if u' < 16384 then logit A B b (2 * p + h.val) (512 * n + r.val) u' else ⊥)
        - (Finset.range 16384).sup (logit A B b (2 * p + h.val) (512 * n + r.val)))
      = ∑ u' ∈ Finset.range 16384, Ideal.exp (logit A B b (2 * p + h.val) (512 * n + r.val) u'
        - (Finset.range 16384).sup (logit A B b (2 * p + h.val) (512 * n + r.val))) :=
    Finset.sum_congr rfl fun u hu => by rw [eL u hu]
  rw [eS]
  refine Finset.sum_congr rfl fun u hu => ?_
  rw [eL u hu]
  refine congrArg (HMul.hMul _) ?_
  have hu' := Finset.mem_range.1 hu
  unfold valueAt
  rw [hV]
  show inA A (512 + 128 * p + (64 * h.val + d.val) % 128) (16384 * b + u % 16384) = _
  have e5 : 512 + 128 * p + (64 * h.val + d.val) % 128 = 512 + ((2 * p + h.val) * 64 + d.val) := by omega
  have e6 : 16384 * b + u % 16384 = b * 16384 + u := by omega
  rw [e5, e6]

end Block

end Cert.ReferenceIdeal
end
-- ==== Proof.Value.lean ====
/-
  The array the kernel leaves, over the exact numbers: the reference's attention of the kernel's arguments.
-/
module

public import proofs.«01_k».proof.Proof.BodyKernelIdeal
public import proofs.«01_k».proof.Proof.Bridge
public import Idealize.ShloMosaic.Lib.Pipeline.ValueKit.Geometry

@[expose] public section

set_option maxRecDepth 16384

noncomputable section

namespace Cert.KernelIdeal.Run

open Cert.KernelIdeal Cert.KernelIdeal.Gen
open Idealize.ShloMosaic Idealize.ShloMosaic.TcCoe
open Idealize.SL.Sem
open Idealize.ShloMosaic.Pipeline (Dat)
open Cert.ReferenceIdeal (inA inB inA_eq inB_eq RealScores attend result_eq)

variable (m : (ℓ : Loc nD τ sig) → Buf (Elt Ideal) ℓ) (ρ : Dev nD → PrngReg)

/-! ### The blocks of the windows -/

theorem index0 : ∀ t : Fin cfg0.N, win0_0.index t = ![(grid0.coords t 1).val, 32 * (grid0.coords t 0).val + (grid0.coords t 2).val] :=
  (by decide +kernel : ∀ t : Fin grid0.N, _)
theorem index1 : ∀ t : Fin cfg0.N, win0_1.index t = ![(grid0.coords t 0).val, (grid0.coords t 1).val] :=
  (by decide +kernel : ∀ t : Fin grid0.N, _)
theorem index2 : ∀ t : Fin cfg0.N, win0_2.index t = ![4 + (grid0.coords t 1).val, (grid0.coords t 0).val] :=
  (by decide +kernel : ∀ t : Fin grid0.N, _)
theorem index3 : ∀ t : Fin cfg0.N, win0_3.index t = ![32 * (grid0.coords t 0).val + (grid0.coords t 2).val, (grid0.coords t 1).val] :=
  (by decide +kernel : ∀ t : Fin grid0.N, _)

theorem coords_lt (t : Fin cfg0.N) : (grid0.coords t 0).val < 2 ∧ (grid0.coords t 1).val < 4 ∧ (grid0.coords t 2).val < 32 :=
  ⟨(grid0.coords t 0).isLt, (grid0.coords t 1).isLt, (grid0.coords t 2).isLt⟩

theorem covers : (cfg0.win 3).Covers := by decide +kernel

theorem iblk0 (c : Dev nD) (t : Fin cfg0.N) (x : Fin 128) (y : Fin 512) :
    (iblk m c 0 t : Vec Ideal S128x512 .bf16) (ix2 x y)
      = inA (m ((c.tc : Thread nD τ).loc main_arg0)) (128 * (grid0.coords t 1).val + x.val) (512 * (32 * (grid0.coords t 0).val + (grid0.coords t 2).val) + y.val) := by
  obtain ⟨h0, h1, h2⟩ := coords_lt t
  refine Eq.trans ?_ (inA_eq (m ((c.tc : Thread nD τ).loc main_arg0)) _ _ (by omega) (by omega))
  blk_simp [iblk]
  refine congrArg (m ((c.tc : Thread nD τ).loc main_arg0)) ?_
  blk_ext [index0]

theorem iblk1 (c : Dev nD) (t : Fin cfg0.N) (x : Fin 16384) (y : Fin 256) :
    (iblk m c 1 t : Vec Ideal S16384x256 .bf16) (ix2 x y)
      = inB (m ((c.tc : Thread nD τ).loc main_arg1)) (16384 * (grid0.coords t 0).val + x.val) (256 * (grid0.coords t 1).val + y.val) := by
  obtain ⟨h0, h1, h2⟩ := coords_lt t
  refine Eq.trans ?_ (inB_eq (m ((c.tc : Thread nD τ).loc main_arg1)) _ _ (by omega) (by omega))
  blk_simp [iblk]
  refine congrArg (m ((c.tc : Thread nD τ).loc main_arg1)) ?_
  blk_ext [index1]

theorem iblk2 (c : Dev nD) (t : Fin cfg0.N) (x : Fin 128) (y : Fin 16384) :
    (iblk m c 2 t : Vec Ideal S128x16384 .bf16) (ix2 x y)
      = inA (m ((c.tc : Thread nD τ).loc main_arg0)) (512 + 128 * (grid0.coords t 1).val + x.val) (16384 * (grid0.coords t 0).val + y.val) := by
  obtain ⟨h0, h1, h2⟩ := coords_lt t
  refine Eq.trans ?_ (inA_eq (m ((c.tc : Thread nD τ).loc main_arg0)) _ _ (by omega) (by omega))
  blk_simp [iblk]
  refine congrArg (m ((c.tc : Thread nD τ).loc main_arg0)) ?_
  blk_ext [index2]

/-! ### The result -/

/-- The block the body leaves, at an index. -/
theorem out_eq (c : Dev nD) (t : Fin cfg0.N)
    (hR : RealScores (m ((c.tc : Thread nD τ).loc main_arg0)) (m ((c.tc : Thread nD τ).loc main_arg1))) (r : Fin 512) (x : Fin 128) :
    out (F := Ideal) (grid0.coords t) (iblk m c 0 t) (iblk m c 1 t) (iblk m c 2 t) (ix2 r x)
      = attend (m ((c.tc : Thread nD τ).loc main_arg0)) (m ((c.tc : Thread nD τ).loc main_arg1))
          ((32 * (grid0.coords t 0).val + (grid0.coords t 2).val) * 512 + r.val) ((grid0.coords t 1).val * 128 + x.val) := by
  obtain ⟨h0, h1, h2⟩ := coords_lt t
  have hx := x.isLt
  have e := result_eq (m ((c.tc : Thread nD τ).loc main_arg0)) (m ((c.tc : Thread nD τ).loc main_arg1)) (grid0.coords t 0).val (grid0.coords t 1).val
    (grid0.coords t 2).val h0 h1 h2 (iblk m c 0 t) (iblk m c 1 t) (iblk m c 2 t) (iblk0 m c t) (iblk1 m c t) (iblk2 m c t) hR
    ⟨x.val / 64, by omega⟩ ⟨x.val % 64, by omega⟩ r (by dsimp only; omega)
  have ex : 64 * (x.val / 64) + x.val % 64 = x.val := by omega
  dsimp only at e
  simp only [ex] at e
  refine Eq.trans e ?_
  rw [mul_comm 512, mul_comm 128]

theorem final (c : Dev nD)
    (hR : RealScores (m ((c.tc : Thread nD τ).loc main_arg0)) (m ((c.tc : Thread nD τ).loc main_arg1))) :
    (dats m 0 c).arrAt 3 cfg0.N
      = fun i : S32768x512.Idx => attend (m ((c.tc : Thread nD τ).loc main_arg0)) (m ((c.tc : Thread nD τ).loc main_arg1)) (i 0).val (i 1).val := by
  refine (dats m 0 c).arrAt_eq_of_covers 3 _ covers fun t hf y => ?_
  blk_simp [index3]
  rw [after0_3]
  have ey := eq_ix2 (y : S512x128.Idx)
  refine Eq.trans ?_ (out_eq m c t hR ((y : S512x128.Idx) 0) ((y : S512x128.Idx) 1))
  exact congrArg (out (F := Ideal) (grid0.coords t) (iblk m c 0 t) (iblk m c 1 t) (iblk m c 2 t)) ey

/-- The run: the result array at the attention of the arguments, the arguments unchanged. -/
theorem run_value (hR : ∀ c : Dev nD, RealScores (m ((c.tc : Thread nD τ).loc main_arg0)) (m ((c.tc : Thread nD τ).loc main_arg1))) :
    θ_run defs (onTc (τ := τ) (main (F := Ideal))) ⟨m, fun _ => 0, ρ⟩ (fun r => ∀ c : Dev nD,
      r.2.mem ((c.tc : Thread nD τ).loc main_v0)
          = (fun i : S32768x512.Idx => attend (m ((c.tc : Thread nD τ).loc main_arg0)) (m ((c.tc : Thread nD τ).loc main_arg1)) (i 0).val (i 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 3).trans (final m c (hR c)), h.2 c⟩)
    (θ_run_and (run_main m ρ) (unchanged m ρ))

end Cert.KernelIdeal.Run
end
-- ==== Proof.Finite.lean ====
/-
  What the precondition says: the queries, the keys and the parts of the gates are real numbers.
-/
module

public import proofs.«01_k».proof.Defs
public import proofs.«01_k».proof.Proof.Gen.Pre_finite_scores
public import proofs.«01_k».proof.Proof.Bridge
public import Idealize.ShloMosaic.Lib.Pointwise
public import Idealize.ShloMosaic.Lib.ReduceAll

@[expose] public section

set_option maxRecDepth 16384

noncomputable section

namespace Cert.Pre_finite_scores

open Idealize.ShloMosaic
open Idealize.ShloMosaic.TcCoe
open Cert.Pre_finite_scores.Gen
open Cert.ReferenceIdeal (inA inB inA_eq inB_eq RealScores)

variable (A : FVec Ideal S1024x32768 .bf16) (B : FVec Ideal S32768x1024 .bf16)

/-- The queries below infinity in absolute value. -/
def preQ : IVec S512x32768 1 :=
  cmpf .olt (Host.absf (extf .f32 (extractStridedSlice S512x32768 ![0, 0] A slices_S1024x32768_S512x32768_0_0) bitsLt_bf16_f32)) (broadcastInDim S512x32768 ![] bcast_S_S512x32768 (constant (F := Ideal) S_ .f32 0x7F800000#32))

/-- The keys. -/
def preK : IVec S2x16384x4x128 1 :=
  cmpf .olt (Host.absf (shapeCast S2x16384x4x128 (extractStridedSlice S2x16384x4x1x128 ![0, 0, 0, 0, 0] (shapeCast S2x16384x4x2x128 (extf .f32 B bitsLt_bf16_f32) shapeCasts_S32768x1024_S2x16384x4x2x128) slices_S2x16384x4x2x128_S2x16384x4x1x128_0_0_0_0_0) shapeCasts_S2x16384x4x1x128_S2x16384x4x128)) (broadcastInDim S2x16384x4x128 ![] bcast_S_S2x16384x4x128 (constant (F := Ideal) S_ .f32 0x7F800000#32))

/-- The gates, -/
def gates : FVec Ideal S2x8x16384 .f32 :=
  transpose S2x8x16384 [0, 2, 1] (Host.reduceAdd (shapeCast S2x16384x8x3 (shapeCast S2x16384x4x6 (extractStridedSlice S2x16384x4x1x6 ![0, 0, 0, 1, 0] (shapeCast S2x16384x4x2x128 (extf .f32 B bitsLt_bf16_f32) shapeCasts_S32768x1024_S2x16384x4x2x128) slices_S2x16384x4x2x128_S2x16384x4x1x6_0_0_0_1_0) shapeCasts_S2x16384x4x1x6_S2x16384x4x6) shapeCasts_S2x16384x4x6_S2x16384x8x3) (constant S_ .f32 0x00000000#32) reducesTo_S2x16384x8x3_S2x16384x8_d3 h_S_) transposes_S2x16384x8_S2x8x16384_0_2_1

/-- and those below infinity. -/
def preF (g : FVec Ideal S2x8x16384 .f32) : IVec S2x8x16384 1 :=
  cmpf .olt (Host.absf g) (broadcastInDim S2x8x16384 ![] bcast_S_S2x8x16384 (constant (F := Ideal) S_ .f32 0x7F800000#32))

theorem preQ_apply (x : Fin 512) (j : Fin 32768) :
    preQ A (ix2 x j) = BitVec.ofBool (decide (FloatOps.absf (F := Ideal) (φ := .f32) (inA A x j) < Ideal.ofBits FTy.f32 2139095040#32)) := by
  rw [← inA_eq A x j (by omega) (by omega)]
  pointwise [preQ]

theorem preK_apply (b : Fin 2) (t : Fin 16384) (p : Fin 4) (x : Fin 128) :
    preK B (ix4 b t p x) = BitVec.ofBool (decide (FloatOps.absf (F := Ideal) (φ := .f32) (inB B (b.val * 16384 + t.val) (p.val * 256 + x.val)) < Ideal.ofBits FTy.f32 2139095040#32)) := by
  rw [← inB_eq B (b.val * 16384 + t.val) (p.val * 256 + x.val) (by omega) (by omega)]
  pointwise [preK]

theorem gates_apply (b : Fin 2) (h : Fin 8) (t : Fin 16384) :
    gates B (ix3 b h t) = Cert.ReferenceIdeal.gate B b h t := Cert.ReferenceIdeal.refF_apply B b h t

theorem preF_apply (g : FVec Ideal S2x8x16384 .f32) (b : Fin 2) (h : Fin 8) (t : Fin 16384) :
    preF g (ix3 b h t) = BitVec.ofBool (decide (FloatOps.absf (F := Ideal) (φ := .f32) (g (ix3 b h t)) < Ideal.ofBits FTy.f32 2139095040#32)) := by
  pointwise [preF]

theorem ofBits_inf : Ideal.ofBits .f32 2139095040#32 = ⊤ := by
  simp [Ideal.ofBits, Ideal.ieee]

/-- A number below infinity in absolute value is real. -/
theorem real_of_abs (x : EReal) (h : BitVec.ofBool (decide (FloatOps.absf (F := Ideal) (φ := .f32) x < Ideal.ofBits FTy.f32 2139095040#32)) = 1#1) :
    x = (x.toReal : EReal) := by
  rw [WordCmp.ofBool_decide_eq_one_iff, ofBits_inf, Ideal.absf_def] at h
  have h1 : x < ⊤ := lt_of_le_of_lt (le_max_left _ _) h
  have h2 : -x < ⊤ := lt_of_le_of_lt (le_max_right _ _) h
  refine (EReal.coe_toReal h1.ne ?_).symm
  rintro rfl
  exact h2.ne EReal.neg_bot

theorem real_of_add (x y : EReal) (h : x + y = ((x + y).toReal : EReal)) : x = (x.toReal : EReal) ∧ y = (y.toReal : EReal) := by
  induction x <;> induction y <;> simp_all

theorem real_scores (h : fn (F := Ideal) A B = fun _ => 1#1) : RealScores A B := by
  have h := congrFun h ix0
  dsimp only [fn, fn_part1] at h
  obtain ⟨h, hF⟩ := IntOp.andi_eq_one.1 h
  obtain ⟨hQ, hK⟩ := IntOp.andi_eq_one.1 h
  haveI : Subsingleton S_.Idx := ⟨fun a b => funext fun x => x.elim0⟩
  have aQ := Host.reduce_andi_all (preQ A) _ _ _ _ hQ
  have aK := Host.reduce_andi_all (preK B) _ _ _ _ hK
  have aF := Host.reduce_andi_all (preF (gates B)) _ _ _ _ hF
  refine ⟨fun i j hi hj => real_of_abs _ ((preQ_apply A ⟨i, hi⟩ ⟨j, hj⟩).symm.trans (aQ _)), fun i p x hi hp hx => ?_⟩
  by_cases hx' : x < 128
  · have e := (preK_apply B ⟨i / 16384, by omega⟩ ⟨i % 16384, by omega⟩ ⟨p, hp⟩ ⟨x, hx'⟩).symm.trans (aK _)
    have e1 : i / 16384 * 16384 + i % 16384 = i := by omega
    have e2 : p * 256 + x = 256 * p + x := by omega
    have r := real_of_abs _ e
    dsimp only at r
    rwa [e1, e2] at r
  · obtain ⟨y, rfl⟩ : ∃ y, x = 128 + y := ⟨x - 128, by omega⟩
    have hy : y < 6 := by omega
    have e := (preF_apply (gates B) ⟨i / 16384, by omega⟩ ⟨2 * p + y / 3, by omega⟩ ⟨i % 16384, by omega⟩).symm.trans (aF _)
    have r := real_of_abs _ e
    rw [gates_apply, Cert.ReferenceIdeal.gate_eq] at r
    dsimp only at r
    have e1 : i / 16384 * 16384 + i % 16384 = i := by omega
    have d2 : (2 * p + y / 3) / 2 = p := by omega
    have m2 : (2 * p + y / 3) % 2 = y / 3 := by omega
    rw [e1, d2, m2] at r
    obtain ⟨r01, r2⟩ := real_of_add _ _ r
    obtain ⟨r0, r1⟩ := real_of_add _ _ r01
    have hm : y % 3 = 0 ∨ y % 3 = 1 ∨ y % 3 = 2 := by omega
    rcases hm with hm | hm | hm
    · have e2 : 256 * p + (128 + y) = p * 256 + 128 + y / 3 * 3 := by omega
      rw [e2]; exact r0
    · have e2 : 256 * p + (128 + y) = p * 256 + 128 + (y / 3 * 3 + 1) := by omega
      rw [e2]; exact r1
    · have e2 : 256 * p + (128 + y) = p * 256 + 128 + (y / 3 * 3 + 2) := by omega
      rw [e2]; exact r2

end Cert.Pre_finite_scores
end
-- ==== Proof.Odd.lean ====
/-
  The input projection of an odd layer, over the exact numbers: the kernel's three arrays and the reference's, element by element.
-/
module

public import proofs.«01_k».proof.Defs
public import proofs.«01_k».proof.Proof.Gen.OddIdeal.Value
public import proofs.«01_k».proof.Proof.Gen.OddReferenceIdeal.Run
public import Idealize.ShloMosaic.Lib.Pointwise
public import Idealize.ShloMosaic.Lib.Pipeline.ValueKit.Geometry
public import Idealize.ShloMosaic.Lib.Pipeline.ValueKit.Tiles

@[expose] public section

set_option maxRecDepth 16384

noncomputable section

namespace Odd

open Idealize.ShloMosaic

abbrev SX : Shape := ⟨2, ![32768, 1024]⟩
abbrev SW : Shape := ⟨2, ![1024, 2056]⟩

/-- The weights at row and column numbers. -/
def wat (W : Vec Ideal SW .f32) (k j : Nat) : EReal :=
  W (ix2 (⟨k % 1024, Nat.mod_lt _ (by decide)⟩ : Fin 1024) (⟨j % 2056, Nat.mod_lt _ (by decide)⟩ : Fin 2056))

theorem wat_eq (W : Vec Ideal SW .f32) (k j : Nat) (hk : k < 1024) (hj : j < 2056) : W (ix2 ⟨k, hk⟩ ⟨j, hj⟩) = wat W k j := by
  unfold wat
  congr 2
  · exact Fin.ext (Nat.mod_eq_of_lt hk).symm
  · exact Fin.ext (Nat.mod_eq_of_lt hj).symm

/-- The inputs at row and column numbers. -/
def xat (X : Vec Ideal SX .f32) (r k : Nat) : EReal :=
  X (ix2 (⟨r % 32768, Nat.mod_lt _ (by decide)⟩ : Fin 32768) (⟨k % 1024, Nat.mod_lt _ (by decide)⟩ : Fin 1024))

theorem xat_eq (X : Vec Ideal SX .f32) (r k : Nat) (hr : r < 32768) (hk : k < 1024) : X (ix2 ⟨r, hr⟩ ⟨k, hk⟩) = xat X r k := by
  unfold xat
  congr 2
  · exact Fin.ext (Nat.mod_eq_of_lt hr).symm
  · exact Fin.ext (Nat.mod_eq_of_lt hk).symm

/-- The projection of row `r` by column `j` of the weights. -/
def proj (X : Vec Ideal SX .f32) (W : Vec Ideal SW .f32) (r j : Nat) : EReal :=
  ∑ k : Fin 1024, xat X r k.val * wat W k.val j

/-- The column of the weights that is column `c` of the first result: the convolution's channels, the gate, the pool's input. -/
def col (c : Nat) : Nat := if c < 1024 then 512 + c else if c < 1536 then c - 1024 else c + 8

theorem zero : (FloatOps.sitofp (F := Ideal) FTy.f32 0#32 : EReal) = 0 := by
  show (((0#32 : BitVec 32).toInt : ℝ) : EReal) = 0
  simp

end Odd

namespace Cert.OddReferenceIdeal

open Idealize.ShloMosaic Idealize.ShloMosaic.TcCoe
open Cert.OddReferenceIdeal.Gen

variable (X : FVec Ideal S32768x1024 .f32) (W : FVec Ideal S1024x2056 .f32)

/-- The projection, all columns. -/
def full : FVec Ideal S32768x2056 .f32 := Host.dotGeneral dot_S32768x1024_S1024x2056_S32768x2056_1_0_0_1_n_n none X W

theorem full_apply (r : Fin 32768) (j : Fin 2056) : full X W (ix2 r j) = Odd.proj X W r.val j.val := by
  pointwise [full]
  exact Finset.sum_congr rfl fun k _ => congrArg₂ _ (Odd.xat_eq X _ _ r.isLt k.isLt) (Odd.wat_eq W _ _ k.isLt j.isLt)

/-- The three results, from the projection. -/
def res0 (u : FVec Ideal S32768x2056 .f32) : FVec Ideal S32768x2048 .f32 :=
  concatenate S32768x2048 1 [⟨S32768x1024, ((extractStridedSlice S32768x1024 ![0, 512] u slices_S32768x2056_S32768x1024_0_512) : (⟨S32768x1024, .f32⟩ : BufTy).Contents (Elt Ideal))⟩, ⟨S32768x512, ((extractStridedSlice S32768x512 ![0, 0] u slices_S32768x2056_S32768x512_0_0) : (⟨S32768x512, .f32⟩ : BufTy).Contents (Elt Ideal))⟩, ⟨S32768x512, ((extractStridedSlice S32768x512 ![0, 1544] u slices_S32768x2056_S32768x512_0_1544) : (⟨S32768x512, .f32⟩ : BufTy).Contents (Elt Ideal))⟩] concatenates_S32768x1024_S32768x512_S32768x512_S32768x2048_d1
def res1 (u : FVec Ideal S32768x2056 .f32) : FVec Ideal S32768x128 .f32 :=
  pad S32768x128 ![0, 0] ![0, 120] ![0, 0] (extractStridedSlice S32768x8 ![0, 1536] u slices_S32768x2056_S32768x8_0_1536) (sitofp (F := Ideal) .f32 (constantI S_ 32 0#32)) pads_S32768x8_S32768x128_000_01200 h_S_
def res2 (u : FVec Ideal S32768x2056 .f32) : FVec Ideal S8x32768 .f32 :=
  transpose S8x32768 [1, 0] (extractStridedSlice S32768x8 ![0, 1536] u slices_S32768x2056_S32768x8_0_1536) transposes_S32768x8_S8x32768_1_0

theorem res0_apply (u : FVec Ideal S32768x2056 .f32) (r : Fin 32768) (c : Fin 2048) :
    res0 u (ix2 r c) = u (ix2 r ⟨Odd.col c.val, by unfold Odd.col; split <;> (try split) <;> omega⟩) := by
  pointwise [res0]
  unfold Odd.col
  split
  · rename_i h
    exact congrArg (fun j => u (ix2 r j)) rfl
  · rename_i h
    split
    · rename_i h'
      exact congrArg (fun j => u (ix2 r j)) (Fin.ext (by dsimp only; rw [if_pos (by omega)]))
    · rename_i h'
      exact congrArg (fun j => u (ix2 r j)) (Fin.ext (by dsimp only; rw [if_neg (by omega)]; omega))

theorem res1_apply (u : FVec Ideal S32768x2056 .f32) (r : Fin 32768) (c : Fin 128) :
    res1 u (ix2 r c) = if h : c.val < 8 then u (ix2 r ⟨1536 + c.val, by omega⟩) else 0 := by
  pointwise [res1]
  rw [Odd.zero]

theorem res2_apply (u : FVec Ideal S32768x2056 .f32) (r : Fin 32768) (c : Fin 8) :
    res2 u (ix2 c r) = u (ix2 r ⟨1536 + c.val, by omega⟩) := by
  pointwise [res2]

end Cert.OddReferenceIdeal

namespace Cert.OddIdeal

open Cert.OddIdeal Cert.OddIdeal.Gen
open Idealize.ShloMosaic Idealize.ShloMosaic.TcCoe
open Idealize.SL.Sem
open Idealize.ShloMosaic.Pipeline (Dat)

variable (m : (ℓ : Loc nD τ sig) → Buf (Elt Ideal) ℓ) (ρ : Dev nD → PrngReg)

/-- The weights as the host code lays them out: the columns of the first result, those of the second with zeros after them,
    those of the third as rows. -/
def wMain (W : FVec Ideal S1024x2056 .f32) : FVec Ideal S1024x2048 .bf16 :=
  truncf .bf16 (concatenate S1024x2048 1 [⟨S1024x1024, ((extractStridedSlice S1024x1024 ![0, 512] W slices_S1024x2056_S1024x1024_0_512) : (⟨S1024x1024, .f32⟩ : BufTy).Contents (Elt Ideal))⟩, ⟨S1024x512, ((extractStridedSlice S1024x512 ![0, 0] W slices_S1024x2056_S1024x512_0_0) : (⟨S1024x512, .f32⟩ : BufTy).Contents (Elt Ideal))⟩, ⟨S1024x512, ((extractStridedSlice S1024x512 ![0, 1544] W slices_S1024x2056_S1024x512_0_1544) : (⟨S1024x512, .f32⟩ : BufTy).Contents (Elt Ideal))⟩] concatenates_S1024x1024_S1024x512_S1024x512_S1024x2048_d1 : FVec Ideal S1024x2048 .f32) bitsLt_bf16_f32
def wStep (W : FVec Ideal S1024x2056 .f32) : FVec Ideal S1024x128 .bf16 :=
  truncf .bf16 (pad S1024x128 ![0, 0] ![0, 120] ![0, 0] (extractStridedSlice S1024x8 ![0, 1536] W slices_S1024x2056_S1024x8_0_1536) (sitofp (F := Ideal) .f32 (constantI S_ 32 0#32)) pads_S1024x8_S1024x128_000_01200 h_S_ : FVec Ideal S1024x128 .f32) bitsLt_bf16_f32
def wStepT (W : FVec Ideal S1024x2056 .f32) : FVec Ideal S8x1024 .bf16 :=
  truncf .bf16 (transpose S8x1024 [1, 0] (extractStridedSlice S1024x8 ![0, 1536] W slices_S1024x2056_S1024x8_0_1536) transposes_S1024x8_S8x1024_1_0 : FVec Ideal S8x1024 .f32) bitsLt_bf16_f32

theorem V4 (c : Dev nD) : V m c main_v4 = wMain (m ((c.tc : Thread nD τ).loc main_arg1)) := by
  simp only [V, hostOps0, hostOps0_1, hostOps0_2, List.flatten_cons, List.flatten_nil, List.append_nil, List.cons_append,
      List.nil_append, StableHlo.TRef.binary, StableHlo.TRef.unary, StableHlo.TRef.toBuf, StableHlo.TRef.ofBuf, cast_eq]
  after_results <;> rfl

theorem V7 (c : Dev nD) : V m c main_v7 = wStep (m ((c.tc : Thread nD τ).loc main_arg1)) := by
  simp only [V, hostOps0, hostOps0_1, hostOps0_2, List.flatten_cons, List.flatten_nil, List.append_nil, List.cons_append,
      List.nil_append, StableHlo.TRef.binary, StableHlo.TRef.unary, StableHlo.TRef.toBuf, StableHlo.TRef.ofBuf, cast_eq]
  after_results <;> rfl

theorem V9 (c : Dev nD) : V m c main_v9 = wStepT (m ((c.tc : Thread nD τ).loc main_arg1)) := by
  simp only [V, hostOps0, hostOps0_1, hostOps0_2, List.flatten_cons, List.flatten_nil, List.append_nil, List.cons_append,
      List.nil_append, StableHlo.TRef.binary, StableHlo.TRef.unary, StableHlo.TRef.toBuf, StableHlo.TRef.ofBuf, cast_eq]
  after_results <;> rfl

theorem wMain_apply (W : FVec Ideal S1024x2056 .f32) (k : Fin 1024) (c : Fin 2048) :
    wMain W (ix2 k c) = W (ix2 k ⟨Odd.col c.val, by unfold Odd.col; split <;> (try split) <;> omega⟩) := by
  pointwise [wMain]
  unfold Odd.col
  split
  · rename_i h
    exact congrArg (fun j => W (ix2 k j)) rfl
  · rename_i h
    split
    · rename_i h'
      exact congrArg (fun j => W (ix2 k j)) (Fin.ext (by dsimp only; rw [if_pos (by omega)]))
    · rename_i h'
      exact congrArg (fun j => W (ix2 k j)) (Fin.ext (by dsimp only; rw [if_neg (by omega)]; omega))

theorem wStep_apply (W : FVec Ideal S1024x2056 .f32) (k : Fin 1024) (c : Fin 128) :
    wStep W (ix2 k c) = if h : c.val < 8 then W (ix2 k ⟨1536 + c.val, by omega⟩) else 0 := by
  pointwise [wStep]
  rw [Odd.zero]

theorem wStepT_apply (W : FVec Ideal S1024x2056 .f32) (k : Fin 1024) (c : Fin 8) :
    wStepT W (ix2 c k) = W (ix2 k ⟨1536 + c.val, by omega⟩) := by
  pointwise [wStepT]

theorem pay_apply (x : Vec Ideal S1024x1024 .f32) (w : Vec Ideal S1024x512 .bf16) (r : Fin 1024) (c : Fin 512) :
    k0_pay3 x w (ix2 r c) = ∑ k : Fin 1024, x (ix2 r k) * w (ix2 k c) := by
  pointwise [k0_pay3, k0_pay2]

theorem pay7_apply (x : Vec Ideal S1024x1024 .f32) (w : Vec Ideal S1024x128 .bf16) (r : Fin 1024) (c : Fin 128) :
    k0_pay7 x w (ix2 r c) = ∑ k : Fin 1024, x (ix2 r k) * w (ix2 k c) := by
  pointwise [k0_pay7, k0_pay2]

theorem pay1_apply (x : Vec Ideal S1024x1024 .f32) (w : Vec Ideal S8x1024 .bf16) (r : Fin 1024) (c : Fin 8) :
    k0_pay1 (k0_pay2 x) (k0_pay8 w) (constant S8x1024 .f32 0x00000000#32) (ix2 c r) = ∑ k : Fin 1024, w (ix2 c k) * x (ix2 r k) := by
  pointwise [k0_pay1, k0_pay2, k0_pay8]

/-! ### The blocks of the windows -/

theorem index0 : ∀ t : Fin cfg0.N, win0_0.index t = ![(grid0.coords t 0).val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![(grid0.coords t 0).val, 0] := (by decide +kernel : ∀ t : Fin grid0.N, _)
theorem index5 : ∀ t : Fin cfg0.N, win0_5.index t = ![(grid0.coords t 0).val, 0] := (by decide +kernel : ∀ t : Fin grid0.N, _)
theorem index6 : ∀ t : Fin cfg0.N, win0_6.index t = ![0, (grid0.coords t 0).val] := (by decide +kernel : ∀ t : Fin grid0.N, _)

theorem covers4 : (cfg0.win 4).Covers := by decide +kernel
theorem covers5 : (cfg0.win 5).Covers := by decide +kernel
theorem covers6 : (cfg0.win 6).Covers := by decide +kernel

theorem iblk0 (c : Dev nD) (t : Fin cfg0.N) (r k : Fin 1024) :
    (iblk m c 0 t : Vec Ideal S1024x1024 .f32) (ix2 r k)
      = Odd.xat (m ((c.tc : Thread nD τ).loc main_arg0)) ((grid0.coords t 0).val * 1024 + r.val) k.val := by
  have h0 : (grid0.coords t 0).val < 32 := (grid0.coords t 0).isLt
  refine Eq.trans ?_ (Odd.xat_eq (m ((c.tc : Thread nD τ).loc main_arg0)) _ _ (by omega) k.isLt)
  blk_simp [iblk]
  refine (congrFun (V_main_arg0 m c) _).trans ?_
  refine congrArg (m ((c.tc : Thread nD τ).loc main_arg0)) ?_
  blk_ext [index0]

theorem iblk1 (c : Dev nD) (t : Fin cfg0.N) (k : Fin 1024) (j : Fin 2048) :
    (iblk m c 1 t : Vec Ideal S1024x2048 .bf16) (ix2 k j) = Odd.wat (m ((c.tc : Thread nD τ).loc main_arg1)) k.val (Odd.col j.val) := by
  refine Eq.trans ?_ ((wMain_apply _ k j).trans (Odd.wat_eq (m ((c.tc : Thread nD τ).loc main_arg1)) _ _ k.isLt _))
  blk_simp [iblk]
  refine (congrFun (V4 m c) _).trans ?_
  refine congrArg (wMain (m ((c.tc : Thread nD τ).loc main_arg1))) ?_
  blk_ext [index1]

theorem iblk2 (c : Dev nD) (t : Fin cfg0.N) (k : Fin 1024) (j : Fin 128) :
    (iblk m c 2 t : Vec Ideal S1024x128 .bf16) (ix2 k j)
      = if j.val < 8 then Odd.wat (m ((c.tc : Thread nD τ).loc main_arg1)) k.val (1536 + j.val) else 0 := by
  have e : wStep (m ((c.tc : Thread nD τ).loc main_arg1)) (ix2 k j)
      = if j.val < 8 then Odd.wat (m ((c.tc : Thread nD τ).loc main_arg1)) k.val (1536 + j.val) else 0 := by
    rw [wStep_apply]
    split
    · exact Odd.wat_eq _ _ _ k.isLt _
    · rfl
  refine Eq.trans ?_ e
  blk_simp [iblk]
  refine (congrFun (V7 m c) _).trans ?_
  refine congrArg (wStep (m ((c.tc : Thread nD τ).loc main_arg1))) ?_
  blk_ext [index2]

theorem iblk3 (c : Dev nD) (t : Fin cfg0.N) (k : Fin 1024) (j : Fin 8) :
    (iblk m c 3 t : Vec Ideal S8x1024 .bf16) (ix2 j k) = Odd.wat (m ((c.tc : Thread nD τ).loc main_arg1)) k.val (1536 + j.val) := by
  refine Eq.trans ?_ ((wStepT_apply _ k j).trans (Odd.wat_eq (m ((c.tc : Thread nD τ).loc main_arg1)) _ _ k.isLt _))
  blk_simp [iblk]
  refine (congrFun (V9 m c) _).trans ?_
  refine congrArg (wStepT (m ((c.tc : Thread nD τ).loc main_arg1))) ?_
  blk_ext [index3]

/-! ### What the body leaves -/

theorem out4_apply (x0 : Vec Ideal S1024x1024 .f32) (x1 : Vec Ideal S1024x2048 .bf16) (x2 : Vec Ideal S1024x128 .bf16) (x3 : Vec Ideal S8x1024 .bf16)
    (r : Fin 1024) (c : Fin 2048) :
    out0_4 x0 x1 x2 x3 (ix2 r c) = ∑ k : Fin 1024, x0 (ix2 r k) * x1 (ix2 k c) := by
  have key : ∀ (o : Nat) (inb : ∀ a, (![0, o] : Fin 2 → Nat) a + S1024x512.size a ≤ S1024x2048.size a) (x : S1024x512.Idx),
      k0_pay3 (View.ld x0 r0_0) (View.ld x1 (Rect.unit (s := S1024x2048) ![0, o] S1024x512.size inb)) x
        = (fun y : S1024x2048.Idx => ∑ k : Fin 1024, x0 (ix2 (y 0) k) * x1 (ix2 k (y 1))) ((Rect.unit (s := S1024x2048) ![0, o] S1024x512.size inb).emb x) := by
    intro o inb x
    obtain ⟨a, b, rfl⟩ : ∃ (a : Fin 1024) (b : Fin 512), x = ix2 a b := ⟨x 0, x 1, eq_ix2 x⟩
    refine (pay_apply _ _ a b).trans ?_
    refine Finset.sum_congr rfl fun k _ => congrArg₂ _ ?_ ?_
    · refine congrArg x0 (funext fun a => Fin.ext ?_)
      match a with
      | ⟨0, _⟩ => rfl
      | ⟨1, _⟩ => show 0 + 1 * k.val = k.val; omega
    · refine congrArg x1 (funext fun a => Fin.ext ?_)
      match a with
      | ⟨0, _⟩ => show 0 + 1 * k.val = k.val; omega
      | ⟨1, _⟩ => rfl
  refine View.canon_apply_of_pieces (fun y : S1024x2048.Idx => ∑ k : Fin 1024, x0 (ix2 (y 0) k) * x1 (ix2 k (y 1))) _ ?_ (ix2 r c) (cover0_4 _ _ _ _ _)
  intro p hp
  simp only [List.mem_cons, List.not_mem_nil, or_false] at hp
  rcases hp with rfl | rfl | rfl | rfl
  · exact key 1536 _
  · exact key 1024 _
  · exact key 512 _
  · exact key 0 _

theorem out5_apply (x0 : Vec Ideal S1024x1024 .f32) (x1 : Vec Ideal S1024x2048 .bf16) (x2 : Vec Ideal S1024x128 .bf16) (x3 : Vec Ideal S8x1024 .bf16)
    (r : Fin 1024) (c : Fin 128) :
    out0_5 x0 x1 x2 x3 (ix2 r c) = ∑ k : Fin 1024, x0 (ix2 r k) * x2 (ix2 k c) := by
  unfold out0_5
  rw [View.canon_cons_unit_lit _ _ _ (by decide), View.ld_unit_lit _ _ (by decide), View.ld_unit_lit _ _ (by decide), pay7_apply]

theorem out6_apply (x0 : Vec Ideal S1024x1024 .f32) (x1 : Vec Ideal S1024x2048 .bf16) (x2 : Vec Ideal S1024x128 .bf16) (x3 : Vec Ideal S8x1024 .bf16)
    (r : Fin 1024) (c : Fin 8) :
    out0_6 x0 x1 x2 x3 (ix2 c r) = ∑ k : Fin 1024, x3 (ix2 c k) * x0 (ix2 r k) := by
  unfold out0_6
  rw [View.canon_cons_unit_lit _ _ _ (by decide), View.ld_unit_lit _ _ (by decide), View.ld_unit_lit _ _ (by decide), pay1_apply]

/-! ### The results -/

/-- The three results of arguments `X` and `W`. -/
def val0 (X : Vec Ideal S32768x1024 .f32) (W : Vec Ideal S1024x2056 .f32) : Vec Ideal S32768x2048 .f32 :=
  fun i : S32768x2048.Idx => Odd.proj X W (i 0).val (Odd.col (i 1).val)
def val1 (X : Vec Ideal S32768x1024 .f32) (W : Vec Ideal S1024x2056 .f32) : Vec Ideal S32768x128 .f32 :=
  fun i : S32768x128.Idx => if (i 1).val < 8 then Odd.proj X W (i 0).val (1536 + (i 1).val) else 0
def val2 (X : Vec Ideal S32768x1024 .f32) (W : Vec Ideal S1024x2056 .f32) : Vec Ideal S8x32768 .f32 :=
  fun i : S8x32768.Idx => Odd.proj X W (i 1).val (1536 + (i 0).val)

theorem block4 (c : Dev nD) (t : Fin cfg0.N) (r : Fin 1024) (j : Fin 2048) :
    out0_4 (iblk m c 0 t) (iblk m c 1 t) (iblk m c 2 t) (iblk m c 3 t) (ix2 r j)
      = Odd.proj (m ((c.tc : Thread nD τ).loc main_arg0)) (m ((c.tc : Thread nD τ).loc main_arg1)) ((grid0.coords t 0).val * 1024 + r.val) (Odd.col j.val) :=
  (out4_apply _ _ _ _ r j).trans (Finset.sum_congr rfl fun k _ => congrArg₂ _ (iblk0 m c t r k) (iblk1 m c t k j))

theorem block5 (c : Dev nD) (t : Fin cfg0.N) (r : Fin 1024) (j : Fin 128) :
    out0_5 (iblk m c 0 t) (iblk m c 1 t) (iblk m c 2 t) (iblk m c 3 t) (ix2 r j)
      = if j.val < 8 then Odd.proj (m ((c.tc : Thread nD τ).loc main_arg0)) (m ((c.tc : Thread nD τ).loc main_arg1)) ((grid0.coords t 0).val * 1024 + r.val) (1536 + j.val) else 0 := by
  refine (out5_apply _ _ _ _ r j).trans ((Finset.sum_congr rfl fun k _ => congrArg₂ _ (iblk0 m c t r k) (iblk2 m c t k j)).trans ?_)
  split
  · rfl
  · exact Finset.sum_eq_zero fun k _ => mul_zero _

theorem block6 (c : Dev nD) (t : Fin cfg0.N) (r : Fin 1024) (j : Fin 8) :
    out0_6 (iblk m c 0 t) (iblk m c 1 t) (iblk m c 2 t) (iblk m c 3 t) (ix2 j r)
      = Odd.proj (m ((c.tc : Thread nD τ).loc main_arg0)) (m ((c.tc : Thread nD τ).loc main_arg1)) ((grid0.coords t 0).val * 1024 + r.val) (1536 + j.val) :=
  (out6_apply _ _ _ _ r j).trans (Finset.sum_congr rfl fun k _ =>
    (congrArg₂ _ (iblk3 m c t k j) (iblk0 m c t r k)).trans (mul_comm _ _))

theorem final4 (c : Dev nD) :
    (dats m 0 c).arrAt 4 cfg0.N = val0 (m ((c.tc : Thread nD τ).loc main_arg0)) (m ((c.tc : Thread nD τ).loc main_arg1)) := by
  refine (dats m 0 c).arrAt_eq_of_covers 4 _ covers4 fun t hf y => ?_
  blk_simp [index4, val0]
  rw [after0_4]
  have ey := eq_ix2 (y : S1024x2048.Idx)
  refine Eq.trans (congrArg (out0_4 (iblk m c 0 t) (iblk m c 1 t) (iblk m c 2 t) (iblk m c 3 t)) ey) ?_
  refine (block4 m c t ((y : S1024x2048.Idx) 0) ((y : S1024x2048.Idx) 1)).trans ?_
  rfl

theorem final5 (c : Dev nD) :
    (dats m 0 c).arrAt 5 cfg0.N = val1 (m ((c.tc : Thread nD τ).loc main_arg0)) (m ((c.tc : Thread nD τ).loc main_arg1)) := by
  refine (dats m 0 c).arrAt_eq_of_covers 5 _ covers5 fun t hf y => ?_
  blk_simp [index5, val1]
  rw [after0_5]
  have ey := eq_ix2 (y : S1024x128.Idx)
  refine Eq.trans (congrArg (out0_5 (iblk m c 0 t) (iblk m c 1 t) (iblk m c 2 t) (iblk m c 3 t)) ey) ?_
  refine (block5 m c t ((y : S1024x128.Idx) 0) ((y : S1024x128.Idx) 1)).trans ?_
  rfl

theorem final6 (c : Dev nD) :
    (dats m 0 c).arrAt 6 cfg0.N = val2 (m ((c.tc : Thread nD τ).loc main_arg0)) (m ((c.tc : Thread nD τ).loc main_arg1)) := by
  refine (dats m 0 c).arrAt_eq_of_covers 6 _ covers6 fun t hf y => ?_
  blk_simp [index6, val2]
  rw [after0_6]
  have ey := eq_ix2 (y : S8x1024.Idx)
  refine Eq.trans (congrArg (out0_6 (iblk m c 0 t) (iblk m c 1 t) (iblk m c 2 t) (iblk m c 3 t)) ey) ?_
  refine (block6 m c t ((y : S8x1024.Idx) 1) ((y : S8x1024.Idx) 0)).trans ?_
  rfl

end Cert.OddIdeal

namespace Cert.OddReferenceIdeal

open Idealize.ShloMosaic
open Cert.OddReferenceIdeal.Gen

theorem res0_eq (X : FVec Ideal S32768x1024 .f32) (W : FVec Ideal S1024x2056 .f32) : res0 (full X W) = Cert.OddIdeal.val0 X W :=
  funext fun i => (congrArg (res0 (full X W)) (eq_ix2 (i : S32768x2048.Idx))).trans
    ((res0_apply _ ((i : S32768x2048.Idx) 0) ((i : S32768x2048.Idx) 1)).trans (full_apply X W _ _))

theorem res1_eq (X : FVec Ideal S32768x1024 .f32) (W : FVec Ideal S1024x2056 .f32) : res1 (full X W) = Cert.OddIdeal.val1 X W :=
  funext fun i => (congrArg (res1 (full X W)) (eq_ix2 (i : S32768x128.Idx))).trans
    ((res1_apply _ ((i : S32768x128.Idx) 0) ((i : S32768x128.Idx) 1)).trans (by
      unfold Cert.OddIdeal.val1
      split
      · rename_i h
        exact full_apply X W _ _
      · rename_i h
        rfl))

theorem res2_eq (X : FVec Ideal S32768x1024 .f32) (W : FVec Ideal S1024x2056 .f32) : res2 (full X W) = Cert.OddIdeal.val2 X W :=
  funext fun i => (congrArg (res2 (full X W)) (eq_ix2 (i : S8x32768.Idx))).trans
    ((res2_apply _ ((i : S8x32768.Idx) 1) ((i : S8x32768.Idx) 0)).trans (full_apply X W _ _))

end Cert.OddReferenceIdeal

namespace Cert.Proof

open Idealize.ShloMosaic Idealize.ShloMosaic.TcCoe Idealize.SL.Sem

/-- The reference's frame: its arguments end unchanged, and it has no semaphores. -/
theorem odd_reference_frame : Cert.quiescent_OddReferenceIdeal := fun m ρ _ =>
  (θ_run Cert.OddReferenceIdeal.defs _ _).mono
    (fun r h => ⟨fun c => (h c).2.2.2, Idealize.ShloMosaic.sem_eq_zero_of_no_sems (by decide) r.2⟩)
    (Cert.OddReferenceIdeal.Value.run (F := Ideal) m ρ)

/-- The kernel and the reference end with the same three results. -/
theorem odd_algebraic : Cert.algebraic_OddIdeal_OddReferenceIdeal := fun m ρ m' ρ' _ hag =>
  ⟨fun c => Cert.OddIdeal.val0 (m ((c.tc : Thread Cert.OddIdeal.nD Cert.OddIdeal.τ).loc Cert.OddIdeal.main_arg0)) (m ((c.tc : Thread Cert.OddIdeal.nD Cert.OddIdeal.τ).loc Cert.OddIdeal.main_arg1)),
    fun c => Cert.OddIdeal.val1 (m ((c.tc : Thread Cert.OddIdeal.nD Cert.OddIdeal.τ).loc Cert.OddIdeal.main_arg0)) (m ((c.tc : Thread Cert.OddIdeal.nD Cert.OddIdeal.τ).loc Cert.OddIdeal.main_arg1)),
    fun c => Cert.OddIdeal.val2 (m ((c.tc : Thread Cert.OddIdeal.nD Cert.OddIdeal.τ).loc Cert.OddIdeal.main_arg0)) (m ((c.tc : Thread Cert.OddIdeal.nD Cert.OddIdeal.τ).loc Cert.OddIdeal.main_arg1)),
    (θ_run Cert.OddIdeal.defs _ _).mono
      (fun r h c => ⟨(h c).1.trans (Cert.OddIdeal.final4 m c), (h c).2.1.trans (Cert.OddIdeal.final5 m c), (h c).2.2.1.trans (Cert.OddIdeal.final6 m c), (h c).2.2.2⟩)
      (Cert.OddIdeal.Value.run_blocks (F := Ideal) m ρ),
    (θ_run Cert.OddReferenceIdeal.defs _ _).mono
      (fun r h c => ⟨(h c).1.trans ((Cert.OddReferenceIdeal.res0_eq _ _).trans (congrArg₂ Cert.OddIdeal.val0 (hag c).1 (hag c).2)), (h c).2.1.trans ((Cert.OddReferenceIdeal.res1_eq _ _).trans (congrArg₂ Cert.OddIdeal.val1 (hag c).1 (hag c).2)), (h c).2.2.1.trans ((Cert.OddReferenceIdeal.res2_eq _ _).trans (congrArg₂ Cert.OddIdeal.val2 (hag c).1 (hag c).2)), (h c).2.2.2⟩)
      (Cert.OddReferenceIdeal.Value.run (F := Ideal) m' ρ')⟩

end Cert.Proof
end
-- ==== Proof.FfnBody.lean ====
/-
  The output projection and the feed-forward part, over the exact numbers: what one grid point's stores hold, element by element.
-/
module

public import proofs.«01_k».proof.Proof.Gen.FfnIdeal.Value
public import Idealize.ShloMosaic.Lib.Pointwise
public import Idealize.ShloMosaic.Lib.WholeRead
public import Idealize.ShloMosaic.Lib.Pipeline.ValueKit.Geometry
public import Idealize.ShloMosaic.Lib.Pipeline.ValueKit.Tiles

@[expose] public section

set_option maxRecDepth 16384

noncomputable section

namespace Ffn

open Idealize.ShloMosaic

/-- The residual's weight, the fourth root of 8. -/
def al : EReal := ((Real.sqrt (Real.sqrt 8) : ℝ) : EReal)

/-- The width of a row, and what a variance is shifted by. -/
def width : EReal := Ideal.ofBits FTy.f32 0x44800000#32
def eps : EReal := Ideal.ofBits FTy.f32 0x3727C5AC#32

def mean (v : Fin 1024 → EReal) : EReal := Ideal.div (∑ x, v x) width

/-- The layer norm of a row. -/
def ln (v g b : Fin 1024 → EReal) (c : Fin 1024) : EReal :=
  (v c - mean v) * Ideal.rsqrt (Ideal.div (∑ x, (v x - mean v) * (v x - mean v)) width + eps) * g c + b c

def silu (g : EReal) : EReal := g * Ideal.div 1 (1 + Ideal.exp (0 - g))

/-- The convolution of three rows. -/
def conv (cb w2 w1 w0 h0 h1 h2 : EReal) : EReal := cb + w2 * h0 + w1 * h1 + w0 * h2

/-- A load through a rectangle of unit steps of a matrix. -/
theorem ld2 {α : EltTy → Type} {e : EltTy} {m n k l : Nat} (X : (⟨2, ![m, n]⟩ : Shape).Idx → α e) (o p : Nat)
    (inb : ∀ a, (![o, p] : Fin 2 → Nat) a + (⟨2, ![k, l]⟩ : Shape).size a ≤ (⟨2, ![m, n]⟩ : Shape).size a)
    (a : Fin k) (b : Fin l) (ha : o + a.val < m) (hb : p + b.val < n) :
    View.ld X (Rect.unit (s := (⟨2, ![m, n]⟩ : Shape)) ![o, p] (⟨2, ![k, l]⟩ : Shape).size inb) (ix2 a b) = X (ix2 ⟨o + a.val, ha⟩ ⟨p + b.val, hb⟩) := by
  refine congrArg X (funext fun i => Fin.ext ?_)
  match i with
  | ⟨0, _⟩ => show o + 1 * a.val = o + a.val; omega
  | ⟨1, _⟩ => show p + 1 * b.val = p + b.val; omega

/-- A load of a whole matrix. -/
theorem ldw {α : EltTy → Type} {e : EltTy} {m n : Nat} (X : (⟨2, ![m, n]⟩ : Shape).Idx → α e)
    (inb : ∀ a, (![0, 0] : Fin 2 → Nat) a + (⟨2, ![m, n]⟩ : Shape).size a ≤ (⟨2, ![m, n]⟩ : Shape).size a) :
    View.ld X (Rect.unit (s := (⟨2, ![m, n]⟩ : Shape)) ![0, 0] (⟨2, ![m, n]⟩ : Shape).size inb) = X := by
  refine funext fun y => congrArg X (funext fun i => Fin.ext ?_)
  match i with
  | ⟨0, _⟩ => show 0 + 1 * (y 0).val = (y 0).val; omega
  | ⟨1, _⟩ => show 0 + 1 * (y 1).val = (y 1).val; omega

theorem emb2 {m n k l : Nat} (o p : Nat)
    (inb : ∀ a, (![o, p] : Fin 2 → Nat) a + (⟨2, ![k, l]⟩ : Shape).size a ≤ (⟨2, ![m, n]⟩ : Shape).size a)
    (a : Fin k) (b : Fin l) (ha : o + a.val < m) (hb : p + b.val < n) :
    (Rect.unit (s := (⟨2, ![m, n]⟩ : Shape)) ![o, p] (⟨2, ![k, l]⟩ : Shape).size inb).emb (ix2 a b) = ix2 ⟨o + a.val, ha⟩ ⟨p + b.val, hb⟩ := by
  refine funext fun i => Fin.ext ?_
  match i with
  | ⟨0, _⟩ => show o + 1 * a.val = o + a.val; omega
  | ⟨1, _⟩ => show p + 1 * b.val = p + b.val; omega

theorem rd {sig : RefSig} {κ : Kind} {sp : Space} {s : Shape} {e : EltTy} {α : EltTy → Type} {M : Memref sig κ sp s e} (h : M.IsWhole)
    (X : s.Idx → α e) (R : Rect s) : View.readAt α M.view R.toLoadRect (h.unread X) = View.ld X R :=
  funext fun x => h.readAt_unread X _ x

end Ffn

namespace Cert.FfnIdeal

open Cert.FfnIdeal.Gen
open Idealize.ShloMosaic Idealize.ShloMosaic.TcCoe
open Ffn

theorem named_al : (Named.named (F := Ideal) κ "alpha" (φ := .f32) 0x3FD744FD#32 : EReal) = al := rfl

/-- The blocks a grid point takes in. -/
structure In where
  x0 : Vec Ideal S1024x512 .bf16
  x1 : Vec Ideal S1024x512 .bf16
  x2 : Vec Ideal S1024x1024 .f32
  x3 : Vec Ideal S1024x1024 .bf16
  x4 : Vec Ideal S1x1024 .f32
  x5 : Vec Ideal S1x1024 .f32
  x6 : Vec Ideal S1024x5632 .bf16
  x7 : Vec Ideal S3x5632 .f32
  x8 : Vec Ideal S1x5632 .f32
  x9 : Vec Ideal S2816x1024 .bf16
  x10 : Vec Ideal S1x1024 .f32
  x11 : Vec Ideal S1x1024 .f32

variable (b : In)

def yL (r c : Fin 1024) : EReal :=
  al * b.x2 (ix2 r c) + (∑ k : Fin 512, b.x0 (ix2 r k) * b.x3 (ix2 ⟨k.val, by omega⟩ c) + ∑ k : Fin 512, b.x1 (ix2 r k) * b.x3 (ix2 ⟨512 + k.val, by omega⟩ c))
def xL (r c : Fin 1024) : EReal := ln (yL b r) (fun c => b.x4 (ix2 0 c)) (fun c => b.x5 (ix2 0 c)) c
def uL (r : Fin 1024) (j : Fin 5632) : EReal := ∑ k : Fin 1024, xL b r k * b.x6 (ix2 k j)

variable (P : Fin 8 → Fin 5632 → EReal)

/-- The projected rows, after the eight of the tile before. -/
def heL (r : Nat) (j : Fin 5632) : EReal := if h : r < 8 then P ⟨r, h⟩ j else uL b ⟨(r - 8) % 1024, Nat.mod_lt _ (by decide)⟩ j
def cL (r : Fin 1024) (j : Fin 5632) : EReal :=
  conv (b.x8 (ix2 0 j)) (b.x7 (ix2 2 j)) (b.x7 (ix2 1 j)) (b.x7 (ix2 0 j)) (heL b P (8 + r.val) j) (heL b P (7 + r.val) j) (heL b P (6 + r.val) j)
def aL (r : Fin 1024) (j : Fin 2816) : EReal :=
  silu (cL b P r ⟨2816 + j.val, by omega⟩) * cL b P r ⟨j.val, by omega⟩
def oL (r c : Fin 1024) : EReal :=
  ln (fun c => al * xL b r c + ∑ j : Fin 2816, aL b P r j * b.x9 (ix2 j c)) (fun c => b.x10 (ix2 0 c)) (fun c => b.x11 (ix2 0 c)) c

/-! ### The payloads -/

theorem pay5_apply (a a' : Vec Ideal S512x512 .bf16) (x : Vec Ideal S512x1024 .f32) (w : Vec Ideal S1024x1024 .bf16) (r : Fin 512) (c : Fin 1024) :
    k0_pay5 a a' x w (ix2 r c)
      = (al * x (ix2 r c) + (∑ k : Fin 512, a (ix2 r k) * w (ix2 ⟨k.val, by omega⟩ c) + ∑ k : Fin 512, a' (ix2 r k) * w (ix2 ⟨512 + k.val, by omega⟩ c)))
        - mean fun c => al * x (ix2 r c) + (∑ k : Fin 512, a (ix2 r k) * w (ix2 ⟨k.val, by omega⟩ c) + ∑ k : Fin 512, a' (ix2 r k) * w (ix2 ⟨512 + k.val, by omega⟩ c)) := by
  pointwise [k0_pay5]
  rfl

theorem pay7_apply (g b : FVec Ideal S1x1024 .f32) (x y : FVec Ideal S512x1024 .f32) (r : Fin 512) (c : Fin 1024) :
    k0_pay7 g b x y (ix2 r c) = x (ix2 r c) * Ideal.rsqrt (Ideal.div (∑ k, y (ix2 r k)) width + eps) * g (ix2 0 c) + b (ix2 0 c) := by
  pointwise [k0_pay7]
  rfl

theorem norm_apply (a a' : Vec Ideal S512x512 .bf16) (x : Vec Ideal S512x1024 .f32) (w : Vec Ideal S1024x1024 .bf16) (g b : Vec Ideal S1x1024 .f32)
    (r : Fin 512) (c : Fin 1024) :
    k0_pay7 (k0_pay3 g) (k0_pay4 b) (k0_pay5 a a' x w) (k0_pay6 a a' x w) (ix2 r c)
      = ln (fun c => al * x (ix2 r c) + (∑ k : Fin 512, a (ix2 r k) * w (ix2 ⟨k.val, by omega⟩ c) + ∑ k : Fin 512, a' (ix2 r k) * w (ix2 ⟨512 + k.val, by omega⟩ c)))
          (fun c => g (ix2 0 c)) (fun c => b (ix2 0 c)) c := by
  have e6 : ∀ k, k0_pay6 a a' x w (ix2 r k) = k0_pay5 a a' x w (ix2 r k) * k0_pay5 a a' x w (ix2 r k) := fun _ => rfl
  have e3 : ∀ k, k0_pay3 g (ix2 0 k) = g (ix2 0 k) := fun k => by pointwise [k0_pay3]
  have e4 : ∀ k, k0_pay4 b (ix2 0 k) = b (ix2 0 k) := fun k => by pointwise [k0_pay4]
  rw [pay7_apply]
  simp only [e6, e3, e4, pay5_apply]
  rfl

theorem conv_apply (he : Vec Ideal S1032x256 .f32) (cb w2 w1 w0 : FVec Ideal S1x256 .f32) (r : Fin 1024) (c : Fin 256) :
    k0_pay17 he cb w2 w1 w0 (ix2 r c)
      = conv (cb (ix2 0 c)) (w2 (ix2 0 c)) (w1 (ix2 0 c)) (w0 (ix2 0 c)) (he (ix2 ⟨8 + r.val, by omega⟩ c)) (he (ix2 ⟨7 + r.val, by omega⟩ c)) (he (ix2 ⟨6 + r.val, by omega⟩ c)) := by
  have e1 : (⟨(8 + r.val + 1032 - 1) % 1032, Nat.mod_lt _ (by decide)⟩ : Fin 1032) = ⟨7 + r.val, by omega⟩ := Fin.ext (by dsimp only; omega)
  have e2 : (⟨(8 + r.val + 1032 - 2) % 1032, Nat.mod_lt _ (by decide)⟩ : Fin 1032) = ⟨6 + r.val, by omega⟩ := Fin.ext (by dsimp only; omega)
  pointwise [k0_pay17]
  rw [e1, e2]
  rfl

theorem gate_apply (v : FVec Ideal S1024x256 .f32) (he : Vec Ideal S1032x256 .f32) (cb w2 w1 w0 : FVec Ideal S1x256 .f32) (r : Fin 1024) (c : Fin 256) :
    k0_pay21 v he cb w2 w1 w0 (ix2 r c)
      = silu (conv (cb (ix2 0 c)) (w2 (ix2 0 c)) (w1 (ix2 0 c)) (w0 (ix2 0 c)) (he (ix2 ⟨8 + r.val, by omega⟩ c)) (he (ix2 ⟨7 + r.val, by omega⟩ c)) (he (ix2 ⟨6 + r.val, by omega⟩ c)))
        * v (ix2 r c) := by
  have e1 : (⟨(8 + r.val + 1032 - 1) % 1032, Nat.mod_lt _ (by decide)⟩ : Fin 1032) = ⟨7 + r.val, by omega⟩ := Fin.ext (by dsimp only; omega)
  have e2 : (⟨(8 + r.val + 1032 - 2) % 1032, Nat.mod_lt _ (by decide)⟩ : Fin 1032) = ⟨6 + r.val, by omega⟩ := Fin.ext (by dsimp only; omega)
  pointwise [k0_pay21]
  rw [e1, e2]
  rfl

theorem up_apply (H : FVec Ideal S1024x1024 .bf16) (w : Vec Ideal S1024x256 .bf16) (r : Fin 1024) (c : Fin 256) :
    k0_pay19 H w (ix2 r c) = ∑ k : Fin 1024, H (ix2 r k) * w (ix2 k c) := by
  pointwise [k0_pay19]

theorem out_apply (a : Vec Ideal S512x2816 .bf16) (w : Vec Ideal S2816x1024 .bf16) (x : Vec Ideal S512x1024 .f32) (g b : Vec Ideal S1x1024 .f32) (r : Fin 512) (c : Fin 1024) :
    k0_pay125 a w x g b (ix2 r c)
      = ln (fun c => al * x (ix2 r c) + ∑ j : Fin 2816, a (ix2 r j) * w (ix2 j c)) (fun c => g (ix2 0 c)) (fun c => b (ix2 0 c)) c := by
  pointwise [k0_pay125]
  rfl

/-! ### Reads of the scratch -/

/-- The eight rows kept and the rows projected, one below the other. -/
def he3 (p : Vec Ideal S8x256 .f32) (u : Vec Ideal S1024x256 .f32) : Vec Ideal S1032x256 .f32 :=
  fun i : S1032x256.Idx => if h : (i 0).val < 8 then p (ix2 ⟨(i 0).val, h⟩ (i 1)) else u (ix2 ⟨((i 0).val - 8) % 1024, Nat.mod_lt _ (by decide)⟩ (i 1))

theorem he3_lt (p : Vec Ideal S8x256 .f32) (u : Vec Ideal S1024x256 .f32) (r : Fin 1032) (c : Fin 256) (h : r.val < 8) :
    he3 p u (ix2 r c) = p (ix2 ⟨r.val, h⟩ c) := by
  show (if h : r.val < 8 then p (ix2 ⟨r.val, h⟩ c) else u (ix2 ⟨(r.val - 8) % 1024, Nat.mod_lt _ (by decide)⟩ c)) = _
  exact dif_pos h

theorem he3_ge (p : Vec Ideal S8x256 .f32) (u : Vec Ideal S1024x256 .f32) (r : Fin 1032) (c : Fin 256) (h : ¬ r.val < 8) :
    he3 p u (ix2 r c) = u (ix2 ⟨(r.val - 8) % 1024, Nat.mod_lt _ (by decide)⟩ c) := by
  show (if h : r.val < 8 then p (ix2 ⟨r.val, h⟩ c) else u (ix2 ⟨(r.val - 8) % 1024, Nat.mod_lt _ (by decide)⟩ c)) = _
  exact dif_neg h

theorem canon_he (p : Vec Ideal S8x256 .f32) (u : Vec Ideal S1024x256 .f32) (L : List (View.Piece (Elt Ideal) S1032x256 .f32)) (inb inb')
    (y : S1032x256.Idx) :
    View.canon (⟨Rect.unit (s := S1032x256) ![8, 0] S1024x256.size inb, u⟩ :: ⟨Rect.unit (s := S1032x256) ![0, 0] S8x256.size inb', p⟩ :: L) y = he3 p u y := by
  obtain ⟨r, c, rfl⟩ : ∃ (r : Fin 1032) (c : Fin 256), y = ix2 r c := ⟨y 0, y 1, eq_ix2 y⟩
  by_cases h : r.val < 8
  · rw [View.canon_cons_of_not_mem]
    · have e := View.canon_cons_emb (Val := Elt Ideal) (Rect.unit (s := S1032x256) ![0, 0] S8x256.size inb') p L (ix2 (⟨r.val, h⟩ : Fin 8) c)
      rw [emb2 (m := 1032) (n := 256) (k := 8) (l := 256) 0 0 inb' ⟨r.val, h⟩ c (by dsimp only; omega) (by omega)] at e
      have e' : (ix2 (⟨0 + (⟨r.val, h⟩ : Fin 8).val, by dsimp only; omega⟩ : Fin 1032) (⟨0 + c.val, by omega⟩ : Fin 256)) = ix2 r c := by
        congr 1 <;> exact Fin.ext (by dsimp only; omega)
      rw [e'] at e
      exact e.trans (he3_lt p u r c h).symm
    · intro hm
      have hm' : ix2 r c ∈ (Rect.unit (s := S1032x256) ![8, 0] S1024x256.size inb).set := hm
      have := (Rect.mem_set_unit.mp hm') 0
      have h8 : 8 ≤ r.val := this.1
      omega
  · have e := View.canon_cons_emb (Val := Elt Ideal) (Rect.unit (s := S1032x256) ![8, 0] S1024x256.size inb) u
      (⟨Rect.unit (s := S1032x256) ![0, 0] S8x256.size inb', p⟩ :: L) (ix2 (⟨(r.val - 8) % 1024, Nat.mod_lt _ (by decide)⟩ : Fin 1024) c)
    rw [emb2 (m := 1032) (n := 256) (k := 1024) (l := 256) 8 0 inb ⟨(r.val - 8) % 1024, Nat.mod_lt _ (by decide)⟩ c (by dsimp only; omega) (by omega)] at e
    have e' : (ix2 (⟨8 + (⟨(r.val - 8) % 1024, Nat.mod_lt _ (by decide)⟩ : Fin 1024).val, by dsimp only; omega⟩ : Fin 1032) (⟨0 + c.val, by omega⟩ : Fin 256)) = ix2 r c := by
      congr 1 <;> exact Fin.ext (by dsimp only; omega)
    rw [e'] at e
    exact e.trans (he3_ge p u r c h).symm

theorem read_he {sig : RefSig} {κ : Kind} {sp : Space} (v : View sig κ sp S1032x256 .f32)
    (p : Vec Ideal S8x256 .f32) (u : Vec Ideal S1024x256 .f32) (L : List (View.Piece (Elt Ideal) S1032x256 .f32)) (inb inb' inb'')
    (r : Fin 1032) (c : Fin 256) :
    v.readCov (⟨Rect.unit (s := S1032x256) ![8, 0] S1024x256.size inb, u⟩ :: ⟨Rect.unit (s := S1032x256) ![0, 0] S8x256.size inb', p⟩ :: L)
      (Rect.unit (s := S1032x256) ![0, 0] S1032x256.size inb'').toLoadRect (ix2 r c) = he3 p u (ix2 r c) := by
  rw [View.readCov_eq_canon']
  refine (canon_he p u L inb inb' _).trans (congrArg (he3 p u) ?_)
  refine (emb2 (m := 1032) (n := 256) (k := 1032) (l := 256) 0 0 inb'' r c (by omega) (by omega)).trans ?_
  congr 1 <;> exact Fin.ext (by dsimp only; omega)

theorem read_tail {sig : RefSig} {κ : Kind} {sp : Space} (v : View sig κ sp S1032x256 .f32)
    (p : Vec Ideal S8x256 .f32) (u : Vec Ideal S1024x256 .f32) (L : List (View.Piece (Elt Ideal) S1032x256 .f32)) (inb inb' inb'')
    (r : Fin 8) (c : Fin 256) :
    v.readCov (⟨Rect.unit (s := S1032x256) ![8, 0] S1024x256.size inb, u⟩ :: ⟨Rect.unit (s := S1032x256) ![0, 0] S8x256.size inb', p⟩ :: L)
      (Rect.unit (s := S1032x256) ![1024, 0] S8x256.size inb'').toLoadRect (ix2 r c) = u (ix2 ⟨1016 + r.val, by omega⟩ c) := by
  rw [View.readCov_eq_canon']
  refine (canon_he p u L inb inb' _).trans ?_
  refine (congrArg (he3 p u) (emb2 (m := 1032) (n := 256) (k := 8) (l := 256) 1024 0 inb'' r c (by omega) (by omega))).trans ?_
  refine (he3_ge p u _ _ (by dsimp only; omega)).trans (congrArg u ?_)
  have er : (⟨(1024 + r.val - 8) % 1024, Nat.mod_lt _ (by decide)⟩ : Fin 1024) = ⟨1016 + r.val, by omega⟩ := Fin.ext (by dsimp only; omega)
  have ec : (⟨0 + c.val, by omega⟩ : Fin 256) = c := Fin.ext (by dsimp only; omega)
  show ix2 (⟨(1024 + r.val - 8) % 1024, _⟩ : Fin 1024) (⟨0 + c.val, _⟩ : Fin 256) = _
  rw [er, ec]

/-! ### The pieces -/

theorem x_key {sig : RefSig} {κ : Kind} {sp : Space}
    {a1 a2 : Memref sig κ sp S1024x512 .bf16} (h1 : a1.IsWhole) (h2 : a2.IsWhole) {a3 : Memref sig κ sp S1024x1024 .f32} (h3 : a3.IsWhole)
    {a4 : Memref sig κ sp S1024x1024 .bf16} (h4 : a4.IsWhole) {a5 a6 : Memref sig κ sp S1x1024 .f32} (h5 : a5.IsWhole) (h6 : a6.IsWhole)
    (o : Nat) (ho : o + 512 ≤ 1024) (i1 i2 i3 i4 i5 i6 inb) (x : S512x1024.Idx) :
    k0_pay7 (k0_pay3 (View.readAt (Elt Ideal) a5.view (Rect.unit (s := S1x1024) ![0, 0] S1x1024.size i5).toLoadRect (h5.unread b.x4)))
      (k0_pay4 (View.readAt (Elt Ideal) a6.view (Rect.unit (s := S1x1024) ![0, 0] S1x1024.size i6).toLoadRect (h6.unread b.x5)))
      (k0_pay5 (View.readAt (Elt Ideal) a1.view (Rect.unit (s := S1024x512) ![o, 0] S512x512.size i1).toLoadRect (h1.unread b.x0))
        (View.readAt (Elt Ideal) a2.view (Rect.unit (s := S1024x512) ![o, 0] S512x512.size i2).toLoadRect (h2.unread b.x1))
        (View.readAt (Elt Ideal) a3.view (Rect.unit (s := S1024x1024) ![o, 0] S512x1024.size i3).toLoadRect (h3.unread b.x2))
        (View.readAt (Elt Ideal) a4.view (Rect.unit (s := S1024x1024) ![0, 0] S1024x1024.size i4).toLoadRect (h4.unread b.x3)))
      (k0_pay6 (View.readAt (Elt Ideal) a1.view (Rect.unit (s := S1024x512) ![o, 0] S512x512.size i1).toLoadRect (h1.unread b.x0))
        (View.readAt (Elt Ideal) a2.view (Rect.unit (s := S1024x512) ![o, 0] S512x512.size i2).toLoadRect (h2.unread b.x1))
        (View.readAt (Elt Ideal) a3.view (Rect.unit (s := S1024x1024) ![o, 0] S512x1024.size i3).toLoadRect (h3.unread b.x2))
        (View.readAt (Elt Ideal) a4.view (Rect.unit (s := S1024x1024) ![0, 0] S1024x1024.size i4).toLoadRect (h4.unread b.x3))) x
      = (fun y : S1024x1024.Idx => xL b (y 0) (y 1)) ((Rect.unit (s := S1024x1024) ![o, 0] S512x1024.size inb).emb x) := by
  obtain ⟨r, c, rfl⟩ : ∃ (r : Fin 512) (c : Fin 1024), x = ix2 r c := ⟨x 0, x 1, eq_ix2 x⟩
  rw [emb2 (m := 1024) (n := 1024) (k := 512) (l := 1024) o 0 inb r c (by omega) (by omega)]
  simp only [rd]
  rw [ldw (α := Elt Ideal) (e := .bf16) (m := 1024) (n := 1024) b.x3 i4, ldw (α := Elt Ideal) (e := .f32) (m := 1) (n := 1024) b.x4 i5, ldw (α := Elt Ideal) (e := .f32) (m := 1) (n := 1024) b.x5 i6]
  refine (norm_apply _ _ _ _ _ _ r c).trans ?_
  have ec : (⟨0 + c.val, by omega⟩ : Fin 1024) = c := Fin.ext (by dsimp only; omega)
  show _ = xL b ⟨o + r.val, by omega⟩ ⟨0 + c.val, by omega⟩
  rw [ec]
  unfold xL
  refine congrArg (fun f => ln f _ _ c) (funext fun c' => ?_)
  unfold yL
  have e2 := ld2 (α := Elt Ideal) (e := .f32) (m := 1024) (n := 1024) (k := 512) (l := 1024) b.x2 o 0 i3 r c' (by omega) (by omega)
  have e0 := fun k : Fin 512 => ld2 (α := Elt Ideal) (e := .bf16) (m := 1024) (n := 512) (k := 512) (l := 512) b.x0 o 0 i1 r k (by omega) (by omega)
  have e1 := fun k : Fin 512 => ld2 (α := Elt Ideal) (e := .bf16) (m := 1024) (n := 512) (k := 512) (l := 512) b.x1 o 0 i2 r k (by omega) (by omega)
  have z : ∀ {n : Nat} (k : Fin n) (h : 0 + k.val < n), (⟨0 + k.val, h⟩ : Fin n) = k := fun k h => Fin.ext (by dsimp only; omega)
  simp only [z] at e0 e1 e2
  refine congrArg₂ (· + ·) (congrArg (al * ·) e2) (congrArg₂ (· + ·) ?_ ?_)
  · exact Finset.sum_congr rfl fun k _ => congrArg (· * _) (e0 k)
  · exact Finset.sum_congr rfl fun k _ => congrArg (· * _) (e1 k)

theorem u_apply {sig : RefSig} {κ : Kind} {sp : Space} {a7 : Memref sig κ sp S1024x5632 .bf16} (h7 : a7.IsWhole)
    (o : Nat) (ho : o + 256 ≤ 5632) (H : FVec Ideal S1024x1024 .bf16) (hH : ∀ r k : Fin 1024, H (ix2 r k) = xL b r k) (i2) (r : Fin 1024) (c : Fin 256) :
    k0_pay19 H (View.readAt (Elt Ideal) a7.view (Rect.unit (s := S1024x5632) ![0, o] S1024x256.size i2).toLoadRect (h7.unread b.x6)) (ix2 r c)
      = uL b r ⟨o + c.val, by omega⟩ := by
  rw [rd, up_apply]
  refine Finset.sum_congr rfl fun k _ => congrArg₂ _ (hH r k) ?_
  refine (ld2 (α := Elt Ideal) (e := .bf16) (m := 1024) (n := 5632) (k := 1024) (l := 256) b.x6 0 o i2 k c (by omega) (by omega)).trans ?_
  refine congrArg b.x6 ?_
  congr 1; exact Fin.ext (by dsimp only; omega)

theorem row_apply {n : Nat} {sig : RefSig} {κ : Kind} {sp : Space} {a : Memref sig κ sp (⟨2, ![n, 5632]⟩ : Shape) .f32} (h : a.IsWhole)
    (X : Vec Ideal (⟨2, ![n, 5632]⟩ : Shape) .f32) (q o : Nat) (hq : q < n) (ho : o + 256 ≤ 5632) (i) (c : Fin 256) :
    View.readAt (Elt Ideal) a.view (Rect.unit (s := (⟨2, ![n, 5632]⟩ : Shape)) ![q, o] S1x256.size i).toLoadRect (h.unread X) (ix2 (0 : Fin 1) c)
      = X (ix2 ⟨q, hq⟩ ⟨o + c.val, by omega⟩) := by
  rw [rd]
  refine (ld2 (α := Elt Ideal) (e := .f32) (m := n) (n := 5632) (k := 1) (l := 256) X q o i 0 c (by show q + 0 < n; omega) (by omega)).trans ?_
  rfl

/-- A column group's convolution, its rows those of the scratch. -/
theorem he_apply {sig : RefSig} {κ : Kind} {sp : Space} {a7 : Memref sig κ sp S1024x5632 .bf16} (h7 : a7.IsWhole)
    (v : View sig κ sp S1032x256 .f32)
    (o : Nat) (ho : o + 256 ≤ 5632) (H : FVec Ideal S1024x1024 .bf16) (hH : ∀ r k : Fin 1024, H (ix2 r k) = xL b r k)
    (p : Vec Ideal S8x256 .f32) (hp : ∀ (r : Fin 8) (c : Fin 256), p (ix2 r c) = P r ⟨o + c.val, by omega⟩) (L : List (View.Piece (Elt Ideal) S1032x256 .f32)) (i1 i2 i3 i4) (r : Fin 1032) (c : Fin 256) :
    v.readCov (⟨Rect.unit (s := S1032x256) ![8, 0] S1024x256.size i1,
          k0_pay19 H (View.readAt (Elt Ideal) a7.view (Rect.unit (s := S1024x5632) ![0, o] S1024x256.size i2).toLoadRect (h7.unread b.x6))⟩
        :: ⟨Rect.unit (s := S1032x256) ![0, 0] S8x256.size i3, k0_pay14 p⟩ :: L)
      (Rect.unit (s := S1032x256) ![0, 0] S1032x256.size i4).toLoadRect (ix2 r c) = heL b P r.val ⟨o + c.val, by omega⟩ := by
  refine (read_he v _ _ L i1 i3 i4 r c).trans ?_
  unfold heL
  by_cases h : r.val < 8
  · rw [dif_pos h]
    refine (he3_lt _ _ r c h).trans (Eq.trans ?_ (hp ⟨r.val, h⟩ c))
    have e : ∀ (r : Fin 8) (c : Fin 256), k0_pay14 p (ix2 r c) = p (ix2 r c) := fun r c => by pointwise [k0_pay14]
    exact e _ _
  · rw [dif_neg h]
    refine (he3_ge _ _ r c h).trans ?_
    exact u_apply b h7 o ho H hH i2 _ c

theorem act_key {sig : RefSig} {κ : Kind} {sp : Space} {a7 : Memref sig κ sp S1024x5632 .bf16} (h7 : a7.IsWhole)
    {a8 : Memref sig κ sp S3x5632 .f32} (h8 : a8.IsWhole) {a9 : Memref sig κ sp S1x5632 .f32} (h9 : a9.IsWhole)
    (v : View sig κ sp S1032x256 .f32)
    (o o' : Nat) (ho : o + 256 ≤ 2816) (ho' : o' = 2816 + o)
    (H : FVec Ideal S1024x1024 .bf16) (hH : ∀ r k : Fin 1024, H (ix2 r k) = xL b r k)
    (p : Vec Ideal S8x256 .f32) (hp : ∀ (r : Fin 8) (c : Fin 256), p (ix2 r c) = P r ⟨o + c.val, by omega⟩)
    (p' : Vec Ideal S8x256 .f32) (hp' : ∀ (r : Fin 8) (c : Fin 256), p' (ix2 r c) = P r ⟨o' + c.val, by omega⟩)
    (L L' : List (View.Piece (Elt Ideal) S1032x256 .f32)) (i1 i2 i3 i4 i5 i6 i7 i8 i1' i2' i3' i4' i5' i6' i7' i8' inb) (x : S1024x256.Idx) :
    k0_pay21 (k0_pay17
        (v.readCov (⟨Rect.unit (s := S1032x256) ![8, 0] S1024x256.size i1,
            k0_pay19 H (View.readAt (Elt Ideal) a7.view (Rect.unit (s := S1024x5632) ![0, o] S1024x256.size i2).toLoadRect (h7.unread b.x6))⟩
          :: ⟨Rect.unit (s := S1032x256) ![0, 0] S8x256.size i3, k0_pay14 p⟩ :: L) (Rect.unit (s := S1032x256) ![0, 0] S1032x256.size i4).toLoadRect)
        (View.readAt (Elt Ideal) a9.view (Rect.unit (s := S1x5632) ![0, o] S1x256.size i5).toLoadRect (h9.unread b.x8))
        (View.readAt (Elt Ideal) a8.view (Rect.unit (s := S3x5632) ![2, o] S1x256.size i6).toLoadRect (h8.unread b.x7))
        (View.readAt (Elt Ideal) a8.view (Rect.unit (s := S3x5632) ![1, o] S1x256.size i7).toLoadRect (h8.unread b.x7))
        (View.readAt (Elt Ideal) a8.view (Rect.unit (s := S3x5632) ![0, o] S1x256.size i8).toLoadRect (h8.unread b.x7)))
      (v.readCov (⟨Rect.unit (s := S1032x256) ![8, 0] S1024x256.size i1',
            k0_pay19 H (View.readAt (Elt Ideal) a7.view (Rect.unit (s := S1024x5632) ![0, o'] S1024x256.size i2').toLoadRect (h7.unread b.x6))⟩
          :: ⟨Rect.unit (s := S1032x256) ![0, 0] S8x256.size i3', k0_pay14 p'⟩ :: L') (Rect.unit (s := S1032x256) ![0, 0] S1032x256.size i4').toLoadRect)
      (View.readAt (Elt Ideal) a9.view (Rect.unit (s := S1x5632) ![0, o'] S1x256.size i5').toLoadRect (h9.unread b.x8))
      (View.readAt (Elt Ideal) a8.view (Rect.unit (s := S3x5632) ![2, o'] S1x256.size i6').toLoadRect (h8.unread b.x7))
      (View.readAt (Elt Ideal) a8.view (Rect.unit (s := S3x5632) ![1, o'] S1x256.size i7').toLoadRect (h8.unread b.x7))
      (View.readAt (Elt Ideal) a8.view (Rect.unit (s := S3x5632) ![0, o'] S1x256.size i8').toLoadRect (h8.unread b.x7)) x
      = (fun y : S1024x2816.Idx => aL b P (y 0) (y 1)) ((Rect.unit (s := S1024x2816) ![0, o] S1024x256.size inb).emb x) := by
  obtain ⟨r, c, rfl⟩ : ∃ (r : Fin 1024) (c : Fin 256), x = ix2 r c := ⟨x 0, x 1, eq_ix2 x⟩
  rw [emb2 (m := 1024) (n := 2816) (k := 1024) (l := 256) 0 o inb r c (by omega) (by omega)]
  rw [gate_apply, conv_apply]
  rw [he_apply b P h7 v o (by omega) H hH p hp, he_apply b P h7 v o (by omega) H hH p hp, he_apply b P h7 v o (by omega) H hH p hp,
    he_apply b P h7 v o' (by omega) H hH p' hp', he_apply b P h7 v o' (by omega) H hH p' hp', he_apply b P h7 v o' (by omega) H hH p' hp']
  rw [row_apply (n := 1) h9 b.x8 0 o (by decide) (by omega), row_apply (n := 3) h8 b.x7 2 o (by decide) (by omega), row_apply (n := 3) h8 b.x7 1 o (by decide) (by omega),
    row_apply (n := 3) h8 b.x7 0 o (by decide) (by omega), row_apply (n := 1) h9 b.x8 0 o' (by decide) (by omega), row_apply (n := 3) h8 b.x7 2 o' (by decide) (by omega),
    row_apply (n := 3) h8 b.x7 1 o' (by decide) (by omega), row_apply (n := 3) h8 b.x7 0 o' (by decide) (by omega)]
  subst ho'
  show _ = aL b P ⟨0 + r.val, by omega⟩ ⟨o + c.val, by omega⟩
  have er : (⟨0 + r.val, by omega⟩ : Fin 1024) = r := Fin.ext (by dsimp only; omega)
  have ec : (⟨2816 + (o + c.val), by omega⟩ : Fin 5632) = ⟨2816 + o + c.val, by omega⟩ := Fin.ext (by dsimp only; omega)
  rw [er]
  unfold aL
  rw [ec]
  rfl

theorem tail_key {sig : RefSig} {κ : Kind} {sp : Space} {a7 : Memref sig κ sp S1024x5632 .bf16} (h7 : a7.IsWhole)
    (v : View sig κ sp S1032x256 .f32)
    (o : Nat) (ho : o + 256 ≤ 5632) (H : FVec Ideal S1024x1024 .bf16) (hH : ∀ r k : Fin 1024, H (ix2 r k) = xL b r k)
    (p : Vec Ideal S8x256 .f32) (L : List (View.Piece (Elt Ideal) S1032x256 .f32)) (i1 i2 i3 i4 inb) (x : S8x256.Idx) :
    k0_pay14 (v.readCov (⟨Rect.unit (s := S1032x256) ![8, 0] S1024x256.size i1,
          k0_pay19 H (View.readAt (Elt Ideal) a7.view (Rect.unit (s := S1024x5632) ![0, o] S1024x256.size i2).toLoadRect (h7.unread b.x6))⟩
        :: ⟨Rect.unit (s := S1032x256) ![0, 0] S8x256.size i3, p⟩ :: L)
      (Rect.unit (s := S1032x256) ![1024, 0] S8x256.size i4).toLoadRect) x
      = (fun y : S8x5632.Idx => uL b ⟨(1016 + (y 0).val) % 1024, Nat.mod_lt _ (by decide)⟩ (y 1)) ((Rect.unit (s := S8x5632) ![0, o] S8x256.size inb).emb x) := by
  obtain ⟨r, c, rfl⟩ : ∃ (r : Fin 8) (c : Fin 256), x = ix2 r c := ⟨x 0, x 1, eq_ix2 x⟩
  rw [emb2 (m := 8) (n := 5632) (k := 8) (l := 256) 0 o inb r c (by omega) (by omega)]
  have e : ∀ (p : Vec Ideal S8x256 .f32) (r : Fin 8) (c : Fin 256), k0_pay14 p (ix2 r c) = p (ix2 r c) := fun p r c => by pointwise [k0_pay14]
  rw [e, read_tail, u_apply b h7 o ho H hH]
  show _ = uL b ⟨(1016 + (0 + r.val)) % 1024, _⟩ ⟨o + c.val, _⟩
  congr 1
  exact Fin.ext (by dsimp only; omega)

theorem out_key {sig : RefSig} {κ : Kind} {sp : Space} {a10 : Memref sig κ sp S2816x1024 .bf16} (h10 : a10.IsWhole)
    {a11 a12 : Memref sig κ sp S1x1024 .f32} (h11 : a11.IsWhole) (h12 : a12.IsWhole)
    (v : View sig κ sp S1024x2816 .bf16) (v' : View sig κ sp S1024x1024 .f32)
    (L : List (View.Piece (Elt Ideal) S1024x2816 .bf16)) (hL : ∀ y, View.canon L y = (fun y : S1024x2816.Idx => aL b P (y 0) (y 1)) y)
    (L' : List (View.Piece (Elt Ideal) S1024x1024 .f32)) (hL' : ∀ y, View.canon L' y = (fun y : S1024x1024.Idx => xL b (y 0) (y 1)) y)
    (o : Nat) (ho : o + 512 ≤ 1024) (i1 i2 i3 i4 i5 inb) (x : S512x1024.Idx) :
    k0_pay125 (v.readCov L (Rect.unit (s := S1024x2816) ![o, 0] S512x2816.size i1).toLoadRect)
      (View.readAt (Elt Ideal) a10.view (Rect.unit (s := S2816x1024) ![0, 0] S2816x1024.size i2).toLoadRect (h10.unread b.x9))
      (v'.readCov L' (Rect.unit (s := S1024x1024) ![o, 0] S512x1024.size i3).toLoadRect)
      (View.readAt (Elt Ideal) a11.view (Rect.unit (s := S1x1024) ![0, 0] S1x1024.size i4).toLoadRect (h11.unread b.x10))
      (View.readAt (Elt Ideal) a12.view (Rect.unit (s := S1x1024) ![0, 0] S1x1024.size i5).toLoadRect (h12.unread b.x11)) x
      = (fun y : S1024x1024.Idx => oL b P (y 0) (y 1)) ((Rect.unit (s := S1024x1024) ![o, 0] S512x1024.size inb).emb x) := by
  obtain ⟨r, c, rfl⟩ : ∃ (r : Fin 512) (c : Fin 1024), x = ix2 r c := ⟨x 0, x 1, eq_ix2 x⟩
  rw [emb2 (m := 1024) (n := 1024) (k := 512) (l := 1024) o 0 inb r c (by omega) (by omega)]
  simp only [rd]
  rw [ldw (α := Elt Ideal) (e := .bf16) (m := 2816) (n := 1024) b.x9 i2, ldw (α := Elt Ideal) (e := .f32) (m := 1) (n := 1024) b.x10 i4, ldw (α := Elt Ideal) (e := .f32) (m := 1) (n := 1024) b.x11 i5]
  rw [View.readCov_eq_canon', View.readCov_eq_canon']
  refine (out_apply _ _ _ _ _ r c).trans ?_
  have z : ∀ {n : Nat} (k : Fin n) (h : 0 + k.val < n), (⟨0 + k.val, h⟩ : Fin n) = k := fun k h => Fin.ext (by dsimp only; omega)
  show _ = oL b P ⟨o + r.val, by omega⟩ ⟨0 + c.val, by omega⟩
  rw [z]
  unfold oL
  refine congrArg (fun f => ln f _ _ c) (funext fun c' => ?_)
  have ex : View.canon L' ((Rect.unit (s := S1024x1024) ![o, 0] S512x1024.size i3).toLoadRect.idx (ix2 r c')) = xL b ⟨o + r.val, by omega⟩ c' := by
    refine (hL' _).trans ((congrArg (fun y : S1024x1024.Idx => xL b (y 0) (y 1)) (emb2 (m := 1024) (n := 1024) (k := 512) (l := 1024) o 0 i3 r c' (by omega) (by omega))).trans ?_)
    show xL b ⟨o + r.val, by omega⟩ ⟨0 + c'.val, by omega⟩ = _
    rw [z]
  have ea : ∀ j : Fin 2816, View.canon L ((Rect.unit (s := S1024x2816) ![o, 0] S512x2816.size i1).toLoadRect.idx (ix2 r j)) = aL b P ⟨o + r.val, by omega⟩ j := fun j => by
    refine (hL _).trans ((congrArg (fun y : S1024x2816.Idx => aL b P (y 0) (y 1)) (emb2 (m := 1024) (n := 2816) (k := 512) (l := 2816) o 0 i1 r j (by omega) (by omega))).trans ?_)
    show aL b P ⟨o + r.val, by omega⟩ ⟨0 + j.val, by omega⟩ = _
    rw [z]
  exact congrArg₂ (· + ·) (congrArg (al * ·) ex) (Finset.sum_congr rfl fun j _ => congrArg (· * _) (ea j))

end Cert.FfnIdeal
end
-- ==== Proof.FfnCase.lean ====
/-
  The output projection and the feed-forward part, over the exact numbers: a grid point's two cases, the first tile of a sequence and a later one.
-/
module

public import proofs.«01_k».proof.Proof.FfnBody

@[expose] public section

set_option maxRecDepth 16384

noncomputable section

namespace Cert.FfnIdeal

open Cert.FfnIdeal.Gen
open Idealize.ShloMosaic Idealize.ShloMosaic.TcCoe
open Ffn

theorem h_key (b : In) {sig : RefSig} {κ : Kind} {sp : Space} (v : View sig κ sp S1024x1024 .f32) (L : List (View.Piece (Elt Ideal) S1024x1024 .f32))
    (hL : ∀ y, View.canon L y = (fun y : S1024x1024.Idx => xL b (y 0) (y 1)) y) (i) (r k : Fin 1024) :
    k0_pay13 (v.readCov L (Rect.unit (s := S1024x1024) ![0, 0] S1024x1024.size i).toLoadRect) (ix2 r k) = xL b r k := by
  rw [View.readCov_eq_canon']
  refine (hL _).trans ((congrArg (fun y : S1024x1024.Idx => xL b (y 0) (y 1)) (emb2 (m := 1024) (n := 1024) (k := 1024) (l := 1024) 0 0 i r k (by omega) (by omega))).trans ?_)
  have z : ∀ (k : Fin 1024) (h : 0 + k.val < 1024), (⟨0 + k.val, h⟩ : Fin 1024) = k := fun k h => Fin.ext (by dsimp only; omega)
  show xL b ⟨0 + r.val, _⟩ ⟨0 + k.val, _⟩ = _
  rw [z, z]

/-- What a buffer holds where its later stores cover it. -/
theorem canon_take {S : Shape} {e : EltTy} (n : Nat) (G : S.Idx → Elt Ideal e) (L : List (View.Piece (Elt Ideal) S e))
    (h : ∀ p ∈ L.take n, ∀ x, p.2 x = G (p.1.emb x)) (y : S.Idx) (hy : ∃ p ∈ L.take n, y ∈ p.1.set) : View.canon L y = G y := by
  induction L generalizing n with
  | nil => obtain ⟨p, hp, _⟩ := hy; simp at hp
  | cons p L ih =>
    cases n with
    | zero => obtain ⟨p, hp, _⟩ := hy; simp at hp
    | succ n =>
      rw [List.take_succ_cons] at h hy
      by_cases hm : y ∈ p.1.set
      · obtain ⟨x, rfl⟩ : ∃ x, p.1.emb x = y := p.1.exists_idx_of_mem hm
        exact (View.canon_cons_emb p.1 p.2 L x).trans (h p (List.mem_cons_self) x)
      · rw [View.canon_cons_of_not_mem p L hm]
        refine ih n (fun q hq => h q (List.mem_cons_of_mem _ hq)) ?_
        obtain ⟨q, hq, hyq⟩ := hy
        rcases List.mem_cons.mp hq with rfl | hq
        · exact absurd hyq hm
        · exact ⟨q, hq, hyq⟩

/-- The rows kept from the tile before, where there is one. -/
theorem prev_keep {sig : RefSig} {κ : Kind} {sp : Space} {a : Memref sig κ sp S8x5632 .f32} (h : a.IsWhole) (X : Vec Ideal S8x5632 .f32)
    (o : Nat) (ho : o + 256 ≤ 5632) (i) (r : Fin 8) (c : Fin 256) :
    View.readAt (Elt Ideal) a.view (Rect.unit (s := S8x5632) ![0, o] S8x256.size i).toLoadRect (h.unread X) (ix2 r c) = X (ix2 r ⟨o + c.val, by omega⟩) := by
  rw [rd]
  refine (ld2 (α := Elt Ideal) (e := .f32) (m := 8) (n := 5632) (k := 8) (l := 256) X 0 o i r c (by omega) (by omega)).trans ?_
  refine congrArg X ?_
  congr 1; exact Fin.ext (by dsimp only; omega)

/-- The rows kept are nought at first, -/
theorem prev_base {sig : RefSig} {κ : Kind} {sp : Space} (v : View sig κ sp S8x5632 .f32) (i) (j : EReal) (B : LoadRect S8x5632) (x) :
    View.readCov (Val := Elt Ideal) v [⟨Rect.unit (s := S8x5632) ![0, 0] S8x5632.size i, k0_pay2 (F := Ideal)⟩] B x = j → (0 : EReal) = j := by
  rw [View.readCov_eq_canon']
  intro h
  refine Eq.trans ?_ h
  obtain ⟨r, k, e⟩ : ∃ (r : Fin 8) (k : Fin 5632), B.idx x = ix2 r k := ⟨B.idx x 0, B.idx x 1, eq_ix2 _⟩
  refine Eq.symm ((congrArg (View.canon _) e).trans ?_)
  have e' := View.canon_cons_emb (Val := Elt Ideal) (e := .f32) (Rect.unit (s := S8x5632) ![0, 0] S8x5632.size i) (k0_pay2 (F := Ideal)) [] (ix2 r k)
  rw [emb2 (m := 8) (n := 5632) (k := 8) (l := 5632) 0 0 i r k (by omega) (by omega)] at e'
  have er : (⟨0 + r.val, by omega⟩ : Fin 8) = r := Fin.ext (by dsimp only; omega)
  have ek : (⟨0 + k.val, by omega⟩ : Fin 5632) = k := Fin.ext (by dsimp only; omega)
  rw [er, ek] at e'
  refine e'.trans ?_
  pointwise [k0_pay2]

theorem prev_zero {sig : RefSig} {κ : Kind} {sp : Space} (v : View sig κ sp S8x5632 .f32) (i) (B : LoadRect S8x5632) (x) :
    View.readCov (Val := Elt Ideal) v [⟨Rect.unit (s := S8x5632) ![0, 0] S8x5632.size i, k0_pay2 (F := Ideal)⟩] B x = (0 : EReal) :=
  (prev_base v i _ B x rfl).symm

/-- and stay so in the columns not written since. -/
theorem prev_skip {sig : RefSig} {κ : Kind} {sp : Space} (v : View sig κ sp S8x5632 .f32) (q o : Nat) (h : q + 256 ≤ o ∨ o + 256 ≤ q) (i i') (w : Vec Ideal S8x256 .f32)
    (L : List (View.Piece (Elt Ideal) S8x5632 .f32)) (r : Fin 8) (c : Fin 256)
    (hL : View.readCov (Val := Elt Ideal) v L (Rect.unit (s := S8x5632) ![0, o] S8x256.size i).toLoadRect (ix2 r c) = (0 : EReal)) :
    View.readCov (Val := Elt Ideal) v (⟨Rect.unit (s := S8x5632) ![0, q] S8x256.size i', w⟩ :: L) (Rect.unit (s := S8x5632) ![0, o] S8x256.size i).toLoadRect (ix2 r c) = (0 : EReal) := by
  rw [View.readCov_eq_canon'] at hL ⊢
  refine Eq.trans (View.canon_cons_of_not_mem _ _ ?_) hL
  intro hm
  have hm' : (Rect.unit (s := S8x5632) ![0, o] S8x256.size i).emb (ix2 r c) ∈ (Rect.unit (s := S8x5632) ![0, q] S8x256.size i').set := hm
  have ho : o + 256 ≤ 5632 := i 1
  rw [emb2 (m := 8) (n := 5632) (k := 8) (l := 256) 0 o i r c (by omega) (by omega)] at hm'
  have := (Rect.mem_set_unit.mp hm') 1
  have h1 : q ≤ o + c.val := this.1
  have h2 : o + c.val < q + 256 := this.2
  omega

/-! ### Case A -/

theorem xA  (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S3x5632 .f32) (harg8 : arg8.IsWhole) (arg9 : Memref sig .tc .vmem S1x5632 .f32) (harg9 : arg9.IsWhole) (arg10 : Memref sig .tc .vmem S2816x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1024x1024 .f32) (harg13 : arg13.IsWhole) (arg14 : Memref sig .tc .vmem S1032x256 .f32) (harg14 : arg14.IsWhole) (arg15 : Memref sig .tc .vmem S8x5632 .f32) (harg15 : arg15.IsWhole) (arg16 : Memref sig .tc .vmem S1024x2816 .bf16) (harg16 : arg16.IsWhole) (arg17 : Memref sig .tc .vmem S1024x1024 .f32) (harg17 : arg17.IsWhole) (hc0 : cond0_0 i) (x0 : Vec Ideal S1024x512 .bf16) (x1 : Vec Ideal S1024x512 .bf16) (x2 : Vec Ideal S1024x1024 .f32) (x3 : Vec Ideal S1024x1024 .bf16) (x4 : Vec Ideal S1x1024 .f32) (x5 : Vec Ideal S1x1024 .f32) (x6 : Vec Ideal S1024x5632 .bf16) (x7 : Vec Ideal S3x5632 .f32) (x8 : Vec Ideal S1x5632 .f32) (x9 : Vec Ideal S2816x1024 .bf16) (x10 : Vec Ideal S1x1024 .f32) (x11 : Vec Ideal S1x1024 .f32) :
    ∀ y, View.canon (kernelRun0_A.sl.HS3_2 (F := Ideal) c arg1 harg1 arg2 harg2 arg3 harg3 arg4 harg4 arg5 harg5 arg6 harg6 x0 x1 x2 x3 x4 x5) y = (fun y : S1024x1024.Idx => xL ⟨x0, x1, x2, x3, x4, x5, x6, x7, x8, x9, x10, x11⟩ (y 0) (y 1)) y := by
  intro y
  refine View.canon_apply_of_pieces (fun y : S1024x1024.Idx => xL ⟨x0, x1, x2, x3, x4, x5, x6, x7, x8, x9, x10, x11⟩ (y 0) (y 1)) _ ?_ y
    (View.cover_of_tiledL (kernelRun0_A.sl.HS3_2 (F := Ideal) c arg1 harg1 arg2 harg2 arg3 harg3 arg4 harg4 arg5 harg5 arg6 harg6 x0 x1 x2 x3 x4 x5) S512x1024.size (by sl_kernel_rfl) y)
  intro p hp
  simp only [kernelRun0_A.sl.HS3_2, List.mem_cons, List.not_mem_nil, or_false] at hp
  rcases hp with rfl | rfl
  · intro x; exact x_key ⟨x0, x1, x2, x3, x4, x5, x6, x7, x8, x9, x10, x11⟩ harg1 harg2 harg3 harg4 harg5 harg6 512 (by decide) _ _ _ _ _ _ (by decide) x
  · intro x; exact x_key ⟨x0, x1, x2, x3, x4, x5, x6, x7, x8, x9, x10, x11⟩ harg1 harg2 harg3 harg4 harg5 harg6 0 (by decide) _ _ _ _ _ _ (by decide) x

theorem actA  (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S3x5632 .f32) (harg8 : arg8.IsWhole) (arg9 : Memref sig .tc .vmem S1x5632 .f32) (harg9 : arg9.IsWhole) (arg10 : Memref sig .tc .vmem S2816x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1024x1024 .f32) (harg13 : arg13.IsWhole) (arg14 : Memref sig .tc .vmem S1032x256 .f32) (harg14 : arg14.IsWhole) (arg15 : Memref sig .tc .vmem S8x5632 .f32) (harg15 : arg15.IsWhole) (arg16 : Memref sig .tc .vmem S1024x2816 .bf16) (harg16 : arg16.IsWhole) (arg17 : Memref sig .tc .vmem S1024x1024 .f32) (harg17 : arg17.IsWhole) (hc0 : cond0_0 i) (x0 : Vec Ideal S1024x512 .bf16) (x1 : Vec Ideal S1024x512 .bf16) (x2 : Vec Ideal S1024x1024 .f32) (x3 : Vec Ideal S1024x1024 .bf16) (x4 : Vec Ideal S1x1024 .f32) (x5 : Vec Ideal S1x1024 .f32) (x6 : Vec Ideal S1024x5632 .bf16) (x7 : Vec Ideal S3x5632 .f32) (x8 : Vec Ideal S1x5632 .f32) (x9 : Vec Ideal S2816x1024 .bf16) (x10 : Vec Ideal S1x1024 .f32) (x11 : Vec Ideal S1x1024 .f32) :
    ∀ y, View.canon (kernelRun0_A.sl.HS2_11 (F := Ideal) c arg1 harg1 arg2 harg2 arg3 harg3 arg4 harg4 arg5 harg5 arg6 harg6 arg7 harg7 arg8 harg8 arg9 harg9 arg14 arg15 arg17 x0 x1 x2 x3 x4 x5 x6 x7 x8) y = (fun y : S1024x2816.Idx => aL ⟨x0, x1, x2, x3, x4, x5, x6, x7, x8, x9, x10, x11⟩ (fun _ _ => 0) (y 0) (y 1)) y := by
  intro y
  refine View.canon_apply_of_pieces (fun y : S1024x2816.Idx => aL ⟨x0, x1, x2, x3, x4, x5, x6, x7, x8, x9, x10, x11⟩ (fun _ _ => 0) (y 0) (y 1)) _ ?_ y
    (View.cover_of_tiledL (kernelRun0_A.sl.HS2_11 (F := Ideal) c arg1 harg1 arg2 harg2 arg3 harg3 arg4 harg4 arg5 harg5 arg6 harg6 arg7 harg7 arg8 harg8 arg9 harg9 arg14 arg15 arg17 x0 x1 x2 x3 x4 x5 x6 x7 x8) S1024x256.size (by sl_kernel_rfl) y)
  have hx := xA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11
  intro p hp
  simp only [kernelRun0_A.sl.HS2_11, List.mem_cons, List.not_mem_nil, or_false] at hp
  rcases hp with rfl | rfl | rfl | rfl | rfl | rfl | rfl | rfl | rfl | rfl | rfl
  · intro x
    exact act_key ⟨x0, x1, x2, x3, x4, x5, x6, x7, x8, x9, x10, x11⟩ (fun _ _ => 0) harg7 harg8 harg9 _ 2560 5376 (by decide) rfl _ (h_key _ _ _ hx _)
      _ (fun r c => (prev_skip _ 5120 2560 (by decide) _ _ _ _ r c (prev_skip _ 2304 2560 (by decide) _ _ _ _ r c (prev_skip _ 4864 2560 (by decide) _ _ _ _ r c (prev_skip _ 2048 2560 (by decide) _ _ _ _ r c (prev_skip _ 4608 2560 (by decide) _ _ _ _ r c (prev_skip _ 1792 2560 (by decide) _ _ _ _ r c (prev_skip _ 4352 2560 (by decide) _ _ _ _ r c (prev_skip _ 1536 2560 (by decide) _ _ _ _ r c (prev_skip _ 4096 2560 (by decide) _ _ _ _ r c (prev_skip _ 1280 2560 (by decide) _ _ _ _ r c (prev_skip _ 3840 2560 (by decide) _ _ _ _ r c (prev_skip _ 1024 2560 (by decide) _ _ _ _ r c (prev_skip _ 3584 2560 (by decide) _ _ _ _ r c (prev_skip _ 768 2560 (by decide) _ _ _ _ r c (prev_skip _ 3328 2560 (by decide) _ _ _ _ r c (prev_skip _ 512 2560 (by decide) _ _ _ _ r c (prev_skip _ 3072 2560 (by decide) _ _ _ _ r c (prev_skip _ 256 2560 (by decide) _ _ _ _ r c (prev_skip _ 2816 2560 (by decide) _ _ _ _ r c (prev_skip _ 0 2560 (by decide) _ _ _ _ r c (prev_zero _ _ _ _))))))))))))))))))))))
      _ (fun r c => (prev_skip _ 2560 5376 (by decide) _ _ _ _ r c (prev_skip _ 5120 5376 (by decide) _ _ _ _ r c (prev_skip _ 2304 5376 (by decide) _ _ _ _ r c (prev_skip _ 4864 5376 (by decide) _ _ _ _ r c (prev_skip _ 2048 5376 (by decide) _ _ _ _ r c (prev_skip _ 4608 5376 (by decide) _ _ _ _ r c (prev_skip _ 1792 5376 (by decide) _ _ _ _ r c (prev_skip _ 4352 5376 (by decide) _ _ _ _ r c (prev_skip _ 1536 5376 (by decide) _ _ _ _ r c (prev_skip _ 4096 5376 (by decide) _ _ _ _ r c (prev_skip _ 1280 5376 (by decide) _ _ _ _ r c (prev_skip _ 3840 5376 (by decide) _ _ _ _ r c (prev_skip _ 1024 5376 (by decide) _ _ _ _ r c (prev_skip _ 3584 5376 (by decide) _ _ _ _ r c (prev_skip _ 768 5376 (by decide) _ _ _ _ r c (prev_skip _ 3328 5376 (by decide) _ _ _ _ r c (prev_skip _ 512 5376 (by decide) _ _ _ _ r c (prev_skip _ 3072 5376 (by decide) _ _ _ _ r c (prev_skip _ 256 5376 (by decide) _ _ _ _ r c (prev_skip _ 2816 5376 (by decide) _ _ _ _ r c (prev_skip _ 0 5376 (by decide) _ _ _ _ r c (prev_zero _ _ _ _)))))))))))))))))))))))
      _ _ _ _ _ _ _ _ _ _ _ _ _ _ _ _ _ _ (by decide) x
  · intro x
    exact act_key ⟨x0, x1, x2, x3, x4, x5, x6, x7, x8, x9, x10, x11⟩ (fun _ _ => 0) harg7 harg8 harg9 _ 2304 5120 (by decide) rfl _ (h_key _ _ _ hx _)
      _ (fun r c => (prev_skip _ 4864 2304 (by decide) _ _ _ _ r c (prev_skip _ 2048 2304 (by decide) _ _ _ _ r c (prev_skip _ 4608 2304 (by decide) _ _ _ _ r c (prev_skip _ 1792 2304 (by decide) _ _ _ _ r c (prev_skip _ 4352 2304 (by decide) _ _ _ _ r c (prev_skip _ 1536 2304 (by decide) _ _ _ _ r c (prev_skip _ 4096 2304 (by decide) _ _ _ _ r c (prev_skip _ 1280 2304 (by decide) _ _ _ _ r c (prev_skip _ 3840 2304 (by decide) _ _ _ _ r c (prev_skip _ 1024 2304 (by decide) _ _ _ _ r c (prev_skip _ 3584 2304 (by decide) _ _ _ _ r c (prev_skip _ 768 2304 (by decide) _ _ _ _ r c (prev_skip _ 3328 2304 (by decide) _ _ _ _ r c (prev_skip _ 512 2304 (by decide) _ _ _ _ r c (prev_skip _ 3072 2304 (by decide) _ _ _ _ r c (prev_skip _ 256 2304 (by decide) _ _ _ _ r c (prev_skip _ 2816 2304 (by decide) _ _ _ _ r c (prev_skip _ 0 2304 (by decide) _ _ _ _ r c (prev_zero _ _ _ _))))))))))))))))))))
      _ (fun r c => (prev_skip _ 2304 5120 (by decide) _ _ _ _ r c (prev_skip _ 4864 5120 (by decide) _ _ _ _ r c (prev_skip _ 2048 5120 (by decide) _ _ _ _ r c (prev_skip _ 4608 5120 (by decide) _ _ _ _ r c (prev_skip _ 1792 5120 (by decide) _ _ _ _ r c (prev_skip _ 4352 5120 (by decide) _ _ _ _ r c (prev_skip _ 1536 5120 (by decide) _ _ _ _ r c (prev_skip _ 4096 5120 (by decide) _ _ _ _ r c (prev_skip _ 1280 5120 (by decide) _ _ _ _ r c (prev_skip _ 3840 5120 (by decide) _ _ _ _ r c (prev_skip _ 1024 5120 (by decide) _ _ _ _ r c (prev_skip _ 3584 5120 (by decide) _ _ _ _ r c (prev_skip _ 768 5120 (by decide) _ _ _ _ r c (prev_skip _ 3328 5120 (by decide) _ _ _ _ r c (prev_skip _ 512 5120 (by decide) _ _ _ _ r c (prev_skip _ 3072 5120 (by decide) _ _ _ _ r c (prev_skip _ 256 5120 (by decide) _ _ _ _ r c (prev_skip _ 2816 5120 (by decide) _ _ _ _ r c (prev_skip _ 0 5120 (by decide) _ _ _ _ r c (prev_zero _ _ _ _)))))))))))))))))))))
      _ _ _ _ _ _ _ _ _ _ _ _ _ _ _ _ _ _ (by decide) x
  · intro x
    exact act_key ⟨x0, x1, x2, x3, x4, x5, x6, x7, x8, x9, x10, x11⟩ (fun _ _ => 0) harg7 harg8 harg9 _ 2048 4864 (by decide) rfl _ (h_key _ _ _ hx _)
      _ (fun r c => (prev_skip _ 4608 2048 (by decide) _ _ _ _ r c (prev_skip _ 1792 2048 (by decide) _ _ _ _ r c (prev_skip _ 4352 2048 (by decide) _ _ _ _ r c (prev_skip _ 1536 2048 (by decide) _ _ _ _ r c (prev_skip _ 4096 2048 (by decide) _ _ _ _ r c (prev_skip _ 1280 2048 (by decide) _ _ _ _ r c (prev_skip _ 3840 2048 (by decide) _ _ _ _ r c (prev_skip _ 1024 2048 (by decide) _ _ _ _ r c (prev_skip _ 3584 2048 (by decide) _ _ _ _ r c (prev_skip _ 768 2048 (by decide) _ _ _ _ r c (prev_skip _ 3328 2048 (by decide) _ _ _ _ r c (prev_skip _ 512 2048 (by decide) _ _ _ _ r c (prev_skip _ 3072 2048 (by decide) _ _ _ _ r c (prev_skip _ 256 2048 (by decide) _ _ _ _ r c (prev_skip _ 2816 2048 (by decide) _ _ _ _ r c (prev_skip _ 0 2048 (by decide) _ _ _ _ r c (prev_zero _ _ _ _))))))))))))))))))
      _ (fun r c => (prev_skip _ 2048 4864 (by decide) _ _ _ _ r c (prev_skip _ 4608 4864 (by decide) _ _ _ _ r c (prev_skip _ 1792 4864 (by decide) _ _ _ _ r c (prev_skip _ 4352 4864 (by decide) _ _ _ _ r c (prev_skip _ 1536 4864 (by decide) _ _ _ _ r c (prev_skip _ 4096 4864 (by decide) _ _ _ _ r c (prev_skip _ 1280 4864 (by decide) _ _ _ _ r c (prev_skip _ 3840 4864 (by decide) _ _ _ _ r c (prev_skip _ 1024 4864 (by decide) _ _ _ _ r c (prev_skip _ 3584 4864 (by decide) _ _ _ _ r c (prev_skip _ 768 4864 (by decide) _ _ _ _ r c (prev_skip _ 3328 4864 (by decide) _ _ _ _ r c (prev_skip _ 512 4864 (by decide) _ _ _ _ r c (prev_skip _ 3072 4864 (by decide) _ _ _ _ r c (prev_skip _ 256 4864 (by decide) _ _ _ _ r c (prev_skip _ 2816 4864 (by decide) _ _ _ _ r c (prev_skip _ 0 4864 (by decide) _ _ _ _ r c (prev_zero _ _ _ _)))))))))))))))))))
      _ _ _ _ _ _ _ _ _ _ _ _ _ _ _ _ _ _ (by decide) x
  · intro x
    exact act_key ⟨x0, x1, x2, x3, x4, x5, x6, x7, x8, x9, x10, x11⟩ (fun _ _ => 0) harg7 harg8 harg9 _ 1792 4608 (by decide) rfl _ (h_key _ _ _ hx _)
      _ (fun r c => (prev_skip _ 4352 1792 (by decide) _ _ _ _ r c (prev_skip _ 1536 1792 (by decide) _ _ _ _ r c (prev_skip _ 4096 1792 (by decide) _ _ _ _ r c (prev_skip _ 1280 1792 (by decide) _ _ _ _ r c (prev_skip _ 3840 1792 (by decide) _ _ _ _ r c (prev_skip _ 1024 1792 (by decide) _ _ _ _ r c (prev_skip _ 3584 1792 (by decide) _ _ _ _ r c (prev_skip _ 768 1792 (by decide) _ _ _ _ r c (prev_skip _ 3328 1792 (by decide) _ _ _ _ r c (prev_skip _ 512 1792 (by decide) _ _ _ _ r c (prev_skip _ 3072 1792 (by decide) _ _ _ _ r c (prev_skip _ 256 1792 (by decide) _ _ _ _ r c (prev_skip _ 2816 1792 (by decide) _ _ _ _ r c (prev_skip _ 0 1792 (by decide) _ _ _ _ r c (prev_zero _ _ _ _))))))))))))))))
      _ (fun r c => (prev_skip _ 1792 4608 (by decide) _ _ _ _ r c (prev_skip _ 4352 4608 (by decide) _ _ _ _ r c (prev_skip _ 1536 4608 (by decide) _ _ _ _ r c (prev_skip _ 4096 4608 (by decide) _ _ _ _ r c (prev_skip _ 1280 4608 (by decide) _ _ _ _ r c (prev_skip _ 3840 4608 (by decide) _ _ _ _ r c (prev_skip _ 1024 4608 (by decide) _ _ _ _ r c (prev_skip _ 3584 4608 (by decide) _ _ _ _ r c (prev_skip _ 768 4608 (by decide) _ _ _ _ r c (prev_skip _ 3328 4608 (by decide) _ _ _ _ r c (prev_skip _ 512 4608 (by decide) _ _ _ _ r c (prev_skip _ 3072 4608 (by decide) _ _ _ _ r c (prev_skip _ 256 4608 (by decide) _ _ _ _ r c (prev_skip _ 2816 4608 (by decide) _ _ _ _ r c (prev_skip _ 0 4608 (by decide) _ _ _ _ r c (prev_zero _ _ _ _)))))))))))))))))
      _ _ _ _ _ _ _ _ _ _ _ _ _ _ _ _ _ _ (by decide) x
  · intro x
    exact act_key ⟨x0, x1, x2, x3, x4, x5, x6, x7, x8, x9, x10, x11⟩ (fun _ _ => 0) harg7 harg8 harg9 _ 1536 4352 (by decide) rfl _ (h_key _ _ _ hx _)
      _ (fun r c => (prev_skip _ 4096 1536 (by decide) _ _ _ _ r c (prev_skip _ 1280 1536 (by decide) _ _ _ _ r c (prev_skip _ 3840 1536 (by decide) _ _ _ _ r c (prev_skip _ 1024 1536 (by decide) _ _ _ _ r c (prev_skip _ 3584 1536 (by decide) _ _ _ _ r c (prev_skip _ 768 1536 (by decide) _ _ _ _ r c (prev_skip _ 3328 1536 (by decide) _ _ _ _ r c (prev_skip _ 512 1536 (by decide) _ _ _ _ r c (prev_skip _ 3072 1536 (by decide) _ _ _ _ r c (prev_skip _ 256 1536 (by decide) _ _ _ _ r c (prev_skip _ 2816 1536 (by decide) _ _ _ _ r c (prev_skip _ 0 1536 (by decide) _ _ _ _ r c (prev_zero _ _ _ _))))))))))))))
      _ (fun r c => (prev_skip _ 1536 4352 (by decide) _ _ _ _ r c (prev_skip _ 4096 4352 (by decide) _ _ _ _ r c (prev_skip _ 1280 4352 (by decide) _ _ _ _ r c (prev_skip _ 3840 4352 (by decide) _ _ _ _ r c (prev_skip _ 1024 4352 (by decide) _ _ _ _ r c (prev_skip _ 3584 4352 (by decide) _ _ _ _ r c (prev_skip _ 768 4352 (by decide) _ _ _ _ r c (prev_skip _ 3328 4352 (by decide) _ _ _ _ r c (prev_skip _ 512 4352 (by decide) _ _ _ _ r c (prev_skip _ 3072 4352 (by decide) _ _ _ _ r c (prev_skip _ 256 4352 (by decide) _ _ _ _ r c (prev_skip _ 2816 4352 (by decide) _ _ _ _ r c (prev_skip _ 0 4352 (by decide) _ _ _ _ r c (prev_zero _ _ _ _)))))))))))))))
      _ _ _ _ _ _ _ _ _ _ _ _ _ _ _ _ _ _ (by decide) x
  · intro x
    exact act_key ⟨x0, x1, x2, x3, x4, x5, x6, x7, x8, x9, x10, x11⟩ (fun _ _ => 0) harg7 harg8 harg9 _ 1280 4096 (by decide) rfl _ (h_key _ _ _ hx _)
      _ (fun r c => (prev_skip _ 3840 1280 (by decide) _ _ _ _ r c (prev_skip _ 1024 1280 (by decide) _ _ _ _ r c (prev_skip _ 3584 1280 (by decide) _ _ _ _ r c (prev_skip _ 768 1280 (by decide) _ _ _ _ r c (prev_skip _ 3328 1280 (by decide) _ _ _ _ r c (prev_skip _ 512 1280 (by decide) _ _ _ _ r c (prev_skip _ 3072 1280 (by decide) _ _ _ _ r c (prev_skip _ 256 1280 (by decide) _ _ _ _ r c (prev_skip _ 2816 1280 (by decide) _ _ _ _ r c (prev_skip _ 0 1280 (by decide) _ _ _ _ r c (prev_zero _ _ _ _))))))))))))
      _ (fun r c => (prev_skip _ 1280 4096 (by decide) _ _ _ _ r c (prev_skip _ 3840 4096 (by decide) _ _ _ _ r c (prev_skip _ 1024 4096 (by decide) _ _ _ _ r c (prev_skip _ 3584 4096 (by decide) _ _ _ _ r c (prev_skip _ 768 4096 (by decide) _ _ _ _ r c (prev_skip _ 3328 4096 (by decide) _ _ _ _ r c (prev_skip _ 512 4096 (by decide) _ _ _ _ r c (prev_skip _ 3072 4096 (by decide) _ _ _ _ r c (prev_skip _ 256 4096 (by decide) _ _ _ _ r c (prev_skip _ 2816 4096 (by decide) _ _ _ _ r c (prev_skip _ 0 4096 (by decide) _ _ _ _ r c (prev_zero _ _ _ _)))))))))))))
      _ _ _ _ _ _ _ _ _ _ _ _ _ _ _ _ _ _ (by decide) x
  · intro x
    exact act_key ⟨x0, x1, x2, x3, x4, x5, x6, x7, x8, x9, x10, x11⟩ (fun _ _ => 0) harg7 harg8 harg9 _ 1024 3840 (by decide) rfl _ (h_key _ _ _ hx _)
      _ (fun r c => (prev_skip _ 3584 1024 (by decide) _ _ _ _ r c (prev_skip _ 768 1024 (by decide) _ _ _ _ r c (prev_skip _ 3328 1024 (by decide) _ _ _ _ r c (prev_skip _ 512 1024 (by decide) _ _ _ _ r c (prev_skip _ 3072 1024 (by decide) _ _ _ _ r c (prev_skip _ 256 1024 (by decide) _ _ _ _ r c (prev_skip _ 2816 1024 (by decide) _ _ _ _ r c (prev_skip _ 0 1024 (by decide) _ _ _ _ r c (prev_zero _ _ _ _))))))))))
      _ (fun r c => (prev_skip _ 1024 3840 (by decide) _ _ _ _ r c (prev_skip _ 3584 3840 (by decide) _ _ _ _ r c (prev_skip _ 768 3840 (by decide) _ _ _ _ r c (prev_skip _ 3328 3840 (by decide) _ _ _ _ r c (prev_skip _ 512 3840 (by decide) _ _ _ _ r c (prev_skip _ 3072 3840 (by decide) _ _ _ _ r c (prev_skip _ 256 3840 (by decide) _ _ _ _ r c (prev_skip _ 2816 3840 (by decide) _ _ _ _ r c (prev_skip _ 0 3840 (by decide) _ _ _ _ r c (prev_zero _ _ _ _)))))))))))
      _ _ _ _ _ _ _ _ _ _ _ _ _ _ _ _ _ _ (by decide) x
  · intro x
    exact act_key ⟨x0, x1, x2, x3, x4, x5, x6, x7, x8, x9, x10, x11⟩ (fun _ _ => 0) harg7 harg8 harg9 _ 768 3584 (by decide) rfl _ (h_key _ _ _ hx _)
      _ (fun r c => (prev_skip _ 3328 768 (by decide) _ _ _ _ r c (prev_skip _ 512 768 (by decide) _ _ _ _ r c (prev_skip _ 3072 768 (by decide) _ _ _ _ r c (prev_skip _ 256 768 (by decide) _ _ _ _ r c (prev_skip _ 2816 768 (by decide) _ _ _ _ r c (prev_skip _ 0 768 (by decide) _ _ _ _ r c (prev_zero _ _ _ _))))))))
      _ (fun r c => (prev_skip _ 768 3584 (by decide) _ _ _ _ r c (prev_skip _ 3328 3584 (by decide) _ _ _ _ r c (prev_skip _ 512 3584 (by decide) _ _ _ _ r c (prev_skip _ 3072 3584 (by decide) _ _ _ _ r c (prev_skip _ 256 3584 (by decide) _ _ _ _ r c (prev_skip _ 2816 3584 (by decide) _ _ _ _ r c (prev_skip _ 0 3584 (by decide) _ _ _ _ r c (prev_zero _ _ _ _)))))))))
      _ _ _ _ _ _ _ _ _ _ _ _ _ _ _ _ _ _ (by decide) x
  · intro x
    exact act_key ⟨x0, x1, x2, x3, x4, x5, x6, x7, x8, x9, x10, x11⟩ (fun _ _ => 0) harg7 harg8 harg9 _ 512 3328 (by decide) rfl _ (h_key _ _ _ hx _)
      _ (fun r c => (prev_skip _ 3072 512 (by decide) _ _ _ _ r c (prev_skip _ 256 512 (by decide) _ _ _ _ r c (prev_skip _ 2816 512 (by decide) _ _ _ _ r c (prev_skip _ 0 512 (by decide) _ _ _ _ r c (prev_zero _ _ _ _))))))
      _ (fun r c => (prev_skip _ 512 3328 (by decide) _ _ _ _ r c (prev_skip _ 3072 3328 (by decide) _ _ _ _ r c (prev_skip _ 256 3328 (by decide) _ _ _ _ r c (prev_skip _ 2816 3328 (by decide) _ _ _ _ r c (prev_skip _ 0 3328 (by decide) _ _ _ _ r c (prev_zero _ _ _ _)))))))
      _ _ _ _ _ _ _ _ _ _ _ _ _ _ _ _ _ _ (by decide) x
  · intro x
    exact act_key ⟨x0, x1, x2, x3, x4, x5, x6, x7, x8, x9, x10, x11⟩ (fun _ _ => 0) harg7 harg8 harg9 _ 256 3072 (by decide) rfl _ (h_key _ _ _ hx _)
      _ (fun r c => (prev_skip _ 2816 256 (by decide) _ _ _ _ r c (prev_skip _ 0 256 (by decide) _ _ _ _ r c (prev_zero _ _ _ _))))
      _ (fun r c => (prev_skip _ 256 3072 (by decide) _ _ _ _ r c (prev_skip _ 2816 3072 (by decide) _ _ _ _ r c (prev_skip _ 0 3072 (by decide) _ _ _ _ r c (prev_zero _ _ _ _)))))
      _ _ _ _ _ _ _ _ _ _ _ _ _ _ _ _ _ _ (by decide) x
  · intro x
    exact act_key ⟨x0, x1, x2, x3, x4, x5, x6, x7, x8, x9, x10, x11⟩ (fun _ _ => 0) harg7 harg8 harg9 _ 0 2816 (by decide) rfl _ (h_key _ _ _ hx _)
      _ (fun r c => (prev_zero _ _ _ _))
      _ (fun r c => (prev_skip _ 0 2816 (by decide) _ _ _ _ r c (prev_zero _ _ _ _)))
      _ _ _ _ _ _ _ _ _ _ _ _ _ _ _ _ _ _ (by decide) x

set_option maxHeartbeats 4000000 in
/-- What the point leaves in the rows kept: the tile's last eight projected. -/
theorem soutA  (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S3x5632 .f32) (harg8 : arg8.IsWhole) (arg9 : Memref sig .tc .vmem S1x5632 .f32) (harg9 : arg9.IsWhole) (arg10 : Memref sig .tc .vmem S2816x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1024x1024 .f32) (harg13 : arg13.IsWhole) (arg14 : Memref sig .tc .vmem S1032x256 .f32) (harg14 : arg14.IsWhole) (arg15 : Memref sig .tc .vmem S8x5632 .f32) (harg15 : arg15.IsWhole) (arg16 : Memref sig .tc .vmem S1024x2816 .bf16) (harg16 : arg16.IsWhole) (arg17 : Memref sig .tc .vmem S1024x1024 .f32) (harg17 : arg17.IsWhole) (hc0 : cond0_0 i) (x0 : Vec Ideal S1024x512 .bf16) (x1 : Vec Ideal S1024x512 .bf16) (x2 : Vec Ideal S1024x1024 .f32) (x3 : Vec Ideal S1024x1024 .bf16) (x4 : Vec Ideal S1x1024 .f32) (x5 : Vec Ideal S1x1024 .f32) (x6 : Vec Ideal S1024x5632 .bf16) (x7 : Vec Ideal S3x5632 .f32) (x8 : Vec Ideal S1x5632 .f32) (x9 : Vec Ideal S2816x1024 .bf16) (x10 : Vec Ideal S1x1024 .f32) (x11 : Vec Ideal S1x1024 .f32) (y : S8x5632.Idx) :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 y = (fun y : S8x5632.Idx => uL ⟨x0, x1, x2, x3, x4, x5, x6, x7, x8, x9, x10, x11⟩ ⟨(1016 + (y 0).val) % 1024, Nat.mod_lt _ (by decide)⟩ (y 1)) y := by
  unfold sout0_A_1
  rw [View.read_writes_junk_apply_eq_canon]
  refine canon_take 22 (fun y : S8x5632.Idx => uL ⟨x0, x1, x2, x3, x4, x5, x6, x7, x8, x9, x10, x11⟩ ⟨(1016 + (y 0).val) % 1024, Nat.mod_lt _ (by decide)⟩ (y 1)) _ ?_ y
    (View.cover_of_tiledL (List.take 22 (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11).2.1) S8x256.size (by sl_kernel_rfl) y)
  have hx := xA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11
  intro p hp
  unfold kernelRun0_A at hp
  simp only [kernelRun0_A.sl.HS1_1, kernelRun0_A.sl.HS1_2, kernelRun0_A.sl.HS1_3, kernelRun0_A.sl.HS1_4, kernelRun0_A.sl.HS1_5, kernelRun0_A.sl.HS1_6, kernelRun0_A.sl.HS1_7, kernelRun0_A.sl.HS1_8, kernelRun0_A.sl.HS1_9, kernelRun0_A.sl.HS1_10, kernelRun0_A.sl.HS1_11, kernelRun0_A.sl.HS1_12, kernelRun0_A.sl.HS1_13, kernelRun0_A.sl.HS1_14, kernelRun0_A.sl.HS1_15, kernelRun0_A.sl.HS1_16, kernelRun0_A.sl.HS1_17, kernelRun0_A.sl.HS1_18, kernelRun0_A.sl.HS1_19, kernelRun0_A.sl.HS1_20, kernelRun0_A.sl.HS1_21, kernelRun0_A.sl.HS1_22, List.take_succ_cons, List.take_zero, List.mem_cons, List.not_mem_nil, or_false] at hp
  rcases hp with rfl | rfl | rfl | rfl | rfl | rfl | rfl | rfl | rfl | rfl | rfl | rfl | rfl | rfl | rfl | rfl | rfl | rfl | rfl | rfl | rfl | rfl
  · intro x; exact tail_key ⟨x0, x1, x2, x3, x4, x5, x6, x7, x8, x9, x10, x11⟩ harg7 _ 5376 (by decide) _ (h_key _ _ _ hx _) _ _ _ _ _ _ (by decide) x
  · intro x; exact tail_key ⟨x0, x1, x2, x3, x4, x5, x6, x7, x8, x9, x10, x11⟩ harg7 _ 2560 (by decide) _ (h_key _ _ _ hx _) _ _ _ _ _ _ (by decide) x
  · intro x; exact tail_key ⟨x0, x1, x2, x3, x4, x5, x6, x7, x8, x9, x10, x11⟩ harg7 _ 5120 (by decide) _ (h_key _ _ _ hx _) _ _ _ _ _ _ (by decide) x
  · intro x; exact tail_key ⟨x0, x1, x2, x3, x4, x5, x6, x7, x8, x9, x10, x11⟩ harg7 _ 2304 (by decide) _ (h_key _ _ _ hx _) _ _ _ _ _ _ (by decide) x
  · intro x; exact tail_key ⟨x0, x1, x2, x3, x4, x5, x6, x7, x8, x9, x10, x11⟩ harg7 _ 4864 (by decide) _ (h_key _ _ _ hx _) _ _ _ _ _ _ (by decide) x
  · intro x; exact tail_key ⟨x0, x1, x2, x3, x4, x5, x6, x7, x8, x9, x10, x11⟩ harg7 _ 2048 (by decide) _ (h_key _ _ _ hx _) _ _ _ _ _ _ (by decide) x
  · intro x; exact tail_key ⟨x0, x1, x2, x3, x4, x5, x6, x7, x8, x9, x10, x11⟩ harg7 _ 4608 (by decide) _ (h_key _ _ _ hx _) _ _ _ _ _ _ (by decide) x
  · intro x; exact tail_key ⟨x0, x1, x2, x3, x4, x5, x6, x7, x8, x9, x10, x11⟩ harg7 _ 1792 (by decide) _ (h_key _ _ _ hx _) _ _ _ _ _ _ (by decide) x
  · intro x; exact tail_key ⟨x0, x1, x2, x3, x4, x5, x6, x7, x8, x9, x10, x11⟩ harg7 _ 4352 (by decide) _ (h_key _ _ _ hx _) _ _ _ _ _ _ (by decide) x
  · intro x; exact tail_key ⟨x0, x1, x2, x3, x4, x5, x6, x7, x8, x9, x10, x11⟩ harg7 _ 1536 (by decide) _ (h_key _ _ _ hx _) _ _ _ _ _ _ (by decide) x
  · intro x; exact tail_key ⟨x0, x1, x2, x3, x4, x5, x6, x7, x8, x9, x10, x11⟩ harg7 _ 4096 (by decide) _ (h_key _ _ _ hx _) _ _ _ _ _ _ (by decide) x
  · intro x; exact tail_key ⟨x0, x1, x2, x3, x4, x5, x6, x7, x8, x9, x10, x11⟩ harg7 _ 1280 (by decide) _ (h_key _ _ _ hx _) _ _ _ _ _ _ (by decide) x
  · intro x; exact tail_key ⟨x0, x1, x2, x3, x4, x5, x6, x7, x8, x9, x10, x11⟩ harg7 _ 3840 (by decide) _ (h_key _ _ _ hx _) _ _ _ _ _ _ (by decide) x
  · intro x; exact tail_key ⟨x0, x1, x2, x3, x4, x5, x6, x7, x8, x9, x10, x11⟩ harg7 _ 1024 (by decide) _ (h_key _ _ _ hx _) _ _ _ _ _ _ (by decide) x
  · intro x; exact tail_key ⟨x0, x1, x2, x3, x4, x5, x6, x7, x8, x9, x10, x11⟩ harg7 _ 3584 (by decide) _ (h_key _ _ _ hx _) _ _ _ _ _ _ (by decide) x
  · intro x; exact tail_key ⟨x0, x1, x2, x3, x4, x5, x6, x7, x8, x9, x10, x11⟩ harg7 _ 768 (by decide) _ (h_key _ _ _ hx _) _ _ _ _ _ _ (by decide) x
  · intro x; exact tail_key ⟨x0, x1, x2, x3, x4, x5, x6, x7, x8, x9, x10, x11⟩ harg7 _ 3328 (by decide) _ (h_key _ _ _ hx _) _ _ _ _ _ _ (by decide) x
  · intro x; exact tail_key ⟨x0, x1, x2, x3, x4, x5, x6, x7, x8, x9, x10, x11⟩ harg7 _ 512 (by decide) _ (h_key _ _ _ hx _) _ _ _ _ _ _ (by decide) x
  · intro x; exact tail_key ⟨x0, x1, x2, x3, x4, x5, x6, x7, x8, x9, x10, x11⟩ harg7 _ 3072 (by decide) _ (h_key _ _ _ hx _) _ _ _ _ _ _ (by decide) x
  · intro x; exact tail_key ⟨x0, x1, x2, x3, x4, x5, x6, x7, x8, x9, x10, x11⟩ harg7 _ 256 (by decide) _ (h_key _ _ _ hx _) _ _ _ _ _ _ (by decide) x
  · intro x; exact tail_key ⟨x0, x1, x2, x3, x4, x5, x6, x7, x8, x9, x10, x11⟩ harg7 _ 2816 (by decide) _ (h_key _ _ _ hx _) _ _ _ _ _ _ (by decide) x
  · intro x; exact tail_key ⟨x0, x1, x2, x3, x4, x5, x6, x7, x8, x9, x10, x11⟩ harg7 _ 0 (by decide) _ (h_key _ _ _ hx _) _ _ _ _ _ _ (by decide) x

theorem outA  (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S3x5632 .f32) (harg8 : arg8.IsWhole) (arg9 : Memref sig .tc .vmem S1x5632 .f32) (harg9 : arg9.IsWhole) (arg10 : Memref sig .tc .vmem S2816x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1024x1024 .f32) (harg13 : arg13.IsWhole) (arg14 : Memref sig .tc .vmem S1032x256 .f32) (harg14 : arg14.IsWhole) (arg15 : Memref sig .tc .vmem S8x5632 .f32) (harg15 : arg15.IsWhole) (arg16 : Memref sig .tc .vmem S1024x2816 .bf16) (harg16 : arg16.IsWhole) (arg17 : Memref sig .tc .vmem S1024x1024 .f32) (harg17 : arg17.IsWhole) (hc0 : cond0_0 i) (x0 : Vec Ideal S1024x512 .bf16) (x1 : Vec Ideal S1024x512 .bf16) (x2 : Vec Ideal S1024x1024 .f32) (x3 : Vec Ideal S1024x1024 .bf16) (x4 : Vec Ideal S1x1024 .f32) (x5 : Vec Ideal S1x1024 .f32) (x6 : Vec Ideal S1024x5632 .bf16) (x7 : Vec Ideal S3x5632 .f32) (x8 : Vec Ideal S1x5632 .f32) (x9 : Vec Ideal S2816x1024 .bf16) (x10 : Vec Ideal S1x1024 .f32) (x11 : Vec Ideal S1x1024 .f32) (y : S1024x1024.Idx) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 y = (fun y : S1024x1024.Idx => oL ⟨x0, x1, x2, x3, x4, x5, x6, x7, x8, x9, x10, x11⟩ (fun _ _ => 0) (y 0) (y 1)) y := by
  unfold out0_A_12
  rw [View.read_writes_junk_apply_eq_canon]
  refine View.canon_apply_of_pieces (fun y : S1024x1024.Idx => oL ⟨x0, x1, x2, x3, x4, x5, x6, x7, x8, x9, x10, x11⟩ (fun _ _ => 0) (y 0) (y 1)) _ ?_ y
    (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 y)
  have hx := xA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11
  have ha := actA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11
  intro p hp
  unfold kernelRun0_A at hp
  simp only [List.mem_cons, List.not_mem_nil, or_false] at hp
  rcases hp with rfl | rfl
  · intro x; exact out_key ⟨x0, x1, x2, x3, x4, x5, x6, x7, x8, x9, x10, x11⟩ (fun _ _ => 0) harg10 harg11 harg12 _ _ _ ha _ hx 512 (by decide) _ _ _ _ _ (by decide) x
  · intro x; exact out_key ⟨x0, x1, x2, x3, x4, x5, x6, x7, x8, x9, x10, x11⟩ (fun _ _ => 0) harg10 harg11 harg12 _ _ _ ha _ hx 0 (by decide) _ _ _ _ _ (by decide) x

/-! ### Case B -/

theorem xB  (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S3x5632 .f32) (harg8 : arg8.IsWhole) (arg9 : Memref sig .tc .vmem S1x5632 .f32) (harg9 : arg9.IsWhole) (arg10 : Memref sig .tc .vmem S2816x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1024x1024 .f32) (harg13 : arg13.IsWhole) (arg14 : Memref sig .tc .vmem S1032x256 .f32) (harg14 : arg14.IsWhole) (arg15 : Memref sig .tc .vmem S8x5632 .f32) (harg15 : arg15.IsWhole) (arg16 : Memref sig .tc .vmem S1024x2816 .bf16) (harg16 : arg16.IsWhole) (arg17 : Memref sig .tc .vmem S1024x1024 .f32) (harg17 : arg17.IsWhole) (hc0 : ¬cond0_0 i) (x0 : Vec Ideal S1024x512 .bf16) (x1 : Vec Ideal S1024x512 .bf16) (x2 : Vec Ideal S1024x1024 .f32) (x3 : Vec Ideal S1024x1024 .bf16) (x4 : Vec Ideal S1x1024 .f32) (x5 : Vec Ideal S1x1024 .f32) (x6 : Vec Ideal S1024x5632 .bf16) (x7 : Vec Ideal S3x5632 .f32) (x8 : Vec Ideal S1x5632 .f32) (x9 : Vec Ideal S2816x1024 .bf16) (x10 : Vec Ideal S1x1024 .f32) (x11 : Vec Ideal S1x1024 .f32) (xs1 : Vec Ideal S8x5632 .f32) :
    ∀ y, View.canon (kernelRun0_B.sl.HS3_2 (F := Ideal) c arg1 harg1 arg2 harg2 arg3 harg3 arg4 harg4 arg5 harg5 arg6 harg6 x0 x1 x2 x3 x4 x5) y = (fun y : S1024x1024.Idx => xL ⟨x0, x1, x2, x3, x4, x5, x6, x7, x8, x9, x10, x11⟩ (y 0) (y 1)) y := by
  intro y
  refine View.canon_apply_of_pieces (fun y : S1024x1024.Idx => xL ⟨x0, x1, x2, x3, x4, x5, x6, x7, x8, x9, x10, x11⟩ (y 0) (y 1)) _ ?_ y
    (View.cover_of_tiledL (kernelRun0_B.sl.HS3_2 (F := Ideal) c arg1 harg1 arg2 harg2 arg3 harg3 arg4 harg4 arg5 harg5 arg6 harg6 x0 x1 x2 x3 x4 x5) S512x1024.size (by sl_kernel_rfl) y)
  intro p hp
  simp only [kernelRun0_B.sl.HS3_2, List.mem_cons, List.not_mem_nil, or_false] at hp
  rcases hp with rfl | rfl
  · intro x; exact x_key ⟨x0, x1, x2, x3, x4, x5, x6, x7, x8, x9, x10, x11⟩ harg1 harg2 harg3 harg4 harg5 harg6 512 (by decide) _ _ _ _ _ _ (by decide) x
  · intro x; exact x_key ⟨x0, x1, x2, x3, x4, x5, x6, x7, x8, x9, x10, x11⟩ harg1 harg2 harg3 harg4 harg5 harg6 0 (by decide) _ _ _ _ _ _ (by decide) x

theorem actB  (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S3x5632 .f32) (harg8 : arg8.IsWhole) (arg9 : Memref sig .tc .vmem S1x5632 .f32) (harg9 : arg9.IsWhole) (arg10 : Memref sig .tc .vmem S2816x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1024x1024 .f32) (harg13 : arg13.IsWhole) (arg14 : Memref sig .tc .vmem S1032x256 .f32) (harg14 : arg14.IsWhole) (arg15 : Memref sig .tc .vmem S8x5632 .f32) (harg15 : arg15.IsWhole) (arg16 : Memref sig .tc .vmem S1024x2816 .bf16) (harg16 : arg16.IsWhole) (arg17 : Memref sig .tc .vmem S1024x1024 .f32) (harg17 : arg17.IsWhole) (hc0 : ¬cond0_0 i) (x0 : Vec Ideal S1024x512 .bf16) (x1 : Vec Ideal S1024x512 .bf16) (x2 : Vec Ideal S1024x1024 .f32) (x3 : Vec Ideal S1024x1024 .bf16) (x4 : Vec Ideal S1x1024 .f32) (x5 : Vec Ideal S1x1024 .f32) (x6 : Vec Ideal S1024x5632 .bf16) (x7 : Vec Ideal S3x5632 .f32) (x8 : Vec Ideal S1x5632 .f32) (x9 : Vec Ideal S2816x1024 .bf16) (x10 : Vec Ideal S1x1024 .f32) (x11 : Vec Ideal S1x1024 .f32) (xs1 : Vec Ideal S8x5632 .f32) :
    ∀ y, View.canon (kernelRun0_B.sl.HS2_11 (F := Ideal) c arg1 harg1 arg2 harg2 arg3 harg3 arg4 harg4 arg5 harg5 arg6 harg6 arg7 harg7 arg8 harg8 arg9 harg9 arg14 arg15 harg15 arg17 x0 x1 x2 x3 x4 x5 x6 x7 x8 xs1) y = (fun y : S1024x2816.Idx => aL ⟨x0, x1, x2, x3, x4, x5, x6, x7, x8, x9, x10, x11⟩ (fun r j => xs1 (ix2 r j)) (y 0) (y 1)) y := by
  intro y
  refine View.canon_apply_of_pieces (fun y : S1024x2816.Idx => aL ⟨x0, x1, x2, x3, x4, x5, x6, x7, x8, x9, x10, x11⟩ (fun r j => xs1 (ix2 r j)) (y 0) (y 1)) _ ?_ y
    (View.cover_of_tiledL (kernelRun0_B.sl.HS2_11 (F := Ideal) c arg1 harg1 arg2 harg2 arg3 harg3 arg4 harg4 arg5 harg5 arg6 harg6 arg7 harg7 arg8 harg8 arg9 harg9 arg14 arg15 harg15 arg17 x0 x1 x2 x3 x4 x5 x6 x7 x8 xs1) S1024x256.size (by sl_kernel_rfl) y)
  have hx := xB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs1
  intro p hp
  simp only [kernelRun0_B.sl.HS2_11, List.mem_cons, List.not_mem_nil, or_false] at hp
  rcases hp with rfl | rfl | rfl | rfl | rfl | rfl | rfl | rfl | rfl | rfl | rfl
  · intro x
    exact act_key ⟨x0, x1, x2, x3, x4, x5, x6, x7, x8, x9, x10, x11⟩ (fun r j => xs1 (ix2 r j)) harg7 harg8 harg9 _ 2560 5376 (by decide) rfl _ (h_key _ _ _ hx _)
      _ (prev_keep harg15 xs1 2560 (by decide) _)
      _ (prev_keep harg15 xs1 5376 (by decide) _)
      _ _ _ _ _ _ _ _ _ _ _ _ _ _ _ _ _ _ (by decide) x
  · intro x
    exact act_key ⟨x0, x1, x2, x3, x4, x5, x6, x7, x8, x9, x10, x11⟩ (fun r j => xs1 (ix2 r j)) harg7 harg8 harg9 _ 2304 5120 (by decide) rfl _ (h_key _ _ _ hx _)
      _ (prev_keep harg15 xs1 2304 (by decide) _)
      _ (prev_keep harg15 xs1 5120 (by decide) _)
      _ _ _ _ _ _ _ _ _ _ _ _ _ _ _ _ _ _ (by decide) x
  · intro x
    exact act_key ⟨x0, x1, x2, x3, x4, x5, x6, x7, x8, x9, x10, x11⟩ (fun r j => xs1 (ix2 r j)) harg7 harg8 harg9 _ 2048 4864 (by decide) rfl _ (h_key _ _ _ hx _)
      _ (prev_keep harg15 xs1 2048 (by decide) _)
      _ (prev_keep harg15 xs1 4864 (by decide) _)
      _ _ _ _ _ _ _ _ _ _ _ _ _ _ _ _ _ _ (by decide) x
  · intro x
    exact act_key ⟨x0, x1, x2, x3, x4, x5, x6, x7, x8, x9, x10, x11⟩ (fun r j => xs1 (ix2 r j)) harg7 harg8 harg9 _ 1792 4608 (by decide) rfl _ (h_key _ _ _ hx _)
      _ (prev_keep harg15 xs1 1792 (by decide) _)
      _ (prev_keep harg15 xs1 4608 (by decide) _)
      _ _ _ _ _ _ _ _ _ _ _ _ _ _ _ _ _ _ (by decide) x
  · intro x
    exact act_key ⟨x0, x1, x2, x3, x4, x5, x6, x7, x8, x9, x10, x11⟩ (fun r j => xs1 (ix2 r j)) harg7 harg8 harg9 _ 1536 4352 (by decide) rfl _ (h_key _ _ _ hx _)
      _ (prev_keep harg15 xs1 1536 (by decide) _)
      _ (prev_keep harg15 xs1 4352 (by decide) _)
      _ _ _ _ _ _ _ _ _ _ _ _ _ _ _ _ _ _ (by decide) x
  · intro x
    exact act_key ⟨x0, x1, x2, x3, x4, x5, x6, x7, x8, x9, x10, x11⟩ (fun r j => xs1 (ix2 r j)) harg7 harg8 harg9 _ 1280 4096 (by decide) rfl _ (h_key _ _ _ hx _)
      _ (prev_keep harg15 xs1 1280 (by decide) _)
      _ (prev_keep harg15 xs1 4096 (by decide) _)
      _ _ _ _ _ _ _ _ _ _ _ _ _ _ _ _ _ _ (by decide) x
  · intro x
    exact act_key ⟨x0, x1, x2, x3, x4, x5, x6, x7, x8, x9, x10, x11⟩ (fun r j => xs1 (ix2 r j)) harg7 harg8 harg9 _ 1024 3840 (by decide) rfl _ (h_key _ _ _ hx _)
      _ (prev_keep harg15 xs1 1024 (by decide) _)
      _ (prev_keep harg15 xs1 3840 (by decide) _)
      _ _ _ _ _ _ _ _ _ _ _ _ _ _ _ _ _ _ (by decide) x
  · intro x
    exact act_key ⟨x0, x1, x2, x3, x4, x5, x6, x7, x8, x9, x10, x11⟩ (fun r j => xs1 (ix2 r j)) harg7 harg8 harg9 _ 768 3584 (by decide) rfl _ (h_key _ _ _ hx _)
      _ (prev_keep harg15 xs1 768 (by decide) _)
      _ (prev_keep harg15 xs1 3584 (by decide) _)
      _ _ _ _ _ _ _ _ _ _ _ _ _ _ _ _ _ _ (by decide) x
  · intro x
    exact act_key ⟨x0, x1, x2, x3, x4, x5, x6, x7, x8, x9, x10, x11⟩ (fun r j => xs1 (ix2 r j)) harg7 harg8 harg9 _ 512 3328 (by decide) rfl _ (h_key _ _ _ hx _)
      _ (prev_keep harg15 xs1 512 (by decide) _)
      _ (prev_keep harg15 xs1 3328 (by decide) _)
      _ _ _ _ _ _ _ _ _ _ _ _ _ _ _ _ _ _ (by decide) x
  · intro x
    exact act_key ⟨x0, x1, x2, x3, x4, x5, x6, x7, x8, x9, x10, x11⟩ (fun r j => xs1 (ix2 r j)) harg7 harg8 harg9 _ 256 3072 (by decide) rfl _ (h_key _ _ _ hx _)
      _ (prev_keep harg15 xs1 256 (by decide) _)
      _ (prev_keep harg15 xs1 3072 (by decide) _)
      _ _ _ _ _ _ _ _ _ _ _ _ _ _ _ _ _ _ (by decide) x
  · intro x
    exact act_key ⟨x0, x1, x2, x3, x4, x5, x6, x7, x8, x9, x10, x11⟩ (fun r j => xs1 (ix2 r j)) harg7 harg8 harg9 _ 0 2816 (by decide) rfl _ (h_key _ _ _ hx _)
      _ (prev_keep harg15 xs1 0 (by decide) _)
      _ (prev_keep harg15 xs1 2816 (by decide) _)
      _ _ _ _ _ _ _ _ _ _ _ _ _ _ _ _ _ _ (by decide) x

set_option maxHeartbeats 4000000 in
/-- What the point leaves in the rows kept: the tile's last eight projected. -/
theorem soutB  (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S3x5632 .f32) (harg8 : arg8.IsWhole) (arg9 : Memref sig .tc .vmem S1x5632 .f32) (harg9 : arg9.IsWhole) (arg10 : Memref sig .tc .vmem S2816x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1024x1024 .f32) (harg13 : arg13.IsWhole) (arg14 : Memref sig .tc .vmem S1032x256 .f32) (harg14 : arg14.IsWhole) (arg15 : Memref sig .tc .vmem S8x5632 .f32) (harg15 : arg15.IsWhole) (arg16 : Memref sig .tc .vmem S1024x2816 .bf16) (harg16 : arg16.IsWhole) (arg17 : Memref sig .tc .vmem S1024x1024 .f32) (harg17 : arg17.IsWhole) (hc0 : ¬cond0_0 i) (x0 : Vec Ideal S1024x512 .bf16) (x1 : Vec Ideal S1024x512 .bf16) (x2 : Vec Ideal S1024x1024 .f32) (x3 : Vec Ideal S1024x1024 .bf16) (x4 : Vec Ideal S1x1024 .f32) (x5 : Vec Ideal S1x1024 .f32) (x6 : Vec Ideal S1024x5632 .bf16) (x7 : Vec Ideal S3x5632 .f32) (x8 : Vec Ideal S1x5632 .f32) (x9 : Vec Ideal S2816x1024 .bf16) (x10 : Vec Ideal S1x1024 .f32) (x11 : Vec Ideal S1x1024 .f32) (xs1 : Vec Ideal S8x5632 .f32) (y : S8x5632.Idx) :
    sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs1 y = (fun y : S8x5632.Idx => uL ⟨x0, x1, x2, x3, x4, x5, x6, x7, x8, x9, x10, x11⟩ ⟨(1016 + (y 0).val) % 1024, Nat.mod_lt _ (by decide)⟩ (y 1)) y := by
  unfold sout0_B_1
  rw [View.read_writes_junk_apply_eq_canon]
  refine View.canon_apply_of_pieces (fun y : S8x5632.Idx => uL ⟨x0, x1, x2, x3, x4, x5, x6, x7, x8, x9, x10, x11⟩ ⟨(1016 + (y 0).val) % 1024, Nat.mod_lt _ (by decide)⟩ (y 1)) _ ?_ y
    (scover0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs1 y)
  have hx := xB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs1
  intro p hp
  unfold kernelRun0_B at hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl
  · intro x; exact tail_key ⟨x0, x1, x2, x3, x4, x5, x6, x7, x8, x9, x10, x11⟩ harg7 _ 5376 (by decide) _ (h_key _ _ _ hx _) _ _ _ _ _ _ (by decide) x
  · intro x; exact tail_key ⟨x0, x1, x2, x3, x4, x5, x6, x7, x8, x9, x10, x11⟩ harg7 _ 2560 (by decide) _ (h_key _ _ _ hx _) _ _ _ _ _ _ (by decide) x
  · intro x; exact tail_key ⟨x0, x1, x2, x3, x4, x5, x6, x7, x8, x9, x10, x11⟩ harg7 _ 5120 (by decide) _ (h_key _ _ _ hx _) _ _ _ _ _ _ (by decide) x
  · intro x; exact tail_key ⟨x0, x1, x2, x3, x4, x5, x6, x7, x8, x9, x10, x11⟩ harg7 _ 2304 (by decide) _ (h_key _ _ _ hx _) _ _ _ _ _ _ (by decide) x
  · intro x; exact tail_key ⟨x0, x1, x2, x3, x4, x5, x6, x7, x8, x9, x10, x11⟩ harg7 _ 4864 (by decide) _ (h_key _ _ _ hx _) _ _ _ _ _ _ (by decide) x
  · intro x; exact tail_key ⟨x0, x1, x2, x3, x4, x5, x6, x7, x8, x9, x10, x11⟩ harg7 _ 2048 (by decide) _ (h_key _ _ _ hx _) _ _ _ _ _ _ (by decide) x
  · intro x; exact tail_key ⟨x0, x1, x2, x3, x4, x5, x6, x7, x8, x9, x10, x11⟩ harg7 _ 4608 (by decide) _ (h_key _ _ _ hx _) _ _ _ _ _ _ (by decide) x
  · intro x; exact tail_key ⟨x0, x1, x2, x3, x4, x5, x6, x7, x8, x9, x10, x11⟩ harg7 _ 1792 (by decide) _ (h_key _ _ _ hx _) _ _ _ _ _ _ (by decide) x
  · intro x; exact tail_key ⟨x0, x1, x2, x3, x4, x5, x6, x7, x8, x9, x10, x11⟩ harg7 _ 4352 (by decide) _ (h_key _ _ _ hx _) _ _ _ _ _ _ (by decide) x
  · intro x; exact tail_key ⟨x0, x1, x2, x3, x4, x5, x6, x7, x8, x9, x10, x11⟩ harg7 _ 1536 (by decide) _ (h_key _ _ _ hx _) _ _ _ _ _ _ (by decide) x
  · intro x; exact tail_key ⟨x0, x1, x2, x3, x4, x5, x6, x7, x8, x9, x10, x11⟩ harg7 _ 4096 (by decide) _ (h_key _ _ _ hx _) _ _ _ _ _ _ (by decide) x
  · intro x; exact tail_key ⟨x0, x1, x2, x3, x4, x5, x6, x7, x8, x9, x10, x11⟩ harg7 _ 1280 (by decide) _ (h_key _ _ _ hx _) _ _ _ _ _ _ (by decide) x
  · intro x; exact tail_key ⟨x0, x1, x2, x3, x4, x5, x6, x7, x8, x9, x10, x11⟩ harg7 _ 3840 (by decide) _ (h_key _ _ _ hx _) _ _ _ _ _ _ (by decide) x
  · intro x; exact tail_key ⟨x0, x1, x2, x3, x4, x5, x6, x7, x8, x9, x10, x11⟩ harg7 _ 1024 (by decide) _ (h_key _ _ _ hx _) _ _ _ _ _ _ (by decide) x
  · intro x; exact tail_key ⟨x0, x1, x2, x3, x4, x5, x6, x7, x8, x9, x10, x11⟩ harg7 _ 3584 (by decide) _ (h_key _ _ _ hx _) _ _ _ _ _ _ (by decide) x
  · intro x; exact tail_key ⟨x0, x1, x2, x3, x4, x5, x6, x7, x8, x9, x10, x11⟩ harg7 _ 768 (by decide) _ (h_key _ _ _ hx _) _ _ _ _ _ _ (by decide) x
  · intro x; exact tail_key ⟨x0, x1, x2, x3, x4, x5, x6, x7, x8, x9, x10, x11⟩ harg7 _ 3328 (by decide) _ (h_key _ _ _ hx _) _ _ _ _ _ _ (by decide) x
  · intro x; exact tail_key ⟨x0, x1, x2, x3, x4, x5, x6, x7, x8, x9, x10, x11⟩ harg7 _ 512 (by decide) _ (h_key _ _ _ hx _) _ _ _ _ _ _ (by decide) x
  · intro x; exact tail_key ⟨x0, x1, x2, x3, x4, x5, x6, x7, x8, x9, x10, x11⟩ harg7 _ 3072 (by decide) _ (h_key _ _ _ hx _) _ _ _ _ _ _ (by decide) x
  · intro x; exact tail_key ⟨x0, x1, x2, x3, x4, x5, x6, x7, x8, x9, x10, x11⟩ harg7 _ 256 (by decide) _ (h_key _ _ _ hx _) _ _ _ _ _ _ (by decide) x
  · intro x; exact tail_key ⟨x0, x1, x2, x3, x4, x5, x6, x7, x8, x9, x10, x11⟩ harg7 _ 2816 (by decide) _ (h_key _ _ _ hx _) _ _ _ _ _ _ (by decide) x
  · intro x; exact tail_key ⟨x0, x1, x2, x3, x4, x5, x6, x7, x8, x9, x10, x11⟩ harg7 _ 0 (by decide) _ (h_key _ _ _ hx _) _ _ _ _ _ _ (by decide) x

theorem outB  (c : Dev nD) (i : grid0.Coords) (arg1 : Memref sig .tc .vmem S1024x512 .bf16) (harg1 : arg1.IsWhole) (arg2 : Memref sig .tc .vmem S1024x512 .bf16) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S3x5632 .f32) (harg8 : arg8.IsWhole) (arg9 : Memref sig .tc .vmem S1x5632 .f32) (harg9 : arg9.IsWhole) (arg10 : Memref sig .tc .vmem S2816x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1024x1024 .f32) (harg13 : arg13.IsWhole) (arg14 : Memref sig .tc .vmem S1032x256 .f32) (harg14 : arg14.IsWhole) (arg15 : Memref sig .tc .vmem S8x5632 .f32) (harg15 : arg15.IsWhole) (arg16 : Memref sig .tc .vmem S1024x2816 .bf16) (harg16 : arg16.IsWhole) (arg17 : Memref sig .tc .vmem S1024x1024 .f32) (harg17 : arg17.IsWhole) (hc0 : ¬cond0_0 i) (x0 : Vec Ideal S1024x512 .bf16) (x1 : Vec Ideal S1024x512 .bf16) (x2 : Vec Ideal S1024x1024 .f32) (x3 : Vec Ideal S1024x1024 .bf16) (x4 : Vec Ideal S1x1024 .f32) (x5 : Vec Ideal S1x1024 .f32) (x6 : Vec Ideal S1024x5632 .bf16) (x7 : Vec Ideal S3x5632 .f32) (x8 : Vec Ideal S1x5632 .f32) (x9 : Vec Ideal S2816x1024 .bf16) (x10 : Vec Ideal S1x1024 .f32) (x11 : Vec Ideal S1x1024 .f32) (xs1 : Vec Ideal S8x5632 .f32) (y : S1024x1024.Idx) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs1 y = (fun y : S1024x1024.Idx => oL ⟨x0, x1, x2, x3, x4, x5, x6, x7, x8, x9, x10, x11⟩ (fun r j => xs1 (ix2 r j)) (y 0) (y 1)) y := by
  unfold out0_B_12
  rw [View.read_writes_junk_apply_eq_canon]
  refine View.canon_apply_of_pieces (fun y : S1024x1024.Idx => oL ⟨x0, x1, x2, x3, x4, x5, x6, x7, x8, x9, x10, x11⟩ (fun r j => xs1 (ix2 r j)) (y 0) (y 1)) _ ?_ y
    (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs1 y)
  have hx := xB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs1
  have ha := actB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs1
  intro p hp
  unfold kernelRun0_B at hp
  simp only [List.mem_cons, List.not_mem_nil, or_false] at hp
  rcases hp with rfl | rfl
  · intro x; exact out_key ⟨x0, x1, x2, x3, x4, x5, x6, x7, x8, x9, x10, x11⟩ (fun r j => xs1 (ix2 r j)) harg10 harg11 harg12 _ _ _ ha _ hx 512 (by decide) _ _ _ _ _ (by decide) x
  · intro x; exact out_key ⟨x0, x1, x2, x3, x4, x5, x6, x7, x8, x9, x10, x11⟩ (fun r j => xs1 (ix2 r j)) harg10 harg11 harg12 _ _ _ ha _ hx 0 (by decide) _ _ _ _ _ (by decide) x

end Cert.FfnIdeal
end
-- ==== Proof.FfnValue.lean ====
/-
  The output projection and the feed-forward part, over the exact numbers: the kernel's array, element by element, from its arguments.
-/
module

public import proofs.«01_k».proof.Proof.FfnCase

@[expose] public section

set_option maxRecDepth 16384

noncomputable section

namespace Cert.FfnIdeal

open Cert.FfnIdeal.Gen
open Idealize.ShloMosaic Idealize.ShloMosaic.TcCoe
open Idealize.SL.Sem
open Idealize.ShloMosaic.Pipeline (Dat)
open Ffn

/-- The arguments. -/
structure Args where
  A : Vec Ideal S32768x512 .bf16
  B : Vec Ideal S32768x512 .bf16
  X : Vec Ideal S32768x1024 .f32
  Wo : Vec Ideal S1024x1024 .f32
  g1 : Vec Ideal S1024 .f32
  b1 : Vec Ideal S1024 .f32
  Wu : Vec Ideal S1024x5632 .f32
  cw : Vec Ideal S3x5632 .f32
  cb : Vec Ideal S5632 .f32
  Wd : Vec Ideal S2816x1024 .f32
  g2 : Vec Ideal S1024 .f32
  b2 : Vec Ideal S1024 .f32

section Spec
variable (a : Args)

/-- The residual with the two halves' projection, its norm, and the norm's projection. -/
def yG (R : Fin 32768) (c : Fin 1024) : EReal :=
  al * a.X (ix2 R c) + (∑ k : Fin 512, a.A (ix2 R k) * a.Wo (ix2 ⟨k.val, by omega⟩ c) + ∑ k : Fin 512, a.B (ix2 R k) * a.Wo (ix2 ⟨512 + k.val, by omega⟩ c))
def xG (R : Fin 32768) (c : Fin 1024) : EReal := ln (yG a R) (fun c => a.g1 (ix1 c)) (fun c => a.b1 (ix1 c)) c
def uG (R : Fin 32768) (j : Fin 5632) : EReal := ∑ k : Fin 1024, xG a R k * a.Wu (ix2 k j)

/-- The projected row some rows back in the same sequence, nought before its start. -/
def hG (R : Fin 32768) (back : Nat) (j : Fin 5632) : EReal := if R.val % 16384 < back then 0 else uG a ⟨R.val - back, by omega⟩ j
def cG (R : Fin 32768) (j : Fin 5632) : EReal :=
  conv (a.cb (ix1 j)) (a.cw (ix2 2 j)) (a.cw (ix2 1 j)) (a.cw (ix2 0 j)) (hG a R 0 j) (hG a R 1 j) (hG a R 2 j)
def aG (R : Fin 32768) (j : Fin 2816) : EReal := silu (cG a R ⟨2816 + j.val, by omega⟩) * cG a R ⟨j.val, by omega⟩
def oG (R : Fin 32768) (c : Fin 1024) : EReal :=
  ln (fun c => al * xG a R c + ∑ j : Fin 2816, aG a R j * a.Wd (ix2 j c)) (fun c => a.g2 (ix1 c)) (fun c => a.b2 (ix1 c)) c

/-- The result. -/
def val : Vec Ideal S32768x1024 .f32 := fun i : S32768x1024.Idx => oG a (i 0) (i 1)

end Spec

variable (m : (ℓ : Loc nD τ sig) → Buf (Elt Ideal) ℓ) (ρ : Dev nD → PrngReg)

def args (c : Dev nD) : Args :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11)⟩

/-! ### The blocks of the windows -/

theorem V0 (c : Dev nD) : V m c main_v0 = (truncf .bf16 (m ((c.tc : Thread nD τ).loc main_arg3) : FVec Ideal S1024x1024 .f32) bitsLt_bf16_f32 : FVec Ideal S1024x1024 .bf16) := by
  simp only [V, hostOps0, List.flatten_cons, List.flatten_nil, List.append_nil, List.cons_append,
      List.nil_append, StableHlo.TRef.binary, StableHlo.TRef.unary, StableHlo.TRef.toBuf, StableHlo.TRef.ofBuf, cast_eq]
  after_results <;> rfl

theorem V1 (c : Dev nD) : V m c main_v1 = broadcastInDim S1x1024 ![1] bcast_S1024_S1x1024_1 (m ((c.tc : Thread nD τ).loc main_arg4)) := by
  simp only [V, hostOps0, List.flatten_cons, List.flatten_nil, List.append_nil, List.cons_append,
      List.nil_append, StableHlo.TRef.binary, StableHlo.TRef.unary, StableHlo.TRef.toBuf, StableHlo.TRef.ofBuf, cast_eq]
  after_results <;> rfl

theorem V2 (c : Dev nD) : V m c main_v2 = broadcastInDim S1x1024 ![1] bcast_S1024_S1x1024_1 (m ((c.tc : Thread nD τ).loc main_arg5)) := by
  simp only [V, hostOps0, List.flatten_cons, List.flatten_nil, List.append_nil, List.cons_append,
      List.nil_append, StableHlo.TRef.binary, StableHlo.TRef.unary, StableHlo.TRef.toBuf, StableHlo.TRef.ofBuf, cast_eq]
  after_results <;> rfl

theorem V3 (c : Dev nD) : V m c main_v3 = (truncf .bf16 (m ((c.tc : Thread nD τ).loc main_arg6) : FVec Ideal S1024x5632 .f32) bitsLt_bf16_f32 : FVec Ideal S1024x5632 .bf16) := by
  simp only [V, hostOps0, List.flatten_cons, List.flatten_nil, List.append_nil, List.cons_append,
      List.nil_append, StableHlo.TRef.binary, StableHlo.TRef.unary, StableHlo.TRef.toBuf, StableHlo.TRef.ofBuf, cast_eq]
  after_results <;> rfl

theorem V4 (c : Dev nD) : V m c main_v4 = broadcastInDim S1x5632 ![1] bcast_S5632_S1x5632_1 (m ((c.tc : Thread nD τ).loc main_arg8)) := by
  simp only [V, hostOps0, List.flatten_cons, List.flatten_nil, List.append_nil, List.cons_append,
      List.nil_append, StableHlo.TRef.binary, StableHlo.TRef.unary, StableHlo.TRef.toBuf, StableHlo.TRef.ofBuf, cast_eq]
  after_results <;> rfl

theorem V5 (c : Dev nD) : V m c main_v5 = (truncf .bf16 (m ((c.tc : Thread nD τ).loc main_arg9) : FVec Ideal S2816x1024 .f32) bitsLt_bf16_f32 : FVec Ideal S2816x1024 .bf16) := by
  simp only [V, hostOps0, List.flatten_cons, List.flatten_nil, List.append_nil, List.cons_append,
      List.nil_append, StableHlo.TRef.binary, StableHlo.TRef.unary, StableHlo.TRef.toBuf, StableHlo.TRef.ofBuf, cast_eq]
  after_results <;> rfl

theorem V6 (c : Dev nD) : V m c main_v6 = broadcastInDim S1x1024 ![1] bcast_S1024_S1x1024_1 (m ((c.tc : Thread nD τ).loc main_arg10)) := by
  simp only [V, hostOps0, List.flatten_cons, List.flatten_nil, List.append_nil, List.cons_append,
      List.nil_append, StableHlo.TRef.binary, StableHlo.TRef.unary, StableHlo.TRef.toBuf, StableHlo.TRef.ofBuf, cast_eq]
  after_results <;> rfl

theorem V7 (c : Dev nD) : V m c main_v7 = broadcastInDim S1x1024 ![1] bcast_S1024_S1x1024_1 (m ((c.tc : Thread nD τ).loc main_arg11)) := by
  simp only [V, hostOps0, List.flatten_cons, List.flatten_nil, List.append_nil, List.cons_append,
      List.nil_append, StableHlo.TRef.binary, StableHlo.TRef.unary, StableHlo.TRef.toBuf, StableHlo.TRef.ofBuf, cast_eq]
  after_results <;> rfl

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![0, 0] := (by decide +kernel : ∀ t : Fin grid0.N, _)
theorem index11 : ∀ t : Fin cfg0.N, win0_11.index t = ![0, 0] := (by decide +kernel : ∀ t : Fin grid0.N, _)
theorem index12 : ∀ t : Fin cfg0.N, win0_12.index t = ![t.val, 0] := (by decide +kernel : ∀ t : Fin grid0.N, _)

theorem covers12 : (cfg0.win 12).Covers := by decide +kernel

theorem lt32 (t : Fin cfg0.N) : t.val < 32 := t.isLt

/-- The blocks of a grid point. -/
def blk (c : Dev nD) (t : Fin cfg0.N) : In :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t⟩

theorem blk0 (c : Dev nD) (t : Fin cfg0.N) (r : Fin 1024) (k : Fin 512) : (blk m c t).x0 (ix2 r k) = (args m c).A (ix2 ⟨t.val * 1024 + r.val, by have := lt32 t; omega⟩ k) := by
  show (iblk m c 0 t : Vec Ideal S1024x512 .bf16) (ix2 r k) = (m ((c.tc : Thread nD τ).loc main_arg0) : Vec Ideal S32768x512 .bf16) _
  blk_simp [iblk]
  refine (congrFun (V_main_arg0 m c) _).trans ?_
  refine congrArg (m ((c.tc : Thread nD τ).loc main_arg0)) ?_
  blk_ext [index0]

theorem blk1 (c : Dev nD) (t : Fin cfg0.N) (r : Fin 1024) (k : Fin 512) : (blk m c t).x1 (ix2 r k) = (args m c).B (ix2 ⟨t.val * 1024 + r.val, by have := lt32 t; omega⟩ k) := by
  show (iblk m c 1 t : Vec Ideal S1024x512 .bf16) (ix2 r k) = (m ((c.tc : Thread nD τ).loc main_arg1) : Vec Ideal S32768x512 .bf16) _
  blk_simp [iblk]
  refine (congrFun (V_main_arg1 m c) _).trans ?_
  refine congrArg (m ((c.tc : Thread nD τ).loc main_arg1)) ?_
  blk_ext [index1]

theorem blk2 (c : Dev nD) (t : Fin cfg0.N) (r : Fin 1024) (k : Fin 1024) : (blk m c t).x2 (ix2 r k) = (args m c).X (ix2 ⟨t.val * 1024 + r.val, by have := lt32 t; omega⟩ k) := by
  show (iblk m c 2 t : Vec Ideal S1024x1024 .f32) (ix2 r k) = (m ((c.tc : Thread nD τ).loc main_arg2) : Vec Ideal S32768x1024 .f32) _
  blk_simp [iblk]
  refine (congrFun (V_main_arg2 m c) _).trans ?_
  refine congrArg (m ((c.tc : Thread nD τ).loc main_arg2)) ?_
  blk_ext [index2]

theorem blk3 (c : Dev nD) (t : Fin cfg0.N) (r : Fin 1024) (k : Fin 1024) : (blk m c t).x3 (ix2 r k) = (args m c).Wo (ix2 r k) := by
  show (iblk m c 3 t : Vec Ideal S1024x1024 .bf16) (ix2 r k) = (truncf .bf16 (m ((c.tc : Thread nD τ).loc main_arg3) : FVec Ideal S1024x1024 .f32) bitsLt_bf16_f32 : FVec Ideal S1024x1024 .bf16) (ix2 r k)
  blk_simp [iblk]
  refine (congrFun (V0 m c) _).trans ?_
  refine congrArg (truncf .bf16 (m ((c.tc : Thread nD τ).loc main_arg3) : FVec Ideal S1024x1024 .f32) bitsLt_bf16_f32 : FVec Ideal S1024x1024 .bf16) ?_
  blk_ext [index3]

theorem blk4 (c : Dev nD) (t : Fin cfg0.N) (k : Fin 1024) : (blk m c t).x4 (ix2 0 k) = (args m c).g1 (ix1 k) := by
  have e : ∀ X : FVec Ideal S1024 .f32, broadcastInDim S1x1024 ![1] bcast_S1024_S1x1024_1 X (ix2 (0 : Fin 1) k) = X (ix1 k) := fun X => by pointwise []
  refine Eq.trans ?_ (e (m ((c.tc : Thread nD τ).loc main_arg4)))
  show (iblk m c 4 t : Vec Ideal S1x1024 .f32) (ix2 0 k) = (broadcastInDim S1x1024 ![1] bcast_S1024_S1x1024_1 (m ((c.tc : Thread nD τ).loc main_arg4)) : FVec Ideal S1x1024 .f32) (ix2 0 k)
  blk_simp [iblk]
  refine (congrFun (V1 m c) _).trans ?_
  refine congrArg (broadcastInDim S1x1024 ![1] bcast_S1024_S1x1024_1 (m ((c.tc : Thread nD τ).loc main_arg4)) : FVec Ideal S1x1024 .f32) ?_
  blk_ext [index4]

theorem blk5 (c : Dev nD) (t : Fin cfg0.N) (k : Fin 1024) : (blk m c t).x5 (ix2 0 k) = (args m c).b1 (ix1 k) := by
  have e : ∀ X : FVec Ideal S1024 .f32, broadcastInDim S1x1024 ![1] bcast_S1024_S1x1024_1 X (ix2 (0 : Fin 1) k) = X (ix1 k) := fun X => by pointwise []
  refine Eq.trans ?_ (e (m ((c.tc : Thread nD τ).loc main_arg5)))
  show (iblk m c 5 t : Vec Ideal S1x1024 .f32) (ix2 0 k) = (broadcastInDim S1x1024 ![1] bcast_S1024_S1x1024_1 (m ((c.tc : Thread nD τ).loc main_arg5)) : FVec Ideal S1x1024 .f32) (ix2 0 k)
  blk_simp [iblk]
  refine (congrFun (V2 m c) _).trans ?_
  refine congrArg (broadcastInDim S1x1024 ![1] bcast_S1024_S1x1024_1 (m ((c.tc : Thread nD τ).loc main_arg5)) : FVec Ideal S1x1024 .f32) ?_
  blk_ext [index5]

theorem blk6 (c : Dev nD) (t : Fin cfg0.N) (r : Fin 1024) (k : Fin 5632) : (blk m c t).x6 (ix2 r k) = (args m c).Wu (ix2 r k) := by
  show (iblk m c 6 t : Vec Ideal S1024x5632 .bf16) (ix2 r k) = (truncf .bf16 (m ((c.tc : Thread nD τ).loc main_arg6) : FVec Ideal S1024x5632 .f32) bitsLt_bf16_f32 : FVec Ideal S1024x5632 .bf16) (ix2 r k)
  blk_simp [iblk]
  refine (congrFun (V3 m c) _).trans ?_
  refine congrArg (truncf .bf16 (m ((c.tc : Thread nD τ).loc main_arg6) : FVec Ideal S1024x5632 .f32) bitsLt_bf16_f32 : FVec Ideal S1024x5632 .bf16) ?_
  blk_ext [index6]

theorem blk7 (c : Dev nD) (t : Fin cfg0.N) (r : Fin 3) (k : Fin 5632) : (blk m c t).x7 (ix2 r k) = (args m c).cw (ix2 r k) := by
  show (iblk m c 7 t : Vec Ideal S3x5632 .f32) (ix2 r k) = (m ((c.tc : Thread nD τ).loc main_arg7) : Vec Ideal S3x5632 .f32) _
  blk_simp [iblk]
  refine (congrFun (V_main_arg7 m c) _).trans ?_
  refine congrArg (m ((c.tc : Thread nD τ).loc main_arg7)) ?_
  blk_ext [index7]

theorem blk8 (c : Dev nD) (t : Fin cfg0.N) (k : Fin 5632) : (blk m c t).x8 (ix2 0 k) = (args m c).cb (ix1 k) := by
  have e : ∀ X : FVec Ideal S5632 .f32, broadcastInDim S1x5632 ![1] bcast_S5632_S1x5632_1 X (ix2 (0 : Fin 1) k) = X (ix1 k) := fun X => by pointwise []
  refine Eq.trans ?_ (e (m ((c.tc : Thread nD τ).loc main_arg8)))
  show (iblk m c 8 t : Vec Ideal S1x5632 .f32) (ix2 0 k) = (broadcastInDim S1x5632 ![1] bcast_S5632_S1x5632_1 (m ((c.tc : Thread nD τ).loc main_arg8)) : FVec Ideal S1x5632 .f32) (ix2 0 k)
  blk_simp [iblk]
  refine (congrFun (V4 m c) _).trans ?_
  refine congrArg (broadcastInDim S1x5632 ![1] bcast_S5632_S1x5632_1 (m ((c.tc : Thread nD τ).loc main_arg8)) : FVec Ideal S1x5632 .f32) ?_
  blk_ext [index8]

theorem blk9 (c : Dev nD) (t : Fin cfg0.N) (r : Fin 2816) (k : Fin 1024) : (blk m c t).x9 (ix2 r k) = (args m c).Wd (ix2 r k) := by
  show (iblk m c 9 t : Vec Ideal S2816x1024 .bf16) (ix2 r k) = (truncf .bf16 (m ((c.tc : Thread nD τ).loc main_arg9) : FVec Ideal S2816x1024 .f32) bitsLt_bf16_f32 : FVec Ideal S2816x1024 .bf16) (ix2 r k)
  blk_simp [iblk]
  refine (congrFun (V5 m c) _).trans ?_
  refine congrArg (truncf .bf16 (m ((c.tc : Thread nD τ).loc main_arg9) : FVec Ideal S2816x1024 .f32) bitsLt_bf16_f32 : FVec Ideal S2816x1024 .bf16) ?_
  blk_ext [index9]

theorem blk10 (c : Dev nD) (t : Fin cfg0.N) (k : Fin 1024) : (blk m c t).x10 (ix2 0 k) = (args m c).g2 (ix1 k) := by
  have e : ∀ X : FVec Ideal S1024 .f32, broadcastInDim S1x1024 ![1] bcast_S1024_S1x1024_1 X (ix2 (0 : Fin 1) k) = X (ix1 k) := fun X => by pointwise []
  refine Eq.trans ?_ (e (m ((c.tc : Thread nD τ).loc main_arg10)))
  show (iblk m c 10 t : Vec Ideal S1x1024 .f32) (ix2 0 k) = (broadcastInDim S1x1024 ![1] bcast_S1024_S1x1024_1 (m ((c.tc : Thread nD τ).loc main_arg10)) : FVec Ideal S1x1024 .f32) (ix2 0 k)
  blk_simp [iblk]
  refine (congrFun (V6 m c) _).trans ?_
  refine congrArg (broadcastInDim S1x1024 ![1] bcast_S1024_S1x1024_1 (m ((c.tc : Thread nD τ).loc main_arg10)) : FVec Ideal S1x1024 .f32) ?_
  blk_ext [index10]

theorem blk11 (c : Dev nD) (t : Fin cfg0.N) (k : Fin 1024) : (blk m c t).x11 (ix2 0 k) = (args m c).b2 (ix1 k) := by
  have e : ∀ X : FVec Ideal S1024 .f32, broadcastInDim S1x1024 ![1] bcast_S1024_S1x1024_1 X (ix2 (0 : Fin 1) k) = X (ix1 k) := fun X => by pointwise []
  refine Eq.trans ?_ (e (m ((c.tc : Thread nD τ).loc main_arg11)))
  show (iblk m c 11 t : Vec Ideal S1x1024 .f32) (ix2 0 k) = (broadcastInDim S1x1024 ![1] bcast_S1024_S1x1024_1 (m ((c.tc : Thread nD τ).loc main_arg11)) : FVec Ideal S1x1024 .f32) (ix2 0 k)
  blk_simp [iblk]
  refine (congrFun (V7 m c) _).trans ?_
  refine congrArg (broadcastInDim S1x1024 ![1] bcast_S1024_S1x1024_1 (m ((c.tc : Thread nD τ).loc main_arg11)) : FVec Ideal S1x1024 .f32) ?_
  blk_ext [index11]

/-! ### From a block's rows to the array's -/

/-- The array's row of a block's. -/
def row (t : Fin cfg0.N) (r : Fin 1024) : Fin 32768 := ⟨t.val * 1024 + r.val, by have := lt32 t; omega⟩

theorem yL_eq (c : Dev nD) (t : Fin cfg0.N) (r k : Fin 1024) : yL (blk m c t) r k = yG (args m c) (row t r) k := by
  unfold yL yG
  simp only [blk0, blk1, blk2, blk3]
  rfl

theorem xL_eq (c : Dev nD) (t : Fin cfg0.N) (r k : Fin 1024) : xL (blk m c t) r k = xG (args m c) (row t r) k := by
  unfold xL xG
  have e : yL (blk m c t) r = yG (args m c) (row t r) := funext fun k => yL_eq m c t r k
  simp only [blk4, blk5, e]

theorem uL_eq (c : Dev nD) (t : Fin cfg0.N) (r : Fin 1024) (j : Fin 5632) : uL (blk m c t) r j = uG (args m c) (row t r) j := by
  unfold uL uG
  simp only [xL_eq, blk6]

section Tile
variable (c : Dev nD) (t : Fin cfg0.N) (P : Fin 8 → Fin 5632 → EReal)
  (hP : ∀ (r : Fin 8) (j : Fin 5632), P r j = if t.val % 16 = 0 then 0 else uG (args m c) ⟨t.val * 1024 - 8 + r.val, by have := lt32 t; omega⟩ j)
include hP

theorem heL_eq (back : Nat) (hb : back ≤ 2) (r : Fin 1024) (n : Nat) (hn : n + back = 8 + r.val) (j : Fin 5632) :
    heL (blk m c t) P n j = hG (args m c) (row t r) back j := by
  have ht := lt32 t
  unfold heL hG
  by_cases h : n < 8
  · rw [dif_pos h, hP]
    by_cases h0 : t.val % 16 = 0
    · rw [if_pos h0, if_pos (by show (t.val * 1024 + r.val) % 16384 < back; omega)]
    · rw [if_neg h0, if_neg (by show ¬ (t.val * 1024 + r.val) % 16384 < back; omega)]
      refine congrArg (fun R => uG (args m c) R j) (Fin.ext ?_)
      show t.val * 1024 - 8 + n = t.val * 1024 + r.val - back
      omega
  · rw [dif_neg h, if_neg (by show ¬ (t.val * 1024 + r.val) % 16384 < back; omega), uL_eq]
    refine congrArg (fun R => uG (args m c) R j) (Fin.ext ?_)
    show t.val * 1024 + (n - 8) % 1024 = t.val * 1024 + r.val - back
    omega

theorem cL_eq (r : Fin 1024) (j : Fin 5632) : cL (blk m c t) P r j = cG (args m c) (row t r) j := by
  unfold cL cG
  rw [heL_eq m c t P hP 0 (by decide) r (8 + r.val) (by omega), heL_eq m c t P hP 1 (by decide) r (7 + r.val) (by omega),
    heL_eq m c t P hP 2 (by decide) r (6 + r.val) (by omega)]
  simp only [blk7, blk8]

theorem oL_eq (r k : Fin 1024) : oL (blk m c t) P r k = oG (args m c) (row t r) k := by
  unfold oL oG aL aG
  simp only [cL_eq m c t P hP, xL_eq, blk9, blk10, blk11]

end Tile

attribute [local irreducible] outsAt0 out0_A_12 out0_B_12 sout0_A_1 sout0_B_1

theorem kept_A (c : Dev nD) (t : Fin cfg0.N) (h0 : t.val % 16 = 0) (y : S8x5632.Idx) :
    (outsAt0 m c t.val t.isLt).2 y = (fun y : S8x5632.Idx => uL (blk m c t) ⟨(1016 + (y 0).val) % 1024, Nat.mod_lt _ (by decide)⟩ (y 1)) y :=
  (congrFun (congrArg Prod.snd (outsAt0_A m c t h0)) y).trans (soutA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y)

theorem kept_B (c : Dev nD) (t : Fin cfg0.N) (h0 : ¬ t.val % 16 = 0) (y : S8x5632.Idx) :
    (outsAt0 m c t.val t.isLt).2 y = (fun y : S8x5632.Idx => uL (blk m c t) ⟨(1016 + (y 0).val) % 1024, Nat.mod_lt _ (by decide)⟩ (y 1)) y :=
  (congrFun (congrArg Prod.snd (outsAt0_B m c t h0)) y).trans (soutB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2 y)

theorem left_A (c : Dev nD) (t : Fin cfg0.N) (h0 : t.val % 16 = 0) (y : S1024x1024.Idx) :
    (outsAt0 m c t.val t.isLt).1 y = (fun y : S1024x1024.Idx => oL (blk m c t) (fun _ _ => 0) (y 0) (y 1)) y :=
  (congrFun (congrArg Prod.fst (outsAt0_A m c t h0)) y).trans (outA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y)

theorem left_B (c : Dev nD) (t : Fin cfg0.N) (h0 : ¬ t.val % 16 = 0) (y : S1024x1024.Idx) :
    (outsAt0 m c t.val t.isLt).1 y = (fun y : S1024x1024.Idx => oL (blk m c t)
      (fun r j => (outsAt0 m c (t.val - 1) (Nat.lt_of_le_of_lt (Nat.sub_le _ _) t.isLt)).2 (ix2 r j)) (y 0) (y 1)) y :=
  (congrFun (congrArg Prod.fst (outsAt0_B m c t h0)) y).trans (outB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt0 m c (t.val - 1) (Nat.lt_of_le_of_lt (Nat.sub_le _ _) t.isLt)).2 y)

/-- The rows a point leaves to the next. -/
theorem kept_eq (c : Dev nD) (t : Fin cfg0.N) (r : Fin 8) (j : Fin 5632) :
    (outsAt0 m c t.val t.isLt).2 (ix2 r j) = uG (args m c) ⟨t.val * 1024 + 1016 + r.val, by have := lt32 t; omega⟩ j := by
  have e : (outsAt0 m c t.val t.isLt).2 (ix2 r j) = uL (blk m c t) ⟨(1016 + r.val) % 1024, Nat.mod_lt _ (by decide)⟩ j := by
    by_cases h0 : t.val % 16 = 0
    · exact kept_A m c t h0 (ix2 r j)
    · exact kept_B m c t h0 (ix2 r j)
  rw [e, uL_eq]
  refine congrArg (fun R => uG (args m c) R j) (Fin.ext ?_)
  show t.val * 1024 + (1016 + r.val) % 1024 = t.val * 1024 + 1016 + r.val
  omega

theorem block12 (c : Dev nD) (t : Fin cfg0.N) (r k : Fin 1024) :
    (outsAt0 m c t.val t.isLt).1 (ix2 r k) = oG (args m c) (row t r) k := by
  by_cases h0 : t.val % 16 = 0
  · refine (left_A m c t h0 (ix2 r k)).trans ?_
    exact oL_eq m c t _ (fun r j => (if_pos h0).symm) r k
  · refine (left_B m c t h0 (ix2 r k)).trans ?_
    refine oL_eq m c t _ (fun r j => ?_) r k
    rw [if_neg h0]
    refine (kept_eq m c ⟨t.val - 1, by have := t.isLt; omega⟩ r j).trans ?_
    refine congrArg (fun R => uG (args m c) R j) (Fin.ext ?_)
    show (t.val - 1) * 1024 + 1016 + r.val = t.val * 1024 - 8 + r.val
    omega

theorem after_eq (c : Dev nD) (t : Fin cfg0.N) :
    (dats m 0 c).after 12 t = (fun y : S1024x1024.Idx => oG (args m c) (row t (y 0)) (y 1) : Vec Ideal S1024x1024 .f32) := by
  rw [after0_12]
  exact funext fun y => (congrArg (outsAt0 m c t.val t.isLt).1 (eq_ix2 (y : S1024x1024.Idx))).trans (block12 m c t _ _)

end Cert.FfnIdeal
end
-- ==== Proof.FfnRef.lean ====
/-
  The output projection and the feed-forward part, over the exact numbers: the reference's result is the kernel's.
-/
module

public import proofs.«01_k».proof.Defs
public import proofs.«01_k».proof.Proof.FfnValue
public import proofs.«01_k».proof.Proof.Odd
public import proofs.«01_k».proof.Proof.Gen.FfnReferenceIdeal.Run

@[expose] public section

set_option maxRecDepth 16384

noncomputable section

namespace Cert.FfnIdeal

open Cert.FfnIdeal.Gen
open Idealize.ShloMosaic Idealize.ShloMosaic.TcCoe
open Idealize.SL.Sem
open _root_.Ffn

variable (m : (ℓ : Loc nD τ sig) → Buf (Elt Ideal) ℓ) (ρ : Dev nD → PrngReg)

attribute [local irreducible] outsAt0

theorem final12 (c : Dev nD) : (dats m 0 c).arrAt 12 cfg0.N = val (args m c) := by
  refine (dats m 0 c).arrAt_eq_of_covers 12 _ covers12 fun t hf y => ?_
  blk_simp [index12, val]
  refine (congrFun (after_eq m c t) y).trans ?_
  have e : (win0_12.blk t).view.emb y = ix2 (row t ((y : S1024x1024.Idx) 0)) ((y : S1024x1024.Idx) 1) := by
    unfold row
    blk_ext [index12]
  rw [e]
  rfl

end Cert.FfnIdeal

namespace Cert.FfnReferenceIdeal

open Idealize.ShloMosaic

theorem order (a b c d : EReal) : a + b + c + d = d + c + b + a := by
  rw [add_comm (a + b + c) d, add_comm (a + b) c, add_comm a b, ← add_assoc, ← add_assoc]

/-- The root of a real number that is not negative. -/
theorem sqrt_coe (x : ℝ) (h : 0 ≤ x) : Ideal.sqrt (x : EReal) = ((Real.sqrt x : ℝ) : EReal) := by
  show (if x < 0 then (⊥ : EReal) else ((Real.sqrt x : ℝ) : EReal)) = _
  rw [if_neg (not_lt.mpr h)]

theorem ofBits_eight : Ideal.ofBits .f32 0x41000000#32 = ((8 : ℝ) : EReal) := by
  simp [Ideal.ofBits, Ideal.ieee, -EReal.coe_mul]
  norm_num

open Cert.FfnReferenceIdeal.Gen Cert.FfnReferenceIdeal.Value
open Idealize.ShloMosaic Idealize.ShloMosaic.TcCoe Idealize.ShloMosaic.StableHlo
open _root_.Ffn

variable (V0 : Valuation τ sig (Elt Ideal))

def args : Cert.FfnIdeal.Args :=
  ⟨V0 (Proc.devRef .tc main_arg0), V0 (Proc.devRef .tc main_arg1), V0 (Proc.devRef .tc main_arg2), V0 (Proc.devRef .tc main_arg3), V0 (Proc.devRef .tc main_arg4), V0 (Proc.devRef .tc main_arg5), V0 (Proc.devRef .tc main_arg6), V0 (Proc.devRef .tc main_arg7), V0 (Proc.devRef .tc main_arg8), V0 (Proc.devRef .tc main_arg9), V0 (Proc.devRef .tc main_arg10), V0 (Proc.devRef .tc main_arg11)⟩

/-- The reference's result. -/
def res : FVec Ideal S32768x1024 .f32 :=
  addf (mulf (mulf (subf (res_main_v68 V0) (broadcastInDim S32768x1024 ![0, 1] bcast_S32768x1_S32768x1024_0_1 (res_main_v72 V0))) (broadcastInDim S32768x1024 ![0, 1] bcast_S32768x1_S32768x1024_0_1 (Host.rsqrt (addf (Host.divf (broadcastInDim S32768x1 ![0] bcast_S32768_S32768x1_0 (Host.reduceAdd (mulf (res_main_v74 V0) (res_main_v74 V0)) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x3727C5AC#32)))))) (broadcastInDim S32768x1024 ![0, 1] bcast_S1x1024_S32768x1024_0_1 (broadcastInDim S1x1024 ![1] bcast_S1024_S1x1024_1 (V0 (Proc.devRef .tc main_arg10))))) (broadcastInDim S32768x1024 ![0, 1] bcast_S1x1024_S32768x1024_0_1 (broadcastInDim S1x1024 ![1] bcast_S1024_S1x1024_1 (V0 (Proc.devRef .tc main_arg11))))

theorem v1_apply (i : S_.Idx) : (res_main_v1 V0 : FVec Ideal S_ .f32) i = al := by
  pointwise [res_main_v1]
  refine (congrArg (fun e => Ideal.sqrt (Ideal.sqrt e)) ofBits_eight).trans ?_
  show Ideal.sqrt (Ideal.sqrt ((8 : ℝ) : EReal)) = al
  rw [sqrt_coe _ (by norm_num), sqrt_coe _ (Real.sqrt_nonneg _)]
  rfl

theorem v7_apply (R : Fin 32768) (c : Fin 1024) : (res_main_v7 V0 : FVec Ideal S32768x1024 .f32) (ix2 R c) = Cert.FfnIdeal.yG (args V0) R c := by
  pointwise [res_main_v7]
  rw [v1_apply]
  rfl

theorem v11_apply (R : Fin 32768) : (res_main_v11 V0 : FVec Ideal S32768x1 .f32) (ix2 R 0) = mean (Cert.FfnIdeal.yG (args V0) R) := by
  pointwise [res_main_v11]
  simp only [v7_apply]
  rfl

theorem v13_apply (R : Fin 32768) (c : Fin 1024) : (res_main_v13 V0 : FVec Ideal S32768x1024 .f32) (ix2 R c) = Cert.FfnIdeal.yG (args V0) R c - mean (Cert.FfnIdeal.yG (args V0) R) := by
  pointwise [res_main_v13]
  rw [v7_apply, v11_apply]

theorem v31_apply (R : Fin 32768) (c : Fin 1024) : (res_main_v31 V0 : FVec Ideal S32768x1024 .f32) (ix2 R c) = Cert.FfnIdeal.xG (args V0) R c := by
  pointwise [res_main_v31]
  simp only [v7_apply, v11_apply, v13_apply]
  rfl

theorem v34_apply (s : Fin 2) (r : Fin 16386) (j : Fin 5632) (R : Fin 32768) (back : Nat) (hb : back ≤ 2)
    (hR : R.val = s.val * 16384 + R.val % 16384) (hr : r.val + back = R.val % 16384 + 2) :
    (res_main_v34 V0 : FVec Ideal S2x16386x5632 .f32) (ix3 s r j) = Cert.FfnIdeal.hG (args V0) R back j := by
  pointwise [res_main_v34]
  unfold Cert.FfnIdeal.hG
  by_cases h : R.val % 16384 < back
  · rw [dif_neg (by omega), if_pos h, Odd.zero]
  · rw [dif_pos (by omega), if_neg h]
    simp only [v31_apply]
    unfold Cert.FfnIdeal.uG
    refine congrArg (fun f : Fin 1024 → EReal => ∑ k, f k) (funext fun k => ?_)
    refine congrArg (fun a : EReal => a * ((args V0).Wu (ix2 k j) : EReal)) (congrArg (fun R => Cert.FfnIdeal.xG (args V0) R k) (Fin.ext ?_))
    show s.val * 16384 + (r.val - 2) = R.val - back
    omega

theorem v59_apply (s : Fin 2) (r : Fin 16384) (j : Fin 5632) (R : Fin 32768) (hs : s.val = R.val / 16384) (hr : r.val = R.val % 16384) :
    (res_main_v59 V0 : FVec Ideal S2x16384x5632 .f32) (ix3 s r j) = Cert.FfnIdeal.cG (args V0) R j := by
  pointwise [res_main_v59]
  rw [v34_apply V0 s _ j R 2 (by decide) (by omega) (by dsimp only; omega), v34_apply V0 s _ j R 1 (by decide) (by omega) (by dsimp only; omega),
    v34_apply V0 s _ j R 0 (by decide) (by omega) (by dsimp only; omega)]
  unfold Cert.FfnIdeal.cG conv
  refine Eq.trans ?_ (order _ _ _ _)
  rfl

theorem v61_apply (s : Fin 2) (r : Fin 16384) (j : Fin 2816) (R : Fin 32768) (hs : s.val = R.val / 16384) (hr : r.val = R.val % 16384) :
    (res_main_v61 V0 : FVec Ideal S2x16384x2816 .f32) (ix3 s r j) = Cert.FfnIdeal.cG (args V0) R ⟨2816 + j.val, by omega⟩ := by
  pointwise [res_main_v61]
  rw [v59_apply V0 s r _ R hs hr]

theorem v68_apply (R : Fin 32768) (c : Fin 1024) : (res_main_v68 V0 : FVec Ideal S32768x1024 .f32) (ix2 R c)
    = al * Cert.FfnIdeal.xG (args V0) R c + ∑ j : Fin 2816, Cert.FfnIdeal.aG (args V0) R j * (args V0).Wd (ix2 j c) := by
  pointwise [res_main_v68]
  rw [v1_apply, v31_apply]
  refine congrArg _ (Finset.sum_congr rfl fun j _ => ?_)
  rw [v61_apply V0 _ _ j R rfl rfl, v59_apply V0 _ _ _ R rfl rfl]
  unfold Cert.FfnIdeal.aG silu
  rw [zero_sub]
  rfl

theorem v72_apply (R : Fin 32768) : (res_main_v72 V0 : FVec Ideal S32768x1 .f32) (ix2 R 0)
    = mean fun c => al * Cert.FfnIdeal.xG (args V0) R c + ∑ j : Fin 2816, Cert.FfnIdeal.aG (args V0) R j * (args V0).Wd (ix2 j c) := by
  pointwise [res_main_v72]
  simp only [v68_apply]
  rfl

theorem v74_apply (R : Fin 32768) (c : Fin 1024) : (res_main_v74 V0 : FVec Ideal S32768x1024 .f32) (ix2 R c)
    = (al * Cert.FfnIdeal.xG (args V0) R c + ∑ j : Fin 2816, Cert.FfnIdeal.aG (args V0) R j * (args V0).Wd (ix2 j c))
      - mean fun c => al * Cert.FfnIdeal.xG (args V0) R c + ∑ j : Fin 2816, Cert.FfnIdeal.aG (args V0) R j * (args V0).Wd (ix2 j c) := by
  pointwise [res_main_v74]
  rw [v68_apply, v72_apply]

theorem res_apply (R : Fin 32768) (c : Fin 1024) : res V0 (ix2 R c) = Cert.FfnIdeal.oG (args V0) R c := by
  pointwise [res]
  simp only [v68_apply, v72_apply, v74_apply]
  rfl

theorem res_eq : res V0 = Cert.FfnIdeal.val (args V0) :=
  funext fun i => (congrArg (res V0) (eq_ix2 (i : S32768x1024.Idx))).trans (res_apply V0 _ _)

end Cert.FfnReferenceIdeal

namespace Cert.Proof

open Idealize.ShloMosaic Idealize.ShloMosaic.TcCoe Idealize.SL.Sem

theorem mk_congr {x0 y0} {x1 y1} {x2 y2} {x3 y3} {x4 y4} {x5 y5} {x6 y6} {x7 y7} {x8 y8} {x9 y9} {x10 y10} {x11 y11} (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) :
    Cert.FfnIdeal.Args.mk x0 x1 x2 x3 x4 x5 x6 x7 x8 x9 x10 x11 = Cert.FfnIdeal.Args.mk y0 y1 y2 y3 y4 y5 y6 y7 y8 y9 y10 y11 := by
  subst h0; subst h1; subst h2; subst h3; subst h4; subst h5; subst h6; subst h7; subst h8; subst h9; subst h10; subst h11; rfl

/-- The reference's frame: its arguments end unchanged, and it has no semaphores. -/
theorem ffn_reference_frame : Cert.quiescent_FfnReferenceIdeal := fun m ρ _ =>
  (θ_run Cert.FfnReferenceIdeal.defs _ _).mono
    (fun r h => ⟨fun c => (h c).2, Idealize.ShloMosaic.sem_eq_zero_of_no_sems (by decide) r.2⟩)
    (Cert.FfnReferenceIdeal.Value.run (F := Ideal) m ρ)

/-- The residual's weight means the fourth root of 8. -/
theorem ffn_preserves : Cert.preserves_Ffn_FfnIdeal :=
  IdealRules.named_const.statement Cert.FfnIdeal.κ "alpha" .f32 0x3FD744FD#32 ((Real.sqrt (Real.sqrt 8) : ℝ) : EReal) rfl

/-- The kernel and the reference end with the same result. -/
theorem ffn_algebraic : Cert.algebraic_FfnIdeal_FfnReferenceIdeal := fun m ρ m' ρ' _ hag =>
  ⟨fun c => Cert.FfnIdeal.val (Cert.FfnIdeal.args m c),
    (θ_run Cert.FfnIdeal.defs _ _).mono
      (fun r h c => ⟨(h c).1.trans (Cert.FfnIdeal.final12 m c), (h c).2⟩)
      (Cert.FfnIdeal.Value.run_blocks (F := Ideal) m ρ),
    (θ_run Cert.FfnReferenceIdeal.defs _ _).mono
      (fun r h c => ⟨(h c).1.trans ((Cert.FfnReferenceIdeal.res_eq _).trans (congrArg Cert.FfnIdeal.val
        (mk_congr (hag c).1 (hag c).2.1 (hag c).2.2.1 (hag c).2.2.2.1 (hag c).2.2.2.2.1 (hag c).2.2.2.2.2.1 (hag c).2.2.2.2.2.2.1 (hag c).2.2.2.2.2.2.2.1 (hag c).2.2.2.2.2.2.2.2.1 (hag c).2.2.2.2.2.2.2.2.2.1 (hag c).2.2.2.2.2.2.2.2.2.2.1 (hag c).2.2.2.2.2.2.2.2.2.2.2))), (h c).2⟩)
      (Cert.FfnReferenceIdeal.Value.run (F := Ideal) m' ρ')⟩

end Cert.Proof
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_scores
public import proofs.«01_k».proof.Proof.Gen.Odd
public import proofs.«01_k».proof.Proof.Gen.Odd.Frame
public import proofs.«01_k».proof.Proof.Gen.OddIdeal.Frame
public import proofs.«01_k».proof.Proof.Gen.OddIdeal
public import proofs.«01_k».proof.Proof.Gen.OddIdeal.Value
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.OddReferenceIdeal
public import proofs.«01_k».proof.Proof.Gen.OddReferenceIdeal.Run
public import proofs.«01_k».proof.Proof.BodyKernel
public import proofs.«01_k».proof.Proof.BodyKernelIdeal
public import proofs.«01_k».proof.Proof.Value
public import proofs.«01_k».proof.Proof.Finite
public import proofs.«01_k».proof.Proof.Odd
public import proofs.«01_k».proof.Proof.FfnRef
public import Idealize.ShloMosaic.Adequacy
public import Idealize.ShloMosaic.Init

@[expose] public section

noncomputable section

namespace Cert.Proof

open Idealize.ShloMosaic Idealize.SL.Sem

/-- The reference's frame: its arguments end unchanged, and it has no semaphores. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The masking constant means −∞. -/
theorem preserves : Cert.preserves_Kernel_KernelIdeal :=
  IdealRules.named_const.statement Cert.KernelIdeal.κ "mask" .f32 0xF149F2CA#32 ⊥ rfl

/-- The kernel and the reference end with the same result when the scores are real numbers. -/
theorem algebraic : Cert.algebraic_KernelIdeal_ReferenceIdeal_pre_finite_scores := fun m ρ m' ρ' hpre hag =>
  ⟨fun c => fun i : Cert.KernelIdeal.S32768x512.Idx => Cert.ReferenceIdeal.attend (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (i 0).val (i 1).val,
    Cert.KernelIdeal.Run.run_value m ρ fun c => Cert.Pre_finite_scores.real_scores _ _ (hpre c),
    (θ_run Cert.ReferenceIdeal.defs _ _).mono
      (fun r h c => ⟨(h c).1.trans (funext fun i => by
        refine (congrArg (Cert.ReferenceIdeal.Value.res_main_v53 m' c) (eq_ix2 (i : Cert.ReferenceIdeal.S32768x512.Idx))).trans ?_
        refine (Cert.ReferenceIdeal.res_apply m' c _ _).trans ?_
        rw [(hag c).1, (hag c).2]), (h c).2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.Odd.Gen.facts, Cert.OddIdeal.Gen.facts,
    Cert.OddReferenceIdeal.Gen.facts, Cert.Ffn.Gen.facts, Cert.FfnIdeal.Gen.facts, Cert.FfnReferenceIdeal.Gen.facts, Cert.Pre_finite_scores.Gen.facts,
    fun m ρ _ => Cert.Kernel.Run.frame (F := Bits) m ρ, fun m ρ _ => Cert.KernelIdeal.Run.frame m ρ, fun m ρ _ => Cert.KernelIdeal.Run.frame m ρ,
    reference_frame, fun m ρ _ => reference_frame m ρ trivial,
    fun m ρ _ => Cert.Odd.Gen.frame m ρ, fun m ρ _ => Cert.OddIdeal.Gen.frame m ρ, odd_reference_frame,
    fun m ρ _ => Cert.Ffn.Gen.frame m ρ, fun m ρ _ => Cert.FfnIdeal.Gen.frame m ρ, ffn_reference_frame,
    preserves, algebraic, trivial, odd_algebraic, ffn_preserves, ffn_algebraic⟩

end Cert.Proof

end
